-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_scheduled : Cert.Pre_scheduled.Facts] (m : (ℓ : Loc Cert.Kernel2.nD Cert.Kernel2.τ Cert.Kernel2.sig) → Buf (Elt Bits) ℓ) : Prop :=
  ∀ c : Dev Cert.Kernel2.nD,
    (Cert.Pre_scheduled.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_scheduled : Cert.Pre_scheduled.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_scheduled.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_scheduled [hPre_scheduled : Cert.Pre_scheduled.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_scheduled.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_mixed [hPre_mixed : Cert.Pre_mixed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_mixed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_mixed [hPre_mixed : Cert.Pre_mixed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_mixed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_bounded [hPre_bounded : Cert.Pre_bounded.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_bounded.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_bounded [hPre_bounded : Cert.Pre_bounded.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_bounded.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_projected [hPre_projected : Cert.Pre_projected.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_projected.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_projected [hPre_projected : Cert.Pre_projected.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_projected.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_scheduled : Cert.Pre_scheduled.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_scheduled : Cert.Pre_scheduled.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_scheduled [hReference2Ideal : Cert.Reference2Ideal.Facts] [hPre_scheduled : Cert.Pre_scheduled.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_scheduled m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Kernel3Ideal_pre_mixed [hKernel3Ideal : Cert.Kernel3Ideal.Facts] [hPre_mixed : Cert.Pre_mixed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_mixed m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Reference3Ideal_pre_mixed [hReference3Ideal : Cert.Reference3Ideal.Facts] [hPre_mixed : Cert.Pre_mixed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_mixed m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_bounded [hKernel4Ideal : Cert.Kernel4Ideal.Facts] [hPre_bounded : Cert.Pre_bounded.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_bounded m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_bounded [hReference4Ideal : Cert.Reference4Ideal.Facts] [hPre_bounded : Cert.Pre_bounded.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_bounded m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Kernel7Ideal_pre_projected [hKernel7Ideal : Cert.Kernel7Ideal.Facts] [hPre_projected : Cert.Pre_projected.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_projected m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Reference7Ideal_pre_projected [hReference7Ideal : Cert.Reference7Ideal.Facts] [hPre_projected : Cert.Pre_projected.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_projected m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_scheduled : Cert.Pre_scheduled.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_mixed [hKernel3Ideal : Cert.Kernel3Ideal.Facts] [hReference3Ideal : Cert.Reference3Ideal.Facts] [hPre_mixed : Cert.Pre_mixed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_mixed m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v90) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal_pre_bounded [hKernel4Ideal : Cert.Kernel4Ideal.Facts] [hReference4Ideal : Cert.Reference4Ideal.Facts] [hPre_bounded : Cert.Pre_bounded.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_bounded m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v53_0)) (v1 : (c : Dev Cert.Kernel4Ideal.nD) → Buf (Elt Ideal) ((c.tc : Thread Cert.Kernel4Ideal.nD Cert.Kernel4Ideal.τ).loc Cert.Kernel4Ideal.main_v53_1)) (v2 : (c : Dev Cert.Kernel4Ideal.nD) → Buf (Elt Ideal) ((c.tc : Thread Cert.Kernel4Ideal.nD Cert.Kernel4Ideal.τ).loc Cert.Kernel4Ideal.main_v53_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v53_0) = v0 c
          ∧ r.2.mem ((c.tc : Thread Cert.Kernel4Ideal.nD Cert.Kernel4Ideal.τ).loc Cert.Kernel4Ideal.main_v53_1) = v1 c
          ∧ r.2.mem ((c.tc : Thread Cert.Kernel4Ideal.nD Cert.Kernel4Ideal.τ).loc Cert.Kernel4Ideal.main_v53_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v61) = v0 c
          ∧ r.2.mem ((c.tc : Thread Cert.Reference4Ideal.nD Cert.Reference4Ideal.τ).loc Cert.Reference4Ideal.main_v108) = v1 c
          ∧ r.2.mem ((c.tc : Thread Cert.Reference4Ideal.nD Cert.Reference4Ideal.τ).loc Cert.Reference4Ideal.main_v109) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v11) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_projected [hKernel7Ideal : Cert.Kernel7Ideal.Facts] [hReference7Ideal : Cert.Reference7Ideal.Facts] [hPre_projected : Cert.Pre_projected.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_projected m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v41_0)) (v1 : (c : Dev Cert.Kernel7Ideal.nD) → Buf (Elt Ideal) ((c.tc : Thread Cert.Kernel7Ideal.nD Cert.Kernel7Ideal.τ).loc Cert.Kernel7Ideal.main_v41_1)) (v2 : (c : Dev Cert.Kernel7Ideal.nD) → Buf (Elt Ideal) ((c.tc : Thread Cert.Kernel7Ideal.nD Cert.Kernel7Ideal.τ).loc Cert.Kernel7Ideal.main_v41_2)) (v3 : (c : Dev Cert.Kernel7Ideal.nD) → Buf (Elt Ideal) ((c.tc : Thread Cert.Kernel7Ideal.nD Cert.Kernel7Ideal.τ).loc Cert.Kernel7Ideal.main_v41_3)) (v4 : (c : Dev Cert.Kernel7Ideal.nD) → Buf (Elt Ideal) ((c.tc : Thread Cert.Kernel7Ideal.nD Cert.Kernel7Ideal.τ).loc Cert.Kernel7Ideal.main_v41_4)) (v5 : (c : Dev Cert.Kernel7Ideal.nD) → Buf (Elt Ideal) ((c.tc : Thread Cert.Kernel7Ideal.nD Cert.Kernel7Ideal.τ).loc Cert.Kernel7Ideal.main_v41_5)) (v6 : (c : Dev Cert.Kernel7Ideal.nD) → Buf (Elt Ideal) ((c.tc : Thread Cert.Kernel7Ideal.nD Cert.Kernel7Ideal.τ).loc Cert.Kernel7Ideal.main_v41_6)) (v7 : (c : Dev Cert.Kernel7Ideal.nD) → Buf (Elt Ideal) ((c.tc : Thread Cert.Kernel7Ideal.nD Cert.Kernel7Ideal.τ).loc Cert.Kernel7Ideal.main_v41_7)) (v8 : (c : Dev Cert.Kernel7Ideal.nD) → Buf (Elt Ideal) ((c.tc : Thread Cert.Kernel7Ideal.nD Cert.Kernel7Ideal.τ).loc Cert.Kernel7Ideal.main_v41_8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v41_0) = v0 c
          ∧ r.2.mem ((c.tc : Thread Cert.Kernel7Ideal.nD Cert.Kernel7Ideal.τ).loc Cert.Kernel7Ideal.main_v41_1) = v1 c
          ∧ r.2.mem ((c.tc : Thread Cert.Kernel7Ideal.nD Cert.Kernel7Ideal.τ).loc Cert.Kernel7Ideal.main_v41_2) = v2 c
          ∧ r.2.mem ((c.tc : Thread Cert.Kernel7Ideal.nD Cert.Kernel7Ideal.τ).loc Cert.Kernel7Ideal.main_v41_3) = v3 c
          ∧ r.2.mem ((c.tc : Thread Cert.Kernel7Ideal.nD Cert.Kernel7Ideal.τ).loc Cert.Kernel7Ideal.main_v41_4) = v4 c
          ∧ r.2.mem ((c.tc : Thread Cert.Kernel7Ideal.nD Cert.Kernel7Ideal.τ).loc Cert.Kernel7Ideal.main_v41_5) = v5 c
          ∧ r.2.mem ((c.tc : Thread Cert.Kernel7Ideal.nD Cert.Kernel7Ideal.τ).loc Cert.Kernel7Ideal.main_v41_6) = v6 c
          ∧ r.2.mem ((c.tc : Thread Cert.Kernel7Ideal.nD Cert.Kernel7Ideal.τ).loc Cert.Kernel7Ideal.main_v41_7) = v7 c
          ∧ r.2.mem ((c.tc : Thread Cert.Kernel7Ideal.nD Cert.Kernel7Ideal.τ).loc Cert.Kernel7Ideal.main_v41_8) = v8 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v85) = v0 c
          ∧ r.2.mem ((c.tc : Thread Cert.Reference7Ideal.nD Cert.Reference7Ideal.τ).loc Cert.Reference7Ideal.main_v88) = v1 c
          ∧ r.2.mem ((c.tc : Thread Cert.Reference7Ideal.nD Cert.Reference7Ideal.τ).loc Cert.Reference7Ideal.main_v93) = v2 c
          ∧ r.2.mem ((c.tc : Thread Cert.Reference7Ideal.nD Cert.Reference7Ideal.τ).loc Cert.Reference7Ideal.main_v95) = v3 c
          ∧ r.2.mem ((c.tc : Thread Cert.Reference7Ideal.nD Cert.Reference7Ideal.τ).loc Cert.Reference7Ideal.main_v100) = v4 c
          ∧ r.2.mem ((c.tc : Thread Cert.Reference7Ideal.nD Cert.Reference7Ideal.τ).loc Cert.Reference7Ideal.main_v106) = v5 c
          ∧ r.2.mem ((c.tc : Thread Cert.Reference7Ideal.nD Cert.Reference7Ideal.τ).loc Cert.Reference7Ideal.main_v107) = v6 c
          ∧ r.2.mem ((c.tc : Thread Cert.Reference7Ideal.nD Cert.Reference7Ideal.τ).loc Cert.Reference7Ideal.main_v81) = v7 c
          ∧ r.2.mem ((c.tc : Thread Cert.Reference7Ideal.nD Cert.Reference7Ideal.τ).loc Cert.Reference7Ideal.main_v108) = v8 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_scheduled : Cert.Pre_scheduled.Facts) (hPre_mixed : Cert.Pre_mixed.Facts) (hPre_bounded : Cert.Pre_bounded.Facts) (hPre_projected : Cert.Pre_projected.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_scheduled := hPre_scheduled)
    ∧ quiescent_Kernel2Ideal (hKernel2Ideal := hKernel2Ideal) (hPre_scheduled := hPre_scheduled)
    ∧ quiescent_Reference2Ideal (hReference2Ideal := hReference2Ideal)
    ∧ quiescent_Reference2Ideal_pre_scheduled (hReference2Ideal := hReference2Ideal) (hPre_scheduled := hPre_scheduled)
    ∧ quiescent_Kernel3 (hKernel3 := hKernel3)
    ∧ quiescent_Kernel3Ideal (hKernel3Ideal := hKernel3Ideal)
    ∧ quiescent_Kernel3Ideal_pre_mixed (hKernel3Ideal := hKernel3Ideal) (hPre_mixed := hPre_mixed)
    ∧ quiescent_Reference3Ideal (hReference3Ideal := hReference3Ideal)
    ∧ quiescent_Reference3Ideal_pre_mixed (hReference3Ideal := hReference3Ideal) (hPre_mixed := hPre_mixed)
    ∧ quiescent_Kernel4 (hKernel4 := hKernel4)
    ∧ quiescent_Kernel4Ideal (hKernel4Ideal := hKernel4Ideal)
    ∧ quiescent_Kernel4Ideal_pre_bounded (hKernel4Ideal := hKernel4Ideal) (hPre_bounded := hPre_bounded)
    ∧ quiescent_Reference4Ideal (hReference4Ideal := hReference4Ideal)
    ∧ quiescent_Reference4Ideal_pre_bounded (hReference4Ideal := hReference4Ideal) (hPre_bounded := hPre_bounded)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_projected (hKernel7Ideal := hKernel7Ideal) (hPre_projected := hPre_projected)
    ∧ quiescent_Reference7Ideal (hReference7Ideal := hReference7Ideal)
    ∧ quiescent_Reference7Ideal_pre_projected (hReference7Ideal := hReference7Ideal) (hPre_projected := hPre_projected)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_scheduled := hPre_scheduled)
    ∧ preserves_Kernel3_Kernel3Ideal
    ∧ algebraic_Kernel3Ideal_Reference3Ideal_pre_mixed (hKernel3Ideal := hKernel3Ideal) (hReference3Ideal := hReference3Ideal) (hPre_mixed := hPre_mixed)
    ∧ preserves_Kernel4_Kernel4Ideal
    ∧ algebraic_Kernel4Ideal_Reference4Ideal_pre_bounded (hKernel4Ideal := hKernel4Ideal) (hReference4Ideal := hReference4Ideal) (hPre_bounded := hPre_bounded)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_projected (hKernel7Ideal := hKernel7Ideal) (hReference7Ideal := hReference7Ideal) (hPre_projected := hPre_projected)
-- ==== Pre_bounded.lean ====
abbrev S32768x1024 : Shape := ⟨2, ![32768, 1024]⟩
abbrev S1024x6048 : Shape := ⟨2, ![1024, 6048]⟩
abbrev S384 : Shape := ⟨1, ![384]⟩
abbrev S384x768 : Shape := ⟨2, ![384, 768]⟩
abbrev S256 : Shape := ⟨1, ![256]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x6048 : S_.BroadcastsInDim S1024x6048 (![] : Fin 0 → Fin S1024x6048.rank)
  reducesTo_S1024x6048_S_d0_1 : S1024x6048.ReducesTo [0, 1] S_
  bcast_S_S384 : S_.BroadcastsInDim S384 (![] : Fin 0 → Fin S384.rank)
  reducesTo_S384_S_d0 : S384.ReducesTo [0] S_
  bcast_S_S384x768 : S_.BroadcastsInDim S384x768 (![] : Fin 0 → Fin S384x768.rank)
  reducesTo_S384x768_S_d0_1 : S384x768.ReducesTo [0, 1] S_

variable [Facts]

def fn_part1 {F : FTy → Type} [FloatOps F] (main_v13 : IVec S_ 1) (main_v16 : IVec S384x768 1) : IVec S_ 1 :=
  let main_c_5 : IVec S_ 1 := constantI S_ 1 1#1
  let main_v17 : IVec S_ 1 := (fun x v => Host.reduce IntOp.andi x v reducesTo_S384x768_S_d0_1 h_S_) main_v16 main_c_5
  let main_v18 : IVec S_ 1 := andi main_v13 main_v17
  main_v18

def fn {F : FTy → Type} [FloatOps F] (main_arg0 : FVec F S32768x1024 .f32) (main_arg1 : FVec F S1024x6048 .f32) (main_arg2 : FVec F S384 .f32) (main_arg3 : FVec F S384x768 .f32) (main_arg4 : FVec F S256 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x6048 .f32 := Host.absf main_arg1
  let main_cst_0 : FVec F S_ .f32 := constant S_ .f32 0x7F800000#32
  let main_v5 : FVec F S1024x6048 .f32 := broadcastInDim S1024x6048 ![] bcast_S_S1024x6048 main_cst_0
  let main_v6 : IVec S1024x6048 1 := cmpf .olt main_v4 main_v5
  let main_c_1 : IVec S_ 1 := constantI S_ 1 1#1
  let main_v7 : IVec S_ 1 := (fun x v => Host.reduce IntOp.andi x v reducesTo_S1024x6048_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384x768 .f32 := Host.absf main_arg3
  let main_cst_4 : FVec F S_ .f32 := constant S_ .f32 0x7F800000#32
  let main_v15 : FVec F S384x768 .f32 := broadcastInDim S384x768 ![] bcast_S_S384x768 main_cst_4
  let main_v16 : IVec S384x768 1 := cmpf .olt main_v14 main_v15
  fn_part1 (F := F) main_v13 main_v16
-- ==== Pre_finite.lean ====
abbrev S32768x1024 : Shape := ⟨2, ![32768, 1024]⟩
abbrev S32768x512 : Shape := ⟨2, ![32768, 512]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .bf16) (main_arg1 : FVec F S32768x1024 .bf16) (main_arg2 : FVec F S32768x512 .bf16) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S32768x1024 .f32 := (extf .f32 · bitsLt_bf16_f32) main_arg1
  let main_v6 : FVec F S32768x1024 .f32 := Host.absf main_v5
  let main_cst_0 : FVec F S_ .f32 := constant S_ .f32 0x7F800000#32
  let main_v7 : FVec F S32768x1024 .f32 := broadcastInDim S32768x1024 ![] bcast_S_S32768x1024 main_cst_0
  let main_v8 : IVec S32768x1024 1 := cmpf .olt main_v6 main_v7
  let main_c_1 : IVec S_ 1 := constantI S_ 1 1#1
  let main_v9 : IVec S_ 1 := (fun x v => Host.reduce IntOp.andi x v reducesTo_S32768x1024_S_d0_1 h_S_) main_v8 main_c_1
  let main_v10 : IVec S_ 1 := andi main_v4 main_v9
  main_v10
-- ==== Pre_mixed.lean ====
abbrev S32768x1024 : Shape := ⟨2, ![32768, 1024]⟩
abbrev S32768x512 : Shape := ⟨2, ![32768, 512]⟩
abbrev S2048x8192 : Shape := ⟨2, ![2048, 8192]⟩
abbrev S1024x3072 : Shape := ⟨2, ![1024, 3072]⟩
abbrev S1x512 : Shape := ⟨2, ![1, 512]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩

class Facts : Prop where
  bcast_S_S2048x8192 : S_.BroadcastsInDim S2048x8192 (![] : Fin 0 → Fin S2048x8192.rank)
  reducesTo_S2048x8192_S_d0_1 : S2048x8192.ReducesTo [0, 1] S_
  h_S_ : 0 < S_.numel

variable [Facts]

def fn {F : FTy → Type} [FloatOps F] (main_arg0 : FVec F S32768x1024 .f32) (main_arg1 : FVec F S32768x512 .f32) (main_arg2 : FVec F S2048x8192 .f32) (main_arg3 : FVec F S32768x512 .f32) (main_arg4 : FVec F S32768x512 .f32) (main_arg5 : FVec F S2048x8192 .f32) (main_arg6 : FVec F S1024x3072 .bf16) (main_arg7 : FVec F S1x512 .f32) (main_arg8 : FVec F S1x512 .f32) (main_arg9 : FVec F S512x1024 .bf16) (main_arg10 : FVec F S512x1024 .bf16) (main_arg11 : FVec F S512x1024 .bf16) (main_arg12 : FVec F S1024x1024 .bf16) (main_arg13 : FVec F S1x1024 .f32) (main_arg14 : FVec F S1x1024 .f32) : IVec S_ 1 :=
  let main_v0 : FVec F S2048x8192 .f32 := Host.absf main_arg2
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_c : IVec S_ 1 := constantI S_ 1 1#1
  let main_v3 : IVec S_ 1 := (fun x v => Host.reduce IntOp.andi x v reducesTo_S2048x8192_S_d0_1 h_S_) main_v2 main_c
  main_v3
-- ==== Pre_projected.lean ====
abbrev S32768x1024 : Shape := ⟨2, ![32768, 1024]⟩
abbrev S1024x6048 : Shape := ⟨2, ![1024, 6048]⟩
abbrev S16x1792 : Shape := ⟨2, ![16, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x6048 : S_.BroadcastsInDim S1024x6048 (![] : Fin 0 → Fin S1024x6048.rank)
  reducesTo_S1024x6048_S_d0_1 : S1024x6048.ReducesTo [0, 1] S_
  bcast_S_S16x1792 : S_.BroadcastsInDim S16x1792 (![] : Fin 0 → Fin S16x1792.rank)
  reducesTo_S16x1792_S_d0_1 : S16x1792.ReducesTo [0, 1] S_
  bcast_S_S1792 : S_.BroadcastsInDim S1792 (![] : Fin 0 → Fin S1792.rank)
  reducesTo_S1792_S_d0 : S1792.ReducesTo [0] S_
  bcast_S_S512 : S_.BroadcastsInDim S512 (![] : Fin 0 → Fin S512.rank)
  reducesTo_S512_S_d0 : S512.ReducesTo [0] S_
  bcast_S_S8x64 : S_.BroadcastsInDim S8x64 (![] : Fin 0 → Fin S8x64.rank)
  reducesTo_S8x64_S_d0_1 : S8x64.ReducesTo [0, 1] S_

variable [Facts]

def fn_part1 {F : FTy → Type} [FloatOps F] (main_arg9 : FVec F S512 .f32) (main_arg10 : FVec F S512 .f32) (main_arg11 : FVec F S8x64 .f32) (main_v13 : IVec S_ 1) (main_v16 : IVec S1792 1) : IVec S_ 1 :=
  let main_c_5 : IVec S_ 1 := constantI S_ 1 1#1
  let main_v17 : IVec S_ 1 := (fun x v => Host.reduce IntOp.andi x v reducesTo_S1792_S_d0 h_S_) main_v16 main_c_5
  let main_v18 : IVec S_ 1 := andi main_v13 main_v17
  let main_v19 : FVec F S512 .f32 := Host.absf main_arg9
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg10
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S8x64 .f32 := Host.absf main_arg11
  let main_cst_10 : FVec F S_ .f32 := constant S_ .f32 0x7F800000#32
  let main_v30 : FVec F S8x64 .f32 := broadcastInDim S8x64 ![] bcast_S_S8x64 main_cst_10
  let main_v31 : IVec S8x64 1 := cmpf .olt main_v29 main_v30
  let main_c_11 : IVec S_ 1 := constantI S_ 1 1#1
  let main_v32 : IVec S_ 1 := (fun x v => Host.reduce IntOp.andi x v reducesTo_S8x64_S_d0_1 h_S_) main_v31 main_c_11
  let main_v33 : IVec S_ 1 := andi main_v28 main_v32
  main_v33

def fn {F : FTy → Type} [FloatOps F] (main_arg0 : FVec F S32768x1024 .f32) (main_arg1 : FVec F S1024x6048 .f32) (main_arg2 : FVec F S16x1792 .f32) (main_arg3 : FVec F S1792 .f32) (main_arg4 : FVec F S512 .f32) (main_arg5 : FVec F S64x512 .f32) (main_arg6 : FVec F S512 .f32) (main_arg7 : FVec F S64x512 .f32) (main_arg8 : FVec F S128x512 .f32) (main_arg9 : FVec F S512 .f32) (main_arg10 : FVec F S512 .f32) (main_arg11 : FVec F S8x64 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x6048 .f32 := Host.absf main_arg1
  let main_cst_0 : FVec F S_ .f32 := constant S_ .f32 0x7F800000#32
  let main_v5 : FVec F S1024x6048 .f32 := broadcastInDim S1024x6048 ![] bcast_S_S1024x6048 main_cst_0
  let main_v6 : IVec S1024x6048 1 := cmpf .olt main_v4 main_v5
  let main_c_1 : IVec S_ 1 := constantI S_ 1 1#1
  let main_v7 : IVec S_ 1 := (fun x v => Host.reduce IntOp.andi x v reducesTo_S1024x6048_S_d0_1 h_S_) main_v6 main_c_1
  let main_v8 : IVec S_ 1 := andi main_v3 main_v7
  let main_v9 : FVec F S16x1792 .f32 := Host.absf main_arg2
  let main_cst_2 : FVec F S_ .f32 := constant S_ .f32 0x7F800000#32
  let main_v10 : FVec F S16x1792 .f32 := broadcastInDim S16x1792 ![] bcast_S_S16x1792 main_cst_2
  let main_v11 : IVec S16x1792 1 := cmpf .olt main_v9 main_v10
  let main_c_3 : IVec S_ 1 := constantI S_ 1 1#1
  let main_v12 : IVec S_ 1 := (fun x v => Host.reduce IntOp.andi x v reducesTo_S16x1792_S_d0_1 h_S_) main_v11 main_c_3
  let main_v13 : IVec S_ 1 := andi main_v8 main_v12
  let main_v14 : FVec F S1792 .f32 := Host.absf main_arg3
  let main_cst_4 : FVec F S_ .f32 := constant S_ .f32 0x7F800000#32
  let main_v15 : FVec F S1792 .f32 := broadcastInDim S1792 ![] bcast_S_S1792 main_cst_4
  let main_v16 : IVec S1792 1 := cmpf .olt main_v14 main_v15
  fn_part1 (F := F) main_arg9 main_arg10 main_arg11 main_v13 main_v16
-- ==== Pre_scheduled.lean ====
abbrev S288 : Shape := ⟨1, ![288]⟩
abbrev S1 : Shape := ⟨1, ![1]⟩
abbrev S147456x1024 : Shape := ⟨2, ![147456, 1024]⟩
abbrev S32x1024x1024 : Shape := ⟨3, ![32, 1024, 1024]⟩
abbrev S32x1x1024 : Shape := ⟨3, ![32, 1, 1024]⟩
abbrev S64x512x1024 : Shape := ⟨3, ![64, 512, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S288 32) (main_arg1 : IVec S1 32) (main_arg2 : FVec F S147456x1024 .f32) (main_arg3 : FVec F S32x1024x1024 .bf16) (main_arg4 : FVec F S32x1x1024 .f32) (main_arg5 : FVec F S64x512x1024 .f32) (main_arg6 : FVec F S32x1x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 288#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S32768x1024 : Shape := ⟨2, ![32768, 1024]⟩
abbrev S32768x512 : Shape := ⟨2, ![32768, 512]⟩
abbrev S2048x256 : Shape := ⟨2, ![2048, 256]⟩
abbrev S2048x128 : Shape := ⟨2, ![2048, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1024x128 : Shape := ⟨2, ![1024, 128]⟩
abbrev S512x1024 : Shape := ⟨2, ![512, 1024]⟩
abbrev S1536x128 : Shape := ⟨2, ![1536, 128]⟩
abbrev S512x1536 : Shape := ⟨2, ![512, 1536]⟩

abbrev nBuf : Space → Nat
  | .hbm => 4
  | .vmem => 8
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x512, .bf16⟩
  | .hbm, ⟨3, _⟩ => ⟨S32768x512, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32768x1024 : Shape := ⟨2, ![32768, 1024]⟩
abbrev S32768x512 : Shape := ⟨2, ![32768, 512]⟩
abbrev S16x2048x8x128 : Shape := ⟨4, ![16, 2048, 8, 128]⟩
abbrev S16x2048x8x64 : Shape := ⟨4, ![16, 2048, 8, 64]⟩
abbrev S16x8x2048x2048 : Shape := ⟨4, ![16, 8, 2048, 2048]⟩
abbrev S2048 : Shape := ⟨1, ![2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩

abbrev nBuf : Space → Nat
  | .hbm => 56
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x512, .bf16⟩
  | .hbm, ⟨3, _⟩ => ⟨S32768x1024, .f32⟩
  | .hbm, ⟨4, _⟩ => ⟨S16x2048x8x128, .f32⟩
  | .hbm, ⟨5, _⟩ => ⟨S32768x1024, .f32⟩
  | .hbm, ⟨6, _⟩ => ⟨S16x2048x8x128, .f32⟩
  | .hbm, ⟨7, _⟩ => ⟨S32768x512, .f32⟩
  | .hbm, ⟨8, _⟩ => ⟨S16x2048x8x64, .f32⟩
  | .hbm, ⟨9, _⟩ => ⟨S16x8x2048x2048, .f32⟩
  | .hbm, ⟨10, _⟩ => ⟨S2048, .i32⟩
  | .hbm, ⟨11, _⟩ => ⟨S_, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S2048, .i1⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S1x2048, .i32⟩
  | .hbm, ⟨30, _⟩ => ⟨S2048x1, .i32⟩
  | .hbm, ⟨31, _⟩ => ⟨S2048x2048, .i32⟩
  | .hbm, ⟨32, _⟩ => ⟨S2048x2048, .i32⟩
  | .hbm, ⟨33, _⟩ => ⟨S2048x2048, .i1⟩
  | .hbm, ⟨34, _⟩ => ⟨S_, .f32⟩
  | .hbm, ⟨35, _⟩ => ⟨S_, .f32⟩
  | .hbm, ⟨36, _⟩ => ⟨S16x8x2048x2048, .i1⟩
  | .hbm, ⟨37, _⟩ => ⟨S16x8x2048x2048, .f32⟩
  | .hbm, ⟨38, _⟩ => ⟨S16x8x2048x2048, .f32⟩
  | .hbm, ⟨39, _⟩ => ⟨S_, .f32⟩
  | .hbm, ⟨40, _⟩ => ⟨S16x8x2048, .f32⟩
  | .hbm, ⟨41, _⟩ => ⟨S_, .f32⟩
  | .hbm, ⟨42, _⟩ => ⟨S16x8x2048, .f32⟩
  | .hbm, ⟨43, _⟩ => ⟨S16x8x2048, .f32⟩
  | .hbm, ⟨44, _⟩ => ⟨S16x8x2048x1, .f32⟩
  | .hbm, ⟨45, _⟩ => ⟨S16x8x2048x2048, .f32⟩
  | .hbm, ⟨46, _⟩ => ⟨S16x8x2048x2048, .f32⟩
  | .hbm, ⟨47, _⟩ => ⟨S16x8x2048x2048, .f32⟩
  | .hbm, ⟨48, _⟩ => ⟨S_, .f32⟩
  | .hbm, ⟨49, _⟩ => ⟨S16x8x2048, .f32⟩
  | .hbm, ⟨50, _⟩ => ⟨S16x8x2048x1, .f32⟩
  | .hbm, ⟨51, _⟩ => ⟨S16x8x2048x2048, .f32⟩
  | .hbm, ⟨52, _⟩ => ⟨S16x8x2048x2048, .f32⟩
  | .hbm, ⟨53, _⟩ => ⟨S16x8x64x2048, .f32⟩
  | .hbm, ⟨54, _⟩ => ⟨S16x2048x8x64, .f32⟩
  | .hbm, ⟨55, _⟩ => ⟨S32768x512, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v14 : Ref sig .tc := ⟨.hbm, 38, rfl⟩
abbrev main_cst_0 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_2 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩

abbrev nD : Nat := 1
abbrev τ : Topo := Topo.v7x

variable {F : FTy → Type} [FloatOps F]
-- ==== Kernel2.lean ====
abbrev S288 : Shape := ⟨1, ![288]⟩
abbrev S1 : Shape := ⟨1, ![1]⟩
abbrev S147456x1024 : Shape := ⟨2, ![147456, 1024]⟩
abbrev S32x1024x1024 : Shape := ⟨3, ![32, 1024, 1024]⟩
abbrev S32x1x1024 : Shape := ⟨3, ![32, 1, 1024]⟩
abbrev S64x512x1024 : Shape := ⟨3, ![64, 512, 1024]⟩
abbrev S512x1024 : Shape := ⟨2, ![512, 1024]⟩
abbrev S1x1024x1024 : Shape := ⟨3, ![1, 1024, 1024]⟩
abbrev S1x1x1024 : Shape := ⟨3, ![1, 1, 1024]⟩
abbrev S1x512x1024 : Shape := ⟨3, ![1, 512, 1024]⟩
abbrev S1024x1024 : Shape := ⟨2, ![1024, 1024]⟩
abbrev S1x1024 : Shape := ⟨2, ![1, 1024]⟩
abbrev S512x512 : Shape := ⟨2, ![512, 512]⟩

abbrev nBuf : Space → Nat
  | .hbm => 6
  | .vmem => 12
  | .smem => 2
  | _ => 0

abbrev bufTy : (tb : Table) → Fin (tcTables nBuf tb) → BufTy
  | .hbm, ⟨0, _⟩ => ⟨S147456x1024, .f32⟩
  | .hbm, ⟨1, _⟩ => ⟨S32x1024x1024, .bf16⟩
  | .hbm, ⟨2, _⟩ => ⟨S32x1x1024, .f32⟩
  | .hbm, ⟨3, _⟩ => ⟨S64x512x1024, .f32⟩
  | .hbm, ⟨4, _⟩ => ⟨S32x1x1024, .f32⟩
  | .hbm, ⟨5, _⟩ => ⟨S147456x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .smem, ⟨0, _⟩ => ⟨S288, .i32⟩
  | .local _ .smem, ⟨1, _⟩ => ⟨S1, .i32⟩
  | _, _ => ⟨S147456x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S288 : Shape := ⟨1, ![288]⟩
abbrev S1 : Shape := ⟨1, ![1]⟩
abbrev S147456x1024 : Shape := ⟨2, ![147456, 1024]⟩
abbrev S32x1024x1024 : Shape := ⟨3, ![32, 1024, 1024]⟩
abbrev S32x1x1024 : Shape := ⟨3, ![32, 1, 1024]⟩
abbrev S64x512x1024 : Shape := ⟨3, ![64, 512, 1024]⟩
abbrev S147456 : Shape := ⟨1, ![147456]⟩
abbrev S_ : Shape := ⟨0, ![]⟩
abbrev S288x512 : Shape := ⟨2, ![288, 512]⟩
abbrev S147456x1 : Shape := ⟨2, ![147456, 1]⟩
abbrev S32 : Shape := ⟨1, ![32]⟩
abbrev S1x32 : Shape := ⟨2, ![1, 32]⟩
abbrev S147456x32 : Shape := ⟨2, ![147456, 32]⟩
abbrev S32x1024x147456 : Shape := ⟨3, ![32, 1024, 147456]⟩
abbrev S32x147456x1024 : Shape := ⟨3, ![32, 147456, 1024]⟩
abbrev S32x147456x512 : Shape := ⟨3, ![32, 147456, 512]⟩
abbrev S32x512x1024 : Shape := ⟨3, ![32, 512, 1024]⟩
abbrev S32x147456 : Shape := ⟨2, ![32, 147456]⟩
abbrev S32x147456x1 : Shape := ⟨3, ![32, 147456, 1]⟩

abbrev nBuf : Space → Nat
  | .hbm => 88
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S147456x1024, .f32⟩
  | .hbm, ⟨3, _⟩ => ⟨S32x1024x1024, .bf16⟩
  | .hbm, ⟨4, _⟩ => ⟨S32x1x1024, .f32⟩
  | .hbm, ⟨5, _⟩ => ⟨S64x512x1024, .f32⟩
  | .hbm, ⟨6, _⟩ => ⟨S32x1x1024, .f32⟩
  | .hbm, ⟨7, _⟩ => ⟨S147456, .i32⟩
  | .hbm, ⟨8, _⟩ => ⟨S_, .i32⟩
  | .hbm, ⟨9, _⟩ => ⟨S_, .i32⟩
  | .hbm, ⟨10, _⟩ => ⟨S147456, .i32⟩
  | .hbm, ⟨11, _⟩ => ⟨S147456, .i32⟩
  | .hbm, ⟨12, _⟩ => ⟨S147456, .i32⟩
  | .hbm, ⟨13, _⟩ => ⟨S_, .i32⟩
  | .hbm, ⟨14, _⟩ => ⟨S147456, .i32⟩
  | .hbm, ⟨15, _⟩ => ⟨S147456, .i1⟩
  | .hbm, ⟨16, _⟩ => ⟨S147456, .i32⟩
  | .hbm, ⟨17, _⟩ => ⟨S147456, .i32⟩
  | .hbm, ⟨18, _⟩ => ⟨S_, .i32⟩
  | .hbm, ⟨19, _⟩ => ⟨S147456, .i32⟩
  | .hbm, ⟨20, _⟩ => ⟨S147456, .i1⟩
  | .hbm, ⟨21, _⟩ => ⟨S147456, .i1⟩
  | .hbm, ⟨22, _⟩ => ⟨S_, .i32⟩
  | .hbm, ⟨23, _⟩ => ⟨S147456, .i32⟩
  | .hbm, ⟨24, _⟩ => ⟨S147456, .i32⟩
  | .hbm, ⟨25, _⟩ => ⟨S147456, .i32⟩
  | .hbm, ⟨26, _⟩ => ⟨S288x512, .i32⟩
  | .hbm, ⟨27, _⟩ => ⟨S147456, .i32⟩
  | .hbm, ⟨28, _⟩ => ⟨S147456x1, .i32⟩
  | .hbm, ⟨29, _⟩ => ⟨S32, .i32⟩
  | .hbm, ⟨30, _⟩ => ⟨S1x32, .i32⟩
  | .hbm, ⟨31, _⟩ => ⟨S147456x32, .i32⟩
  | .hbm, ⟨32, _⟩ => ⟨S147456x32, .i32⟩
  | .hbm, ⟨33, _⟩ => ⟨S147456x32, .i1⟩
  | .hbm, ⟨34, _⟩ => ⟨S147456x32, .f32⟩
  | .hbm, ⟨35, _⟩ => ⟨S32x1024x1024, .f32⟩
  | .hbm, ⟨36, _⟩ => ⟨S32x1024x147456, .f32⟩
  | .hbm, ⟨37, _⟩ => ⟨S32x147456x1024, .f32⟩
  | .hbm, ⟨38, _⟩ => ⟨S32x147456x1024, .f32⟩
  | .hbm, ⟨39, _⟩ => ⟨S32x147456x1024, .f32⟩
  | .hbm, ⟨40, _⟩ => ⟨S32x147456x512, .f32⟩
  | .hbm, ⟨41, _⟩ => ⟨S_, .f32⟩
  | .hbm, ⟨42, _⟩ => ⟨S32x147456x512, .f32⟩
  | .hbm, ⟨43, _⟩ => ⟨S32x147456x512, .f32⟩
  | .hbm, ⟨44, _⟩ => ⟨S32x147456x512, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S32x147456x512, .f32⟩
  | .hbm, ⟨49, _⟩ => ⟨S32x147456x512, .f32⟩
  | .hbm, ⟨50, _⟩ => ⟨S_, .f32⟩
  | .hbm, ⟨51, _⟩ => ⟨S32x147456x512, .f32⟩
  | .hbm, ⟨52, _⟩ => ⟨S32x147456x512, .f32⟩
  | .hbm, ⟨53, _⟩ => ⟨S_, .f32⟩
  | .hbm, ⟨54, _⟩ => ⟨S32x147456x512, .f32⟩
  | .hbm, ⟨55, _⟩ => ⟨S32x147456x512, .f32⟩
  | .hbm, ⟨56, _⟩ => ⟨S32x147456x512, .f32⟩
  | .hbm, ⟨57, _⟩ => ⟨S32x147456x512, .f32⟩
  | .hbm, ⟨58, _⟩ => ⟨S_, .f32⟩
  | .hbm, ⟨59, _⟩ => ⟨S32x147456x512, .f32⟩
  | .hbm, ⟨60, _⟩ => ⟨S32x147456x512, .f32⟩
  | .hbm, ⟨61, _⟩ => ⟨S_, .f32⟩
  | .hbm, ⟨62, _⟩ => ⟨S32x147456x512, .f32⟩
  | .hbm, ⟨63, _⟩ => ⟨S32x147456x512, .f32⟩
  | .hbm, ⟨64, _⟩ => ⟨S32x147456x512, .f32⟩
  | .hbm, ⟨65, _⟩ => ⟨S_, .f32⟩
  | .hbm, ⟨66, _⟩ => ⟨S32x147456x512, .f32⟩
  | .hbm, ⟨67, _⟩ => ⟨S32x147456x512, .f32⟩
  | .hbm, ⟨68, _⟩ => ⟨S32x147456x512, .f32⟩
  | .hbm, ⟨69, _⟩ => ⟨S32x512x1024, .f32⟩
  | .hbm, ⟨70, _⟩ => ⟨S32x147456x1024, .f32⟩
  | .hbm, ⟨71, _⟩ => ⟨S32x147456x1024, .f32⟩
  | .hbm, ⟨72, _⟩ => ⟨S32x147456x1024, .f32⟩
  | .hbm, ⟨73, _⟩ => ⟨S32x147456, .f32⟩
  | .hbm, ⟨74, _⟩ => ⟨S32x147456x1, .f32⟩
  | .hbm, ⟨75, _⟩ => ⟨S32x147456x1024, .f32⟩
  | .hbm, ⟨76, _⟩ => ⟨S32x147456x1024, .f32⟩
  | .hbm, ⟨77, _⟩ => ⟨S_, .f32⟩
  | .hbm, ⟨78, _⟩ => ⟨S147456x1024, .f32⟩
  | .hbm, ⟨79, _⟩ => ⟨S_, .i32⟩
  | .hbm, ⟨80, _⟩ => ⟨S147456, .i32⟩
  | .hbm, ⟨81, _⟩ => ⟨S147456, .i1⟩
  | .hbm, ⟨82, _⟩ => ⟨S147456x1, .i1⟩
  | .hbm, ⟨83, _⟩ => ⟨S_, .f32⟩
  | .hbm, ⟨84, _⟩ => ⟨S_, .f32⟩
  | .hbm, ⟨85, _⟩ => ⟨S147456x1024, .i1⟩
  | .hbm, ⟨86, _⟩ => ⟨S147456x1024, .f32⟩
  | .hbm, ⟨87, _⟩ => ⟨S147456x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_0 : Ref sig .tc := ⟨.hbm, 45, rfl⟩
abbrev main_cst_1 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v20 : Ref sig .tc := ⟨.hbm, 52, rfl⟩
abbrev main_cst_2 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_3 : Ref sig .tc := ⟨.hbm, 58, rfl⟩
abbrev main_v25 : Ref sig .tc := ⟨.hbm, 59, rfl⟩
abbrev main_v26 : Ref sig .tc := ⟨.hbm, 60, rfl⟩
abbrev main_cst_4 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_5 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_6 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_7 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v46 : Ref sig .tc := ⟨.hbm, 87, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S2048x8192 : Shape := ⟨2, ![2048, 8192]⟩
abbrev S1024x3072 : Shape := ⟨2, ![1024, 3072]⟩
abbrev S1x512 : Shape := ⟨2, ![1, 512]⟩
abbrev S512x1024 : Shape := ⟨2, ![512, 1024]⟩
abbrev S1024x1024 : Shape := ⟨2, ![1024, 1024]⟩
abbrev S1x1024 : Shape := ⟨2, ![1, 1024]⟩
abbrev S512 : Shape := ⟨1, ![512]⟩
abbrev S_ : Shape := ⟨0, ![]⟩
abbrev S512x1 : Shape := ⟨2, ![512, 1]⟩
abbrev S512x512 : Shape := ⟨2, ![512, 512]⟩

abbrev nBuf : Space → Nat
  | .hbm => 27
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S2048x8192, .f32⟩
  | .hbm, ⟨3, _⟩ => ⟨S32768x512, .f32⟩
  | .hbm, ⟨4, _⟩ => ⟨S32768x512, .f32⟩
  | .hbm, ⟨5, _⟩ => ⟨S2048x8192, .f32⟩
  | .hbm, ⟨6, _⟩ => ⟨S1024x3072, .bf16⟩
  | .hbm, ⟨7, _⟩ => ⟨S1x512, .f32⟩
  | .hbm, ⟨8, _⟩ => ⟨S1x512, .f32⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i32⟩
  | .hbm, ⟨19, _⟩ => ⟨S512x1, .i32⟩
  | .hbm, ⟨20, _⟩ => ⟨S1x512, .i32⟩
  | .hbm, ⟨21, _⟩ => ⟨S512x512, .i32⟩
  | .hbm, ⟨22, _⟩ => ⟨S512x512, .i32⟩
  | .hbm, ⟨23, _⟩ => ⟨S512x512, .i1⟩
  | .hbm, ⟨24, _⟩ => ⟨S512x512, .f32⟩
  | .hbm, ⟨25, _⟩ => ⟨S512x512, .bf16⟩
  | .hbm, ⟨26, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1024x3072, .bf16⟩
  | .local _ .vmem, ⟨13, _⟩ => ⟨S1x512, .f32⟩
  | .local _ .vmem, ⟨14, _⟩ => ⟨S1x512, .f32⟩
  | .local _ .vmem, ⟨15, _⟩ => ⟨S512x512, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S32768x1024 : Shape := ⟨2, ![32768, 1024]⟩
abbrev S32768x512 : Shape := ⟨2, ![32768, 512]⟩
abbrev S2048x8192 : Shape := ⟨2, ![2048, 8192]⟩
abbrev S1024x3072 : Shape := ⟨2, ![1024, 3072]⟩
abbrev S1x512 : Shape := ⟨2, ![1, 512]⟩
abbrev S512x1024 : Shape := ⟨2, ![512, 1024]⟩
abbrev S1024x1024 : Shape := ⟨2, ![1024, 1024]⟩
abbrev S1x1024 : Shape := ⟨2, ![1, 1024]⟩
abbrev S2048x16x8x64 : Shape := ⟨4, ![2048, 16, 8, 64]⟩
abbrev S16x2048x8x64 : Shape := ⟨4, ![16, 2048, 8, 64]⟩
abbrev S_ : Shape := ⟨0, ![]⟩
abbrev S16x2048x8 : Shape := ⟨3, ![16, 2048, 8]⟩
abbrev S16x2048x8x1 : Shape := ⟨4, ![16, 2048, 8, 1]⟩
abbrev S2048x16x512 : Shape := ⟨3, ![2048, 16, 512]⟩
abbrev S16x2048x512 : Shape := ⟨3, ![16, 2048, 512]⟩
abbrev S32768x3072 : Shape := ⟨2, ![32768, 3072]⟩
abbrev S32768 : Shape := ⟨1, ![32768]⟩
abbrev S32768x1 : Shape := ⟨2, ![32768, 1]⟩

abbrev nBuf : Space → Nat
  | .hbm => 123
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S2048x8192, .f32⟩
  | .hbm, ⟨3, _⟩ => ⟨S32768x512, .f32⟩
  | .hbm, ⟨4, _⟩ => ⟨S32768x512, .f32⟩
  | .hbm, ⟨5, _⟩ => ⟨S2048x8192, .f32⟩
  | .hbm, ⟨6, _⟩ => ⟨S1024x3072, .bf16⟩
  | .hbm, ⟨7, _⟩ => ⟨S1x512, .f32⟩
  | .hbm, ⟨8, _⟩ => ⟨S1x512, .f32⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S2048x16x8x64, .f32⟩
  | .hbm, ⟨16, _⟩ => ⟨S16x2048x8x64, .f32⟩
  | .hbm, ⟨17, _⟩ => ⟨S_, .f32⟩
  | .hbm, ⟨18, _⟩ => ⟨S16x2048x8, .f32⟩
  | .hbm, ⟨19, _⟩ => ⟨S16x2048x8x1, .f32⟩
  | .hbm, ⟨20, _⟩ => ⟨S_, .f32⟩
  | .hbm, ⟨21, _⟩ => ⟨S16x2048x8x1, .f32⟩
  | .hbm, ⟨22, _⟩ => ⟨S16x2048x8x1, .f32⟩
  | .hbm, ⟨23, _⟩ => ⟨S16x2048x8x64, .f32⟩
  | .hbm, ⟨24, _⟩ => ⟨S16x2048x8x64, .f32⟩
  | .hbm, ⟨25, _⟩ => ⟨S16x2048x8x64, .f32⟩
  | .hbm, ⟨26, _⟩ => ⟨S_, .f32⟩
  | .hbm, ⟨27, _⟩ => ⟨S16x2048x8, .f32⟩
  | .hbm, ⟨28, _⟩ => ⟨S16x2048x8x1, .f32⟩
  | .hbm, ⟨29, _⟩ => ⟨S_, .f32⟩
  | .hbm, ⟨30, _⟩ => ⟨S16x2048x8x1, .f32⟩
  | .hbm, ⟨31, _⟩ => ⟨S16x2048x8x1, .f32⟩
  | .hbm, ⟨32, _⟩ => ⟨S16x2048x8x64, .f32⟩
  | .hbm, ⟨33, _⟩ => ⟨S16x2048x8x64, .f32⟩
  | .hbm, ⟨34, _⟩ => ⟨S_, .f32⟩
  | .hbm, ⟨35, _⟩ => ⟨S16x2048x8x1, .f32⟩
  | .hbm, ⟨36, _⟩ => ⟨S16x2048x8x1, .f32⟩
  | .hbm, ⟨37, _⟩ => ⟨S16x2048x8x1, .f32⟩
  | .hbm, ⟨38, _⟩ => ⟨S16x2048x8x64, .f32⟩
  | .hbm, ⟨39, _⟩ => ⟨S16x2048x8x64, .f32⟩
  | .hbm, ⟨40, _⟩ => ⟨S32768x512, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S2048x16x512, .f32⟩
  | .hbm, ⟨48, _⟩ => ⟨S16x2048x512, .f32⟩
  | .hbm, ⟨49, _⟩ => ⟨S32768x512, .f32⟩
  | .hbm, ⟨50, _⟩ => ⟨S1024x3072, .f32⟩
  | .hbm, ⟨51, _⟩ => ⟨S32768x3072, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S_, .f32⟩
  | .hbm, ⟨58, _⟩ => ⟨S32768x1024, .f32⟩
  | .hbm, ⟨59, _⟩ => ⟨S32768x1024, .f32⟩
  | .hbm, ⟨60, _⟩ => ⟨S_, .f32⟩
  | .hbm, ⟨61, _⟩ => ⟨S32768x1024, .f32⟩
  | .hbm, ⟨62, _⟩ => ⟨S32768x1024, .f32⟩
  | .hbm, ⟨63, _⟩ => ⟨S512x1024, .f32⟩
  | .hbm, ⟨64, _⟩ => ⟨S32768x1024, .f32⟩
  | .hbm, ⟨65, _⟩ => ⟨S32768x1024, .f32⟩
  | .hbm, ⟨66, _⟩ => ⟨S32768x1024, .f32⟩
  | .hbm, ⟨67, _⟩ => ⟨S32768x1024, .f32⟩
  | .hbm, ⟨68, _⟩ => ⟨S_, .f32⟩
  | .hbm, ⟨69, _⟩ => ⟨S32768x1024, .f32⟩
  | .hbm, ⟨70, _⟩ => ⟨S32768x1024, .f32⟩
  | .hbm, ⟨71, _⟩ => ⟨S_, .f32⟩
  | .hbm, ⟨72, _⟩ => ⟨S32768x1024, .f32⟩
  | .hbm, ⟨73, _⟩ => ⟨S32768x1024, .f32⟩
  | .hbm, ⟨74, _⟩ => ⟨S512x1024, .f32⟩
  | .hbm, ⟨75, _⟩ => ⟨S32768x1024, .f32⟩
  | .hbm, ⟨76, _⟩ => ⟨S32768x1024, .f32⟩
  | .hbm, ⟨77, _⟩ => ⟨S32768x1024, .f32⟩
  | .hbm, ⟨78, _⟩ => ⟨S32768x1024, .f32⟩
  | .hbm, ⟨79, _⟩ => ⟨S32768x1024, .f32⟩
  | .hbm, ⟨80, _⟩ => ⟨S_, .f32⟩
  | .hbm, ⟨81, _⟩ => ⟨S32768x1024, .f32⟩
  | .hbm, ⟨82, _⟩ => ⟨S32768x1024, .f32⟩
  | .hbm, ⟨83, _⟩ => ⟨S_, .f32⟩
  | .hbm, ⟨84, _⟩ => ⟨S32768x1024, .f32⟩
  | .hbm, ⟨85, _⟩ => ⟨S32768x1024, .f32⟩
  | .hbm, ⟨86, _⟩ => ⟨S512x1024, .f32⟩
  | .hbm, ⟨87, _⟩ => ⟨S32768x1024, .f32⟩
  | .hbm, ⟨88, _⟩ => ⟨S32768x1024, .f32⟩
  | .hbm, ⟨89, _⟩ => ⟨S32768x1024, .f32⟩
  | .hbm, ⟨90, _⟩ => ⟨S_, .f32⟩
  | .hbm, ⟨91, _⟩ => ⟨S32768x1024, .f32⟩
  | .hbm, ⟨92, _⟩ => ⟨S32768x1024, .f32⟩
  | .hbm, ⟨93, _⟩ => ⟨S1024x1024, .f32⟩
  | .hbm, ⟨94, _⟩ => ⟨S32768x1024, .f32⟩
  | .hbm, ⟨95, _⟩ => ⟨S32768x1024, .f32⟩
  | .hbm, ⟨96, _⟩ => ⟨S_, .f32⟩
  | .hbm, ⟨97, _⟩ => ⟨S32768, .f32⟩
  | .hbm, ⟨98, _⟩ => ⟨S32768x1, .f32⟩
  | .hbm, ⟨99, _⟩ => ⟨S_, .f32⟩
  | .hbm, ⟨100, _⟩ => ⟨S32768x1, .f32⟩
  | .hbm, ⟨101, _⟩ => ⟨S32768x1, .f32⟩
  | .hbm, ⟨102, _⟩ => ⟨S32768x1024, .f32⟩
  | .hbm, ⟨103, _⟩ => ⟨S32768x1024, .f32⟩
  | .hbm, ⟨104, _⟩ => ⟨S32768x1024, .f32⟩
  | .hbm, ⟨105, _⟩ => ⟨S_, .f32⟩
  | .hbm, ⟨106, _⟩ => ⟨S32768, .f32⟩
  | .hbm, ⟨107, _⟩ => ⟨S32768x1, .f32⟩
  | .hbm, ⟨108, _⟩ => ⟨S_, .f32⟩
  | .hbm, ⟨109, _⟩ => ⟨S32768x1, .f32⟩
  | .hbm, ⟨110, _⟩ => ⟨S32768x1, .f32⟩
  | .hbm, ⟨111, _⟩ => ⟨S32768x1024, .f32⟩
  | .hbm, ⟨112, _⟩ => ⟨S32768x1024, .f32⟩
  | .hbm, ⟨113, _⟩ => ⟨S_, .f32⟩
  | .hbm, ⟨114, _⟩ => ⟨S32768x1, .f32⟩
  | .hbm, ⟨115, _⟩ => ⟨S32768x1, .f32⟩
  | .hbm, ⟨116, _⟩ => ⟨S32768x1, .f32⟩
  | .hbm, ⟨117, _⟩ => ⟨S32768x1024, .f32⟩
  | .hbm, ⟨118, _⟩ => ⟨S32768x1024, .f32⟩
  | .hbm, ⟨119, _⟩ => ⟨S32768x1024, .f32⟩
  | .hbm, ⟨120, _⟩ => ⟨S32768x1024, .f32⟩
  | .hbm, ⟨121, _⟩ => ⟨S32768x1024, .f32⟩
  | .hbm, ⟨122, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_8 : Ref sig .tc := ⟨.hbm, 80, rfl⟩
abbrev main_v56 : Ref sig .tc := ⟨.hbm, 81, rfl⟩
abbrev main_v57 : Ref sig .tc := ⟨.hbm, 82, rfl⟩
abbrev main_cst_9 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_11 : Ref sig .tc := ⟨.hbm, 96, rfl⟩
abbrev main_v69 : Ref sig .tc := ⟨.hbm, 97, rfl⟩
abbrev main_v70 : Ref sig .tc := ⟨.hbm, 98, rfl⟩
abbrev main_cst_12 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_13 : Ref sig .tc := ⟨.hbm, 105, rfl⟩
abbrev main_v76 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩

abbrev nD : Nat := 1
abbrev τ : Topo := Topo.v7x

variable {F : FTy → Type} [FloatOps F]
-- ==== Kernel4.lean ====
abbrev S32768x1024 : Shape := ⟨2, ![32768, 1024]⟩
abbrev S1024x6048 : Shape := ⟨2, ![1024, 6048]⟩
abbrev S384 : Shape := ⟨1, ![384]⟩
abbrev S384x768 : Shape := ⟨2, ![384, 768]⟩
abbrev S256 : Shape := ⟨1, ![256]⟩
abbrev S1024x384 : Shape := ⟨2, ![1024, 384]⟩
abbrev S1024x288 : Shape := ⟨2, ![1024, 288]⟩
abbrev S1024x256 : Shape := ⟨2, ![1024, 256]⟩
abbrev S1024x32 : Shape := ⟨2, ![1024, 32]⟩
abbrev S_ : Shape := ⟨0, ![]⟩
abbrev S1024x96 : Shape := ⟨2, ![1024, 96]⟩
abbrev S1024x16 : Shape := ⟨2, ![1024, 16]⟩
abbrev S1024x896 : Shape := ⟨2, ![1024, 896]⟩
abbrev S1x384 : Shape := ⟨2, ![1, 384]⟩
abbrev S1x256 : Shape := ⟨2, ![1, 256]⟩
abbrev S384x8x96 : Shape := ⟨3, ![384, 8, 96]⟩
abbrev S384x8x64 : Shape := ⟨3, ![384, 8, 64]⟩
abbrev S384x8x16 : Shape := ⟨3, ![384, 8, 16]⟩
abbrev S384x8x32 : Shape := ⟨3, ![384, 8, 32]⟩
abbrev S384x8x128 : Shape := ⟨3, ![384, 8, 128]⟩
abbrev S384x1024 : Shape := ⟨2, ![384, 1024]⟩
abbrev S384x2048 : Shape := ⟨2, ![384, 2048]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S2048x96 : Shape := ⟨2, ![2048, 96]⟩
abbrev S1x2048x1x128 : Shape := ⟨4, ![1, 2048, 1, 128]⟩
abbrev S16x2048x1x128 : Shape := ⟨4, ![16, 2048, 1, 128]⟩
abbrev S32768x128 : Shape := ⟨2, ![32768, 128]⟩
abbrev S32768x256 : Shape := ⟨2, ![32768, 256]⟩
abbrev S512x1024 : Shape := ⟨2, ![512, 1024]⟩
abbrev S512x128 : Shape := ⟨2, ![512, 128]⟩
abbrev S512x256 : Shape := ⟨2, ![512, 256]⟩
abbrev S512x896 : Shape := ⟨2, ![512, 896]⟩
abbrev S512x384 : Shape := ⟨2, ![512, 384]⟩
abbrev S512 : Shape := ⟨1, ![512]⟩
abbrev S512x1 : Shape := ⟨2, ![512, 1]⟩
abbrev S512x2048 : Shape := ⟨2, ![512, 2048]⟩

abbrev nBuf : Space → Nat
  | .hbm => 69
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S1024x6048, .f32⟩
  | .hbm, ⟨2, _⟩ => ⟨S384, .f32⟩
  | .hbm, ⟨3, _⟩ => ⟨S384x768, .f32⟩
  | .hbm, ⟨4, _⟩ => ⟨S256, .f32⟩
  | .hbm, ⟨5, _⟩ => ⟨S1024x384, .f32⟩
  | .hbm, ⟨6, _⟩ => ⟨S1024x288, .f32⟩
  | .hbm, ⟨7, _⟩ => ⟨S1024x256, .f32⟩
  | .hbm, ⟨8, _⟩ => ⟨S1024x32, .f32⟩
  | .hbm, ⟨9, _⟩ => ⟨S_, .f32⟩
  | .hbm, ⟨10, _⟩ => ⟨S1024x96, .f32⟩
  | .hbm, ⟨11, _⟩ => ⟨S1024x16, .f32⟩
  | .hbm, ⟨12, _⟩ => ⟨S1024x16, .f32⟩
  | .hbm, ⟨13, _⟩ => ⟨S1024x16, .f32⟩
  | .hbm, ⟨14, _⟩ => ⟨S1024x32, .f32⟩
  | .hbm, ⟨15, _⟩ => ⟨S1024x896, .f32⟩
  | .hbm, ⟨16, _⟩ => ⟨S1024x896, .bf16⟩
  | .hbm, ⟨17, _⟩ => ⟨S1x384, .f32⟩
  | .hbm, ⟨18, _⟩ => ⟨S1x256, .f32⟩
  | .hbm, ⟨19, _⟩ => ⟨S384x8x96, .f32⟩
  | .hbm, ⟨20, _⟩ => ⟨S384x8x64, .f32⟩
  | .hbm, ⟨21, _⟩ => ⟨S384x8x16, .f32⟩
  | .hbm, ⟨22, _⟩ => ⟨S384x8x16, .f32⟩
  | .hbm, ⟨23, _⟩ => ⟨S384x8x32, .f32⟩
  | .hbm, ⟨24, _⟩ => ⟨S_, .f32⟩
  | .hbm, ⟨25, _⟩ => ⟨S384x8x32, .f32⟩
  | .hbm, ⟨26, _⟩ => ⟨S384x8x128, .f32⟩
  | .hbm, ⟨27, _⟩ => ⟨S384x1024, .f32⟩
  | .hbm, ⟨28, _⟩ => ⟨S384x8x16, .f32⟩
  | .hbm, ⟨29, _⟩ => ⟨S_, .f32⟩
  | .hbm, ⟨30, _⟩ => ⟨S384x8x64, .f32⟩
  | .hbm, ⟨31, _⟩ => ⟨S384x8x128, .f32⟩
  | .hbm, ⟨32, _⟩ => ⟨S384x1024, .f32⟩
  | .hbm, ⟨33, _⟩ => ⟨S384x2048, .f32⟩
  | .hbm, ⟨34, _⟩ => ⟨S384x2048, .bf16⟩
  | .hbm, ⟨35, _⟩ => ⟨S2048, .i32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S2048, .f32⟩
  | .hbm, ⟨45, _⟩ => ⟨S2048x1, .f32⟩
  | .hbm, ⟨46, _⟩ => ⟨S1x16, .f32⟩
  | .hbm, ⟨47, _⟩ => ⟨S2048x16, .f32⟩
  | .hbm, ⟨48, _⟩ => ⟨S2048x16, .f32⟩
  | .hbm, ⟨49, _⟩ => ⟨S2048x16, .f32⟩
  | .hbm, ⟨50, _⟩ => ⟨S2048x16, .f32⟩
  | .hbm, ⟨51, _⟩ => ⟨S2048x16, .f32⟩
  | .hbm, ⟨52, _⟩ => ⟨S_, .f32⟩
  | .hbm, ⟨53, _⟩ => ⟨S2048x64, .f32⟩
  | .hbm, ⟨54, _⟩ => ⟨S_, .f32⟩
  | .hbm, ⟨55, _⟩ => ⟨S2048x32, .f32⟩
  | .hbm, ⟨56, _⟩ => ⟨S2048x128, .f32⟩
  | .hbm, ⟨57, _⟩ => ⟨S_, .f32⟩
  | .hbm, ⟨58, _⟩ => ⟨S2048x96, .f32⟩
  | .hbm, ⟨59, _⟩ => ⟨S2048x128, .f32⟩
  | .hbm, ⟨60, _⟩ => ⟨S1x2048x1x128, .f32⟩
  | .hbm, ⟨61, _⟩ => ⟨S16x2048x1x128, .f32⟩
  | .hbm, ⟨62, _⟩ => ⟨S32768x128, .f32⟩
  | .hbm, ⟨63, _⟩ => ⟨S1x2048x1x128, .f32⟩
  | .hbm, ⟨64, _⟩ => ⟨S16x2048x1x128, .f32⟩
  | .hbm, ⟨65, _⟩ => ⟨S32768x128, .f32⟩
  | .hbm, ⟨66, _⟩ => ⟨S32768x1024, .bf16⟩
  | .hbm, ⟨67, _⟩ => ⟨S32768x256, .f32⟩
  | .hbm, ⟨68, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1024x896, .bf16⟩
  | .local _ .vmem, ⟨3, _⟩ => ⟨S1x384, .f32⟩
  | .local _ .vmem, ⟨4, _⟩ => ⟨S1x256, .f32⟩
  | .local _ .vmem, ⟨5, _⟩ => ⟨S384x2048, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x256, .f32⟩
  | .local _ .vmem, ⟨13, _⟩ => ⟨S512x256, .f32⟩
  | .local _ .vmem, ⟨14, _⟩ => ⟨S512x128, .f32⟩
  | .local _ .vmem, ⟨15, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53_0 : Ref sig .tc := ⟨.hbm, 66, rfl⟩
abbrev main_v53_1 : Ref sig .tc := ⟨.hbm, 67, rfl⟩
abbrev main_v53_2 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S32768x1024 : Shape := ⟨2, ![32768, 1024]⟩
abbrev S1024x6048 : Shape := ⟨2, ![1024, 6048]⟩
abbrev S384 : Shape := ⟨1, ![384]⟩
abbrev S384x768 : Shape := ⟨2, ![384, 768]⟩
abbrev S256 : Shape := ⟨1, ![256]⟩
abbrev S1024x672 : Shape := ⟨2, ![1024, 672]⟩
abbrev S32768x672 : Shape := ⟨2, ![32768, 672]⟩
abbrev S32768x384 : Shape := ⟨2, ![32768, 384]⟩
abbrev S32768x256 : Shape := ⟨2, ![32768, 256]⟩
abbrev S32768x32 : Shape := ⟨2, ![32768, 32]⟩
abbrev S_ : Shape := ⟨0, ![]⟩
abbrev S32768 : Shape := ⟨1, ![32768]⟩
abbrev S32768x1 : Shape := ⟨2, ![32768, 1]⟩
abbrev S1x384 : Shape := ⟨2, ![1, 384]⟩
abbrev S32768x768 : Shape := ⟨2, ![32768, 768]⟩
abbrev S16x2048x8x96 : Shape := ⟨4, ![16, 2048, 8, 96]⟩
abbrev S16x2048x8x32 : Shape := ⟨4, ![16, 2048, 8, 32]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S16x2048x8x16 : Shape := ⟨4, ![16, 2048, 8, 16]⟩
abbrev S1x2048x1x16 : Shape := ⟨4, ![1, 2048, 1, 16]⟩
abbrev S16x2048x8x64 : Shape := ⟨4, ![16, 2048, 8, 64]⟩
abbrev S16x2048x8x128 : Shape := ⟨4, ![16, 2048, 8, 128]⟩
abbrev S16x2048x32 : Shape := ⟨3, ![16, 2048, 32]⟩
abbrev S16x2048x16 : Shape := ⟨3, ![16, 2048, 16]⟩
abbrev S1x2048x16 : Shape := ⟨3, ![1, 2048, 16]⟩
abbrev S1x256 : Shape := ⟨2, ![1, 256]⟩
abbrev S32768x128 : Shape := ⟨2, ![32768, 128]⟩

abbrev nBuf : Space → Nat
  | .hbm => 129
  | .vmem => 0
  | .smem => 0
  | _ => 0

abbrev hbmTy0_0 (i : Nat) : BufTy := match i % 128 with
  | 0 => ⟨S32768x1024, .f32⟩
  | 1 => ⟨S1024x6048, .f32⟩
  | 2 => ⟨S384, .f32⟩
  | 3 => ⟨S384x768, .f32⟩
  | 4 => ⟨S256, .f32⟩
  | 5 => ⟨S1024x672, .f32⟩
  | 6 => ⟨S32768x672, .f32⟩
  | 7 => ⟨S32768x384, .f32⟩
  | 8 => ⟨S32768x256, .f32⟩
  | 9 => ⟨S32768x32, .f32⟩
  | 10 => ⟨S32768x384, .f32⟩
  | 11 => ⟨S_, .f32⟩
  | 12 => ⟨S32768, .f32⟩
  | 13 => ⟨S32768x1, .f32⟩
  | 14 => ⟨S_, .f32⟩
  | 15 => ⟨S32768x1, .f32⟩
  | 16 => ⟨S32768x1, .f32⟩
  | 17 => ⟨S_, .f32⟩
  | 18 => ⟨S32768x1, .f32⟩
  | 19 => ⟨S32768x1, .f32⟩
  | 20 => ⟨S32768x1, .f32⟩
  | 21 => ⟨S32768x384, .f32⟩
  | 22 => ⟨S32768x384, .f32⟩
  | 23 => ⟨S1x384, .f32⟩
  | 24 => ⟨S32768x384, .f32⟩
  | 25 => ⟨S32768x384, .f32⟩
  | 26 => ⟨S32768x768, .f32⟩
  | 27 => ⟨S16x2048x8x96, .f32⟩
  | 28 => ⟨S16x2048x8x32, .f32⟩
  | 29 => ⟨S16, .f32⟩
  | 30 => ⟨S16, .f32⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S2048, .i32⟩
  | 38 => ⟨S2048, .f32⟩
  | 39 => ⟨S2048x1, .f32⟩
  | 40 => ⟨S1x16, .f32⟩
  | 41 => ⟨S2048x16, .f32⟩
  | 42 => ⟨S2048x16, .f32⟩
  | 43 => ⟨S2048x16, .f32⟩
  | 44 => ⟨S2048x16, .f32⟩
  | 45 => ⟨S2048x1x16, .f32⟩
  | 46 => ⟨S2048x16, .f32⟩
  | 47 => ⟨S2048x1x16, .f32⟩
  | 48 => ⟨S16x2048x8x16, .f32⟩
  | 49 => ⟨S16x2048x8x16, .f32⟩
  | 50 => ⟨S1x2048x1x16, .f32⟩
  | 51 => ⟨S16x2048x8x16, .f32⟩
  | 52 => ⟨S16x2048x8x16, .f32⟩
  | 53 => ⟨S1x2048x1x16, .f32⟩
  | 54 => ⟨S16x2048x8x16, .f32⟩
  | 55 => ⟨S16x2048x8x16, .f32⟩
  | 56 => ⟨S16x2048x8x16, .f32⟩
  | 57 => ⟨S1x2048x1x16, .f32⟩
  | 58 => ⟨S16x2048x8x16, .f32⟩
  | 59 => ⟨S16x2048x8x16, .f32⟩
  | 60 => ⟨S1x2048x1x16, .f32⟩
  | 61 => ⟨S16x2048x8x16, .f32⟩
  | 62 => ⟨S16x2048x8x16, .f32⟩
  | 63 => ⟨S16x2048x8x16, .f32⟩
  | 64 => ⟨S16x2048x8x32, .f32⟩
  | 65 => ⟨S16x2048x8x64, .f32⟩
  | 66 => ⟨S_, .f32⟩
  | 67 => ⟨S16x2048x8x32, .f32⟩
  | 68 => ⟨S16x2048x8x128, .f32⟩
  | 69 => ⟨S_, .f32⟩
  | 70 => ⟨S16x2048x8x128, .f32⟩
  | 71 => ⟨S16x2048x8x128, .f32⟩
  | 72 => ⟨S32768x1024, .f32⟩
  | 73 => ⟨S32768x1024, .bf16⟩
  | 74 => ⟨S16x2048x32, .f32⟩
  | 75 => ⟨S16, .f32⟩
  | 76 => ⟨S16, .f32⟩
  | 77 => ⟨S_, .f32⟩
  | 78 => ⟨S16, .f32⟩
  | 79 => ⟨S16, .f32⟩
  | 80 => ⟨S_, .f32⟩
  | 81 => ⟨S16, .f32⟩
  | 82 => ⟨S16, .f32⟩
  | 83 => ⟨S2048, .i32⟩
  | 84 => ⟨S2048, .f32⟩
  | 85 => ⟨S2048x1, .f32⟩
  | 86 => ⟨S1x16, .f32⟩
  | 87 => ⟨S2048x16, .f32⟩
  | 88 => ⟨S2048x16, .f32⟩
  | 89 => ⟨S2048x16, .f32⟩
  | 90 => ⟨S2048x16, .f32⟩
  | 91 => ⟨S2048x16, .f32⟩
  | 92 => ⟨S16x2048x16, .f32⟩
  | 93 => ⟨S16x2048x16, .f32⟩
  | 94 => ⟨S1x2048x16, .f32⟩
  | 95 => ⟨S16x2048x16, .f32⟩
  | 96 => ⟨S16x2048x16, .f32⟩
  | 97 => ⟨S1x2048x16, .f32⟩
  | 98 => ⟨S16x2048x16, .f32⟩
  | 99 => ⟨S16x2048x16, .f32⟩
  | 100 => ⟨S16x2048x16, .f32⟩
  | 101 => ⟨S1x2048x16, .f32⟩
  | 102 => ⟨S16x2048x16, .f32⟩
  | 103 => ⟨S16x2048x16, .f32⟩
  | 104 => ⟨S1x2048x16, .f32⟩
  | 105 => ⟨S16x2048x16, .f32⟩
  | 106 => ⟨S16x2048x16, .f32⟩
  | 107 => ⟨S16x2048x16, .f32⟩
  | 108 => ⟨S16x2048x32, .f32⟩
  | 109 => ⟨S32768x32, .f32⟩
  | 110 => ⟨S32768x256, .f32⟩
  | 111 => ⟨S_, .f32⟩
  | 112 => ⟨S32768, .f32⟩
  | 113 => ⟨S32768x1, .f32⟩
  | 114 => ⟨S_, .f32⟩
  | 115 => ⟨S32768x1, .f32⟩
  | 116 => ⟨S32768x1, .f32⟩
  | 117 => ⟨S_, .f32⟩
  | 118 => ⟨S32768x1, .f32⟩
  | 119 => ⟨S32768x1, .f32⟩
  | 120 => ⟨S32768x1, .f32⟩
  | 121 => ⟨S32768x256, .f32⟩
  | 122 => ⟨S32768x256, .f32⟩
  | 123 => ⟨S1x256, .f32⟩
  | 124 => ⟨S32768x256, .f32⟩
  | 125 => ⟨S32768x256, .f32⟩
  | 126 => ⟨S_, .i32⟩
  | 127 => ⟨S_, .f32⟩
  | _ => ⟨S32768x1024, .f32⟩

abbrev hbmTy0_1 (i : Nat) : BufTy := match i % 128 with
  | 0 => ⟨S32768x128, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_4 : Ref sig .tc := ⟨.hbm, 66, rfl⟩
abbrev main_v56 : Ref sig .tc := ⟨.hbm, 67, rfl⟩
abbrev main_v57 : Ref sig .tc := ⟨.hbm, 68, rfl⟩
abbrev main_cst_5 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_6 : Ref sig .tc := ⟨.hbm, 77, rfl⟩
abbrev main_v65 : Ref sig .tc := ⟨.hbm, 78, rfl⟩
abbrev main_v66 : Ref sig .tc := ⟨.hbm, 79, rfl⟩
abbrev main_cst_7 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_cst_8 : Ref sig .tc := ⟨.hbm, 111, rfl⟩
abbrev main_v97 : Ref sig .tc := ⟨.hbm, 112, rfl⟩
abbrev main_v98 : Ref sig .tc := ⟨.hbm, 113, rfl⟩
abbrev main_cst_9 : Ref sig .tc := ⟨.hbm, 114, rfl⟩
abbrev main_v99 : Ref sig .tc := ⟨.hbm, 115, rfl⟩
abbrev main_v100 : Ref sig .tc := ⟨.hbm, 116, rfl⟩
abbrev main_cst_10 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_c : Ref sig .tc := ⟨.hbm, 126, rfl⟩
abbrev main_call0_v0 : Ref sig .tc := ⟨.hbm, 127, rfl⟩
abbrev main_v109 : Ref sig .tc := ⟨.hbm, 128, rfl⟩

abbrev nD : Nat := 1
abbrev τ : Topo := Topo.v7x

variable {F : FTy → Type} [FloatOps F]
-- ==== Kernel5.lean ====
abbrev S32768x256 : Shape := ⟨2, ![32768, 256]⟩
abbrev S32768x32 : Shape := ⟨2, ![32768, 32]⟩
abbrev S256x1024 : Shape := ⟨2, ![256, 1024]⟩
abbrev S256x8x128 : Shape := ⟨3, ![256, 8, 128]⟩
abbrev S256x8x64 : Shape := ⟨3, ![256, 8, 64]⟩
abbrev S256x8x32 : Shape := ⟨3, ![256, 8, 32]⟩
abbrev S_ : Shape := ⟨0, ![]⟩
abbrev S256x512 : Shape := ⟨2, ![256, 512]⟩
abbrev S32768x128 : Shape := ⟨2, ![32768, 128]⟩
abbrev S32768x1024 : Shape := ⟨2, ![32768, 1024]⟩
abbrev S32768x512 : Shape := ⟨2, ![32768, 512]⟩
abbrev S512x256 : Shape := ⟨2, ![512, 256]⟩
abbrev S512x128 : Shape := ⟨2, ![512, 128]⟩
abbrev S512x1024 : Shape := ⟨2, ![512, 1024]⟩
abbrev S512x512 : Shape := ⟨2, ![512, 512]⟩

abbrev nBuf : Space → Nat
  | .hbm => 19
  | .vmem => 10
  | .smem => 0
  | _ => 0

abbrev bufTy : (tb : Table) → Fin (tcTables nBuf tb) → BufTy
  | .hbm, ⟨0, _⟩ => ⟨S32768x256, .f32⟩
  | .hbm, ⟨1, _⟩ => ⟨S32768x32, .f32⟩
  | .hbm, ⟨2, _⟩ => ⟨S256x1024, .f32⟩
  | .hbm, ⟨3, _⟩ => ⟨S256x8x128, .f32⟩
  | .hbm, ⟨4, _⟩ => ⟨S256x8x64, .f32⟩
  | .hbm, ⟨5, _⟩ => ⟨S256x8x64, .f32⟩
  | .hbm, ⟨6, _⟩ => ⟨S256x8x32, .f32⟩
  | .hbm, ⟨7, _⟩ => ⟨S_, .f32⟩
  | .hbm, ⟨8, _⟩ => ⟨S256x8x32, .f32⟩
  | .hbm, ⟨9, _⟩ => ⟨S256x8x128, .f32⟩
  | .hbm, ⟨10, _⟩ => ⟨S256x1024, .f32⟩
  | .hbm, ⟨11, _⟩ => ⟨S256x1024, .bf16⟩
  | .hbm, ⟨12, _⟩ => ⟨S256x512, .f32⟩
  | .hbm, ⟨13, _⟩ => ⟨S256x512, .bf16⟩
  | .hbm, ⟨14, _⟩ => ⟨S_, .i32⟩
  | .hbm, ⟨15, _⟩ => ⟨S_, .f32⟩
  | .hbm, ⟨16, _⟩ => ⟨S32768x128, .f32⟩
  | .hbm, ⟨17, _⟩ => ⟨S32768x1024, .bf16⟩
  | .hbm, ⟨18, _⟩ => ⟨S32768x512, .bf16⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S256x1024, .bf16⟩
  | .local _ .vmem, ⟨5, _⟩ => ⟨S256x512, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S32768x256 : Shape := ⟨2, ![32768, 256]⟩
abbrev S32768x32 : Shape := ⟨2, ![32768, 32]⟩
abbrev S256x1024 : Shape := ⟨2, ![256, 1024]⟩
abbrev S32768x1024 : Shape := ⟨2, ![32768, 1024]⟩
abbrev S32768x8x128 : Shape := ⟨3, ![32768, 8, 128]⟩
abbrev S32768x1x32 : Shape := ⟨3, ![32768, 1, 32]⟩
abbrev S32768x8x32 : Shape := ⟨3, ![32768, 8, 32]⟩
abbrev S_ : Shape := ⟨0, ![]⟩
abbrev S32768x8x64 : Shape := ⟨3, ![32768, 8, 64]⟩
abbrev S32768x512 : Shape := ⟨2, ![32768, 512]⟩

abbrev nBuf : Space → Nat
  | .hbm => 16
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x32, .f32⟩
  | .hbm, ⟨2, _⟩ => ⟨S256x1024, .f32⟩
  | .hbm, ⟨3, _⟩ => ⟨S32768x1024, .f32⟩
  | .hbm, ⟨4, _⟩ => ⟨S32768x8x128, .f32⟩
  | .hbm, ⟨5, _⟩ => ⟨S32768x1x32, .f32⟩
  | .hbm, ⟨6, _⟩ => ⟨S32768x8x32, .f32⟩
  | .hbm, ⟨7, _⟩ => ⟨S_, .f32⟩
  | .hbm, ⟨8, _⟩ => ⟨S32768x8x32, .f32⟩
  | .hbm, ⟨9, _⟩ => ⟨S32768x8x64, .f32⟩
  | .hbm, ⟨10, _⟩ => ⟨S32768x8x128, .f32⟩
  | .hbm, ⟨11, _⟩ => ⟨S32768x1024, .f32⟩
  | .hbm, ⟨12, _⟩ => ⟨S32768x1024, .bf16⟩
  | .hbm, ⟨13, _⟩ => ⟨S32768x8x64, .f32⟩
  | .hbm, ⟨14, _⟩ => ⟨S32768x512, .f32⟩
  | .hbm, ⟨15, _⟩ => ⟨S32768x512, .bf16⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel6.lean ====
abbrev S32768x1024 : Shape := ⟨2, ![32768, 1024]⟩
abbrev S1024x6048 : Shape := ⟨2, ![1024, 6048]⟩
abbrev S1024x512 : Shape := ⟨2, ![1024, 512]⟩
abbrev S2048x8192 : Shape := ⟨2, ![2048, 8192]⟩
abbrev S512x1024 : Shape := ⟨2, ![512, 1024]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x6048, .f32⟩
  | .hbm, ⟨2, _⟩ => ⟨S1024x512, .f32⟩
  | .hbm, ⟨3, _⟩ => ⟨S1024x512, .bf16⟩
  | .hbm, ⟨4, _⟩ => ⟨S2048x8192, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S32768x1024 : Shape := ⟨2, ![32768, 1024]⟩
abbrev S1024x6048 : Shape := ⟨2, ![1024, 6048]⟩
abbrev S1024x512 : Shape := ⟨2, ![1024, 512]⟩
abbrev S32768x512 : Shape := ⟨2, ![32768, 512]⟩
abbrev S16x2048x512 : Shape := ⟨3, ![16, 2048, 512]⟩
abbrev S2048x16x512 : Shape := ⟨3, ![2048, 16, 512]⟩
abbrev S2048x8192 : Shape := ⟨2, ![2048, 8192]⟩

abbrev nBuf : Space → Nat
  | .hbm => 7
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x6048, .f32⟩
  | .hbm, ⟨2, _⟩ => ⟨S1024x512, .f32⟩
  | .hbm, ⟨3, _⟩ => ⟨S32768x512, .f32⟩
  | .hbm, ⟨4, _⟩ => ⟨S16x2048x512, .f32⟩
  | .hbm, ⟨5, _⟩ => ⟨S2048x16x512, .f32⟩
  | .hbm, ⟨6, _⟩ => ⟨S2048x8192, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S32768x1024 : Shape := ⟨2, ![32768, 1024]⟩
abbrev S1024x6048 : Shape := ⟨2, ![1024, 6048]⟩
abbrev S16x1792 : Shape := ⟨2, ![16, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S_ : Shape := ⟨0, ![]⟩
abbrev S1024x1792 : Shape := ⟨2, ![1024, 1792]⟩
abbrev S1x1792 : Shape := ⟨2, ![1, 1792]⟩
abbrev S1x512 : Shape := ⟨2, ![1, 512]⟩
abbrev S512x1 : Shape := ⟨2, ![512, 1]⟩
abbrev S512x512 : Shape := ⟨2, ![512, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S16x1x1792 : Shape := ⟨3, ![16, 1, 1792]⟩
abbrev S2048x8192 : Shape := ⟨2, ![2048, 8192]⟩
abbrev S32768x512 : Shape := ⟨2, ![32768, 512]⟩
abbrev S512x1024 : Shape := ⟨2, ![512, 1024]⟩
abbrev S8x1024 : Shape := ⟨2, ![8, 1024]⟩
abbrev S1x1x1792 : Shape := ⟨3, ![1, 1, 1792]⟩
abbrev S512x1792 : Shape := ⟨2, ![512, 1792]⟩
abbrev S8x1792 : Shape := ⟨2, ![8, 1792]⟩
abbrev S512x128 : Shape := ⟨2, ![512, 128]⟩

abbrev nBuf : Space → Nat
  | .hbm => 65
  | .vmem => 36
  | .smem => 0
  | _ => 0

abbrev bufTy : (tb : Table) → Fin (tcTables nBuf tb) → BufTy
  | .hbm, ⟨0, _⟩ => ⟨S32768x1024, .f32⟩
  | .hbm, ⟨1, _⟩ => ⟨S1024x6048, .f32⟩
  | .hbm, ⟨2, _⟩ => ⟨S16x1792, .f32⟩
  | .hbm, ⟨3, _⟩ => ⟨S1792, .f32⟩
  | .hbm, ⟨4, _⟩ => ⟨S512, .f32⟩
  | .hbm, ⟨5, _⟩ => ⟨S64x512, .f32⟩
  | .hbm, ⟨6, _⟩ => ⟨S512, .f32⟩
  | .hbm, ⟨7, _⟩ => ⟨S64x512, .f32⟩
  | .hbm, ⟨8, _⟩ => ⟨S128x512, .f32⟩
  | .hbm, ⟨9, _⟩ => ⟨S512, .f32⟩
  | .hbm, ⟨10, _⟩ => ⟨S512, .f32⟩
  | .hbm, ⟨11, _⟩ => ⟨S8x64, .f32⟩
  | .hbm, ⟨12, _⟩ => ⟨S_, .f32⟩
  | .hbm, ⟨13, _⟩ => ⟨S64x512, .f32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i32⟩
  | .hbm, ⟨18, _⟩ => ⟨S1024x1792, .f32⟩
  | .hbm, ⟨19, _⟩ => ⟨S1024x1792, .bf16⟩
  | .hbm, ⟨20, _⟩ => ⟨S1x1792, .f32⟩
  | .hbm, ⟨21, _⟩ => ⟨S1x512, .f32⟩
  | .hbm, ⟨22, _⟩ => ⟨S128x512, .f32⟩
  | .hbm, ⟨23, _⟩ => ⟨S128x512, .bf16⟩
  | .hbm, ⟨24, _⟩ => ⟨S128x512, .f32⟩
  | .hbm, ⟨25, _⟩ => ⟨S128x512, .bf16⟩
  | .hbm, ⟨26, _⟩ => ⟨S1x512, .f32⟩
  | .hbm, ⟨27, _⟩ => ⟨S128x512, .bf16⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S512x1, .i32⟩
  | .hbm, ⟨32, _⟩ => ⟨S1x512, .i32⟩
  | .hbm, ⟨33, _⟩ => ⟨S512x512, .i32⟩
  | .hbm, ⟨34, _⟩ => ⟨S512x512, .i32⟩
  | .hbm, ⟨35, _⟩ => ⟨S512x512, .i1⟩
  | .hbm, ⟨36, _⟩ => ⟨S512x512, .f32⟩
  | .hbm, ⟨37, _⟩ => ⟨S512x512, .bf16⟩
  | .hbm, ⟨38, _⟩ => ⟨S128, .i32⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S128x1, .i32⟩
  | .hbm, ⟨43, _⟩ => ⟨S1x128, .i32⟩
  | .hbm, ⟨44, _⟩ => ⟨S128x128, .i32⟩
  | .hbm, ⟨45, _⟩ => ⟨S128x128, .i32⟩
  | .hbm, ⟨46, _⟩ => ⟨S128x128, .i1⟩
  | .hbm, ⟨47, _⟩ => ⟨S1x128, .i32⟩
  | .hbm, ⟨48, _⟩ => ⟨S128x1, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S128x128, .i1⟩
  | .hbm, ⟨53, _⟩ => ⟨S128x128, .f32⟩
  | .hbm, ⟨54, _⟩ => ⟨S128x128, .bf16⟩
  | .hbm, ⟨55, _⟩ => ⟨S16x1x1792, .f32⟩
  | .hbm, ⟨56, _⟩ => ⟨S2048x8192, .f32⟩
  | .hbm, ⟨57, _⟩ => ⟨S2048x8192, .f32⟩
  | .hbm, ⟨58, _⟩ => ⟨S2048x8192, .f32⟩
  | .hbm, ⟨59, _⟩ => ⟨S2048x8192, .f32⟩
  | .hbm, ⟨60, _⟩ => ⟨S2048x8192, .f32⟩
  | .hbm, ⟨61, _⟩ => ⟨S2048x8192, .f32⟩
  | .hbm, ⟨62, _⟩ => ⟨S32768x512, .f32⟩
  | .hbm, ⟨63, _⟩ => ⟨S32768x512, .f32⟩
  | .hbm, ⟨64, _⟩ => ⟨S16x1x1792, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1x1x1792, .f32⟩
  | .local _ .vmem, ⟨5, _⟩ => ⟨S1x1x1792, .f32⟩
  | .local _ .vmem, ⟨6, _⟩ => ⟨S1024x1792, .bf16⟩
  | .local _ .vmem, ⟨7, _⟩ => ⟨S1x1792, .f32⟩
  | .local _ .vmem, ⟨8, _⟩ => ⟨S1x512, .f32⟩
  | .local _ .vmem, ⟨9, _⟩ => ⟨S128x512, .bf16⟩
  | .local _ .vmem, ⟨10, _⟩ => ⟨S1x512, .f32⟩
  | .local _ .vmem, ⟨11, _⟩ => ⟨S128x512, .bf16⟩
  | .local _ .vmem, ⟨12, _⟩ => ⟨S128x512, .bf16⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x512, .bf16⟩
  | .local _ .vmem, ⟨17, _⟩ => ⟨S128x128, .bf16⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S1x1x1792, .f32⟩
  | .local _ .vmem, ⟨35, _⟩ => ⟨S1x1x1792, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41_0 : Ref sig .tc := ⟨.hbm, 56, rfl⟩
abbrev main_v41_1 : Ref sig .tc := ⟨.hbm, 57, rfl⟩
abbrev main_v41_2 : Ref sig .tc := ⟨.hbm, 58, rfl⟩
abbrev main_v41_3 : Ref sig .tc := ⟨.hbm, 59, rfl⟩
abbrev main_v41_4 : Ref sig .tc := ⟨.hbm, 60, rfl⟩
abbrev main_v41_5 : Ref sig .tc := ⟨.hbm, 61, rfl⟩
abbrev main_v41_6 : Ref sig .tc := ⟨.hbm, 62, rfl⟩
abbrev main_v41_7 : Ref sig .tc := ⟨.hbm, 63, rfl⟩
abbrev main_v41_8 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_21 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_22 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S512x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x1x1792 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, false]
-- ==== Reference7Ideal.lean ====
abbrev S32768x1024 : Shape := ⟨2, ![32768, 1024]⟩
abbrev S1024x6048 : Shape := ⟨2, ![1024, 6048]⟩
abbrev S16x1792 : Shape := ⟨2, ![16, 1792]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S1024x1792 : Shape := ⟨2, ![1024, 1792]⟩
abbrev S32768x1792 : Shape := ⟨2, ![32768, 1792]⟩
abbrev S16x2048x1792 : Shape := ⟨3, ![16, 2048, 1792]⟩
abbrev S16x1x1792 : Shape := ⟨3, ![16, 1, 1792]⟩
abbrev S16x2047x1792 : Shape := ⟨3, ![16, 2047, 1792]⟩
abbrev S1x1x1792 : Shape := ⟨3, ![1, 1, 1792]⟩
abbrev S16x2048x512 : Shape := ⟨3, ![16, 2048, 512]⟩
abbrev S16x2048x64 : Shape := ⟨3, ![16, 2048, 64]⟩
abbrev S16x2048x128 : Shape := ⟨3, ![16, 2048, 128]⟩
abbrev S1x1x512 : Shape := ⟨3, ![1, 1, 512]⟩
abbrev S_ : Shape := ⟨0, ![]⟩
abbrev S16x128x16x512 : Shape := ⟨4, ![16, 128, 16, 512]⟩
abbrev S16x2048x8x64 : Shape := ⟨4, ![16, 2048, 8, 64]⟩
abbrev S16x2048x8 : Shape := ⟨3, ![16, 2048, 8]⟩
abbrev S16x2048x8x1 : Shape := ⟨4, ![16, 2048, 8, 1]⟩
abbrev S1x1x8x64 : Shape := ⟨4, ![1, 1, 8, 64]⟩
abbrev S32768x512 : Shape := ⟨2, ![32768, 512]⟩
abbrev S2048x16x512 : Shape := ⟨3, ![2048, 16, 512]⟩
abbrev S2048x8192 : Shape := ⟨2, ![2048, 8192]⟩

abbrev nBuf : Space → Nat
  | .hbm => 146
  | .vmem => 0
  | .smem => 0
  | _ => 0

abbrev hbmTy0_0 (i : Nat) : BufTy := match i % 128 with
  | 0 => ⟨S32768x1024, .f32⟩
  | 1 => ⟨S1024x6048, .f32⟩
  | 2 => ⟨S16x1792, .f32⟩
  | 3 => ⟨S1792, .f32⟩
  | 4 => ⟨S512, .f32⟩
  | 5 => ⟨S64x512, .f32⟩
  | 6 => ⟨S512, .f32⟩
  | 7 => ⟨S64x512, .f32⟩
  | 8 => ⟨S128x512, .f32⟩
  | 9 => ⟨S512, .f32⟩
  | 10 => ⟨S512, .f32⟩
  | 11 => ⟨S8x64, .f32⟩
  | 12 => ⟨S1024x1792, .f32⟩
  | 13 => ⟨S32768x1792, .f32⟩
  | 14 => ⟨S16x2048x1792, .f32⟩
  | 15 => ⟨S16x1x1792, .f32⟩
  | 16 => ⟨S16x2047x1792, .f32⟩
  | 17 => ⟨S16x2048x1792, .f32⟩
  | 18 => ⟨S16x2048x1792, .f32⟩
  | 19 => ⟨S1x1x1792, .f32⟩
  | 20 => ⟨S16x2048x1792, .f32⟩
  | 21 => ⟨S16x2048x1792, .f32⟩
  | 22 => ⟨S16x2048x1792, .f32⟩
  | 23 => ⟨S16x2048x512, .f32⟩
  | 24 => ⟨S16x2048x512, .f32⟩
  | 25 => ⟨S16x2048x512, .f32⟩
  | 26 => ⟨S16x2048x64, .f32⟩
  | 27 => ⟨S16x2048x64, .f32⟩
  | 28 => ⟨S16x2048x128, .f32⟩
  | 29 => ⟨S16x2048x64, .f32⟩
  | 30 => ⟨S16x2048x512, .f32⟩
  | 31 => ⟨S1x1x512, .f32⟩
  | 32 => ⟨S16x2048x512, .f32⟩
  | 33 => ⟨S16x2048x512, .f32⟩
  | 34 => ⟨S16x2048x512, .f32⟩
  | 35 => ⟨S_, .f32⟩
  | 36 => ⟨S16x2048x512, .f32⟩
  | 37 => ⟨S16x2048x512, .f32⟩
  | 38 => ⟨S16x2048x512, .f32⟩
  | 39 => ⟨S16x2048x512, .f32⟩
  | 40 => ⟨S16x2048x512, .i1⟩
  | 41 => ⟨S16x2048x512, .f32⟩
  | 42 => ⟨S16x2048x512, .f32⟩
  | 43 => ⟨S16x2048x512, .f32⟩
  | 44 => ⟨S16x2048x512, .f32⟩
  | 45 => ⟨S16x2048x512, .f32⟩
  | 46 => ⟨S16x2048x512, .f32⟩
  | 47 => ⟨S16x2048x512, .f32⟩
  | 48 => ⟨S16x2048x512, .f32⟩
  | 49 => ⟨S16x2048x512, .f32⟩
  | 50 => ⟨S_, .f32⟩
  | 51 => ⟨S16x2048x512, .f32⟩
  | 52 => ⟨S16x2048x512, .f32⟩
  | 53 => ⟨S16x2048x512, .f32⟩
  | 54 => ⟨S16x2048x512, .f32⟩
  | 55 => ⟨S16x128x16x512, .f32⟩
  | 56 => ⟨S_, .f32⟩
  | 57 => ⟨S_, .f32⟩
  | 58 => ⟨S16x128x16x512, .f32⟩
  | 59 => ⟨S16x2048x512, .f32⟩
  | 60 => ⟨S16x2048x512, .f32⟩
  | 61 => ⟨S1x1x512, .f32⟩
  | 62 => ⟨S16x2048x512, .f32⟩
  | 63 => ⟨S16x2048x512, .f32⟩
  | 64 => ⟨S16x2048x512, .f32⟩
  | 65 => ⟨S16x2048x512, .f32⟩
  | 66 => ⟨S_, .f32⟩
  | 67 => ⟨S16x2048x512, .f32⟩
  | 68 => ⟨S16x2048x512, .f32⟩
  | 69 => ⟨S_, .f32⟩
  | 70 => ⟨S16x2048x512, .f32⟩
  | 71 => ⟨S16x2048x512, .f32⟩
  | 72 => ⟨S16x2048x128, .f32⟩
  | 73 => ⟨S16x2048x128, .f32⟩
  | 74 => ⟨S_, .f32⟩
  | 75 => ⟨S16x2048x128, .f32⟩
  | 76 => ⟨S16x2048x128, .f32⟩
  | 77 => ⟨S_, .f32⟩
  | 78 => ⟨S16x2048x128, .f32⟩
  | 79 => ⟨S16x2048x128, .f32⟩
  | 80 => ⟨S16x2048x512, .f32⟩
  | 81 => ⟨S1x1x512, .f32⟩
  | 82 => ⟨S16x2048x512, .f32⟩
  | 83 => ⟨S16x2048x512, .f32⟩
  | 84 => ⟨S16x2048x8x64, .f32⟩
  | 85 => ⟨S16x2048x8x64, .f32⟩
  | 86 => ⟨S_, .f32⟩
  | 87 => ⟨S16x2048x8, .f32⟩
  | 88 => ⟨S16x2048x8x1, .f32⟩
  | 89 => ⟨S_, .f32⟩
  | 90 => ⟨S16x2048x8x1, .f32⟩
  | 91 => ⟨S16x2048x8x1, .f32⟩
  | 92 => ⟨S16x2048x8x1, .f32⟩
  | 93 => ⟨S16x2048x8x64, .f32⟩
  | 94 => ⟨S16x2048x8x64, .f32⟩
  | 95 => ⟨S16x2048x512, .f32⟩
  | 96 => ⟨S_, .f32⟩
  | 97 => ⟨S16x2048x512, .f32⟩
  | 98 => ⟨S16x2048x512, .f32⟩
  | 99 => ⟨S1x1x512, .f32⟩
  | 100 => ⟨S16x2048x512, .f32⟩
  | 101 => ⟨S16x2048x512, .f32⟩
  | 102 => ⟨S_, .f32⟩
  | 103 => ⟨S16x2048x512, .f32⟩
  | 104 => ⟨S16x2048x512, .f32⟩
  | 105 => ⟨S16x2048x512, .f32⟩
  | 106 => ⟨S16x2048x8x64, .f32⟩
  | 107 => ⟨S16x2048x8x64, .f32⟩
  | 108 => ⟨S16x2048x8x64, .f32⟩
  | 109 => ⟨S1x1x8x64, .f32⟩
  | 110 => ⟨S16x2048x8x64, .f32⟩
  | 111 => ⟨S16x2048x8x64, .f32⟩
  | 112 => ⟨S_, .f32⟩
  | 113 => ⟨S16x2048x8, .f32⟩
  | 114 => ⟨S16x2048x8x1, .f32⟩
  | 115 => ⟨S16x2048x8x64, .f32⟩
  | 116 => ⟨S16x2048x8x64, .f32⟩
  | 117 => ⟨S16x2048x8x64, .f32⟩
  | 118 => ⟨S32768x512, .f32⟩
  | 119 => ⟨S16x2048x512, .f32⟩
  | 120 => ⟨S16x2048x512, .f32⟩
  | 121 => ⟨S2048x16x512, .f32⟩
  | 122 => ⟨S2048x8192, .f32⟩
  | 123 => ⟨S16x2048x512, .f32⟩
  | 124 => ⟨S2048x16x512, .f32⟩
  | 125 => ⟨S2048x8192, .f32⟩
  | 126 => ⟨S16x2048x512, .f32⟩
  | 127 => ⟨S16x2048x512, .f32⟩
  | _ => ⟨S32768x1024, .f32⟩

abbrev hbmTy0_1 (i : Nat) : BufTy := match i % 128 with
  | 0 => ⟨S16x2048x512, .f32⟩
  | 1 => ⟨S2048x16x512, .f32⟩
  | 2 => ⟨S2048x8192, .f32⟩
  | 3 => ⟨S2048x16x512, .f32⟩
  | 4 => ⟨S2048x8192, .f32⟩
  | 5 => ⟨S16x2048x512, .f32⟩
  | 6 => ⟨S16x2048x512, .f32⟩
  | 7 => ⟨S16x2048x512, .f32⟩
  | 8 => ⟨S2048x16x512, .f32⟩
  | 9 => ⟨S2048x8192, .f32⟩
  | 10 => ⟨S16x2048x512, .f32⟩
  | 11 => ⟨S16x2048x512, .f32⟩
  | 12 => ⟨S16x2048x512, .f32⟩
  | 13 => ⟨S16x2048x512, .f32⟩
  | 14 => ⟨S2048x16x512, .f32⟩
  | 15 => ⟨S2048x8192, .f32⟩
  | 16 => ⟨S32768x512, .f32⟩
  | 17 => ⟨S16x1x1792, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_v23 : Ref sig .tc := ⟨.hbm, 48, rfl⟩
abbrev main_v24 : Ref sig .tc := ⟨.hbm, 49, rfl⟩
abbrev main_cst : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call1_call0_cst : Ref sig .tc := ⟨.hbm, 56, rfl⟩
abbrev main_call1_call0_v0 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_0 : Ref sig .tc := ⟨.hbm, 66, rfl⟩
abbrev main_v38 : Ref sig .tc := ⟨.hbm, 67, rfl⟩
abbrev main_v39 : Ref sig .tc := ⟨.hbm, 68, rfl⟩
abbrev main_cst_1 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_2 : Ref sig .tc := ⟨.hbm, 74, rfl⟩
abbrev main_v44 : Ref sig .tc := ⟨.hbm, 75, rfl⟩
abbrev main_v45 : Ref sig .tc := ⟨.hbm, 76, rfl⟩
abbrev main_cst_3 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_4 : Ref sig .tc := ⟨.hbm, 86, rfl⟩
abbrev main_v54 : Ref sig .tc := ⟨.hbm, 87, rfl⟩
abbrev main_v55 : Ref sig .tc := ⟨.hbm, 88, rfl⟩
abbrev main_cst_5 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_6 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_7 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_8 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩

abbrev nD : Nat := 1
abbrev τ : Topo := Topo.v7x

variable {F : FTy → Type} [FloatOps F]
-- ==== Proof.Att.Soft.lean ====
module

public import Idealize.ShloMosaic.PureOps.Ideal
public import Idealize.ShloMosaic.Lib.IdealHost

@[expose] public section

noncomputable section

/-! The masked softmax in two forms: over all keys with the hidden ones at minus infinity, and over the
    keys before a row's block and the keys of that block only. -/

namespace Cert.Att
open Idealize.ShloMosaic

/-- Minus infinity as the programs write it. -/
theorem ninf : Ideal.ofBits FTy.f32 4286578688#32 = ⊥ := by
  simp [Ideal.ofBits, Ideal.ieee]

/-- The largest of a family, from the word of minus infinity. -/
def top {n : ℕ} (s : Fin n → EReal) : EReal :=
  Finset.fold max (Ideal.ofBits FTy.f32 4286578688#32) s Finset.univ

theorem top_eq {n : ℕ} (s : Fin n → EReal) : top s = Finset.univ.sup s := by
  unfold top; rw [ninf]; rfl

/-- A quotient of weighted sums over keys that are all seen (`s`) and keys of the row's own block (`t`). -/
def two {a b : ℕ} (s : Fin a → EReal) (t : Fin b → EReal) (v : Fin a → EReal) (w : Fin b → EReal) : EReal :=
  Ideal.div
    ((∑ k, Ideal.exp (s k - max (top s) (top t)) * v k) + ∑ k, Ideal.exp (t k - max (top s) (top t)) * w k)
    ((∑ k, Ideal.exp (s k - max (top s) (top t))) + ∑ k, Ideal.exp (t k - max (top s) (top t)))

/-- The same over the row's own block alone. -/
def one {b : ℕ} (t : Fin b → EReal) (w : Fin b → EReal) : EReal :=
  Ideal.div (∑ k, Ideal.exp (t k - top t) * w k) (∑ k, Ideal.exp (t k - top t))

/-- The softmax of `s`, then the weighted sum of the values. -/
def soft {n : ℕ} (s v : Fin n → EReal) : EReal :=
  ∑ k, v k * Ideal.div (Ideal.exp (s k - top s)) (∑ j, Ideal.exp (s j - top s))

theorem exp_nonneg (x : EReal) : 0 ≤ Ideal.exp x := by
  induction x with
  | bot => simp
  | top => simp
  | coe r => simp only [Ideal.exp_coe]; exact_mod_cast (Real.exp_pos r).le

theorem exp_ne_top {x : EReal} (h : x ≠ ⊤) : Ideal.exp x ≠ ⊤ := by
  induction x with
  | bot => simp
  | top => exact absurd rfl h
  | coe r => simp only [Ideal.exp_coe]; exact EReal.coe_ne_top _

theorem exp_pos {x : EReal} (h : x ≠ ⊥) : 0 < Ideal.exp x := by
  induction x with
  | bot => exact absurd rfl h
  | top => simp
  | coe r => simp only [Ideal.exp_coe]; exact_mod_cast Real.exp_pos r

theorem sum_ne_top {ι : Type} (S : Finset ι) (f : ι → EReal) (h : ∀ i, f i ≠ ⊤) : ∑ i ∈ S, f i ≠ ⊤ := by
  classical
  induction S using Finset.induction_on with
  | empty => simp
  | insert a S ha ih => rw [Finset.sum_insert ha]; exact EReal.add_ne_top (h a) ih

theorem sum_mul_fin {ι : Type} (S : Finset ι) (f : ι → EReal) {c : EReal} (h0 : 0 ≤ c) (h1 : c ≠ ⊤) :
    (∑ i ∈ S, f i) * c = ∑ i ∈ S, f i * c := by
  classical
  induction S using Finset.induction_on with
  | empty => simp
  | insert a S ha ih =>
    rw [Finset.sum_insert ha, Finset.sum_insert ha, ← ih, EReal.right_distrib_of_nonneg_of_ne_top h0 h1]

/-- Division of the weights is division of the sum, where one score is a number and none is plus infinity. -/
theorem soft_eq {n : ℕ} (s v : Fin n → EReal) (ht : ∀ k, s k ≠ ⊤) (k0 : Fin n) (hk : s k0 ≠ ⊥) :
    soft s v = Ideal.div (∑ k, Ideal.exp (s k - top s) * v k) (∑ k, Ideal.exp (s k - top s)) := by
  have hMt : top s ≠ ⊤ := by
    rw [top_eq]; exact ((Finset.sup_lt_iff (by simp)).2 fun k _ => lt_top_iff_ne_top.2 (ht k)).ne
  have hMb : top s ≠ ⊥ := by
    rw [top_eq]; intro h
    exact hk (le_bot_iff.1 (h ▸ Finset.le_sup (f := s) (Finset.mem_univ k0)))
  obtain ⟨M, hM⟩ : ∃ M : ℝ, top s = M := ⟨_, (EReal.coe_toReal hMt hMb).symm⟩
  have hd : ∀ k, s k - top s ≠ ⊤ := by
    intro k; rw [hM]
    have := ht k
    induction h : s k with
    | bot => simp
    | top => exact absurd h this
    | coe r => rw [← EReal.coe_sub]; exact EReal.coe_ne_top _
  have hd0 : s k0 - top s ≠ ⊥ := by
    rw [hM]
    have := ht k0
    induction h : s k0 with
    | bot => exact absurd h hk
    | top => exact absurd h this
    | coe r => rw [← EReal.coe_sub]; exact EReal.coe_ne_bot _
  have hZt : ∑ k, Ideal.exp (s k - top s) ≠ ⊤ := sum_ne_top _ _ fun k => exp_ne_top (hd k)
  have hZp : 0 < ∑ k, Ideal.exp (s k - top s) :=
    lt_of_lt_of_le (exp_pos hd0) (Finset.single_le_sum (f := fun k => Ideal.exp (s k - top s)) (fun k _ => exp_nonneg _) (Finset.mem_univ k0))
  unfold soft
  generalize ∑ k, Ideal.exp (s k - top s) = Z at *
  have hZb : Z ≠ ⊥ := (lt_trans EReal.bot_lt_zero hZp).ne'
  obtain ⟨z, rfl⟩ : ∃ z : ℝ, Z = z := ⟨_, (EReal.coe_toReal hZt hZb).symm⟩
  have hz : 0 < z := by exact_mod_cast hZp
  rw [Ideal.div_coe hz.ne', sum_mul_fin _ _ (by exact_mod_cast (one_div_pos.2 hz).le) (EReal.coe_ne_top _)]
  refine Finset.sum_congr rfl fun k _ => ?_
  rw [Ideal.div_coe hz.ne', ← mul_assoc, mul_comm (v k)]

/-- Sums and largest entries over three runs of keys, the last hidden. -/
theorem soft_two {a b c : ℕ} (s v : Fin (a + b + c) → EReal) (ht : ∀ k, s k ≠ ⊤) (k0 : Fin (a + b + c)) (hk : s k0 ≠ ⊥)
    (hidden : ∀ k : Fin c, s (Fin.natAdd (a + b) k) = ⊥) :
    two (fun k : Fin a => s (Fin.castAdd c (Fin.castAdd b k))) (fun k : Fin b => s (Fin.castAdd c (Fin.natAdd a k)))
      (fun k : Fin a => v (Fin.castAdd c (Fin.castAdd b k))) (fun k : Fin b => v (Fin.castAdd c (Fin.natAdd a k))) = soft s v := by
  have hM : max (top fun k : Fin a => s (Fin.castAdd c (Fin.castAdd b k))) (top fun k : Fin b => s (Fin.castAdd c (Fin.natAdd a k))) = top s := by
    simp only [top_eq]
    apply le_antisymm
    · exact max_le (Finset.sup_le fun k _ => Finset.le_sup (f := s) (Finset.mem_univ _))
        (Finset.sup_le fun k _ => Finset.le_sup (f := s) (Finset.mem_univ _))
    · refine Finset.sup_le fun k _ => ?_
      refine Fin.addCases (fun k => ?_) (fun k => ?_) k
      · refine Fin.addCases (fun k => ?_) (fun k => ?_) k
        · exact le_max_of_le_left (Finset.le_sup (f := fun k : Fin a => s (Fin.castAdd c (Fin.castAdd b k))) (Finset.mem_univ k))
        · exact le_max_of_le_right (Finset.le_sup (f := fun k : Fin b => s (Fin.castAdd c (Fin.natAdd a k))) (Finset.mem_univ k))
      · rw [hidden]; exact bot_le
  have hz : ∀ k : Fin c, Ideal.exp (s (Fin.natAdd (a + b) k) - top s) = 0 := by
    intro k; rw [hidden, EReal.bot_sub]; rfl
  rw [soft_eq s v ht k0 hk]
  unfold two
  rw [hM]
  simp only [Fin.sum_univ_add, hz, zero_mul, Finset.sum_const_zero, add_zero]

theorem soft_one {b c : ℕ} (s v : Fin (b + c) → EReal) (ht : ∀ k, s k ≠ ⊤) (k0 : Fin (b + c)) (hk : s k0 ≠ ⊥)
    (hidden : ∀ k : Fin c, s (Fin.natAdd b k) = ⊥) :
    one (fun k : Fin b => s (Fin.castAdd c k)) (fun k : Fin b => v (Fin.castAdd c k)) = soft s v := by
  have hM : (top fun k : Fin b => s (Fin.castAdd c k)) = top s := by
    simp only [top_eq]
    apply le_antisymm
    · exact Finset.sup_le fun k _ => Finset.le_sup (f := s) (Finset.mem_univ _)
    · refine Finset.sup_le fun k _ => ?_
      refine Fin.addCases (fun k => ?_) (fun k => ?_) k
      · exact Finset.le_sup (f := fun k : Fin b => s (Fin.castAdd c k)) (Finset.mem_univ k)
      · rw [hidden]; exact bot_le
  have hz : ∀ k : Fin c, Ideal.exp (s (Fin.natAdd b k) - top s) = 0 := by
    intro k; rw [hidden, EReal.bot_sub]; rfl
  rw [soft_eq s v ht k0 hk]
  unfold one
  rw [hM]
  simp only [Fin.sum_univ_add, hz, zero_mul, Finset.sum_const_zero, add_zero]

/-- Products of numbers, summed, are numbers. -/
theorem dot_real {n : ℕ} (f g : Fin n → EReal) (hf : ∀ k, f k ≠ ⊤ ∧ f k ≠ ⊥) (hg : ∀ k, g k ≠ ⊤ ∧ g k ≠ ⊥) :
    ∃ r : ℝ, ∑ k, f k * g k = r := by
  choose F hF using fun k => (⟨_, (EReal.coe_toReal (hf k).1 (hf k).2).symm⟩ : ∃ r : ℝ, f k = r)
  choose G hG using fun k => (⟨_, (EReal.coe_toReal (hg k).1 (hg k).2).symm⟩ : ∃ r : ℝ, g k = r)
  refine ⟨∑ k, F k * G k, ?_⟩
  have : ∀ S : Finset (Fin n), ∑ k ∈ S, f k * g k = ((∑ k ∈ S, F k * G k : ℝ) : EReal) := by
    classical
    intro S
    induction S using Finset.induction_on with
    | empty => simp
    | insert a S ha ih => rw [Finset.sum_insert ha, Finset.sum_insert ha, ih, hF, hG, EReal.coe_add, EReal.coe_mul]
  exact this _

end Cert.Att

end
-- ==== Proof.Att.Piece.lean ====
module

public import proofs.«01_k».proof.Proof.Gen.KernelIdeal.Frame
public import proofs.«01_k».proof.Proof.Att.Soft
public import Idealize.ShloMosaic.Lib.Pointwise
public import Idealize.ShloMosaic.Lib.UnfoldOut

@[expose] public section

noncomputable section

/-! The four row blocks of one launch of the attention, entry by entry. -/

namespace Cert.Att
open Cert.KernelIdeal Cert.KernelIdeal.Gen Idealize.ShloMosaic

set_option maxHeartbeats 4000000
set_option maxRecDepth 16384

/-- The chunk number of a position, as the kernel's words compute it: the floor of `w / 64`. -/
def cw (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

/-- The lanes of the first head of a pair. -/
def lo (x : Fin 128) : Fin 256 := ⟨x, by omega⟩
/-- The lanes of the second head of a pair. -/
def hi (x : Fin 128) : Fin 256 := ⟨128 + x, by omega⟩

/-- The score of query row `r` against key row `k` over the lanes `f`. -/
def sc (x0 x1 : Vec Ideal S2048x256 .bf16) (f : Fin 128 → Fin 256) (r k : Fin 2048) : EReal :=
  ∑ x, x0 (ix2 r (f x)) * x1 (ix2 k (f x))

/-- The masked score of two rows whose positions are the words `wr` and `wk`. -/
def msc (x0 x1 : Vec Ideal S2048x256 .bf16) (f : Fin 128 → Fin 256) (wr wk : BitVec 32) (r k : Fin 2048) : EReal :=
  Scalar.select (IntOp.cmpi CmpIPredicate.sle (cw wk) (cw wr)) (sc x0 x1 f r k) (Named.named (F := Ideal) (φ := .f32) κ "mask" 4048155338#32)

/-- One head's entry in the rows from 0 on. -/
def head0 (x0 x1 : Vec Ideal S2048x256 .bf16) (x2 : Vec Ideal S2048x128 .bf16) (f : Fin 128 → Fin 256) (r : Fin 512) (l : Fin 128) : EReal :=
  one (fun k : Fin 512 => msc x0 x1 f (IntOp.addi 0#32 (BitVec.ofNat 32 r)) (IntOp.addi 0#32 (BitVec.ofNat 32 k)) ⟨r, by omega⟩ ⟨k, by omega⟩)
    (fun k : Fin 512 => x2 (ix2 ⟨k, by omega⟩ l))

theorem piece0 (x0 x1 : Vec Ideal S2048x256 .bf16) (x2 : Vec Ideal S2048x128 .bf16) (r : Fin 512) (l : Fin 128) :
    (k0_pay9 (k0_pay65 x0 x1 x2) (k0_pay7 (k0_pay66 x0 x1 x2) (k0_pay67 x0 x1 x2) 64#32 (k0_pay68 x0 x1 x2) (k0_pay69 x0 x1 x2) (Scalar.extui (Scalar.cmpi .sgt 64#32 0#32)) (Scalar.extui (Scalar.cmpi .slt 64#32 0#32)) (View.ld x0 r0_0) (View.ld x1 r0_0) (View.ld x2 r0_1)) (k0_pay8 (k0_pay66 x0 x1 x2) (k0_pay67 x0 x1 x2) 64#32 (k0_pay68 x0 x1 x2) (k0_pay69 x0 x1 x2) (Scalar.extui (Scalar.cmpi .sgt 64#32 0#32)) (Scalar.extui (Scalar.cmpi .slt 64#32 0#32)) (View.ld x0 r0_2) (View.ld x1 r0_2)) (View.ld x2 r0_1) : FVec Ideal S512x128 .f32) (ix2 r l)
      = Scalar.select (IntOp.cmpi CmpIPredicate.slt (BitVec.ofNat 32 l) 64#32) (head0 x0 x1 x2 lo r l) (head0 x0 x1 x2 hi r l) := by
  unfold_payloads
  pointwise
  rfl

/-- One head's entry in the rows from 512 on. -/
def head512 (x0 x1 : Vec Ideal S2048x256 .bf16) (x2 : Vec Ideal S2048x128 .bf16) (f : Fin 128 → Fin 256) (r : Fin 512) (l : Fin 128) : EReal :=
  two (fun k : Fin 512 => sc x0 x1 f ⟨512 + r, by omega⟩ ⟨k, by omega⟩)
    (fun k : Fin 512 => msc x0 x1 f (IntOp.addi 512#32 (BitVec.ofNat 32 r)) (IntOp.addi 512#32 (BitVec.ofNat 32 k)) ⟨512 + r, by omega⟩ ⟨512 + k, by omega⟩)
    (fun k : Fin 512 => x2 (ix2 ⟨k, by omega⟩ l)) (fun k : Fin 512 => x2 (ix2 ⟨512 + k, by omega⟩ l))

theorem piece512 (x0 x1 : Vec Ideal S2048x256 .bf16) (x2 : Vec Ideal S2048x128 .bf16) (r : Fin 512) (l : Fin 128) :
    (k0_pay29 (k0_pay65 x0 x1 x2) (k0_pay20 (k0_pay15 (k0_pay70 x0 x1 x2) (k0_pay71 x0 x1 x2) 64#32 (k0_pay72 x0 x1 x2) (View.ld x0 r0_3) (View.ld x1 r0_3)) (k0_pay16 (k0_pay70 x0 x1 x2) (k0_pay71 x0 x1 x2) 64#32 (k0_pay72 x0 x1 x2) (View.ld x0 r0_3) (View.ld x1 r0_0) (View.ld x1 r0_3)) (k0_pay18 (k0_pay70 x0 x1 x2) (k0_pay71 x0 x1 x2) 64#32 (k0_pay72 x0 x1 x2) (View.ld x0 r0_3) (View.ld x1 r0_0) (View.ld x1 r0_3)) (k0_pay19 (k0_pay70 x0 x1 x2) (k0_pay71 x0 x1 x2) 64#32 (k0_pay72 x0 x1 x2) (View.ld x0 r0_3) (View.ld x1 r0_0) (View.ld x1 r0_3)) (View.ld x2 r0_1) (View.ld x2 r0_4)) (k0_pay25 (k0_pay73 x0 x1 x2) (View.ld x0 r0_5) (View.ld x1 r0_2) (View.ld x1 r0_5)) (k0_pay26 (k0_pay73 x0 x1 x2) (View.ld x0 r0_5) (View.ld x1 r0_2) (View.ld x1 r0_5) (View.ld x2 r0_1)) (k0_pay27 (k0_pay73 x0 x1 x2) (View.ld x0 r0_5) (View.ld x1 r0_2) (View.ld x1 r0_5)) (k0_pay28 (k0_pay73 x0 x1 x2) (View.ld x0 r0_5) (View.ld x1 r0_2) (View.ld x1 r0_5)) (View.ld x2 r0_4) : FVec Ideal S512x128 .f32) (ix2 r l)
      = Scalar.select (IntOp.cmpi CmpIPredicate.slt (BitVec.ofNat 32 l) 64#32) (head512 x0 x1 x2 lo r l) (head512 x0 x1 x2 hi r l) := by
  unfold_payloads
  pointwise
  rfl

/-- One head's entry in the rows from 1024 on. -/
def head1024 (x0 x1 : Vec Ideal S2048x256 .bf16) (x2 : Vec Ideal S2048x128 .bf16) (f : Fin 128 → Fin 256) (r : Fin 512) (l : Fin 128) : EReal :=
  two (fun k : Fin 1024 => sc x0 x1 f ⟨1024 + r, by omega⟩ ⟨k, by omega⟩)
    (fun k : Fin 512 => msc x0 x1 f (IntOp.addi 1024#32 (BitVec.ofNat 32 r)) (IntOp.addi 1024#32 (BitVec.ofNat 32 k)) ⟨1024 + r, by omega⟩ ⟨1024 + k, by omega⟩)
    (fun k : Fin 1024 => x2 (ix2 ⟨k, by omega⟩ l)) (fun k : Fin 512 => x2 (ix2 ⟨1024 + k, by omega⟩ l))

theorem piece1024 (x0 x1 : Vec Ideal S2048x256 .bf16) (x2 : Vec Ideal S2048x128 .bf16) (r : Fin 512) (l : Fin 128) :
    (k0_pay48 (k0_pay65 x0 x1 x2) (k0_pay40 (k0_pay35 (k0_pay74 x0 x1 x2) (k0_pay75 x0 x1 x2) 64#32 (k0_pay76 x0 x1 x2) (View.ld x0 r0_6) (View.ld x1 r0_6)) (k0_pay36 (k0_pay74 x0 x1 x2) (k0_pay75 x0 x1 x2) 64#32 (k0_pay76 x0 x1 x2) (View.ld x0 r0_6) (View.ld x1 r0_7) (View.ld x1 r0_6)) (k0_pay38 (k0_pay74 x0 x1 x2) (k0_pay75 x0 x1 x2) 64#32 (k0_pay76 x0 x1 x2) (View.ld x0 r0_6) (View.ld x1 r0_7) (View.ld x1 r0_6)) (k0_pay39 (k0_pay74 x0 x1 x2) (k0_pay75 x0 x1 x2) 64#32 (k0_pay76 x0 x1 x2) (View.ld x0 r0_6) (View.ld x1 r0_7) (View.ld x1 r0_6)) (View.ld x2 r0_8) (View.ld x2 r0_9)) (k0_pay45 (k0_pay77 x0 x1 x2) (View.ld x0 r0_10) (View.ld x1 r0_11) (View.ld x1 r0_10)) (k0_pay46 (k0_pay77 x0 x1 x2) (View.ld x0 r0_10) (View.ld x1 r0_11) (View.ld x1 r0_10) (View.ld x2 r0_8)) (k0_pay47 (k0_pay77 x0 x1 x2) (View.ld x0 r0_10) (View.ld x1 r0_11) (View.ld x1 r0_10)) (View.ld x2 r0_9) : FVec Ideal S512x128 .f32) (ix2 r l)
      = Scalar.select (IntOp.cmpi CmpIPredicate.slt (BitVec.ofNat 32 l) 64#32) (head1024 x0 x1 x2 lo r l) (head1024 x0 x1 x2 hi r l) := by
  unfold_payloads
  pointwise
  rfl

/-- One head's entry in the rows from 1536 on. -/
def head1536 (x0 x1 : Vec Ideal S2048x256 .bf16) (x2 : Vec Ideal S2048x128 .bf16) (f : Fin 128 → Fin 256) (r : Fin 512) (l : Fin 128) : EReal :=
  two (fun k : Fin 1536 => sc x0 x1 f ⟨1536 + r, by omega⟩ ⟨k, by omega⟩)
    (fun k : Fin 512 => msc x0 x1 f (IntOp.addi 1536#32 (BitVec.ofNat 32 r)) (IntOp.addi 1536#32 (BitVec.ofNat 32 k)) ⟨1536 + r, by omega⟩ ⟨1536 + k, by omega⟩)
    (fun k : Fin 1536 => x2 (ix2 ⟨k, by omega⟩ l)) (fun k : Fin 512 => x2 (ix2 ⟨1536 + k, by omega⟩ l))

theorem piece1536 (x0 x1 : Vec Ideal S2048x256 .bf16) (x2 : Vec Ideal S2048x128 .bf16) (r : Fin 512) (l : Fin 128) :
    (k0_pay1 (k0_pay65 x0 x1 x2) (k0_pay57 (k0_pay53 (k0_pay78 x0 x1 x2) (k0_pay79 x0 x1 x2) 64#32 (View.ld x0 r0_12) (View.ld x1 r0_12)) (k0_pay54 (k0_pay78 x0 x1 x2) (k0_pay79 x0 x1 x2) 64#32 (View.ld x0 r0_12) (View.ld x1 r0_13) (View.ld x1 r0_12)) (k0_pay55 (k0_pay78 x0 x1 x2) (k0_pay79 x0 x1 x2) 64#32 (View.ld x0 r0_12) (View.ld x1 r0_13) (View.ld x1 r0_12)) (k0_pay56 (k0_pay78 x0 x1 x2) (k0_pay79 x0 x1 x2) 64#32 (View.ld x0 r0_12) (View.ld x1 r0_13) (View.ld x1 r0_12)) (View.ld x2 r0_14) (View.ld x2 r0_15)) (k0_pay62 (k0_pay80 x0 x1 x2) (View.ld x0 r0_16) (View.ld x1 r0_17) (View.ld x1 r0_16)) (k0_pay63 (k0_pay80 x0 x1 x2) (View.ld x0 r0_16) (View.ld x1 r0_17) (View.ld x1 r0_16) (View.ld x2 r0_14)) (k0_pay64 (k0_pay80 x0 x1 x2) (View.ld x0 r0_16) (View.ld x1 r0_17) (View.ld x1 r0_16)) (View.ld x2 r0_15) : FVec Ideal S512x128 .f32) (ix2 r l)
      = Scalar.select (IntOp.cmpi CmpIPredicate.slt (BitVec.ofNat 32 l) 64#32) (head1536 x0 x1 x2 lo r l) (head1536 x0 x1 x2 hi r l) := by
  unfold_payloads
  pointwise
  rfl

end Cert.Att

end
-- ==== Proof.Att.Rows.lean ====
module

public import proofs.«01_k».proof.Proof.Att.Piece
public import proofs.«01_k».proof.Proof.Gen.KernelIdeal.Value
public import Idealize.ShloMosaic.Lib.Pipeline.ValueKit.Geometry

@[expose] public section

noncomputable section

/-! One launch's output block is the masked softmax of its rows, and the result array is the masked softmax of
    the whole arguments. -/

namespace Cert.Att
open Cert.KernelIdeal Cert.KernelIdeal.Gen Idealize.ShloMosaic Idealize.ShloMosaic.TcCoe Idealize.SL.Sem

set_option maxRecDepth 16384

theorem cw_nat : ∀ n : Fin 2048, cw (BitVec.ofNat 32 n) = BitVec.ofNat 32 (n / 64) := by decide +kernel

theorem sle_nat : ∀ a b : Fin 32,
    IntOp.cmpi CmpIPredicate.sle (BitVec.ofNat 32 a) (BitVec.ofNat 32 b) = if (a : ℕ) ≤ b then 1#1 else 0#1 := by
  decide +kernel

theorem lane_nat : ∀ l : Fin 128,
    IntOp.cmpi CmpIPredicate.slt (BitVec.ofNat 32 l) 64#32 = if (l : ℕ) < 64 then 1#1 else 0#1 := by
  decide +kernel

theorem add_nat (a b : ℕ) : IntOp.addi (BitVec.ofNat 32 a) (BitVec.ofNat 32 b) = BitVec.ofNat 32 (a + b) := by
  rw [BitVec.ofNat_add]; rfl

theorem select_ite {α : Type} (p : Prop) [Decidable p] (a b : α) :
    Scalar.select (if p then 1#1 else 0#1) a b = if p then a else b := by
  by_cases h : p <;> simp [h, Scalar.select]

/-- The scores of row `r`, minus infinity where the key's chunk comes after the row's. -/
def rowS (x0 x1 : Vec Ideal S2048x256 .bf16) (f : Fin 128 → Fin 256) (r k : Fin 2048) : EReal :=
  if (k : ℕ) / 64 ≤ r / 64 then sc x0 x1 f r k else ⊥

theorem msc_eq (x0 x1 : Vec Ideal S2048x256 .bf16) (f : Fin 128 → Fin 256) (r k : Fin 2048) (wr wk : BitVec 32)
    (hr : wr = BitVec.ofNat 32 r) (hk : wk = BitVec.ofNat 32 k) : msc x0 x1 f wr wk r k = rowS x0 x1 f r k := by
  subst hr hk
  unfold msc rowS
  rw [cw_nat, cw_nat, sle_nat ⟨(k : ℕ) / 64, by omega⟩ ⟨(r : ℕ) / 64, by omega⟩, select_ite,
    IdealRules.named_const.ideal_named_scalar _ _ _ _ rfl]

theorem two_rows {a b c N : ℕ} (h : a + b + c = N) (s v : Fin N → EReal) (ht : ∀ k, s k ≠ ⊤) (k0 : Fin N) (hk : s k0 ≠ ⊥)
    (hidden : ∀ k : Fin N, a + b ≤ k → s k = ⊥)
    (s1 : Fin a → EReal) (e1 : ∀ k : Fin a, s1 k = s ⟨k, by omega⟩)
    (s2 : Fin b → EReal) (e2 : ∀ k : Fin b, s2 k = s ⟨a + k, by omega⟩)
    (v1 : Fin a → EReal) (e3 : ∀ k : Fin a, v1 k = v ⟨k, by omega⟩)
    (v2 : Fin b → EReal) (e4 : ∀ k : Fin b, v2 k = v ⟨a + k, by omega⟩) : two s1 s2 v1 v2 = soft s v := by
  subst h
  rw [← soft_two s v ht k0 hk (fun k => hidden _ (by simp))]
  rw [funext e1, funext e2, funext e3, funext e4]
  rfl

theorem one_rows {b c N : ℕ} (h : b + c = N) (s v : Fin N → EReal) (ht : ∀ k, s k ≠ ⊤) (k0 : Fin N) (hk : s k0 ≠ ⊥)
    (hidden : ∀ k : Fin N, b ≤ k → s k = ⊥)
    (s2 : Fin b → EReal) (e2 : ∀ k : Fin b, s2 k = s ⟨k, by omega⟩)
    (v2 : Fin b → EReal) (e4 : ∀ k : Fin b, v2 k = v ⟨k, by omega⟩) : one s2 v2 = soft s v := by
  subst h
  rw [← soft_one s v ht k0 hk (fun k => hidden _ (by simp))]
  rw [funext e2, funext e4]
  rfl

/-- Every entry is a number. -/
def Fine {S : Shape} (x : S.Idx → EReal) : Prop := ∀ i, x i ≠ ⊤ ∧ x i ≠ ⊥

variable {x0 x1 : Vec Ideal S2048x256 .bf16} (x2 : Vec Ideal S2048x128 .bf16)

theorem rowS_ne_top (h0 : Fine (S := S2048x256) x0) (h1 : Fine (S := S2048x256) x1) (f : Fin 128 → Fin 256) (r k : Fin 2048) :
    rowS x0 x1 f r k ≠ ⊤ := by
  unfold rowS
  split
  · obtain ⟨z, hz⟩ := dot_real (fun x => x0 (ix2 r (f x))) (fun x => x1 (ix2 k (f x))) (fun x => h0 _) (fun x => h1 _)
    unfold sc; rw [hz]; exact EReal.coe_ne_top _
  · exact bot_ne_top

theorem rowS_self (h0 : Fine (S := S2048x256) x0) (h1 : Fine (S := S2048x256) x1) (f : Fin 128 → Fin 256) (r : Fin 2048) :
    rowS x0 x1 f r r ≠ ⊥ := by
  unfold rowS
  rw [if_pos le_rfl]
  obtain ⟨z, hz⟩ := dot_real (fun x => x0 (ix2 r (f x))) (fun x => x1 (ix2 r (f x))) (fun x => h0 _) (fun x => h1 _)
  unfold sc; rw [hz]; exact EReal.coe_ne_bot _

/-- One head's entry: the softmax over all the keys. -/
def row (x0 x1 : Vec Ideal S2048x256 .bf16) (x2 : Vec Ideal S2048x128 .bf16) (f : Fin 128 → Fin 256) (r : Fin 2048) (l : Fin 128) : EReal :=
  soft (rowS x0 x1 f r) fun k : Fin 2048 => x2 (ix2 k l)

theorem hid (f : Fin 128 → Fin 256) (r k : Fin 2048) (n : ℕ) (hr : (r : ℕ) < n * 64) (hk : n * 64 ≤ k) : rowS x0 x1 f r k = ⊥ :=
  if_neg (by omega)

theorem seen (f : Fin 128 → Fin 256) (r k : Fin 2048) (n : ℕ) (hr : n * 64 ≤ r) (hk : (k : ℕ) < n * 64) :
    sc x0 x1 f r k = rowS x0 x1 f r k := (if_pos (by omega)).symm

section
variable (h0 : Fine (S := S2048x256) x0) (h1 : Fine (S := S2048x256) x1) (f : Fin 128 → Fin 256) (r : Fin 512) (l : Fin 128)
include h0 h1

theorem head0_eq : head0 x0 x1 x2 f r l = row x0 x1 x2 f ⟨r, by omega⟩ l := by
  unfold head0 row
  exact one_rows (b := 512) (c := 1536) (N := 2048) (by norm_num) (rowS x0 x1 f ⟨r, by omega⟩) (fun k : Fin 2048 => x2 (ix2 k l))
    (rowS_ne_top h0 h1 f _) ⟨r, by omega⟩ (rowS_self h0 h1 f _)
    (fun k hk => hid f _ k 8 (by simp only; omega) (by omega))
    _ (fun k => msc_eq x0 x1 f _ _ _ _ (by rw [add_nat]; simp) (by rw [add_nat]; simp)) _ (fun _ => rfl)

theorem head512_eq : head512 x0 x1 x2 f r l = row x0 x1 x2 f ⟨512 + r, by omega⟩ l := by
  unfold head512 row
  exact two_rows (a := 512) (b := 512) (c := 1024) (N := 2048) (by norm_num) (rowS x0 x1 f ⟨512 + r, by omega⟩) (fun k : Fin 2048 => x2 (ix2 k l))
    (rowS_ne_top h0 h1 f _) ⟨512 + r, by omega⟩ (rowS_self h0 h1 f _)
    (fun k hk => hid f _ k 16 (by simp only; omega) (by omega))
    _ (fun k => seen f _ _ 8 (by simp only; omega) (by simp only; omega))
    _ (fun k => msc_eq x0 x1 f _ _ _ _ (by rw [add_nat]) (by rw [add_nat])) _ (fun _ => rfl) _ (fun _ => rfl)

theorem head1024_eq : head1024 x0 x1 x2 f r l = row x0 x1 x2 f ⟨1024 + r, by omega⟩ l := by
  unfold head1024 row
  exact two_rows (a := 1024) (b := 512) (c := 512) (N := 2048) (by norm_num) (rowS x0 x1 f ⟨1024 + r, by omega⟩) (fun k : Fin 2048 => x2 (ix2 k l))
    (rowS_ne_top h0 h1 f _) ⟨1024 + r, by omega⟩ (rowS_self h0 h1 f _)
    (fun k hk => hid f _ k 24 (by simp only; omega) (by omega))
    _ (fun k => seen f _ _ 16 (by simp only; omega) (by simp only; omega))
    _ (fun k => msc_eq x0 x1 f _ _ _ _ (by rw [add_nat]) (by rw [add_nat])) _ (fun _ => rfl) _ (fun _ => rfl)

theorem head1536_eq : head1536 x0 x1 x2 f r l = row x0 x1 x2 f ⟨1536 + r, by omega⟩ l := by
  unfold head1536 row
  exact two_rows (a := 1536) (b := 512) (c := 0) (N := 2048) (by norm_num) (rowS x0 x1 f ⟨1536 + r, by omega⟩) (fun k : Fin 2048 => x2 (ix2 k l))
    (rowS_ne_top h0 h1 f _) ⟨1536 + r, by omega⟩ (rowS_self h0 h1 f _)
    (fun k hk => hid f _ k 32 (by simp only; omega) (by omega))
    _ (fun k => seen f _ _ 24 (by simp only; omega) (by simp only; omega))
    _ (fun k => msc_eq x0 x1 f _ _ _ _ (by rw [add_nat]) (by rw [add_nat])) _ (fun _ => rfl) _ (fun _ => rfl)

end

/-- The block's entry at row `r`, lane `l`: the first head's lanes are below 64. -/
def G (x0 x1 : Vec Ideal S2048x256 .bf16) (x2 : Vec Ideal S2048x128 .bf16) (r : Fin 2048) (l : Fin 128) : EReal :=
  if (l : ℕ) < 64 then row x0 x1 x2 lo r l else row x0 x1 x2 hi r l

theorem emb_rows (c : ℕ) (inb : ∀ a, (![c, 0] : Fin 2 → ℕ) a + S512x128.size a ≤ S2048x128.size a) (r : Fin 512) (l : Fin 128) (hc : c + 512 ≤ 2048) :
    (Rect.unit (s := S2048x128) ![c, 0] S512x128.size inb).emb (ix2 r l) = ix2 (⟨c + r, by omega⟩ : Fin 2048) l := by
  funext a
  apply Fin.ext
  match a with
  | ⟨0, _⟩ => show c + 1 * (r : ℕ) = c + r; omega
  | ⟨1, _⟩ => show 0 + 1 * (l : ℕ) = l; omega

theorem out_eq (h0 : Fine (S := S2048x256) x0) (h1 : Fine (S := S2048x256) x1) (r : Fin 2048) (l : Fin 128) :
    out0_3 (F := Ideal) x0 x1 x2 (ix2 r l) = G x0 x1 x2 r l := by
  have key := View.canon_apply_of_pieces (Val := Elt Ideal) (S := S2048x128) (e := .f32) (fun y => G x0 x1 x2 (y 0) (y 1))
  unfold out0_3
  refine (key _ ?_ (ix2 r l) (cover0_3 _ _ _ _ _)).trans rfl
  intro p hp x
  simp only [List.mem_cons, List.not_mem_nil, or_false] at hp
  rcases hp with rfl | rfl | rfl | rfl
  · obtain ⟨r, l, rfl⟩ : ∃ (r : Fin 512) (l : Fin 128), x = ix2 r l := ⟨x 0, x 1, by funext a; match a with | ⟨0, _⟩ => rfl | ⟨1, _⟩ => rfl⟩
    refine (piece1536 x0 x1 x2 r l).trans ?_
    rw [lane_nat, select_ite, head1536_eq x2 h0 h1, head1536_eq x2 h0 h1]
    exact (congrArg (fun y => G x0 x1 x2 (y 0) (y 1)) (emb_rows 1536 inb_S2048x128_S512x128_1536_0 r l (by omega))).symm
  · obtain ⟨r, l, rfl⟩ : ∃ (r : Fin 512) (l : Fin 128), x = ix2 r l := ⟨x 0, x 1, by funext a; match a with | ⟨0, _⟩ => rfl | ⟨1, _⟩ => rfl⟩
    refine (piece1024 x0 x1 x2 r l).trans ?_
    rw [lane_nat, select_ite, head1024_eq x2 h0 h1, head1024_eq x2 h0 h1]
    exact (congrArg (fun y => G x0 x1 x2 (y 0) (y 1)) (emb_rows 1024 inb_S2048x128_S512x128_1024_0 r l (by omega))).symm
  · obtain ⟨r, l, rfl⟩ : ∃ (r : Fin 512) (l : Fin 128), x = ix2 r l := ⟨x 0, x 1, by funext a; match a with | ⟨0, _⟩ => rfl | ⟨1, _⟩ => rfl⟩
    refine (piece512 x0 x1 x2 r l).trans ?_
    rw [lane_nat, select_ite, head512_eq x2 h0 h1, head512_eq x2 h0 h1]
    exact (congrArg (fun y => G x0 x1 x2 (y 0) (y 1)) (emb_rows 512 inb_S2048x128_S512x128_512_0 r l (by omega))).symm
  · obtain ⟨r, l, rfl⟩ : ∃ (r : Fin 512) (l : Fin 128), x = ix2 r l := ⟨x 0, x 1, by funext a; match a with | ⟨0, _⟩ => rfl | ⟨1, _⟩ => rfl⟩
    refine (piece0 x0 x1 x2 r l).trans ?_
    rw [lane_nat, select_ite, head0_eq x2 h0 h1, head0_eq x2 h0 h1]
    refine Eq.trans ?_ (congrArg (fun y => G x0 x1 x2 (y 0) (y 1)) (emb_rows 0 inb_S2048x128_S512x128_0_0 r l (by omega))).symm
    show (if (l : ℕ) < 64 then row x0 x1 x2 lo ⟨r, _⟩ l else row x0 x1 x2 hi ⟨r, _⟩ l) = G x0 x1 x2 (⟨0 + r, by omega⟩ : Fin 2048) l
    simp only [G, Nat.zero_add]

/-- The score of row `R` of the queries against key `j` of the row's batch, in head `h`. -/
def score (q k : S32768x1024.Idx → EReal) (R : Fin 32768) (h : Fin 8) (j : Fin 2048) : EReal :=
  if (j : ℕ) / 64 ≤ (R % 2048 : ℕ) / 64 then
    ∑ x : Fin 128, q (ix2 R ⟨h * 128 + x, by omega⟩) * k (ix2 ⟨R / 2048 * 2048 + j, by omega⟩ ⟨h * 128 + x, by omega⟩)
  else ⊥

/-- The attention of whole arrays: the softmax of the scores, the weighted sum of the values. -/
def att (q k : S32768x1024.Idx → EReal) (v : S32768x512.Idx → EReal) (R : Fin 32768) (C : Fin 512) : EReal :=
  soft (score q k R ⟨C / 64, by omega⟩) fun j : Fin 2048 => v (ix2 ⟨R / 2048 * 2048 + j, by omega⟩ C)

variable (m : (ℓ : Loc nD τ sig) → Buf (Elt Ideal) ℓ)

theorem e0 : ∀ t : Fin cfg0.N, win0_0.index t = ![(grid0.coords t 0).val, (grid0.coords t 1).val] :=
  (by decide +kernel : ∀ t : Fin grid0.N, _)
theorem e1 : ∀ t : Fin cfg0.N, win0_1.index t = ![(grid0.coords t 0).val, (grid0.coords t 1).val] :=
  (by decide +kernel : ∀ t : Fin grid0.N, _)
theorem e2 : ∀ t : Fin cfg0.N, win0_2.index t = ![(grid0.coords t 0).val, (grid0.coords t 1).val] :=
  (by decide +kernel : ∀ t : Fin grid0.N, _)
theorem e3 : ∀ t : Fin cfg0.N, win0_3.index t = ![(grid0.coords t 0).val, (grid0.coords t 1).val] :=
  (by decide +kernel : ∀ t : Fin grid0.N, _)

theorem q_at (c : Dev nD) (t : Fin cfg0.N) (r : Fin 2048) (k : Fin 256) (R : Fin 32768) (C : Fin 1024)
    (hR : (R : ℕ) = (grid0.coords t 0).val * 2048 + r) (hC : (C : ℕ) = (grid0.coords t 1).val * 256 + k) :
    (iblk m c 0 t (ix2 r k) : EReal) = m ((c : Thread nD τ).loc main_arg0) (ix2 R C) := by
  blk_simp [iblk]
  refine (congrFun (V_main_arg0 m c) _).trans (congrArg _ ?_)
  blk_ext [e0]
  all_goals (first | exact hR.symm | exact hC.symm | (simp [ix2]; omega))

theorem k_at (c : Dev nD) (t : Fin cfg0.N) (r : Fin 2048) (k : Fin 256) (R : Fin 32768) (C : Fin 1024)
    (hR : (R : ℕ) = (grid0.coords t 0).val * 2048 + r) (hC : (C : ℕ) = (grid0.coords t 1).val * 256 + k) :
    (iblk m c 1 t (ix2 r k) : EReal) = m ((c : Thread nD τ).loc main_arg1) (ix2 R C) := by
  blk_simp [iblk]
  refine (congrFun (V_main_arg1 m c) _).trans (congrArg _ ?_)
  blk_ext [e1]
  all_goals (first | exact hR.symm | exact hC.symm | (simp [ix2]; omega))

theorem v_at (c : Dev nD) (t : Fin cfg0.N) (r : Fin 2048) (k : Fin 128) (R : Fin 32768) (C : Fin 512)
    (hR : (R : ℕ) = (grid0.coords t 0).val * 2048 + r) (hC : (C : ℕ) = (grid0.coords t 1).val * 128 + k) :
    (iblk m c 2 t (ix2 r k) : EReal) = m ((c : Thread nD τ).loc main_arg2) (ix2 R C) := by
  blk_simp [iblk]
  refine (congrFun (V_main_arg2 m c) _).trans (congrArg _ ?_)
  blk_ext [e2]
  all_goals (first | exact hR.symm | exact hC.symm | (simp [ix2]; omega))

theorem coords_lt (t : Fin cfg0.N) : (grid0.coords t 0).val < 16 ∧ (grid0.coords t 1).val < 4 :=
  ⟨(grid0.coords t 0).isLt, (grid0.coords t 1).isLt⟩

theorem row_at (c : Dev nD) (t : Fin cfg0.N) (f : Fin 128 → Fin 256) (h : ℕ) (r : Fin 2048) (l : Fin 128) (R : Fin 32768) (C : Fin 512)
    (hf : ∀ x, (f x : ℕ) = h * 128 + x) (hh : (C : ℕ) / 64 = (grid0.coords t 1).val * 2 + h)
    (hR : (R : ℕ) = (grid0.coords t 0).val * 2048 + r) (hC : (C : ℕ) = (grid0.coords t 1).val * 128 + l) :
    row (iblk m c 0 t) (iblk m c 1 t) (iblk m c 2 t) f r l
      = att (m ((c : Thread nD τ).loc main_arg0)) (m ((c : Thread nD τ).loc main_arg1)) (m ((c : Thread nD τ).loc main_arg2)) R C := by
  unfold row att
  congr 1
  · funext k
    unfold rowS score sc
    have e : (R : ℕ) % 2048 = r := by omega
    rw [e]
    congr 1
    refine Finset.sum_congr rfl fun x _ => ?_
    rw [q_at m c t r (f x) R ⟨C / 64 * 128 + x, by omega⟩ hR (by simp only [hf, hh]; omega),
      k_at m c t k (f x) ⟨R / 2048 * 2048 + k, by omega⟩ ⟨C / 64 * 128 + x, by omega⟩ (by simp only; omega) (by simp only [hf, hh]; omega)]
  · funext k
    exact v_at m c t k l ⟨R / 2048 * 2048 + k, by omega⟩ C (by simp only; omega) hC

theorem final (c : Dev nD) (h0 : Fine (S := S32768x1024) (m ((c : Thread nD τ).loc main_arg0)))
    (h1 : Fine (S := S32768x1024) (m ((c : Thread nD τ).loc main_arg1))) :
    (dats m 0 c).arrAt 3 cfg0.N = fun i : S32768x512.Idx => att (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3]
  obtain ⟨r, l, rfl⟩ : ∃ (r : Fin 2048) (l : Fin 128), y = ix2 r l := ⟨y 0, y 1, by funext a; match a with | ⟨0, _⟩ => rfl | ⟨1, _⟩ => rfl⟩
  have f0 : Fine (S := S2048x256) (iblk m c 0 t) := fun i => by
    have e := h0 (((cfg0.win 0).blk t).view.emb i)
    rw [← V_main_arg0 m c] at e
    exact e
  have f1 : Fine (S := S2048x256) (iblk m c 1 t) := fun i => by
    have e := h1 (((cfg0.win 1).blk t).view.emb i)
    rw [← V_main_arg1 m c] at e
    exact e
  obtain ⟨b0, b1⟩ := coords_lt t
  have hR : ((((win0_3.blk t).view.emb (ix2 r l)) 0 : Fin 32768) : ℕ) = (grid0.coords t 0).val * 2048 + r := by
    blk_simp [e3]
  have hC : ((((win0_3.blk t).view.emb (ix2 r l)) 1 : Fin 512) : ℕ) = (grid0.coords t 1).val * 128 + l := by
    blk_simp [e3]
  refine (out_eq (iblk m c 2 t) f0 f1 r l).trans ?_
  unfold G
  split
  · exact row_at m c t lo 0 r l _ _ (fun x => by simp [lo]) (by rw [hC]; omega) hR hC
  · exact row_at m c t hi 1 r l _ _ (fun x => by simp [hi]) (by rw [hC]; omega) hR hC

end Cert.Att

end
-- ==== Proof.Att.Ref.lean ====
module

public import proofs.«01_k».proof.Proof.Att.Rows
public import proofs.«01_k».proof.Proof.Gen.ReferenceIdeal.Read

@[expose] public section

noncomputable section

/-! The reference's result, entry by entry, is the masked softmax of the whole arguments. -/

namespace Cert.Att
open Cert.ReferenceIdeal Cert.ReferenceIdeal.Gen Cert.ReferenceIdeal.Read Idealize.ShloMosaic

set_option maxRecDepth 16384

/-- A word's sign. -/
def sg (w : BitVec 32) : BitVec 32 := if w = 0 then 0 else if w.msb then -1 else 1

/-- The floor of `w / 64` in the reference's words. -/
def fw (w : BitVec 32) : BitVec 32 :=
  Scalar.select
    (IntOp.andi (IntOp.cmpi .ne (sg w) (sg 64#32)) (IntOp.cmpi .ne (IntOp.remsi .host w 64#32) 0#32))
    (IntOp.subi (IntOp.divsi .host w 64#32) 1#32) (IntOp.divsi .host w 64#32)

theorem fw_nat : ∀ n : Fin 2048, fw (BitVec.ofNat 32 n) = BitVec.ofNat 32 (n / 64) := by decide +kernel

theorem chunk (i : S2048.Idx) : val_main_v8 (F := Ideal) i = fw (BitVec.ofNat 32 (i 0).val) := rfl

theorem visible (i : S2048x2048.Idx) :
    val_main_v13 (F := Ideal) i = if (i 1).val / 64 ≤ (i 0).val / 64 then 1#1 else 0#1 := by
  rw [val_main_v13_apply, val_main_v11_apply, val_main_v9_apply, val_main_v12_apply, val_main_v10_apply, chunk, chunk]
  have a0 : (i 0).val < 2048 := (i 0).isLt
  have a1 : (i 1).val < 2048 := (i 1).isLt
  have h0 := fw_nat ⟨(i 0).val, a0⟩
  have h1 := fw_nat ⟨(i 1).val, a1⟩
  refine Eq.trans (congrArg₂ (IntOp.cmpi .sle) h1 h0) ?_
  exact sle_nat ⟨(i 1).val / 64, by omega⟩ ⟨(i 0).val / 64, by omega⟩

theorem maxrow (x0 x1 : (⟨S32768x1024, .bf16⟩ : BufTy).Contents (Elt Ideal)) (b : Fin 16) (h : Fin 8) (r : Fin 2048) :
    val_main_v15 (F := Ideal) x0 x1 (ix3 b h r) = top fun k : Fin 2048 => val_main_v14 (F := Ideal) x0 x1 (ix4 b h r k) := by
  unfold val_main_v15
  generalize val_main_v14 (F := Ideal) x0 x1 = y
  pointwise
  rfl

variable (x0 x1 : (⟨S32768x1024, .bf16⟩ : BufTy).Contents (Elt Ideal)) (x2 : (⟨S32768x512, .bf16⟩ : BufTy).Contents (Elt Ideal))
variable (b : Fin 16) (h : Fin 8) (r k : Fin 2048)

/-- The masked scores. -/
theorem scores (R : Fin 32768) (hR : (R : ℕ) = b * 2048 + r) : val_main_v14 (F := Ideal) x0 x1 (ix4 b h r k) = score x0 x1 R h k := by
  rw [val_main_v14_apply, val_main_call1_v1_apply, visible, select_ite, val_main_v6_apply]
  have er : (R : ℕ) % 2048 = r := by omega
  unfold score
  rw [er]
  have ek : (val_main_call1_v2 (F := Ideal) (ix4 b h r k) : EReal) = ⊥ := by
    rw [val_main_call1_v2_apply, val_main_call1_v0_apply, val_main_cst_apply]; exact ninf
  rw [ek]
  refine if_congr Iff.rfl (Finset.sum_congr rfl fun x _ => ?_) rfl
  rw [val_main_v1_apply, val_main_v3_apply, val_main_v0_apply, val_main_v2_apply]
  refine congrArg₂ (fun a b : EReal => a * b) (congrArg x0 ?_) (congrArg x1 ?_)
  · funext a
    apply Fin.ext
    match a with
    | ⟨0, _⟩ => show (((b.val * 2048 + r.val) * 8 + h.val) * 128 + x.val) / 1024 = R.val; omega
    | ⟨1, _⟩ => show (((b.val * 2048 + r.val) * 8 + h.val) * 128 + x.val) % 1024 = h.val * 128 + x.val; omega
  · funext a
    apply Fin.ext
    match a with
    | ⟨0, _⟩ => show (((b.val * 2048 + k.val) * 8 + h.val) * 128 + x.val) / 1024 = R.val / 2048 * 2048 + k.val; omega
    | ⟨1, _⟩ => show (((b.val * 2048 + k.val) * 8 + h.val) * 128 + x.val) % 1024 = h.val * 128 + x.val; omega

theorem ix_row : idx_main_v18 (idx_main_v19 (ix4 b h r k)) = ix3 b h r := by
  funext a
  match a with
  | ⟨0, _⟩ => rfl
  | ⟨1, _⟩ => rfl
  | ⟨2, _⟩ => rfl

theorem ix_sum (j : Fin 2048) : idx_main_v22 (idx_main_v23 (idx_main_v24 (ix4 b h r k))) j = ix4 b h r j := by
  funext a
  match a with
  | ⟨0, _⟩ => rfl
  | ⟨1, _⟩ => rfl
  | ⟨2, _⟩ => rfl
  | ⟨3, _⟩ => rfl

/-- The exponentials of the scores less their largest. -/
theorem weights (R : Fin 32768) (hR : (R : ℕ) = b * 2048 + r) :
    val_main_v21 (F := Ideal) x0 x1 (ix4 b h r k) = Ideal.exp (score x0 x1 R h k - top (score x0 x1 R h)) := by
  rw [val_main_v21_apply, val_main_v20_apply, scores x0 x1 b h r k R hR, val_main_v19_apply, val_main_v18_apply, val_main_v17_apply,
    val_main_v16_apply, val_main_cst_1_apply]
  have e : val_main_v15 (F := Ideal) x0 x1 (idx_main_v18 (idx_main_v19 (ix4 b h r k))) = top (score x0 x1 R h) :=
    (congrArg (val_main_v15 (F := Ideal) x0 x1) (ix_row b h r k)).trans
      ((maxrow x0 x1 b h r).trans (congrArg top (funext fun k => scores x0 x1 b h r k R hR)))
  rw [e]
  show Ideal.exp (score x0 x1 R h k - max (Ideal.ofBits FTy.f32 4286578688#32) (top (score x0 x1 R h))) = _
  rw [ninf, max_eq_right bot_le]

/-- The reference's result. -/
theorem ref_eq (R : Fin 32768) (C : Fin 512) : val_main_v28 (F := Ideal) x0 x1 x2 (ix2 R C) = att x0 x1 x2 R C := by
  rw [val_main_v28_apply, val_main_v27_apply, val_main_v26_apply]
  unfold att soft
  have hix : ∀ k : Fin 2048, ridx_main_v26 (idx_main_v27 (idx_main_v28 (ix2 R C))) k
      = ix4 (⟨R / 2048, by omega⟩ : Fin 16) (⟨C / 64, by omega⟩ : Fin 8) (⟨R % 2048, by omega⟩ : Fin 2048) k := by
    intro k
    funext a
    apply Fin.ext
    match a with
    | ⟨0, _⟩ => show (R.val * 512 + C.val) / 1048576 = R.val / 2048; omega
    | ⟨1, _⟩ => show (R.val * 512 + C.val) / 64 % 8 = C.val / 64; omega
    | ⟨2, _⟩ => show (R.val * 512 + C.val) / 512 % 2048 = R.val % 2048; omega
    | ⟨3, _⟩ => rfl
  have hR : (R : ℕ) = (⟨R / 2048, by omega⟩ : Fin 16) * 2048 + (⟨R % 2048, by omega⟩ : Fin 2048) := by simp only; omega
  refine Finset.sum_congr rfl fun k _ => ?_
  rw [hix]
  refine congrArg₂ (fun a b : EReal => a * b) ?_ ?_
  · rw [val_main_v5_apply, val_main_v4_apply]
    refine congrArg x2 ?_
    funext a
    apply Fin.ext
    match a with
    | ⟨0, _⟩ =>
      show ((((R.val * 512 + C.val) / 1048576 * 2048 + k.val) * 8 + (R.val * 512 + C.val) / 64 % 8) * 64 + (R.val * 512 + C.val) % 64) / 512 = R.val / 2048 * 2048 + k.val
      omega
    | ⟨1, _⟩ =>
      show ((((R.val * 512 + C.val) / 1048576 * 2048 + k.val) * 8 + (R.val * 512 + C.val) / 64 % 8) * 64 + (R.val * 512 + C.val) % 64) % 512 = C.val
      omega
  · rw [val_main_v25_apply, val_main_v24_apply, val_main_v23_apply, val_main_v22_apply, weights x0 x1 _ _ _ k R hR, val_main_cst_2_apply]
    rw [Finset.sum_congr rfl fun j _ => (congrArg (val_main_v21 (F := Ideal) x0 x1) (ix_sum _ _ _ k j)).trans (weights x0 x1 _ _ _ j R hR)]
    rw [Ideal.ofBits_def, show Ideal.ofBits FTy.f32 0x00000000#32 = 0 from Ideal.ofBits_zero .f32, zero_add]
    rfl

end Cert.Att

end
-- ==== Proof.Att.Pre.lean ====
module

public import proofs.«01_k».proof.Defs
public import proofs.«01_k».proof.Proof.Att.Rows
public import Idealize.ShloMosaic.Lib.ReduceAll

@[expose] public section

noncomputable section

/-! The precondition says that every query and key entry is a number; and it can be met. -/

namespace Cert.Att
open Idealize.ShloMosaic Cert.Pre_finite

theorem andi_one : ∀ a b : BitVec 1, IntOp.andi a b = 1#1 → a = 1#1 ∧ b = 1#1 := by decide

theorem facts_pre : Cert.Pre_finite.Facts := by
  constructor
  all_goals decide

theorem fine_of (inst : Cert.Pre_finite.Facts) (x : FVec Ideal S32768x1024 .bf16) (j : S_.Idx)
    (h : Host.reduce IntOp.andi (cmpf .olt (Host.absf (extf .f32 x Facts.bitsLt_bf16_f32))
      (broadcastInDim S32768x1024 ![] Facts.bcast_S_S32768x1024 (constant (F := Ideal) S_ .f32 0x7F800000#32)))
      (constantI S_ 1 1#1) Facts.reducesTo_S32768x1024_S_d0_1 Facts.h_S_ j = 1#1) : Fine (S := S32768x1024) x := by
  haveI : Subsingleton S_.Idx := ⟨fun a b => funext fun k => k.elim0⟩
  intro i
  have e := Host.reduce_andi_all _ _ _ _ j h i
  revert e
  pointwise
  intro e
  have e : max (x i : EReal) (-(x i : EReal)) < Ideal.ofBits FTy.f32 2139095040#32 := by
    by_contra hn
    exact absurd ((congrArg BitVec.ofBool (decide_eq_false hn)).symm.trans e) (by decide)
  rw [show Ideal.ofBits FTy.f32 2139095040#32 = ⊤ by simp [Ideal.ofBits, Ideal.ieee]] at e
  constructor
  · intro hx; rw [hx] at e; simp at e
  · intro hx; rw [hx] at e; simp at e

theorem fine (inst : Cert.Pre_finite.Facts) (x y : FVec Ideal S32768x1024 .bf16) (z : FVec Ideal S32768x512 .bf16)
    (h : Cert.Pre_finite.fn (F := Ideal) x y z = fun _ => 1#1) : Fine (S := S32768x1024) x ∧ Fine (S := S32768x1024) y := by
  obtain ⟨a, b⟩ := andi_one _ _ (congrFun h (fun k => k.elim0))
  exact ⟨fine_of inst x _ a, fine_of inst y _ b⟩

end Cert.Att

end
-- ==== Proof.Exp.Run.lean ====
/- The expert kernel's body at one grid point, run on both of its control paths, at any contents of the two tables. -/
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The two tables as the body is handed them. -/
abbrev tab0 : Memref sig .tc .smem S288 .i32 := Memref.whole main_arg0
abbrev tab1 : Memref sig .tc .smem S1 .i32 := Memref.whole main_arg1

/-- The number of tiles that hold tokens, as the body reads it. -/
abbrev tiles (T1 : S1.Idx → BitVec 32) : BitVec 32 :=
  View.readAt (Elt F) tab1.view (Rect.unit (s := S1) ![0] S1.size inb_S1_S1_0).toLoadRect T1 (Shape.Idx.first (numel1_S1.symm ▸ Nat.one_pos))

/-- The staging buffers the body runs on. -/
structure Bufs where
  (xs : Memref sig .tc .vmem S512x1024 .f32) (hxs : xs.IsWhole)
  (gu : Memref sig .tc .vmem S1x1024x1024 .bf16) (hgu : gu.IsWhole)
  (bgu : Memref sig .tc .vmem S1x1x1024 .f32) (hbgu : bgu.IsWhole)
  (dn : Memref sig .tc .vmem S1x512x1024 .f32) (hdn : dn.IsWhole)
  (bdn : Memref sig .tc .vmem S1x1x1024 .f32) (hbdn : bdn.IsWhole)
  (out : Memref sig .tc .vmem S512x1024 .f32) (hout : out.IsWhole)

variable (F) in
/-- What the five input buffers hold. -/
structure Ins where
  (xs : S512x1024.Idx → Elt F .f32) (gu : S1x1024x1024.Idx → Elt F .bf16) (bgu : S1x1x1024.Idx → Elt F .f32)
  (dn : S1x512x1024.Idx → Elt F .f32) (bdn : S1x1x1024.Idx → Elt F .f32)

/-- The input buffers at their contents, and the body's shares of the tables. -/
abbrev held (c : Dev nD) (b : Bufs) (x : Ins F) (T0 : S288.Idx → BitVec 32) (T1 : S1.Idx → BitVec 32) : sProp 𝕄 :=
  iprop((b.xs.view.loc (c : Thread nD τ) ↦[b.xs.view.set]{fullShare} b.xs.view.rep x.xs)
    ∗ (b.gu.view.loc (c : Thread nD τ) ↦[b.gu.view.set]{fullShare} b.gu.view.rep x.gu)
    ∗ (b.bgu.view.loc (c : Thread nD τ) ↦[b.bgu.view.set]{fullShare} b.bgu.view.rep x.bgu)
    ∗ (b.dn.view.loc (c : Thread nD τ) ↦[b.dn.view.set]{fullShare} b.dn.view.rep x.dn)
    ∗ (b.bdn.view.loc (c : Thread nD τ) ↦[b.bdn.view.set]{fullShare} b.bdn.view.rep x.bdn)
    ∗ (tab0.view.loc (c : Thread nD τ) ↦{fullShare.right} T0)
    ∗ (tab1.view.loc (c : Thread nD τ) ↦{fullShare.right} T1))

/-- The body at a grid point. -/
abbrev body (i : grid0.Coords) (b : Bufs) : Prog (TpuEff nD τ sig (Elt F) Λ₀ .tc) PUnit :=
  cc0_moe_experts i tab0 (Memref.isWhole_whole _) tab1 (Memref.isWhole_whole _) b.xs b.hxs b.gu b.hgu b.bgu b.hbgu b.dn b.hdn b.bdn b.hbdn b.out b.hout

/-- What a tile that holds tokens stores: the feed-forward network of its expert. -/
def tokens (x : Ins F) : S512x1024.Idx → Elt F .f32 := k0_pay1 (k0_pay3 x.xs x.gu x.bgu x.dn) x.bdn

/-- A load of a whole buffer reads what it holds. -/
theorem load_whole {s : Shape} {e : EltTy} (v : View sig .tc .vmem s e) (x : s.Idx → Elt F e) {off : Fin s.rank → ℕ}
    (inb : ∀ a, off a + s.size a ≤ s.size a) : v.readAt (Elt F) (Rect.unit off s.size inb).toLoadRect (v.rep x) = x := by
  rw [View.readAt_full, View.read_rep]

/-- From the inputs and any contents of the output buffer, the body ends with the inputs as they were and `y` in the output buffer. -/
abbrev Leaves (c : Dev nD) (i : grid0.Coords) (b : Bufs) (x : Ins F) (T0 : S288.Idx → BitVec 32) (T1 : S1.Idx → BitVec 32)
    (y : S512x1024.Idx → Elt F .f32) : Prop :=
  ∀ K : PUnit → sProp 𝕄,
    iprop(held c b x T0 T1 ∗ (∃ d, owns (c : Thread nD τ) b.out fullShare d)
      ∗ (iprop(held c b x T0 T1 ∗ owns (c : Thread nD τ) b.out fullShare y) -∗ K ⟨⟩))
    ⊢ wp frame (wpE (defs₀ (F := F)) Variants.none c none) Set.univ (body i b) K

set_option maxHeartbeats 8000000 in
/-- A tile that holds tokens. -/
theorem run_tokens (c : Dev nD) (i : grid0.Coords) (b : Bufs) (x : Ins F) (T0 : S288.Idx → BitVec 32) (T1 : S1.Idx → BitVec 32)
    (h1 : k0_cond1 i (tiles (F := F) T1) = 1#1) (h2 : ¬ k0_cond2 i (tiles (F := F) T1) = 1#1) :
    Leaves c i b x T0 T1 (tokens x) := fun K => by
  unfold owns body held
  rw [cc0_moe_experts_eq_skeleton]; unfold cc0_moe_experts_skel
  iintro ⟨⟨H0, H1, H2, H3, H4, HT0, HT1⟩, ⟨%d, %f, -, HO⟩, Hk⟩
  have hT0 : tab0.IsWhole := Memref.isWhole_whole _
  have hT1 : tab1.IsWhole := Memref.isWhole_whole _
  have := b.hxs; have := b.hgu; have := b.hbgu; have := b.hdn; have := b.hbdn; have := b.hout
  sl_exec! (disch := first | (guard_target = k0_cond1 _ _ = _; exact h1) | (guard_target = ¬(k0_cond2 _ _ = _); exact h2))
  sl_step
  iapply Hk
  isplitl [H0 H1 H2 H3 H4 HT0 HT1]
  · isplitl [H0]; · iexact H0
    isplitl [H1]; · iexact H1
    isplitl [H2]; · iexact H2
    isplitl [H3]; · iexact H3
    isplitl [H4]; · iexact H4
    isplitl [HT0]; · iexact HT0
    iexact HT1
  iexists _; isplitr; swap
  · iexact HO
  · ipureintro
    refine (View.read_writes_full _ _ _ _ _).trans ?_
    exact congr (congrArg _ (congr (congr (congr (congrArg _ (load_whole _ _ _)) (load_whole _ _ _)) (load_whole _ _ _)) (load_whole _ _ _))) (load_whole _ _ _)

set_option maxHeartbeats 8000000 in
/-- A pad tile: zeros are stored. -/
theorem run_pad (c : Dev nD) (i : grid0.Coords) (b : Bufs) (x : Ins F) (T0 : S288.Idx → BitVec 32) (T1 : S1.Idx → BitVec 32)
    (h1 : ¬ k0_cond1 i (tiles (F := F) T1) = 1#1) (h2 : k0_cond2 i (tiles (F := F) T1) = 1#1) :
    Leaves c i b x T0 T1 k0_pay2 := fun K => by
  unfold owns body held
  rw [cc0_moe_experts_eq_skeleton]; unfold cc0_moe_experts_skel
  iintro ⟨⟨H0, H1, H2, H3, H4, HT0, HT1⟩, ⟨%d, %f, -, HO⟩, Hk⟩
  have hT0 : tab0.IsWhole := Memref.isWhole_whole _
  have hT1 : tab1.IsWhole := Memref.isWhole_whole _
  have := b.hout
  sl_exec! (disch := first | (guard_target = ¬(k0_cond1 _ _ = _); exact h1) | (guard_target = k0_cond2 _ _ = _; exact h2))
  sl_step
  iapply Hk
  isplitl [H0 H1 H2 H3 H4 HT0 HT1]
  · isplitl [H0]; · iexact H0
    isplitl [H1]; · iexact H1
    isplitl [H2]; · iexact H2
    isplitl [H3]; · iexact H3
    isplitl [H4]; · iexact H4
    isplitl [HT0]; · iexact HT0
    iexact HT1
  iexists _; isplitr; swap
  · iexact HO
  · ipureintro
    exact View.read_writes_full _ _ _ _ _

/-- The two conditions of the body exclude each other. -/
theorem cond2_iff (i : grid0.Coords) (w : BitVec 32) : k0_cond2 i w = 1#1 ↔ ¬ k0_cond1 i w = 1#1 := by
  unfold k0_cond1 k0_cond2
  simp only [Scalar.cmpi, Scalar.extui, IntOp.cmpi, BitVec.sle_eq_not_slt]
  cases BitVec.slt (BitVec.ofNat 32 (i 0).val) w <;> decide

/-- What the body stores at a grid point. -/
def stored (i : grid0.Coords) (x : Ins F) (T1 : S1.Idx → BitVec 32) : S512x1024.Idx → Elt F .f32 :=
  if k0_cond1 i (tiles (F := F) T1) = 1#1 then tokens x else k0_pay2

theorem run (c : Dev nD) (i : grid0.Coords) (b : Bufs) (x : Ins F) (T0 : S288.Idx → BitVec 32) (T1 : S1.Idx → BitVec 32) :
    Leaves c i b x T0 T1 (stored i x T1) := by
  unfold stored
  by_cases h : k0_cond1 i (tiles (F := F) T1) = 1#1
  · rw [if_pos h]; exact run_tokens c i b x T0 T1 h fun h2 => (cond2_iff _ _).1 h2 h
  · rw [if_neg h]; exact run_pad c i b x T0 T1 h ((cond2_iff _ _).2 h)

end Cert.Exp

end
-- ==== Proof.Exp.Frame.lean ====
/- The expert kernel runs at any tables whose blocks lie inside their arrays: it ends, its arguments unchanged, each output block at what the body stores there. -/
module

public import proofs.«01_k».proof.Proof.Exp.Run

@[expose] public section

set_option maxRecDepth 16384

noncomputable section

namespace Cert.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables' contents in the memory. -/
def tabs : pre0.Contents (Elt F) := fun j => m (((0 : Dev nD) : Thread nD τ).loc (pre0.ref j))

/-- The table of experts and the number of tiles, as functions of the index. -/
abbrev T0 : S288.Idx → BitVec 32 := tabs m 0
abbrev T1 : S1.Idx → BitVec 32 := tabs m 1

variable (hok : ok0 (F := F) (tabs m))

abbrev adm : (pcfg0 (F := F)).Adm := ⟨tabs m, hok⟩
abbrev cfgA : Cfg sig Λ₀ := cfg0 (F := F) (adm m hok)

/-- The staging buffers at a point. -/
def bufs (t : Fin (cfgA m hok).N) : Bufs where
  xs := spec0_0.stage ((cfgA m hok).slots t (0 : Fin 6))
  hxs := hstage0_0 (((cfgA m hok).slots t (0 : Fin 6)).cast nbuf0_0)
  gu := spec0_1.stage ((cfgA m hok).slots t (1 : Fin 6))
  hgu := hstage0_1 (((cfgA m hok).slots t (1 : Fin 6)).cast nbuf0_1)
  bgu := spec0_2.stage ((cfgA m hok).slots t (2 : Fin 6))
  hbgu := hstage0_2 (((cfgA m hok).slots t (2 : Fin 6)).cast nbuf0_2)
  dn := spec0_3.stage ((cfgA m hok).slots t (3 : Fin 6))
  hdn := hstage0_3 (((cfgA m hok).slots t (3 : Fin 6)).cast nbuf0_3)
  bdn := spec0_4.stage ((cfgA m hok).slots t (4 : Fin 6))
  hbdn := hstage0_4 (((cfgA m hok).slots t (4 : Fin 6)).cast nbuf0_4)
  out := spec0_5.stage ((cfgA m hok).slots t (5 : Fin 6))
  hout := hstage0_5 (((cfgA m hok).slots t (5 : Fin 6)).cast nbuf0_5)

/-- A window's block at a point, read off its array. -/
def blk (c : Dev nD) (w : Fin (cfgA m hok).W) (t : Fin (cfgA m hok).N) :
    (((cfgA m hok).win w).xblock ((cfgA m hok).grid.coords t)).Idx → Elt F ((cfgA m hok).win w).elt :=
  (((cfgA m hok).win w).blk t).view.read (Elt F) (m (((cfgA m hok).win w).arr.view.loc (c : Thread nD τ)))

/-- What the input buffers hold at a point. -/
def ins (c : Dev nD) (t : Fin (cfgA m hok).N) : Ins F :=
  ⟨blk m hok c (0 : Fin 6) t, blk m hok c (1 : Fin 6) t, blk m hok c (2 : Fin 6) t, blk m hok c (3 : Fin 6) t, blk m hok c (4 : Fin 6) t⟩

/-- What the output buffer holds after a point. -/
def left (c : Dev nD) (t : Fin (cfgA m hok).N) : S512x1024.Idx → Elt F .f32 :=
  stored ((cfgA m hok).grid.coords t) (ins m hok c t) (T1 m)

/-- Between points the body keeps its shares of the tables. -/
def kept (c : Dev nD) : sProp 𝕄 :=
  iprop((tab0.view.loc (c : Thread nD τ) ↦{fullShare.right} T0 m) ∗ (tab1.view.loc (c : Thread nD τ) ↦{fullShare.right} T1 m))

/-- The pipeline's data: the arrays at launch, the buffers after each point, and what is kept between points. -/
def dats (_ : Fin 1) (c : Dev nD) : Dat τ (Elt F) Unit ℕ (UR sig nD τ) ℕ (cfgA m hok) c where
  A w := m (((cfgA m hok).win w).arr.view.loc (c : Thread nD τ))
  after w t := match w with
    | ⟨0, _⟩ => blk m hok c (0 : Fin 6) t
    | ⟨1, _⟩ => blk m hok c (1 : Fin 6) t
    | ⟨2, _⟩ => blk m hok c (2 : Fin 6) t
    | ⟨3, _⟩ => blk m hok c (3 : Fin 6) t
    | ⟨4, _⟩ => blk m hok c (4 : Fin 6) t
    | ⟨5, _⟩ => left m hok c t
  Φ _ := kept m c
  q _ := fullShare
  owed _ := 0

/-- An input window holds its block when the body runs. -/
theorem before_in (c : Dev nD) (w : Fin (cfgA m hok).W) (hw : ((cfgA m hok).win w).isOut = false)
    (hb : ∀ t, (dats m hok 0 c).after w t = blk m hok c w t) (hi : ∀ i, (cfgA m hok).idle w i = false)
    (hcut : ∀ t t' : Fin (cfgA m hok).N, ((cfgA m hok).win w).index t = ((cfgA m hok).win w).index t' →
      ((cfgA m hok).win w).clip ((cfgA m hok).grid.coords t) = ((cfgA m hok).win w).clip ((cfgA m hok).grid.coords t'))
    (t : Fin (cfgA m hok).N) (d) (hf : (dats m hok 0 c).fetched w t d = blk m hok c w t) : (dats m hok 0 c).before w t d = blk m hok c w t :=
  ((dats m hok 0 c).before_in_eq_fetched w hw hi hcut (fun t => by rw [hb]; unfold Dat.blockOf blk; rfl) t d).trans hf

theorem before_xs (c : Dev nD) (t : Fin (cfgA m hok).N) (d) : (dats m hok 0 c).before (0 : Fin 6) t d = (ins m hok c t).xs :=
  before_in m hok c (0 : Fin 6) rfl (fun _ => rfl) (fun _ => rfl) (fun _ _ _ => rfl) t d (by unfold Dat.fetched Dat.blockOf blk; rfl)
theorem before_gu (c : Dev nD) (t : Fin (cfgA m hok).N) (d) : (dats m hok 0 c).before (1 : Fin 6) t d = (ins m hok c t).gu :=
  before_in m hok c (1 : Fin 6) rfl (fun _ => rfl) (fun _ => rfl) (fun _ _ _ => rfl) t d (by unfold Dat.fetched Dat.blockOf blk; rfl)
theorem before_bgu (c : Dev nD) (t : Fin (cfgA m hok).N) (d) : (dats m hok 0 c).before (2 : Fin 6) t d = (ins m hok c t).bgu :=
  before_in m hok c (2 : Fin 6) rfl (fun _ => rfl) (fun _ => rfl) (fun _ _ _ => rfl) t d (by unfold Dat.fetched Dat.blockOf blk; rfl)
theorem before_dn (c : Dev nD) (t : Fin (cfgA m hok).N) (d) : (dats m hok 0 c).before (3 : Fin 6) t d = (ins m hok c t).dn :=
  before_in m hok c (3 : Fin 6) rfl (fun _ => rfl) (fun _ => rfl) (fun _ _ _ => rfl) t d (by unfold Dat.fetched Dat.blockOf blk; rfl)
theorem before_bdn (c : Dev nD) (t : Fin (cfgA m hok).N) (d) : (dats m hok 0 c).before (4 : Fin 6) t d = (ins m hok c t).bdn :=
  before_in m hok c (4 : Fin 6) rfl (fun _ => rfl) (fun _ => rfl) (fun _ _ _ => rfl) t d (by unfold Dat.fetched Dat.blockOf blk; rfl)

/-- The output is stored at every point. -/
theorem never_idle (pf : pre0.Contents (Elt F)) (i : grid0.Coords) : idle0 pf (5 : Fin 6) i = false := by
  show (!(k0_cond1 i (pf.atD 1 ![0]) == 1#1) && !(k0_cond2 i (pf.atD 1 ![0]) == 1#1)) = false
  by_cases h : k0_cond1 i (pf.atD 1 ![0]) = 1#1
  · rw [h]; rfl
  · rw [(cond2_iff _ _).2 h, Bool.and_comm]; rfl

set_option maxHeartbeats 4000000 in
/-- The body's obligation at a point. -/
theorem sound (c : Dev nD) (t : Fin (cfgA m hok).N) :
    iprop((dats m hok 0 c).Φ t.castSucc ∗ (dats m hok 0 c).owesAt () t.castSucc
        ∗ (∃ d, owns (c : Thread nD τ) (bufs m hok t).xs fullShare ((dats m hok 0 c).before (0 : Fin 6) t d))
        ∗ (∃ d, owns (c : Thread nD τ) (bufs m hok t).gu fullShare ((dats m hok 0 c).before (1 : Fin 6) t d))
        ∗ (∃ d, owns (c : Thread nD τ) (bufs m hok t).bgu fullShare ((dats m hok 0 c).before (2 : Fin 6) t d))
        ∗ (∃ d, owns (c : Thread nD τ) (bufs m hok t).dn fullShare ((dats m hok 0 c).before (3 : Fin 6) t d))
        ∗ (∃ d, owns (c : Thread nD τ) (bufs m hok t).bdn fullShare ((dats m hok 0 c).before (4 : Fin 6) t d))
        ∗ (∃ d, owns (c : Thread nD τ) (bufs m hok t).out fullShare ((dats m hok 0 c).before (5 : Fin 6) t d)))
      ⊢ wp frame (wpE (defs₀ (F := F)) Variants.none c none) Set.univ (body ((cfgA m hok).grid.coords t) (bufs m hok t)) fun _ =>
          iprop((dats m hok 0 c).Φ t.succ ∗ (dats m hok 0 c).owesAt () t.succ
            ∗ bigSep Finset.univ fun w : Fin (cfgA m hok).W =>
                match (cfgA m hok).idle w ((cfgA m hok).grid.coords t) with
                | true =>
                  match ((cfgA m hok).win w).flush t with
                  | false => iprop(∃ d, owns (c : Thread nD τ) (((cfgA m hok).win w).stage ((cfgA m hok).slots t w)) fullShare ((dats m hok 0 c).before w t d))
                  | true => owns (c : Thread nD τ) (((cfgA m hok).win w).stage ((cfgA m hok).slots t w)) fullShare ((dats m hok 0 c).after w t)
                | false => owns (c : Thread nD τ) (((cfgA m hok).win w).stage ((cfgA m hok).slots t w)) fullShare ((dats m hok 0 c).after w t)) := by
  rw [bigSep_W0]
  have i5 : (cfgA m hok).idle (5 : Fin 6) ((cfgA m hok).grid.coords t) = false := never_idle _ _
  rewrite [i5]
  simp only [before_xs, before_gu, before_bgu, before_dn, before_bdn]
  rewrite [show (dats m hok 0 c).Φ t.succ = kept m c from rfl, show (dats m hok 0 c).Φ t.castSucc = kept m c from rfl,
    show (dats m hok 0 c).owesAt () t.succ = (dats m hok 0 c).owesAt () t.castSucc from rfl]
  unfold kept
  iintro ⟨⟨HT0, HT1⟩, Ho, ⟨%d0, H0⟩, ⟨%d1, H1⟩, ⟨%d2, H2⟩, ⟨%d3, H3⟩, ⟨%d4, H4⟩, ⟨%d5, H5⟩⟩
  iapply (run c ((cfgA m hok).grid.coords t) (bufs m hok t) (ins m hok c t) (T0 m) (T1 m) _)
  isplitl [H0 H1 H2 H3 H4 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    iexact HT1
  isplitl [H5]; · iexists _; iexact H5
  iintro ⟨⟨H0, H1, H2, H3, H4, HT0, HT1⟩, H5⟩
  isplitl [HT0 HT1]
  · isplitl [HT0]
    · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iexact H5

theorem obligation (c : Dev nD) : BodyObligation (dats m hok 0 c) (defs₀ (F := F)) Variants.none () Set.univ := fun t => by
  rw [bigSep_W0]
  exact sound m hok c t

/-! ## The launch -/

abbrev pcs : Fin 1 → Cfg sig Λ₀ := Pipeline.pin (pcfgs (F := F)) fun _ => adm m hok

/-- The staging cells' share at launch. -/
def u₀ : UR sig nD τ :=
  initOf (Pipeline.cells (pcs m hok) ((launch0 (F := F)).cellOf_inj fun _ => adm m hok))
    (Pipeline.launchToks (pcs m hok) ((launch0 (F := F)).cellOf_inj fun _ => adm m hok))

theorem share_eq (c : Dev nD) (w : Fin (cfgA m hok).W) : (dats m hok 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) :
    iprop(BI.emp ∗ Pipeline.prefHeld pre0 c (fun _ => fullShare.right) (adm m hok).1 ∗ Pipeline.scopedRest spec0 c) ⊢ (dats m hok 0 c).Φ 0 := by
  rw [prefHeld_eq, scopedRest0_eq, show (dats m hok 0 c).Φ 0 = kept m c from rfl]
  unfold kept
  iintro ⟨-, ⟨HT0, HT1⟩, -⟩
  isplitl [HT0]
  · iexact HT0
  iexact HT1

theorem exit (c : Dev nD) : (dats m hok 0 c).Φ (Fin.last (cfgA m hok).N) ⊢ iprop(BI.emp ∗ Pipeline.scopedRest spec0 c) := by
  rw [scopedRest0_eq, show (dats m hok 0 c).Φ (Fin.last (cfgA m hok).N) = kept m c from rfl]
  unfold kept
  iintro ⟨-, -⟩
  isplitr; · iempintro
  iempintro

/-- At the end every array holds what the pipeline computes, and the tables what they held. -/
def Ends : PUnit × MemSt nD τ sig (Elt F) → Prop := fun r =>
  ∀ c : Dev nD, (∀ w : Fin (cfgA m hok).W, r.2.mem (((cfgA m hok).win w).arr.view.loc (c : Thread nD τ)) = (dats m hok 0 c).arrAt w (cfgA m hok).N)
    ∧ ∀ j, r.2.mem ((c : Thread nD τ).loc (pre0.ref j)) = (adm m hok).1 j

theorem tabs_eq (c : Dev nD) (j : Fin 2) : m ((c : Thread nD τ).loc (pre0.ref j)) = tabs m j := by
  obtain rfl : c = (0 : Dev nD) := Subsingleton.elim _ _
  rfl

set_option backward.isDefEq.respectTransparency.types false in
set_option maxHeartbeats 4000000 in
theorem ends : θ_run (defs (F := F)) (onTc (τ := τ) (main (F := F))) ⟨m, fun _ => 0, ρ⟩ (fun r => Ends m hok r ∧ r.2.sem = fun _ => 0) :=
  Pipeline.θ_run_region_noSem_pf_quiescent pcfgs (fun _ => adm m hok) (dats m hok) () ((launch0 (F := F)).cellOf_inj fun _ => adm m hok) (0 : Fin 1)
    (launch0 (F := F)).win.to₀ (launch0 (F := F)).pre emb₁ defs₀ Variants.none m ρ main
    (hbody := fun c => (obligation m hok c).loose) (hne := (launch0 (F := F)).block_pos)
    (harr := (launch0 (F := F)).arr_whole) (hstage := (launch0 (F := F)).stage_whole) (howed := fun _ _ => rfl)
    (u₀ := u₀ m hok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hok) (dats m hok) 0 (launch0 (F := F)).win.arr_inj c (launch0 (F := F)).arr_whole
      (share_eq m hok c) _ _ fun _ => rfl)
    (hpf := tabs_eq m)
    (X := fun _ => iprop(emp)) (Y := fun _ => iprop(emp)) (Z := fun _ => iprop(emp))
    (hX := fun c => by rw [unscopedRestP0_eq]; iintro -; isplitr <;> iempintro)
    (hin := enter m hok)
    (hout := exit m hok)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- Every argument ends as it began. -/
abbrev Unchanged (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

theorem Ends.unchanged {r : PUnit × MemSt nD τ sig (Elt F)} (h : Ends m hok r) (c : Dev nD) : Unchanged m r c :=
  ⟨((h c).2 0).trans (tabs_eq m c 0).symm, ((h c).2 1).trans (tabs_eq m c 1).symm,
    ((h c).1 (0 : Fin 6)).trans ((dats m hok 0 c).arrAt_in (0 : Fin 6) rfl _), ((h c).1 (1 : Fin 6)).trans ((dats m hok 0 c).arrAt_in (1 : Fin 6) rfl _),
    ((h c).1 (2 : Fin 6)).trans ((dats m hok 0 c).arrAt_in (2 : Fin 6) rfl _), ((h c).1 (3 : Fin 6)).trans ((dats m hok 0 c).arrAt_in (3 : Fin 6) rfl _),
    ((h c).1 (4 : Fin 6)).trans ((dats m hok 0 c).arrAt_in (4 : Fin 6) rfl _)⟩

include hok in
/-- The kernel ends, nothing faults, its arguments are unchanged and every counter reads zero. -/
theorem frame : θ_run (defs (F := F)) (onTc (τ := τ) (main (F := F))) ⟨m, fun _ => 0, ρ⟩
    (fun r => (∀ c : Dev nD, Unchanged m r c) ∧ r.2.sem = fun _ => 0) :=
  (θ_run defs _ _).mono (fun _ h => ⟨fun c => h.1.unchanged m hok c, h.2⟩) (ends m ρ hok)

/-- The output array at the end, and the arguments unchanged. -/
theorem result : θ_run (defs (F := F)) (onTc (τ := τ) (main (F := F))) ⟨m, fun _ => 0, ρ⟩
    (fun r => ∀ c : Dev nD, r.2.mem ((c.tc : Thread nD τ).loc main_v0) = (dats m hok 0 c).arrAt (5 : Fin 6) (cfgA m hok).N ∧ Unchanged m r c) :=
  (θ_run defs _ _).mono (fun _ h c => ⟨(h.1 c).1 (5 : Fin 6), h.1.unchanged m hok c⟩) (ends m ρ hok)

end Cert.Exp

end
-- ==== Proof.Exp.Pre.lean ====
/- The precondition of the expert call: every tile's expert is one of the 32, and between 1 and 288 tiles hold tokens; and with it every block lies inside its array. -/
module

public import proofs.«01_k».proof.Defs
public import proofs.«01_k».proof.Proof.Exp.Frame
public import Idealize.ShloMosaic.Lib.ReduceAll

@[expose] public section

set_option maxRecDepth 16384

noncomputable section

namespace Cert.Exp

open Idealize.ShloMosaic Idealize.ShloMosaic.TcCoe
open Idealize.SL.Sem

/-- Tables in range. -/
structure InRange (t0 : Cert.Kernel2Ideal.S288.Idx → BitVec 32) (t1 : Cert.Kernel2Ideal.S1.Idx → BitVec 32) : Prop where
  expert : ∀ x, (t0 x).toNat < 32
  pos : ∀ x, 0 < (t1 x).toNat
  le : ∀ x, (t1 x).toNat ≤ 288

theorem both_one : ∀ a b : BitVec 1, IntOp.andi a b = 1#1 → a = 1#1 ∧ b = 1#1 := by decide

theorem facts_pre : Cert.Pre_scheduled.Facts := by
  constructor
  all_goals decide

/-- A word between two small bounds, as the signed comparisons say it. -/
theorem word_range (w : BitVec 32) (lo hi : ℕ) (hlo : lo < 2 ^ 31) (hhi : hi < 2 ^ 31)
    (h : (BitVec.ofNat 32 lo).sle w = true) (h' : w.sle (BitVec.ofNat 32 hi) = true) : lo ≤ w.toNat ∧ w.toNat ≤ hi := by
  have a := BitVec.toInt_eq_toNat_cond (BitVec.ofNat 32 lo)
  have b := BitVec.toInt_eq_toNat_cond (BitVec.ofNat 32 hi)
  have d := BitVec.toInt_eq_toNat_cond w
  rw [BitVec.sle_iff_toInt_le] at h h'
  rw [BitVec.toNat_ofNat, Nat.mod_eq_of_lt (by omega)] at a b
  rw [if_pos (by omega)] at a b
  split at d <;> omega

section
open Cert.Pre_scheduled
variable {F : FTy → Type} [FloatOps F]

theorem inRange (inst : Cert.Pre_scheduled.Facts) (t0 : IVec S288 32) (t1 : IVec S1 32) (a2 : FVec F S147456x1024 .f32)
    (a3 : FVec F S32x1024x1024 .bf16) (a4 : FVec F S32x1x1024 .f32) (a5 : FVec F S64x512x1024 .f32) (a6 : FVec F S32x1x1024 .f32)
    (h : Cert.Pre_scheduled.fn (F := F) t0 t1 a2 a3 a4 a5 a6 = fun _ => 1#1) : InRange t0 t1 := by
  haveI : Subsingleton S_.Idx := ⟨fun a b => funext fun k => k.elim0⟩
  obtain ⟨p, q⟩ := both_one _ _ (congrFun h (fun k => k.elim0))
  have e0 := fun i => Host.reduce_andi_all _ _ _ _ _ p i
  have e1 := fun i => Host.reduce_andi_all _ _ _ _ _ q i
  have bit : ∀ b : Bool, BitVec.ofBool b = 1#1 → b = true := by decide
  have r0 : ∀ x, 0 ≤ (t0 x).toNat ∧ (t0 x).toNat ≤ 31 := fun x => by
    obtain ⟨u, v⟩ := both_one _ _ (e0 x)
    have v' := bit _ v
    refine word_range (t0 x) 0 31 (by norm_num) (by norm_num) (bit _ u) ?_
    rw [BitVec.sle_iff_toInt_le]
    have : (t0 x).toInt < (32#32).toInt := (BitVec.slt_iff_toInt_lt).1 v'
    have e : (32#32).toInt = 32 := by decide
    have e' : (BitVec.ofNat 32 31).toInt = 31 := by decide
    omega
  have r1 : ∀ x, 1 ≤ (t1 x).toNat ∧ (t1 x).toNat ≤ 288 := fun x => by
    obtain ⟨u, v⟩ := both_one _ _ (e1 x)
    exact word_range (t1 x) 1 288 (by norm_num) (by norm_num) (bit _ u) (bit _ v)
  exact ⟨fun x => Nat.lt_succ_of_le (r0 x).2, fun x => (r1 x).1, fun x => (r1 x).2⟩

end

section
open Cert.Kernel2Ideal Cert.Kernel2Ideal.Gen
variable {F : FTy → Type} [FloatOps F]

/-- The tile whose rows a point reads: its own, or the last that holds tokens. -/
theorem tile_word (j : ℕ) (hj : j < 288) (w : BitVec 32) (h0 : 0 < w.toNat) (h1 : w.toNat ≤ 288) :
    (Scalar.minsi (BitVec.ofNat 32 j) (Scalar.subi w 1#32)).toNat = min j (w.toNat - 1) := by
  have e : (Scalar.subi w 1#32).toNat = w.toNat - 1 := by
    show (w - 1#32).toNat = _
    rw [BitVec.toNat_sub]; simp; omega
  have ej : (BitVec.ofNat 32 j).toNat = j := by rw [BitVec.toNat_ofNat]; omega
  have i1 := BitVec.toInt_eq_toNat_cond (Scalar.subi w 1#32)
  have i2 := BitVec.toInt_eq_toNat_cond (BitVec.ofNat 32 j)
  rw [e, if_pos (by omega)] at i1
  rw [ej, if_pos (by omega)] at i2
  show (IntOp.minsi _ _).toNat = _
  unfold IntOp.minsi
  split
  · rename_i h
    rw [BitVec.slt_iff_toInt_lt] at h
    omega
  · rename_i h
    rw [BitVec.slt_iff_toInt_lt] at h
    omega

/-- A tile's place in the table of experts. -/
abbrev tile (i : grid0.Coords) : S288.Idx := fun a => match a with | ⟨0, _⟩ => ⟨(i 0).val, (i 0).isLt⟩

/-- The one place of the table of counts. -/
abbrev only : S1.Idx := fun a => match a with | ⟨0, _⟩ => ⟨0, Nat.one_pos⟩

theorem at_expert (pf : pre0.Contents (Elt F)) (i : grid0.Coords) (inb) :
    pf.at 0 (Rect.unit (s := S288) ![(Scalar.indexCast (BitVec.ofNat 32 (i 0).val) : Index).toNat] S1.size inb) numel1_S1 = pf 0 (tile i) := by
  refine congrArg (pf 0) (funext fun a => Fin.ext ?_)
  match a with
  | ⟨0, _⟩ =>
    show (BitVec.ofNat 32 (i 0).val).toNat + 1 * _ = (i 0).val
    have h : (i 0).val < 288 := (i 0).isLt
    have h' : ((Shape.Idx.first (s := S1) (numel1_S1.symm ▸ Nat.one_pos)) 0).val < 1 := ((Shape.Idx.first (s := S1) (numel1_S1.symm ▸ Nat.one_pos)) 0).isLt
    rw [BitVec.toNat_ofNat, Nat.mod_eq_of_lt (by omega)]
    show (i 0).val + 1 * ((Shape.Idx.first (s := S1) (numel1_S1.symm ▸ Nat.one_pos)) 0).val = _
    omega

theorem at_tiles (pf : pre0.Contents (Elt F)) : pf.at 1 (Rect.unit (s := S1) ![0] S1.size inb_S1_S1_0) numel1_S1 = pf 1 only := by
  refine congrArg (pf 1) (funext fun a => Fin.ext ?_)
  match a with
  | ⟨0, _⟩ =>
    show 0 + 1 * ((Shape.Idx.first (s := S1) (numel1_S1.symm ▸ Nat.one_pos)) 0).val = 0
    have h' : ((Shape.Idx.first (s := S1) (numel1_S1.symm ▸ Nat.one_pos)) 0).val < 1 := ((Shape.Idx.first (s := S1) (numel1_S1.symm ▸ Nat.one_pos)) 0).isLt
    omega

/-- The blocks the windows name, by the tables. -/
theorem index_xs (pf : pre0.Contents (Elt F)) (h : InRange (pf 0) (pf 1)) (i : grid0.Coords) :
    cc0_transform_0 inb_S1_S1_0 numel1_S1 pf i = ![min (i 0).val ((pf 1 only : BitVec 32).toNat - 1), 0] := by
  unfold cc0_transform_0
  refine (congrArg (fun w : BitVec 32 => (![(Scalar.minsi (BitVec.ofNat 32 (i 0).val) (Scalar.subi w 1#32)).toNat, 0] : Fin 2 → ℕ)) (at_tiles pf)).trans ?_
  exact congrArg (fun n : ℕ => (![n, 0] : Fin 2 → ℕ)) (tile_word _ (i 0).isLt _ (h.pos _) (h.le _))

theorem index_gu (pf : pre0.Contents (Elt F)) (i : grid0.Coords) :
    cc0_transform_1 k0_off1_inb numel1_S1 pf i = ![(pf 0 (tile i) : BitVec 32).toNat, 0, 0] := by
  unfold cc0_transform_1
  exact congrArg (fun w : BitVec 32 => (![w.toNat, 0, 0] : Fin 3 → ℕ)) (at_expert pf i _)

theorem index_bgu (pf : pre0.Contents (Elt F)) (i : grid0.Coords) :
    cc0_transform_2 k0_off1_inb numel1_S1 pf i = ![(pf 0 (tile i) : BitVec 32).toNat, 0, 0] := index_gu pf i

theorem index_dn (pf : pre0.Contents (Elt F)) (i : grid0.Coords) :
    cc0_transform_3 k0_off1_inb numel1_S1 pf i = ![(pf 0 (tile i) : BitVec 32).toNat, 0, 0] := by
  unfold cc0_transform_3
  refine Eq.trans ?_ (congrArg (fun w : BitVec 32 => (![w.toNat, 0, 0] : Fin 3 → ℕ)) (at_expert pf i (k0_off1_inb i)))
  exact congrArg (fun w : BitVec 32 => (![w.toNat, 0, 0] : Fin 3 → ℕ)) (BitVec.zero_add _)

theorem index_bdn (pf : pre0.Contents (Elt F)) (i : grid0.Coords) :
    cc0_transform_4 k0_off1_inb numel1_S1 pf i = ![(pf 0 (tile i) : BitVec 32).toNat, 0, 0] := index_gu pf i

/-- The blocks of tables in range lie inside their arrays. -/
theorem ok_of_range (pf : pre0.Contents (Elt F)) (h : InRange (pf 0) (pf 1)) : ok0 pf := by
  refine ⟨fun i => ⟨fun a => ?_, .inl rfl⟩, fun i => ⟨fun a => ?_, .inr (Affine.block_words_dvd (s := S32x1024x1024) (p := EltTy.packing .bf16) (by decide) (by decide))⟩,
    fun i => ⟨fun a => ?_, .inl rfl⟩, fun i => ⟨fun a => ?_, .inl rfl⟩, fun i => ⟨fun a => ?_, .inl rfl⟩⟩
  · rw [index_xs pf h]
    have : (i 0).val < 288 := (i 0).isLt
    match a with
    | ⟨0, _⟩ => show (min (i 0).val _ + 1) * 512 ≤ 147456; omega
    | ⟨1, _⟩ => show (0 + 1) * 1024 ≤ 1024; omega
  · rw [index_gu]
    have := h.expert (tile i)
    match a with
    | ⟨0, _⟩ => show ((pf 0 (tile i) : BitVec 32).toNat + 1) * 1 ≤ 32; omega
    | ⟨1, _⟩ => show (0 + 1) * 1024 ≤ 1024; omega
    | ⟨2, _⟩ => show (0 + 1) * 1024 ≤ 1024; omega
  · rw [index_bgu]
    have := h.expert (tile i)
    match a with
    | ⟨0, _⟩ => show ((pf 0 (tile i) : BitVec 32).toNat + 1) * 1 ≤ 32; omega
    | ⟨1, _⟩ => show (0 + 1) * 1 ≤ 1; omega
    | ⟨2, _⟩ => show (0 + 1) * 1024 ≤ 1024; omega
  · rw [index_dn]
    have := h.expert (tile i)
    match a with
    | ⟨0, _⟩ => show ((pf 0 (tile i) : BitVec 32).toNat + 1) * 1 ≤ 64; omega
    | ⟨1, _⟩ => show (0 + 1) * 512 ≤ 512; omega
    | ⟨2, _⟩ => show (0 + 1) * 1024 ≤ 1024; omega
  · rw [index_bdn]
    have := h.expert (tile i)
    match a with
    | ⟨0, _⟩ => show ((pf 0 (tile i) : BitVec 32).toNat + 1) * 1 ≤ 32; omega
    | ⟨1, _⟩ => show (0 + 1) * 1 ≤ 1; omega
    | ⟨2, _⟩ => show (0 + 1) * 1024 ≤ 1024; omega

end

end Cert.Exp

end
-- ==== Proof.Exp.Bits.lean ====
/- The expert kernel's frames, as it is and at the ideal instance. -/
module

public import proofs.«01_k».proof.Defs
public import proofs.«01_k».proof.Proof.Gen.Kernel2
public import proofs.«01_k».proof.Proof.Exp.Pre

@[expose] public section

set_option maxRecDepth 16384

noncomputable section

namespace Cert.Exp

open Idealize.ShloMosaic Idealize.ShloMosaic.TcCoe
open Idealize.SL.Sem

/-- The precondition puts the tables in range. -/
theorem range_ideal (m : (ℓ : Loc Cert.Kernel2Ideal.nD Cert.Kernel2Ideal.τ Cert.Kernel2Ideal.sig) → Buf (Elt Ideal) ℓ)
    (h : Cert.Pre_Kernel2Ideal (hPre_scheduled := facts_pre) m) : InRange (T0 m) (T1 m) := inRange facts_pre _ _ _ _ _ _ _ (h 0)

theorem range_bits (m : (ℓ : Loc Cert.Kernel2Ideal.nD Cert.Kernel2Ideal.τ Cert.Kernel2Ideal.sig) → Buf (Elt Bits) ℓ)
    (h : Cert.Pre_Kernel2 (hPre_scheduled := facts_pre) m) : InRange (T0 m) (T1 m) := inRange facts_pre _ _ _ _ _ _ _ (h 0)

theorem frame_ideal : Cert.quiescent_Kernel2Ideal (hKernel2Ideal := Cert.Kernel2Ideal.Gen.facts) (hPre_scheduled := facts_pre) := fun m ρ h =>
  (θ_run (Cert.Kernel2Ideal.defs (F := Ideal)) _ _).mono (fun _ r => r) (frame (F := Ideal) m ρ (ok_of_range _ (range_ideal m h)))

/-- The two programs, the kernel and its idealization, are one: no operation was rewritten. -/
theorem bodies_eq : Cert.Kernel2.defs₀ (F := Bits) = Cert.Kernel2Ideal.defs₀ (F := Bits) := by
  unfold Cert.Kernel2.defs₀ Cert.Kernel2Ideal.defs₀
  refine congrArg Defs.onTc ?_
  funext l x
  match l, x with
  | 0, (t, s) => rfl

theorem defs_eq : Cert.Kernel2.defs (F := Bits) = Cert.Kernel2Ideal.defs (F := Bits) := by
  unfold Cert.Kernel2.defs Cert.Kernel2Ideal.defs
  exact congrArg (Pipeline.defs Cert.Kernel2Ideal.pcfgs) bodies_eq

theorem main_eq : Cert.Kernel2.main (F := Bits) = Cert.Kernel2Ideal.main (F := Bits) := rfl

theorem frame_bits : Cert.quiescent_Kernel2 (hKernel2 := Cert.Kernel2.Gen.facts) (hPre_scheduled := facts_pre) := fun m ρ h => by
  rw [defs_eq, main_eq]
  exact frame (F := Bits) m ρ (ok_of_range _ (range_bits m h))

end Cert.Exp

end
-- ==== Proof.Exp.Mlp.lean ====
/- One tile of the expert kernel, entry by entry: a clamped gated feed-forward network of the tile's rows. -/
module

public import proofs.«01_k».proof.Proof.Exp.Run
public import Idealize.ShloMosaic.Lib.Pipeline.ValueKit.Geometry
public import Idealize.ShloMosaic.PureOps.Ideal
public import Idealize.ShloMosaic.Lib.Pointwise
public import Idealize.ShloMosaic.Lib.UnfoldOut

@[expose] public section

set_option maxRecDepth 16384

noncomputable section

namespace Cert.Exp

open Cert.Kernel2Ideal Cert.Kernel2Ideal.Gen
open Idealize.ShloMosaic Idealize.ShloMosaic.TcCoe

/-- The gated activation: both halves clamped, the gate's sigmoid at 1.702 times it. -/
def act (g l : EReal) : EReal :=
  min g (Ideal.ofBits .f32 0x40E00000#32)
    * Ideal.div 1 (1 + Ideal.exp (0 - Ideal.ofBits .f32 0x3FD9DB23#32 * min g (Ideal.ofBits .f32 0x40E00000#32)))
    * (min (Ideal.ofBits .f32 0x40E00000#32) (max (Ideal.ofBits .f32 0xC0E00000#32) l) + 1)

/-- The hidden layer at feature `f`. -/
def hidden (x : Fin 1024 → EReal) (gu : Fin 1024 → Fin 1024 → EReal) (bgu : Fin 1024 → EReal) (f : Fin 1024) : EReal :=
  ∑ k, x k * gu k f + bgu f

/-- An expert's network on one row. -/
def net (x : Fin 1024 → EReal) (gu : Fin 1024 → Fin 1024 → EReal) (bgu : Fin 1024 → EReal) (dn : Fin 512 → Fin 1024 → EReal)
    (bdn : Fin 1024 → EReal) (l : Fin 1024) : EReal :=
  ∑ f : Fin 512, act (hidden x gu bgu ⟨f, by omega⟩) (hidden x gu bgu ⟨512 + f, by omega⟩) * dn f l + bdn l

theorem tokens_eq (x : Ins Ideal) (r : Fin 512) (l : Fin 1024) : (tokens x (ix2 r l) : EReal)
    = net (fun k => x.xs (ix2 r k)) (fun k f => x.gu (ix3 0 k f)) (fun f => x.bgu (ix3 0 0 f)) (fun f l => x.dn (ix3 0 f l))
        (fun l => x.bdn (ix3 0 0 l)) l := by
  unfold tokens
  unfold_payloads
  pointwise
  rfl

theorem zeros_eq (r : Fin 512) (l : Fin 1024) : (k0_pay2 (F := Ideal) (ix2 r l) : EReal) = 0 := by
  unfold k0_pay2
  pointwise

end Cert.Exp

end
-- ==== Proof.Exp.Value.lean ====
/- The expert kernel's result array: every row of a tile that holds tokens through its tile's expert, every other row zero. -/
module

public import proofs.«01_k».proof.Proof.Exp.Pre
public import proofs.«01_k».proof.Proof.Exp.Mlp

@[expose] public section

set_option maxRecDepth 16384

noncomputable section

namespace Cert.Exp

open Cert.Kernel2Ideal Cert.Kernel2Ideal.Gen
open Idealize.ShloMosaic Idealize.ShloMosaic.TcCoe Idealize.SL.Sem

/-- The expert of tile `j`. -/
def expertOf (t0 : S288.Idx → BitVec 32) (j : Fin 288) : Fin 32 := ⟨(t0 (ix1 j)).toNat % 32, Nat.mod_lt _ (by norm_num)⟩

/-- The result at row `R`, column `C`. -/
def moe (t0 : S288.Idx → BitVec 32) (t1 : S1.Idx → BitVec 32) (xs : S147456x1024.Idx → EReal) (gu : S32x1024x1024.Idx → EReal)
    (bgu : S32x1x1024.Idx → EReal) (dn : S64x512x1024.Idx → EReal) (bdn : S32x1x1024.Idx → EReal) (R : Fin 147456) (C : Fin 1024) : EReal :=
  if (R : ℕ) / 512 < (t1 only).toNat then
    net (fun k => xs (ix2 R k)) (fun k f => gu (ix3 (expertOf t0 ⟨R / 512, by omega⟩) k f)) (fun f => bgu (ix3 (expertOf t0 ⟨R / 512, by omega⟩) 0 f))
      (fun f l => dn (ix3 ⟨expertOf t0 ⟨R / 512, by omega⟩, by omega⟩ f l)) (fun l => bdn (ix3 (expertOf t0 ⟨R / 512, by omega⟩) 0 l)) C
  else 0

/-- A closed choice of tables, all experts the first and one tile. -/
def tabs1 : pre0.Contents (Elt Ideal) := fun j => match j with
  | ⟨0, _⟩ => fun _ => (0#32 : BitVec 32)
  | ⟨1, _⟩ => fun _ => (1#32 : BitVec 32)

theorem ok1 : ok0 (F := Ideal) tabs1 := ok_of_range _
  ⟨fun x => show (0#32 : BitVec 32).toNat < 32 by decide, fun x => show 0 < (1#32 : BitVec 32).toNat by decide, fun x => show (1#32 : BitVec 32).toNat ≤ 288 by decide⟩

theorem covers1 : ((cfg0 (F := Ideal) ⟨tabs1, ok1⟩).win (5 : Fin 6)).Covers := by decide +kernel

variable (m : (ℓ : Loc nD τ sig) → Buf (Elt Ideal) ℓ) (hok : ok0 (F := Ideal) (tabs m))

theorem covers : ((cfgA m hok).win (5 : Fin 6)).Covers := covers1

theorem coord_lt (t : Fin (cfgA m hok).N) : ((cfgA m hok).grid.coords t 0).val < 288 := ((cfgA m hok).grid.coords t 0).isLt

/-- The branch the body takes at tile `j`. -/
theorem cond_iff (j : ℕ) (hj : j < 288) (w : BitVec 32) (h : w.toNat ≤ 288) :
    Scalar.cmpi .ne (Scalar.extui (Scalar.cmpi .slt (BitVec.ofNat 32 j) w)) (0#32) = 1#1 ↔ j < w.toNat := by
  have i1 := BitVec.toInt_eq_toNat_cond w
  have i2 := BitVec.toInt_eq_toNat_cond (BitVec.ofNat 32 j)
  have ej : (BitVec.ofNat 32 j).toNat = j := by rw [BitVec.toNat_ofNat]; omega
  rw [if_pos (by omega)] at i1
  rw [ej, if_pos (by omega)] at i2
  have key : (BitVec.ofNat 32 j).slt w = true ↔ j < w.toNat := by
    rw [BitVec.slt_iff_toInt_lt, i1, i2]; omega
  have bit : ∀ b : Bool, Scalar.cmpi .ne (Scalar.extui (BitVec.ofBool b) : BitVec 32) (0#32) = 1#1 ↔ b = true := by decide
  exact (bit _).trans key

/-- The word of the table of counts, as the body reads it. -/
theorem tiles_eq (t1 : S1.Idx → BitVec 32) : tiles (F := Ideal) t1 = t1 only := by
  refine congrArg t1 (funext fun a => Fin.ext ?_)
  match a with
  | ⟨0, _⟩ =>
    show 0 + 1 * ((Shape.Idx.first (s := S1) (numel1_S1.symm ▸ Nat.one_pos)) 0).val = 0
    have h' : ((Shape.Idx.first (s := S1) (numel1_S1.symm ▸ Nat.one_pos)) 0).val < 1 := ((Shape.Idx.first (s := S1) (numel1_S1.symm ▸ Nat.one_pos)) 0).isLt
    omega

theorem expert_eq (h : InRange (T0 m) (T1 m)) (i : grid0.Coords) (J : Fin 288) (hJ : (J : ℕ) = (i 0).val) :
    (T0 m (tile i)).toNat = expertOf (T0 m) J := by
  have e : tile i = ix1 J := funext fun a => match a with | ⟨0, _⟩ => Fin.ext hJ.symm
  rw [e]
  exact (Nat.mod_eq_of_lt (h.expert _)).symm

section
variable (h : InRange (T0 m) (T1 m)) (c : Dev nD) (t : Fin (cfgA m hok).N)
include h

/-- The rows of a tile that holds tokens are the tile's own. -/
theorem xs_at (ht : ((cfgA m hok).grid.coords t 0).val < (T1 m only).toNat) (r : Fin 512) (k : Fin 1024) (R : Fin 147456)
    (hR : (R : ℕ) = ((cfgA m hok).grid.coords t 0).val * 512 + r) :
    ((ins m hok c t).xs (ix2 r k) : EReal) = m ((c : Thread nD τ).loc main_arg2) (ix2 R k) := by
  refine congrArg (m ((c : Thread nD τ).loc main_arg2)) (funext fun a => Fin.ext ?_)
  have e : ((cfgA m hok).win (0 : Fin 6)).index t = _ := index_xs (tabs m) h ((cfgA m hok).grid.coords t)
  match a with
  | ⟨0, _⟩ =>
    refine (Pipeline.Window.rect_emb_val ((cfgA m hok).win (0 : Fin 6)) t (ix2 r k) (0 : Fin 2) rfl).trans ?_
    rw [e]
    show min ((cfgA m hok).grid.coords t 0).val ((T1 m only).toNat - 1) * 512 + r.val = R.val
    omega
  | ⟨1, _⟩ =>
    refine (Pipeline.Window.rect_emb_val ((cfgA m hok).win (0 : Fin 6)) t (ix2 r k) (1 : Fin 2) rfl).trans ?_
    rw [e]
    show 0 * 1024 + k.val = k.val
    omega

variable (J : Fin 288) (hJ : (J : ℕ) = ((cfgA m hok).grid.coords t 0).val)
include hJ

theorem gu_at (k f : Fin 1024) :
    ((ins m hok c t).gu (ix3 0 k f) : EReal) = m ((c : Thread nD τ).loc main_arg3) (ix3 (expertOf (T0 m) J) k f) := by
  refine congrArg (m ((c : Thread nD τ).loc main_arg3)) (funext fun a => Fin.ext ?_)
  have e : ((cfgA m hok).win (1 : Fin 6)).index t = _ := index_gu (tabs m) ((cfgA m hok).grid.coords t)
  have q := expert_eq m h ((cfgA m hok).grid.coords t) J hJ
  match a with
  | ⟨0, _⟩ =>
    refine (Pipeline.Window.rect_emb_val ((cfgA m hok).win (1 : Fin 6)) t (ix3 0 k f) (0 : Fin 3) rfl).trans ?_
    rw [e]
    show (T0 m (tile _)).toNat * 1 + 0 = (expertOf (T0 m) J).val
    omega
  | ⟨1, _⟩ =>
    refine (Pipeline.Window.rect_emb_val ((cfgA m hok).win (1 : Fin 6)) t (ix3 0 k f) (1 : Fin 3) rfl).trans ?_
    rw [e]
    show 0 * 1024 + k.val = k.val
    omega
  | ⟨2, _⟩ =>
    refine (Pipeline.Window.rect_emb_val ((cfgA m hok).win (1 : Fin 6)) t (ix3 0 k f) (2 : Fin 3) rfl).trans ?_
    rw [e]
    show 0 * 1024 + f.val = f.val
    omega

theorem bgu_at (f : Fin 1024) :
    ((ins m hok c t).bgu (ix3 0 0 f) : EReal) = m ((c : Thread nD τ).loc main_arg4) (ix3 (expertOf (T0 m) J) 0 f) := by
  refine congrArg (m ((c : Thread nD τ).loc main_arg4)) (funext fun a => Fin.ext ?_)
  have e : ((cfgA m hok).win (2 : Fin 6)).index t = _ := index_bgu (tabs m) ((cfgA m hok).grid.coords t)
  have q := expert_eq m h ((cfgA m hok).grid.coords t) J hJ
  match a with
  | ⟨0, _⟩ =>
    refine (Pipeline.Window.rect_emb_val ((cfgA m hok).win (2 : Fin 6)) t (ix3 0 0 f) (0 : Fin 3) rfl).trans ?_
    rw [e]
    show (T0 m (tile _)).toNat * 1 + 0 = (expertOf (T0 m) J).val
    omega
  | ⟨1, _⟩ =>
    refine (Pipeline.Window.rect_emb_val ((cfgA m hok).win (2 : Fin 6)) t (ix3 0 0 f) (1 : Fin 3) rfl).trans ?_
    rw [e]
    rfl
  | ⟨2, _⟩ =>
    refine (Pipeline.Window.rect_emb_val ((cfgA m hok).win (2 : Fin 6)) t (ix3 0 0 f) (2 : Fin 3) rfl).trans ?_
    rw [e]
    show 0 * 1024 + f.val = f.val
    omega

theorem dn_at (f : Fin 512) (l : Fin 1024) :
    ((ins m hok c t).dn (ix3 0 f l) : EReal) = m ((c : Thread nD τ).loc main_arg5) (ix3 ⟨expertOf (T0 m) J, by omega⟩ f l) := by
  refine congrArg (m ((c : Thread nD τ).loc main_arg5)) (funext fun a => Fin.ext ?_)
  have e : ((cfgA m hok).win (3 : Fin 6)).index t = _ := index_dn (tabs m) ((cfgA m hok).grid.coords t)
  have q := expert_eq m h ((cfgA m hok).grid.coords t) J hJ
  match a with
  | ⟨0, _⟩ =>
    refine (Pipeline.Window.rect_emb_val ((cfgA m hok).win (3 : Fin 6)) t (ix3 0 f l) (0 : Fin 3) rfl).trans ?_
    rw [e]
    show (T0 m (tile _)).toNat * 1 + 0 = (expertOf (T0 m) J).val
    omega
  | ⟨1, _⟩ =>
    refine (Pipeline.Window.rect_emb_val ((cfgA m hok).win (3 : Fin 6)) t (ix3 0 f l) (1 : Fin 3) rfl).trans ?_
    rw [e]
    show 0 * 512 + f.val = f.val
    omega
  | ⟨2, _⟩ =>
    refine (Pipeline.Window.rect_emb_val ((cfgA m hok).win (3 : Fin 6)) t (ix3 0 f l) (2 : Fin 3) rfl).trans ?_
    rw [e]
    show 0 * 1024 + l.val = l.val
    omega

theorem bdn_at (f : Fin 1024) :
    ((ins m hok c t).bdn (ix3 0 0 f) : EReal) = m ((c : Thread nD τ).loc main_arg6) (ix3 (expertOf (T0 m) J) 0 f) := by
  refine congrArg (m ((c : Thread nD τ).loc main_arg6)) (funext fun a => Fin.ext ?_)
  have e : ((cfgA m hok).win (4 : Fin 6)).index t = _ := index_bdn (tabs m) ((cfgA m hok).grid.coords t)
  have q := expert_eq m h ((cfgA m hok).grid.coords t) J hJ
  match a with
  | ⟨0, _⟩ =>
    refine (Pipeline.Window.rect_emb_val ((cfgA m hok).win (4 : Fin 6)) t (ix3 0 0 f) (0 : Fin 3) rfl).trans ?_
    rw [e]
    show (T0 m (tile _)).toNat * 1 + 0 = (expertOf (T0 m) J).val
    omega
  | ⟨1, _⟩ =>
    refine (Pipeline.Window.rect_emb_val ((cfgA m hok).win (4 : Fin 6)) t (ix3 0 0 f) (1 : Fin 3) rfl).trans ?_
    rw [e]
    rfl
  | ⟨2, _⟩ =>
    refine (Pipeline.Window.rect_emb_val ((cfgA m hok).win (4 : Fin 6)) t (ix3 0 0 f) (2 : Fin 3) rfl).trans ?_
    rw [e]
    show 0 * 1024 + f.val = f.val
    omega

end

/-- What a point leaves in the output block. -/
theorem left_at (h : InRange (T0 m) (T1 m)) (c : Dev nD) (t : Fin (cfgA m hok).N) (r : Fin 512) (l : Fin 1024) (R : Fin 147456) (C : Fin 1024)
    (hR : (R : ℕ) = ((cfgA m hok).grid.coords t 0).val * 512 + r) (hC : C = l) :
    (left m hok c t (ix2 r l) : EReal) = moe (T0 m) (T1 m) (m ((c : Thread nD τ).loc main_arg2)) (m ((c : Thread nD τ).loc main_arg3))
      (m ((c : Thread nD τ).loc main_arg4)) (m ((c : Thread nD τ).loc main_arg5)) (m ((c : Thread nD τ).loc main_arg6)) R C := by
  subst hC
  have hJ : (⟨R / 512, by omega⟩ : Fin 288).val = ((cfgA m hok).grid.coords t 0).val := by show (R : ℕ) / 512 = _; omega
  have hc : k0_cond1 ((cfgA m hok).grid.coords t) (T1 m only) = 1#1 ↔ ((cfgA m hok).grid.coords t 0).val < (T1 m only).toNat :=
    cond_iff _ (coord_lt m hok t) (T1 m only) (h.le _)
  unfold left stored moe
  rw [tiles_eq]
  by_cases q : ((cfgA m hok).grid.coords t 0).val < (T1 m only).toNat
  · rw [if_pos (hc.2 q), if_pos (by rw [← hJ] at q; exact q)]
    refine (tokens_eq _ r C).trans ?_
    rw [funext fun k => xs_at m hok h c t q r k R hR, funext fun k => funext fun f => gu_at m hok h c t _ hJ k f,
      funext fun f => bgu_at m hok h c t _ hJ f, funext fun f => funext fun l => dn_at m hok h c t _ hJ f l, funext fun f => bdn_at m hok h c t _ hJ f]
  · rw [if_neg (fun w => q (hc.1 w)), if_neg (by rw [← hJ] at q; exact q)]
    exact zeros_eq r C

/-- The result array. -/
theorem final (h : InRange (T0 m) (T1 m)) (c : Dev nD) : (dats m hok 0 c).arrAt (5 : Fin 6) (cfgA m hok).N
    = fun i : S147456x1024.Idx => moe (T0 m) (T1 m) (m ((c : Thread nD τ).loc main_arg2)) (m ((c : Thread nD τ).loc main_arg3))
      (m ((c : Thread nD τ).loc main_arg4)) (m ((c : Thread nD τ).loc main_arg5)) (m ((c : Thread nD τ).loc main_arg6)) (i 0) (i 1) := by
  refine (dats m hok 0 c).arrAt_eq_of_covers (5 : Fin 6) _ (covers m hok) (fun t hf y => ?_) (Memref.isWhole_whole _)
  obtain ⟨r, l, rfl⟩ : ∃ (r : Fin 512) (l : Fin 1024), y = ix2 r l := ⟨y 0, y 1, by funext a; match a with | ⟨0, _⟩ => rfl | ⟨1, _⟩ => rfl⟩
  refine left_at m hok h c t r l _ _ ?_ ?_
  · refine (Pipeline.Window.rect_emb_val ((cfgA m hok).win (5 : Fin 6)) t (ix2 r l) (0 : Fin 2) rfl).trans ?_
    have := coord_lt m hok t
    show (BitVec.ofNat 32 ((cfgA m hok).grid.coords t 0).val).toNat * 512 + r.val = _
    rw [BitVec.toNat_ofNat, Nat.mod_eq_of_lt (by omega)]
  · refine Fin.ext ((Pipeline.Window.rect_emb_val ((cfgA m hok).win (5 : Fin 6)) t (ix2 r l) (1 : Fin 2) rfl).trans ?_)
    show 0 * 1024 + l.val = l.val
    omega

end Cert.Exp

end
-- ==== Proof.Exp.Ref.lean ====
/- The reference's result, entry by entry, is the same: the sum over the experts keeps the tile's own. -/
module

public import proofs.«01_k».proof.Proof.Exp.Value
public import proofs.«01_k».proof.Proof.Gen.Reference2Ideal.Read
public import Idealize.ShloMosaic.Lib.IdealHost

@[expose] public section

set_option maxRecDepth 16384

noncomputable section

namespace Cert.Exp

open Cert.Reference2Ideal Cert.Reference2Ideal.Gen Cert.Reference2Ideal.Read Idealize.ShloMosaic

/-- A word's sign. -/
def sg (w : BitVec 32) : BitVec 32 := if w = 0 then 0 else if w.msb then -1 else 1

/-- The floor of `w / 512` in the reference's words. -/
def fw (w : BitVec 32) : BitVec 32 :=
  Scalar.select
    (IntOp.andi (IntOp.cmpi .ne (sg w) (sg 512#32)) (IntOp.cmpi .ne (IntOp.remsi .host w 512#32) 0#32))
    (IntOp.subi (IntOp.divsi .host w 512#32) 1#32) (IntOp.divsi .host w 512#32)

theorem fw_nat (n : ℕ) (hn : n < 147456) : fw (BitVec.ofNat 32 n) = BitVec.ofNat 32 (n / 512) := by
  have en : (BitVec.ofNat 32 n).toNat = n := by rw [BitVec.toNat_ofNat]; omega
  have hm : (BitVec.ofNat 32 n).msb = false := by
    rw [BitVec.msb_eq_false_iff_two_mul_lt, en]; omega
  have hd : IntOp.divsi .host (BitVec.ofNat 32 n) 512#32 = BitVec.ofNat 32 (n / 512) := by
    have nc : ¬ IntOp.SDivCorner (BitVec.ofNat 32 n) 512#32 := by
      rintro (h | ⟨-, h⟩)
      · exact absurd h (by decide)
      · exact absurd h (by decide)
    unfold IntOp.divsi
    rw [if_neg nc, BitVec.sdiv_eq, hm, show (512#32 : BitVec 32).msb = false from rfl]
    apply BitVec.eq_of_toNat_eq
    show (BitVec.ofNat 32 n / 512#32).toNat = _
    rw [BitVec.toNat_udiv, en, BitVec.toNat_ofNat, BitVec.toNat_ofNat, show 512 % 2 ^ 32 = 512 from rfl]
    omega
  unfold fw
  rw [hd]
  by_cases h0 : n = 0
  · subst h0; decide
  · have hs : sg (BitVec.ofNat 32 n) = 1 := by
      unfold sg
      rw [if_neg (fun h => h0 (by rw [← en, h]; rfl)), hm]
      rfl
    rw [hs]
    have z : IntOp.cmpi .ne (1 : BitVec 32) (sg 512#32) = 0#1 := by decide
    rw [z]
    have a0 : ∀ b : BitVec 1, IntOp.andi 0#1 b = 0#1 := by decide
    rw [a0]
    rfl

theorem group (i : S147456.Idx) : val_main_v1 (F := Ideal) i = BitVec.ofNat 32 ((i 0).val / 512) :=
  Eq.trans (show val_main_v1 (F := Ideal) i = fw (BitVec.ofNat 32 (i 0).val) from rfl) (fw_nat _ (i 0).isLt)

variable (x0 : S288.Idx → BitVec 32) (x1 : S1.Idx → BitVec 32) (x2 : S147456x1024.Idx → EReal) (x3 : S32x1024x1024.Idx → EReal)
  (x4 : S32x1x1024.Idx → EReal) (x5 : S64x512x1024.Idx → EReal) (x6 : S32x1x1024.Idx → EReal)

theorem one_bits : (Ideal.ofBits FTy.f32 0x3F800000#32 : EReal) = 1 := by simp

/-- The hidden layer. -/
theorem ref_hidden (e : Fin 32) (R : Fin 147456) (f : Fin 1024) : (val_main_v15 (F := Ideal) x2 x3 x4 (ix3 e R f) : EReal)
    = hidden (fun k => x2 (ix2 R k)) (fun k f => x3 (ix3 e k f)) (fun f => x4 (ix3 e 0 f)) f := by
  rw [val_main_v15_apply, val_main_v13_apply, val_main_v12_apply, val_main_v14_apply]
  refine congrArg₂ (fun a b : EReal => a + b) (Finset.sum_congr rfl fun k _ => ?_) ?_
  · rw [mul_comm]
    refine congrArg₂ (fun a b : EReal => a * b) (congrArg x2 ?_) (congrArg x3 ?_)
    · funext a; match a with | ⟨0, _⟩ => rfl | ⟨1, _⟩ => rfl
    · funext a; match a with | ⟨0, _⟩ => rfl | ⟨1, _⟩ => rfl | ⟨2, _⟩ => rfl
  · refine congrArg x4 ?_
    funext a; match a with | ⟨0, _⟩ => rfl | ⟨1, _⟩ => rfl | ⟨2, _⟩ => rfl

/-- The activation. -/
theorem ref_act (e : Fin 32) (R : Fin 147456) (f : Fin 512) : (val_main_v32 (F := Ideal) x2 x3 x4 (ix3 e R f) : EReal)
    = act (val_main_v15 (F := Ideal) x2 x3 x4 (ix3 e R (⟨f, by omega⟩ : Fin 1024))) (val_main_v15 (F := Ideal) x2 x3 x4 (ix3 e R (⟨512 + f, by omega⟩ : Fin 1024))) := by
  have e16 : val_main_v16 (F := Ideal) x2 x3 x4 (ix3 e R f) = val_main_v15 (F := Ideal) x2 x3 x4 (ix3 e R (⟨f, by omega⟩ : Fin 1024)) := by
    rw [val_main_v16_apply]
    refine congrArg (val_main_v15 (F := Ideal) x2 x3 x4) ?_
    funext a; match a with | ⟨0, _⟩ => rfl | ⟨1, _⟩ => rfl | ⟨2, _⟩ => rfl
  have e19 : val_main_v19 (F := Ideal) x2 x3 x4 (ix3 e R f) = val_main_v15 (F := Ideal) x2 x3 x4 (ix3 e R (⟨512 + f, by omega⟩ : Fin 1024)) := by
    rw [val_main_v19_apply]
    refine congrArg (val_main_v15 (F := Ideal) x2 x3 x4) ?_
    funext a; match a with | ⟨0, _⟩ => rfl | ⟨1, _⟩ => rfl | ⟨2, _⟩ => rfl
  have e18 : val_main_v18 (F := Ideal) x2 x3 x4 (ix3 e R f)
      = min (val_main_v15 (F := Ideal) x2 x3 x4 (ix3 e R (⟨f, by omega⟩ : Fin 1024)) : EReal) (Ideal.ofBits .f32 0x40E00000#32) := by
    rw [val_main_v18_apply, e16, val_main_v17_apply, val_main_cst_apply]; rfl
  rw [val_main_v32_apply, val_main_v31_apply, val_main_v30_apply, val_main_cst_5_apply, val_main_v29_apply, val_main_v28_apply,
    val_main_v27_apply, val_main_cst_4_apply, val_main_v26_apply, val_main_v25_apply, val_main_cst_3_apply, val_main_v24_apply,
    val_main_v23_apply, val_main_v22_apply, val_main_v21_apply, val_main_cst_2_apply, val_main_v20_apply, val_main_call1_v4_apply,
    val_main_call1_v3_apply, val_main_cst_1_apply, val_main_call1_v2_apply, val_main_call1_v1_apply, val_main_call1_v0_apply,
    val_main_cst_0_apply, e18, e19]
  have one : (Ideal.ofBits FTy.f32 0x3F800000#32 : EReal) = 1 := Cert.Exp.one_bits
  unfold act
  generalize (val_main_v15 (F := Ideal) x2 x3 x4 (ix3 e R (⟨f, by omega⟩ : Fin 1024)) : EReal) = g
  generalize (val_main_v15 (F := Ideal) x2 x3 x4 (ix3 e R (⟨512 + f, by omega⟩ : Fin 1024)) : EReal) = l
  rw [sub_eq_add_neg, zero_add, ← one]
  rfl

/-- An expert's output. -/
theorem ref_net (e : Fin 32) (R : Fin 147456) (l : Fin 1024) : (val_main_v36 (F := Ideal) x2 x3 x4 x5 x6 (ix3 e R l) : EReal)
    = net (fun k => x2 (ix2 R k)) (fun k f => x3 (ix3 e k f)) (fun f => x4 (ix3 e 0 f)) (fun f l => x5 (ix3 ⟨e, by omega⟩ f l))
        (fun l => x6 (ix3 e 0 l)) l := by
  rw [val_main_v36_apply, val_main_v34_apply, val_main_v35_apply]
  refine congrArg₂ (fun a b : EReal => a + b) (Finset.sum_congr rfl fun k _ => ?_) ?_
  · rw [val_main_v33_apply]
    refine congrArg₂ (fun a b : EReal => a * b) ?_ (congrArg x5 ?_)
    · have q : lidx_main_v34 (ix3 e R l) k = ix3 e R k := by funext a; match a with | ⟨0, _⟩ => rfl | ⟨1, _⟩ => rfl | ⟨2, _⟩ => rfl
      rw [q, ref_act, ref_hidden, ref_hidden]
    · funext a; apply Fin.ext; match a with | ⟨0, _⟩ => rfl | ⟨1, _⟩ => rfl | ⟨2, _⟩ => rfl
  · refine congrArg x6 ?_
    funext a; match a with | ⟨0, _⟩ => rfl | ⟨1, _⟩ => rfl | ⟨2, _⟩ => rfl

/-- The weight of expert `e` at row `R`: one where `e` is the tile's expert, zero elsewhere. -/
theorem ref_weight (h : ∀ x, (x0 x).toNat < 32) (e : Fin 32) (R : Fin 147456) (l : Fin 1024) :
    (val_main_v39 (F := Ideal) x0 (ix3 e R l) : EReal) = if e = expertOf x0 ⟨R / 512, by omega⟩ then 1 else 0 := by
  rw [val_main_v39_apply, val_main_v38_apply, val_main_v37_apply, val_main_v10_apply, val_main_v9_apply, val_main_v7_apply, val_main_v4_apply,
    val_main_v3_apply, val_main_v2_apply, val_main_v8_apply, val_main_v6_apply, val_main_v5_apply]
  have q : ∀ i : S288.Idx, i = ix1 (i 0 : Fin 288) := fun i => by funext a; match a with | ⟨0, _⟩ => rfl
  have hx := h (ix1 (⟨R / 512, by omega⟩ : Fin 288))
  have key : ∀ w : BitVec 32, w.toNat < 32 → (FloatOps.uitofp (F := Ideal) .f32 (IntOp.cmpi .eq w (BitVec.ofNat 32 e.val)) : EReal)
      = if e.val = w.toNat then 1 else 0 := fun w hw => by
    have ee : (BitVec.ofNat 32 e.val).toNat = e.val := by rw [BitVec.toNat_ofNat]; omega
    show (((BitVec.ofBool (w == BitVec.ofNat 32 e.val)).toNat : ℝ) : EReal) = _
    by_cases he : e.val = w.toNat
    · have hw' : w = BitVec.ofNat 32 e.val := BitVec.eq_of_toNat_eq (by rw [ee, he])
      rw [if_pos he, show (w == BitVec.ofNat 32 e.val) = true from beq_iff_eq.2 hw', show (BitVec.ofBool true).toNat = 1 from rfl]
      norm_num
    · have hw' : w ≠ BitVec.ofNat 32 e.val := fun q => he (by rw [q, ee])
      rw [if_neg he, show (w == BitVec.ofNat 32 e.val) = false from beq_eq_false_iff_ne.2 hw', show (BitVec.ofBool false).toNat = 0 from rfl]
      norm_num
  refine Eq.trans (congrArg (fun w : BitVec 32 => (FloatOps.uitofp (F := Ideal) .f32 (IntOp.cmpi .eq w (BitVec.ofNat 32 e.val)) : EReal)) (congrArg x0 ((q _).trans ?_)))
    ((key (x0 (ix1 (⟨R / 512, by omega⟩ : Fin 288))) hx).trans ?_)
  · rfl
  · refine if_congr ?_ rfl rfl
    rw [Fin.ext_iff]
    show _ ↔ e.val = (x0 (ix1 _)).toNat % 32
    rw [Nat.mod_eq_of_lt hx]

/-- A sum weighted by one at `a` and zero elsewhere. -/
theorem pick (y : Fin 32 → EReal) (a : Fin 32) : ∑ e : Fin 32, (if e = a then 1 else 0) * y e = y a := by
  refine (Finset.sum_eq_single a (fun e _ he => ?_) (fun he => absurd (Finset.mem_univ _) he)).trans ?_
  · rw [if_neg he, zero_mul]
  · rw [if_pos rfl, one_mul]

/-- The sum over the experts is the tile's expert's output. -/
theorem ref_sum (h : ∀ x, (x0 x).toNat < 32) (R : Fin 147456) (C : Fin 1024) : (val_main_v41 (F := Ideal) x0 x2 x3 x4 x5 x6 (ix2 R C) : EReal)
    = val_main_v36 (F := Ideal) x2 x3 x4 x5 x6 (ix3 (expertOf x0 ⟨R / 512, by omega⟩) R C) := by
  have term : ∀ e : Fin 32, (val_main_v40 (F := Ideal) x0 x2 x3 x4 x5 x6 (idx_main_v41 (ix2 R C) e) : EReal)
      = (if e = expertOf x0 ⟨R / 512, by omega⟩ then 1 else 0) * (val_main_v36 (F := Ideal) x2 x3 x4 x5 x6 (ix3 e R C) : EReal) := fun e => by
    have q : idx_main_v41 (ix2 R C) e = ix3 e R C := by funext a; match a with | ⟨0, _⟩ => rfl | ⟨1, _⟩ => rfl | ⟨2, _⟩ => rfl
    refine (congrArg (val_main_v40 (F := Ideal) x0 x2 x3 x4 x5 x6) q).trans ((val_main_v40_apply (F := Ideal) x0 x2 x3 x4 x5 x6 (ix3 e R C)).trans ?_)
    have wt := ref_weight x0 h e R C
    generalize val_main_v39 (F := Ideal) x0 (ix3 e R C) = a at wt ⊢
    generalize val_main_v36 (F := Ideal) x2 x3 x4 x5 x6 (ix3 e R C) = b
    rw [wt]
    rfl
  have z : (val_main_cst_6 (F := Ideal) (Shape.Idx.first h_S_) : EReal) = 0 := Ideal.ofBits_zero .f32
  rw [val_main_v41_apply, z, zero_add, Finset.sum_congr rfl fun e _ => term e]
  exact pick (fun e : Fin 32 => (val_main_v36 (F := Ideal) x2 x3 x4 x5 x6 (ix3 e R C) : EReal)) _

theorem ref_tiles (j : S_.Idx) : val_main_v42 (F := Ideal) x1 j = x1 only := by
  unfold val_main_v42
  refine congrArg x1 (funext fun a => ?_)
  match a with
  | ⟨0, _⟩ => exact Subsingleton.elim (α := Fin 1) _ _

/-- Which rows are kept. -/
theorem ref_keep (h : (x1 only).toNat ≤ 288) (R : Fin 147456) (C : Fin 1024) :
    val_main_call2_v1 (F := Ideal) x1 (ix2 R C) = if (R : ℕ) / 512 < (x1 only).toNat then 1#1 else 0#1 := by
  rw [val_main_call2_v1_apply, val_main_v45_apply, val_main_v44_apply, group, val_main_v43_apply, ref_tiles]
  have i1 := BitVec.toInt_eq_toNat_cond (x1 only)
  have i2 := BitVec.toInt_eq_toNat_cond (BitVec.ofNat 32 ((R : ℕ) / 512))
  have ej : (BitVec.ofNat 32 ((R : ℕ) / 512)).toNat = (R : ℕ) / 512 := by rw [BitVec.toNat_ofNat]; omega
  rw [if_pos (by omega)] at i1
  rw [ej, if_pos (by omega)] at i2
  have key : (BitVec.ofNat 32 ((R : ℕ) / 512)).slt (x1 only) = true ↔ (R : ℕ) / 512 < (x1 only).toNat := by
    rw [BitVec.slt_iff_toInt_lt, i1, i2]; omega
  show BitVec.ofBool ((BitVec.ofNat 32 ((R : ℕ) / 512)).slt (x1 only)) = _
  by_cases q : (R : ℕ) / 512 < (x1 only).toNat
  · rw [if_pos q, key.2 q]; rfl
  · rw [if_neg q, Bool.eq_false_iff.2 (fun w => q (key.1 w))]; rfl

/-- The reference's result. -/
theorem ref_eq (h : InRange x0 x1) (R : Fin 147456) (C : Fin 1024) :
    (val_main_v46 (F := Ideal) x0 x1 x2 x3 x4 x5 x6 (ix2 R C) : EReal) = moe x0 x1 x2 x3 x4 x5 x6 R C := by
  have z : (val_main_call2_v2 (F := Ideal) (ix2 R C) : EReal) = 0 := by
    rw [val_main_call2_v2_apply, val_main_call2_v0_apply, val_main_cst_7_apply]
    exact Ideal.ofBits_zero .f32
  rw [val_main_v46_apply, ref_sum x0 x2 x3 x4 x5 x6 h.expert, ref_net, z, ref_keep x1 (h.le _)]
  unfold moe
  by_cases q : (R : ℕ) / 512 < (x1 only).toNat
  · rw [if_pos q, if_pos q]; rfl
  · rw [if_neg q, if_neg q]; rfl

end Cert.Exp

end
-- ==== Proof.Mix.Row.lean ====
/- One row of the merge kernel, entry by entry: the normalised recurrence branch, the gated sum, the layer norm. -/
module

public import proofs.«01_k».proof.Proof.Gen.Kernel3Ideal.Frame
public import Idealize.ShloMosaic.Lib.Pipeline.ValueKit.Geometry
public import Idealize.ShloMosaic.PureOps.Ideal
public import Idealize.ShloMosaic.Lib.Pointwise
public import Idealize.ShloMosaic.Lib.UnfoldOut
public import Idealize.ShloMosaic.Lib.VecWindow

@[expose] public section

set_option maxRecDepth 16384

noncomputable section

namespace Cert.Mix

open Cert.Kernel3Ideal Cert.Kernel3Ideal.Gen
open Idealize.ShloMosaic Idealize.ShloMosaic.TcCoe

/-- The logistic gate. -/
def lgt (x : EReal) : EReal := Ideal.div 1 (1 + Ideal.exp (0 - x))

/-- A row times a matrix. -/
def dot {n k : ℕ} (x : Fin n → EReal) (w : Fin n → Fin k → EReal) (l : Fin k) : EReal := ∑ j, x j * w j l

/-- A sum over the heads' lanes, taken in two halves. -/
def hsum (on : Fin 512 → Fin 512 → EReal) (z : Fin 512 → EReal) (l : Fin 512) : EReal :=
  dot z on l + dot (fun j => z j - z j) on l

def cen (on : Fin 512 → Fin 512 → EReal) (o : Fin 512 → EReal) (l : Fin 512) : EReal :=
  o l - hsum on o l * Ideal.ofBits .f32 0x3C800000#32

/-- The recurrence branch as the kernel computes it. -/
def branch (on : Fin 512 → Fin 512 → EReal) (o g b bonus gate : Fin 512 → EReal) (l : Fin 512) : EReal :=
  (cen on o l * Ideal.rsqrt (hsum on (fun j => cen on o j * cen on o j) l * Ideal.ofBits .f32 0x3C800000#32 + Ideal.ofBits .f32 0x3A27C5AC#32)
    * g l + b l + bonus l) * gate l

/-- The gated sum of the three branches. -/
def merged (x : Fin 1024 → EReal) (a b c : Fin 512 → EReal) (ga gb gc : Fin 1024 → Fin 1024 → EReal)
    (wa wb wc : Fin 512 → Fin 1024 → EReal) (l : Fin 1024) : EReal :=
  lgt (dot x ga l) * dot a wa l + lgt (dot x gb l) * dot b wb l + lgt (dot x gc l) * dot c wc l

/-- Layer norm over a row. -/
def mean (y : Fin 1024 → EReal) : EReal := Ideal.div (∑ j, y j) (Ideal.ofBits .f32 0x44800000#32)

def norm (y g b : Fin 1024 → EReal) (l : Fin 1024) : EReal :=
  (y l - mean y) * Ideal.rsqrt (mean (fun j => (y j - mean y) * (y j - mean y)) + Ideal.ofBits .f32 0x3727C5AC#32) * g l + b l

/-- The whole row. -/
def mix (x : Fin 1024 → EReal) (a b c : Fin 512 → EReal) (ga gb gc : Fin 1024 → Fin 1024 → EReal)
    (wa wb wc : Fin 512 → Fin 1024 → EReal) (wo : Fin 1024 → Fin 1024 → EReal) (g1 b1 : Fin 1024 → EReal) : Fin 1024 → EReal :=
  norm (fun l => Ideal.ofBits .f32 0x3FB504F3#32 * x l + dot (merged x a b c ga gb gc wa wb wc) wo l) g1 b1

theorem branch_eq (on : Vec Ideal S512x512 .bf16) (o : Vec Ideal S512x512 .f32) (g b : Vec Ideal S1x512 .f32) (bonus gate : Vec Ideal S512x512 .f32)
    (r l : Fin 512) : (k0_pay1 (F := Ideal) on o g b bonus gate (ix2 r l) : EReal)
    = branch (fun j l => on (ix2 j l)) (fun l => o (ix2 r l)) (fun l => g (ix2 0 l)) (fun l => b (ix2 0 l)) (fun l => bonus (ix2 r l))
        (fun l => gate (ix2 r l)) l := by
  unfold_payloads
  pointwise
  rfl

theorem two_eq (b : Vec Ideal S512x512 .f32) (x : Vec Ideal S512x1024 .f32) (a : Vec Ideal S512x512 .f32) (ga : Vec Ideal S1024x1024 .bf16)
    (wa : Vec Ideal S512x1024 .bf16) (gb : Vec Ideal S1024x1024 .bf16) (wb : Vec Ideal S512x1024 .bf16) (r : Fin 512) (l : Fin 1024) :
    (k0_pay3 (F := Ideal) b x a ga wa gb wb (ix2 r l) : EReal)
    = lgt (dot (fun k => x (ix2 r k)) (fun j l => ga (ix2 j l)) l) * dot (fun k => a (ix2 r k)) (fun j l => wa (ix2 j l)) l
      + lgt (dot (fun k => x (ix2 r k)) (fun j l => gb (ix2 j l)) l) * dot (fun k => b (ix2 r k)) (fun j l => wb (ix2 j l)) l := by
  unfold_payloads
  pointwise
  rfl

theorem gate_eq (x : Vec Ideal S512x1024 .f32) (gc : Vec Ideal S1024x1024 .bf16) (r : Fin 512) (l : Fin 1024) :
    (k0_pay4 (F := Ideal) x gc (ix2 r l) : EReal) = dot (fun k => x (ix2 r k)) (fun j l => gc (ix2 j l)) l := by
  unfold_payloads
  pointwise
  rfl

theorem norm_eq (x : Vec Ideal S512x1024 .f32) (c : Vec Ideal S512x512 .f32) (u v z : Vec Ideal S512x1024 .f32)
    (wc : Vec Ideal S512x1024 .bf16) (wo : Vec Ideal S1024x1024 .bf16) (g1 b1 : Vec Ideal S1x1024 .f32) (r : Fin 512) (l : Fin 1024) :
    (k0_pay6 (F := Ideal) x c u v z wc wo g1 b1 (ix2 r l) : EReal)
    = norm (fun l => Ideal.ofBits .f32 0x3FB504F3#32 * x (ix2 r l)
        + dot (fun l => (u (ix2 r l) : EReal) + Ideal.div 1 (1 + Ideal.exp ((z (ix2 r l) : EReal) - v (ix2 r l))) * dot (fun k => c (ix2 r k)) (fun j l => wc (ix2 j l)) l)
            (fun j l => wo (ix2 j l)) l) (fun l => g1 (ix2 0 l)) (fun l => b1 (ix2 0 l)) l := by
  unfold_payloads
  pointwise
  rfl

end Cert.Mix

end
-- ==== Proof.Mix.Head.lean ====
/- A sum over a head's lanes, taken with the heads' matrix in two halves, is the plain sum; and so the recurrence branch. -/
module

public import proofs.«01_k».proof.Proof.Mix.Row

@[expose] public section

noncomputable section

namespace Cert.Mix

open Idealize.ShloMosaic

/-- One where two lanes lie in the same head. -/
def heads (j l : Fin 512) : EReal := if (j : ℕ) / 64 = l / 64 then 1 else 0

/-- The lane of a head, and the head of a lane. -/
def lane (h : Fin 8) (n : Fin 64) : Fin 512 := ⟨h * 64 + n, by omega⟩

def head (l : Fin 512) : Fin 8 := ⟨l / 64, by omega⟩

theorem head_lane (h : Fin 8) (n : Fin 64) : head (lane h n) = h := Fin.ext (show ((h : ℕ) * 64 + n) / 64 = h by omega)

theorem lane_head (l : Fin 512) : lane (head l) ⟨(l : ℕ) % 64, by omega⟩ = l := Fin.ext (show (l : ℕ) / 64 * 64 + l % 64 = l by omega)

theorem sum_lanes (z : Fin 512 → EReal) : ∑ j, z j = ∑ h : Fin 8, ∑ n : Fin 64, z (lane h n) := by
  rw [← Fintype.sum_prod_type' (f := fun h n => z (lane h n))]
  refine (Fintype.sum_equiv ⟨fun p : Fin 8 × Fin 64 => lane p.1 p.2, fun l => (head l, ⟨(l : ℕ) % 64, by omega⟩), fun p => ?_, lane_head⟩ _ _ fun p => rfl).symm
  exact Prod.ext (head_lane _ _) (Fin.ext (show ((p.1 : ℕ) * 64 + p.2) % 64 = p.2 by omega))

theorem dot_heads (z : Fin 512 → EReal) (l : Fin 512) : dot z heads l = ∑ n : Fin 64, z (lane (head l) n) := by
  unfold dot
  rw [sum_lanes, Finset.sum_eq_single (head l)]
  · refine Finset.sum_congr rfl fun n _ => ?_
    have e : heads (lane (head l) n) l = 1 := if_pos (show ((l : ℕ) / 64 * 64 + n) / 64 = l / 64 by omega)
    rw [e, mul_one]
  · intro h _ hne
    refine Finset.sum_eq_zero fun n _ => ?_
    have e : heads (lane h n) l = 0 := if_neg (fun q => hne (Fin.ext (by
      have q : ((h : ℕ) * 64 + n) / 64 = l / 64 := q
      show (h : ℕ) = l / 64
      omega)))
    rw [e, mul_zero]
  · intro q; exact absurd (Finset.mem_univ _) q

/-- For numbers the second half of the two-part sum is nothing. -/
theorem hsum_heads (p : Fin 512 → ℝ) (l : Fin 512) : hsum heads (fun j => (p j : EReal)) l = ∑ n : Fin 64, (p (lane (head l) n) : EReal) := by
  have z : (fun j => (p j : EReal) - (p j : EReal)) = fun _ => (0 : EReal) := funext fun j => by
    rw [← EReal.coe_sub, sub_self, EReal.coe_zero]
  unfold hsum
  rw [dot_heads, z, dot_heads, Finset.sum_const_zero, add_zero]

theorem bits64 : Ideal.ofBits .f32 0x42800000#32 = ((64 : ℝ) : EReal) := by
  simp [Ideal.ofBits, Ideal.ieee]
  rw [← EReal.coe_mul]
  norm_num

theorem bits_inv64 : Ideal.ofBits .f32 0x3C800000#32 = ((1 / 64 : ℝ) : EReal) := by
  simp [Ideal.ofBits, Ideal.ieee]
  rw [← EReal.coe_mul]
  norm_num

theorem div64 (x : EReal) : Ideal.div x (Ideal.ofBits .f32 0x42800000#32) = x * Ideal.ofBits .f32 0x3C800000#32 := by
  have h : ((64 : ℝ) : EReal) ≠ 0 := by norm_num
  rw [bits64, bits_inv64]
  unfold Ideal.div
  rw [if_neg h, ← EReal.coe_inv]
  norm_num

/-- The mean over a head's lanes. -/
def hmean (z : Fin 512 → EReal) (h : Fin 8) : EReal := Ideal.div (∑ n, z (lane h n)) (Ideal.ofBits .f32 0x42800000#32)

/-- A lane without its head's mean. -/
def off (o : Fin 512 → EReal) (l : Fin 512) : EReal := o l - hmean o (head l)

/-- The recurrence branch: the lanes normalised over each head, scaled, shifted, with the bonus, gated. -/
def plain (o g b bonus gate : Fin 512 → EReal) (l : Fin 512) : EReal :=
  (off o l * Ideal.rsqrt (hmean (fun j => off o j * off o j) (head l) + Ideal.ofBits .f32 0x3A27C5AC#32) * g l + b l + bonus l) * gate l

theorem mean_eq (p : Fin 512 → ℝ) (l : Fin 512) :
    hsum heads (fun j => (p j : EReal)) l * Ideal.ofBits .f32 0x3C800000#32 = hmean (fun j => (p j : EReal)) (head l) := by
  unfold hmean
  rw [hsum_heads, div64]

theorem coe_sum {n : ℕ} (f : Fin n → ℝ) : ((∑ k, f k : ℝ) : EReal) = ∑ k, (f k : EReal) :=
  map_sum ({ toFun := fun x : ℝ => (x : EReal), map_zero' := EReal.coe_zero, map_add' := EReal.coe_add } : ℝ →+ EReal) f Finset.univ

theorem hmean_real (p : Fin 512 → ℝ) (h : Fin 8) : hmean (fun j => (p j : EReal)) h = (((∑ n, p (lane h n)) * (1 / 64) : ℝ) : EReal) := by
  unfold hmean
  rw [div64, bits_inv64, EReal.coe_mul, coe_sum]

/-- The kernel's branch is the plain one wherever the recurrence's output is a number. -/
theorem branch_plain (o g b bonus gate : Fin 512 → EReal) (ho : ∀ l, o l ≠ ⊤ ∧ o l ≠ ⊥) : branch heads o g b bonus gate = plain o g b bonus gate := by
  obtain ⟨p, rfl⟩ : ∃ p : Fin 512 → ℝ, o = fun j => (p j : EReal) :=
    ⟨fun j => (o j).toReal, funext fun j => (EReal.coe_toReal (ho j).1 (ho j).2).symm⟩
  have e1 : cen heads (fun j => (p j : EReal)) = off (fun j => (p j : EReal)) := funext fun l => by
    unfold cen off
    rw [mean_eq]
  obtain ⟨q, e2⟩ : ∃ q : Fin 512 → ℝ, (fun j => off (fun j => (p j : EReal)) j * off (fun j => (p j : EReal)) j) = fun j => (q j : EReal) :=
    ⟨_, funext fun j => by unfold off; rw [hmean_real, ← EReal.coe_sub, ← EReal.coe_mul]⟩
  funext l
  unfold branch plain
  rw [e1, e2, mean_eq]

end Cert.Mix

end
-- ==== Proof.Mix.Ones.lean ====
/- The heads' indicator matrix that the merge call receives: one where two lanes lie in the same head. -/
module

public import proofs.«01_k».proof.Proof.Gen.Kernel3Ideal.Frame
public import Idealize.ShloMosaic.Lib.StableHlo.RunRead
public import Idealize.ShloMosaic.Lib.Pipeline.ValueKit.Geometry
public import Idealize.ShloMosaic.PureOps.Ideal
public import Idealize.ShloMosaic.Lib.Pointwise
public import Idealize.ShloMosaic.Lib.IdealHost

@[expose] public section

set_option maxRecDepth 16384

noncomputable section

namespace Cert.Mix

open Cert.Kernel3Ideal Cert.Kernel3Ideal.Gen
open Idealize.ShloMosaic Idealize.ShloMosaic.TcCoe

variable (m : (ℓ : Loc nD τ sig) → Buf (Elt Ideal) ℓ)

/-- The head of lane `w`, in words. -/
def headWord (w : BitVec 32) : BitVec 32 := IntOp.divsi .host w 64#32

theorem headWord_nat : ∀ n : Fin 512, headWord (BitVec.ofNat 32 n) = BitVec.ofNat 32 (n / 64) := by decide +kernel

theorem headWord_eq : ∀ j l : Fin 8, IntOp.cmpi .eq (BitVec.ofNat 32 j) (BitVec.ofNat 32 l) = if (j : ℕ) = l then 1#1 else 0#1 := by
  decide +kernel

theorem ones_raw (c : Dev nD) (j l : Fin 512) : (V m c main_v8 (ix2 j l) : EReal)
    = FloatOps.uitofp (F := Ideal) .f32 (IntOp.cmpi .eq (headWord (BitVec.ofNat 32 j)) (headWord (BitVec.ofNat 32 l))) := by
  show StableHlo.after (List.flatten [hostOps0]) _ (Proc.devRef .tc main_v8) _ = _
  after_reads_simp
  rfl

theorem ones_at (c : Dev nD) (j l : Fin 512) : (V m c main_v8 (ix2 j l) : EReal) = (if (j : ℕ) / 64 = l / 64 then (1 : EReal) else (0 : EReal)) := by
  rw [ones_raw, headWord_nat, headWord_nat, headWord_eq ⟨(j : ℕ) / 64, by omega⟩ ⟨(l : ℕ) / 64, by omega⟩]
  show (((if (j : ℕ) / 64 = l / 64 then 1#1 else 0#1 : BitVec 1).toNat : ℝ) : EReal) = _
  split <;> norm_num

end Cert.Mix

end
-- ==== Proof.Mix.Value.lean ====
/- The merge kernel's result array: every row is the mixed row of the whole arguments. -/
module

public import proofs.«01_k».proof.Proof.Mix.Head
public import proofs.«01_k».proof.Proof.Mix.Ones
public import proofs.«01_k».proof.Proof.Gen.Kernel3Ideal.Value

@[expose] public section

set_option maxRecDepth 16384

noncomputable section

namespace Cert.Mix

open Cert.Kernel3Ideal Cert.Kernel3Ideal.Gen
open Idealize.ShloMosaic Idealize.ShloMosaic.TcCoe Idealize.SL.Sem

variable (m : (ℓ : Loc nD τ sig) → Buf (Elt Ideal) ℓ)

/-- The three gates' weights are the three thirds of the columns. -/
theorem cols0 (x : Vec Ideal S1024x3072 .bf16) (j l : Fin 1024) : View.ld x r0_3 (ix2 j l) = x (ix2 j ⟨l, by omega⟩) :=
  congrArg x (show r0_3.emb (ix2 j l) = _ by
    funext a
    apply Fin.ext
    match a with
    | ⟨0, _⟩ => show 0 + 1 * (j : ℕ) = j; omega
    | ⟨1, _⟩ => show 0 + 1 * (l : ℕ) = l; omega)

theorem cols1 (x : Vec Ideal S1024x3072 .bf16) (j l : Fin 1024) : View.ld x r0_4 (ix2 j l) = x (ix2 j ⟨1024 + l, by omega⟩) :=
  congrArg x (show r0_4.emb (ix2 j l) = _ by
    funext a
    apply Fin.ext
    match a with
    | ⟨0, _⟩ => show 0 + 1 * (j : ℕ) = j; omega
    | ⟨1, _⟩ => show 1024 + 1 * (l : ℕ) = 1024 + l; omega)

theorem cols2 (x : Vec Ideal S1024x3072 .bf16) (j l : Fin 1024) : View.ld x r0_5 (ix2 j l) = x (ix2 j ⟨2048 + l, by omega⟩) :=
  congrArg x (show r0_5.emb (ix2 j l) = _ by
    funext a
    apply Fin.ext
    match a with
    | ⟨0, _⟩ => show 0 + 1 * (j : ℕ) = j; omega
    | ⟨1, _⟩ => show 2048 + 1 * (l : ℕ) = 2048 + l; omega)

/-- What the body leaves at an entry of its block, from the blocks. -/
theorem out_eq (x0 : Vec Ideal S512x1024 .f32) (x1 x2 x3 x4 x5 : Vec Ideal S512x512 .f32) (x6 : Vec Ideal S1024x3072 .bf16)
    (x7 x8 : Vec Ideal S1x512 .f32) (x9 : Vec Ideal S512x512 .bf16) (x10 x11 x12 : Vec Ideal S512x1024 .bf16) (x13 : Vec Ideal S1024x1024 .bf16)
    (x14 x15 : Vec Ideal S1x1024 .f32) (r : Fin 512) (l : Fin 1024) :
    (out0_16 (F := Ideal) x0 x1 x2 x3 x4 x5 x6 x7 x8 x9 x10 x11 x12 x13 x14 x15 (ix2 r l) : EReal)
    = mix (fun k => x0 (ix2 r k)) (fun k => x1 (ix2 r k))
        (branch (fun j l => x9 (ix2 j l)) (fun l => x2 (ix2 r l)) (fun l => x7 (ix2 0 l)) (fun l => x8 (ix2 0 l)) (fun l => x3 (ix2 r l)) (fun l => x4 (ix2 r l)))
        (fun k => x5 (ix2 r k)) (fun j l => x6 (ix2 j ⟨l, by omega⟩)) (fun j l => x6 (ix2 j ⟨1024 + l, by omega⟩))
        (fun j l => x6 (ix2 j ⟨2048 + l, by omega⟩)) (fun j l => x10 (ix2 j l)) (fun j l => x11 (ix2 j l)) (fun j l => x12 (ix2 j l))
        (fun j l => x13 (ix2 j l)) (fun l => x14 (ix2 0 l)) (fun l => x15 (ix2 0 l)) l := by
  have s0 : ∀ X : Vec Ideal S512x512 .f32, View.ld X r0_0 = X := fun X => View.ld_unit_lit _ X (by decide)
  have s1 : ∀ X : Vec Ideal S512x512 .bf16, View.ld X r0_0 = X := fun X => View.ld_unit_lit _ X (by decide)
  have s2 : ∀ X : Vec Ideal S1x512 .f32, View.ld X r0_1 = X := fun X => View.ld_unit_lit _ X (by decide)
  have s3 : ∀ X : Vec Ideal S512x1024 .f32, View.ld X r0_2 = X := fun X => View.ld_unit_lit _ X (by decide)
  have s4 : ∀ X : Vec Ideal S512x1024 .bf16, View.ld X r0_2 = X := fun X => View.ld_unit_lit _ X (by decide)
  have s5 : ∀ X : Vec Ideal S1024x1024 .bf16, View.ld X r0_6 = X := fun X => View.ld_unit_lit _ X (by decide)
  have s6 : ∀ X : Vec Ideal S1x1024 .f32, View.ld X r0_7 = X := fun X => View.ld_unit_lit _ X (by decide)
  have g0 : ∀ (j l : Fin 1024), View.ld x6 r0_3 (ix2 j l) = x6 (ix2 j ⟨l, by omega⟩) := cols0 x6
  have g1 : ∀ (j l : Fin 1024), View.ld x6 r0_4 (ix2 j l) = x6 (ix2 j ⟨1024 + l, by omega⟩) := cols1 x6
  have g2 : ∀ (j l : Fin 1024), View.ld x6 r0_5 (ix2 j l) = x6 (ix2 j ⟨2048 + l, by omega⟩) := cols2 x6
  unfold out0_16
  refine (congrFun (View.canon_cons_unit_lit (Val := Elt Ideal) (S := S512x1024) (off := ![0, 0]) _ _ [] (by decide)) (ix2 r l)).trans ?_
  simp only [s0, s1, s2, s3, s4, s5, s6]
  refine (norm_eq _ _ _ _ _ _ _ _ _ r l).trans ?_
  refine congrArg (fun y => norm y _ _ l) (funext fun k => ?_)
  refine congrArg (fun u => Ideal.ofBits .f32 0x3FB504F3#32 * (x0 (ix2 r k) : EReal) + dot u _ k) (funext fun j => ?_)
  rw [two_eq, gate_eq]
  have hb : (fun k => (k0_pay1 (F := Ideal) x9 x2 x7 x8 x3 x4 (ix2 r k) : EReal)) = _ := funext fun k => branch_eq x9 x2 x7 x8 x3 x4 r k
  rw [hb]
  have hz : (k0_pay5 (F := Ideal) (ix2 r j) : EReal) = 0 := Ideal.ofBits_zero .f32
  simp only [g0, g1, g2]
  rw [hz]
  rfl

theorem e0 : ∀ t : Fin cfg0.N, win0_0.index t = ![(grid0.coords t 0).val * 4 + (grid0.coords t 1).val, 0] := (by decide +kernel : ∀ t : Fin grid0.N, _)
theorem e1 : ∀ t : Fin cfg0.N, win0_1.index t = ![(grid0.coords t 0).val * 4 + (grid0.coords t 1).val, 0] := (by decide +kernel : ∀ t : Fin grid0.N, _)
theorem e2 : ∀ t : Fin cfg0.N, win0_2.index t = ![(grid0.coords t 1).val, (grid0.coords t 0).val] := (by decide +kernel : ∀ t : Fin grid0.N, _)
theorem e3 : ∀ t : Fin cfg0.N, win0_3.index t = ![(grid0.coords t 0).val * 4 + (grid0.coords t 1).val, 0] := (by decide +kernel : ∀ t : Fin grid0.N, _)
theorem e4 : ∀ t : Fin cfg0.N, win0_4.index t = ![(grid0.coords t 0).val * 4 + (grid0.coords t 1).val, 0] := (by decide +kernel : ∀ t : Fin grid0.N, _)
theorem e5 : ∀ t : Fin cfg0.N, win0_5.index t = ![(grid0.coords t 1).val, (grid0.coords t 0).val] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![0, 0] := (by decide +kernel : ∀ t : Fin grid0.N, _)
theorem e12 : ∀ t : Fin cfg0.N, win0_12.index t = ![0, 0] := (by decide +kernel : ∀ t : Fin grid0.N, _)
theorem e13 : ∀ t : Fin cfg0.N, win0_13.index t = ![0, 0] := (by decide +kernel : ∀ t : Fin grid0.N, _)
theorem e14 : ∀ t : Fin cfg0.N, win0_14.index t = ![0, 0] := (by decide +kernel : ∀ t : Fin grid0.N, _)
theorem e15 : ∀ t : Fin cfg0.N, win0_15.index t = ![0, 0] := (by decide +kernel : ∀ t : Fin grid0.N, _)
theorem e16 : ∀ t : Fin cfg0.N, win0_16.index t = ![(grid0.coords t 0).val * 4 + (grid0.coords t 1).val, 0] := (by decide +kernel : ∀ t : Fin grid0.N, _)

theorem x_at (c : Dev nD) (t : Fin cfg0.N) (r : Fin 512) (k : Fin 1024) (R : Fin 32768) (C : Fin 1024)
    (hR : (R : ℕ) = ((grid0.coords t 0).val * 4 + (grid0.coords t 1).val) * 512 + r) (hC : (C : ℕ) = k) :
    (iblk m c 0 t (ix2 r k) : EReal) = m ((c : Thread nD τ).loc main_arg0) (ix2 R C) := by
  blk_simp [iblk]
  refine (congrFun (V_main_arg0 m c) _).trans (congrArg _ ?_)
  blk_ext [e0]
  all_goals (first | exact hR.symm | exact hC.symm | (simp [ix2]; omega))

theorem ya_at (c : Dev nD) (t : Fin cfg0.N) (r : Fin 512) (k : Fin 512) (R : Fin 32768) (C : Fin 512)
    (hR : (R : ℕ) = ((grid0.coords t 0).val * 4 + (grid0.coords t 1).val) * 512 + r) (hC : (C : ℕ) = k) :
    (iblk m c 1 t (ix2 r k) : EReal) = m ((c : Thread nD τ).loc main_arg1) (ix2 R C) := by
  blk_simp [iblk]
  refine (congrFun (V_main_arg1 m c) _).trans (congrArg _ ?_)
  blk_ext [e1]
  all_goals (first | exact hR.symm | exact hC.symm | (simp [ix2]; omega))

theorem o_at (c : Dev nD) (t : Fin cfg0.N) (r : Fin 512) (k : Fin 512) (R : Fin 2048) (C : Fin 8192)
    (hR : (R : ℕ) = (grid0.coords t 1).val * 512 + r) (hC : (C : ℕ) = (grid0.coords t 0).val * 512 + k) :
    (iblk m c 2 t (ix2 r k) : EReal) = m ((c : Thread nD τ).loc main_arg2) (ix2 R C) := by
  blk_simp [iblk]
  refine (congrFun (V_main_arg2 m c) _).trans (congrArg _ ?_)
  blk_ext [e2]
  all_goals (first | exact hR.symm | exact hC.symm | (simp [ix2]; omega))

theorem bonus_at (c : Dev nD) (t : Fin cfg0.N) (r : Fin 512) (k : Fin 512) (R : Fin 32768) (C : Fin 512)
    (hR : (R : ℕ) = ((grid0.coords t 0).val * 4 + (grid0.coords t 1).val) * 512 + r) (hC : (C : ℕ) = k) :
    (iblk m c 3 t (ix2 r k) : EReal) = m ((c : Thread nD τ).loc main_arg3) (ix2 R C) := by
  blk_simp [iblk]
  refine (congrFun (V_main_arg3 m c) _).trans (congrArg _ ?_)
  blk_ext [e3]
  all_goals (first | exact hR.symm | exact hC.symm | (simp [ix2]; omega))

theorem gate_at (c : Dev nD) (t : Fin cfg0.N) (r : Fin 512) (k : Fin 512) (R : Fin 32768) (C : Fin 512)
    (hR : (R : ℕ) = ((grid0.coords t 0).val * 4 + (grid0.coords t 1).val) * 512 + r) (hC : (C : ℕ) = k) :
    (iblk m c 4 t (ix2 r k) : EReal) = m ((c : Thread nD τ).loc main_arg4) (ix2 R C) := by
  blk_simp [iblk]
  refine (congrFun (V_main_arg4 m c) _).trans (congrArg _ ?_)
  blk_ext [e4]
  all_goals (first | exact hR.symm | exact hC.symm | (simp [ix2]; omega))

theorem yc_at (c : Dev nD) (t : Fin cfg0.N) (r : Fin 512) (k : Fin 512) (R : Fin 2048) (C : Fin 8192)
    (hR : (R : ℕ) = (grid0.coords t 1).val * 512 + r) (hC : (C : ℕ) = (grid0.coords t 0).val * 512 + k) :
    (iblk m c 5 t (ix2 r k) : EReal) = m ((c : Thread nD τ).loc main_arg5) (ix2 R C) := by
  blk_simp [iblk]
  refine (congrFun (V_main_arg5 m c) _).trans (congrArg _ ?_)
  blk_ext [e5]
  all_goals (first | exact hR.symm | exact hC.symm | (simp [ix2]; omega))

theorem wg_at (c : Dev nD) (t : Fin cfg0.N) (r : Fin 1024) (k : Fin 3072) :
    (iblk m c 6 t (ix2 r k) : EReal) = m ((c : Thread nD τ).loc main_arg6) (ix2 r k) := by
  blk_simp [iblk]
  refine (congrFun (V_main_arg6 m c) _).trans (congrArg _ ?_)
  blk_ext [e6]

theorem lng_at (c : Dev nD) (t : Fin cfg0.N) (r : Fin 1) (k : Fin 512) :
    (iblk m c 7 t (ix2 r k) : EReal) = m ((c : Thread nD τ).loc main_arg7) (ix2 r k) := by
  blk_simp [iblk]
  refine (congrFun (V_main_arg7 m c) _).trans (congrArg _ ?_)
  blk_ext [e7]

theorem lnb_at (c : Dev nD) (t : Fin cfg0.N) (r : Fin 1) (k : Fin 512) :
    (iblk m c 8 t (ix2 r k) : EReal) = m ((c : Thread nD τ).loc main_arg8) (ix2 r k) := by
  blk_simp [iblk]
  refine (congrFun (V_main_arg8 m c) _).trans (congrArg _ ?_)
  blk_ext [e8]

theorem wa_at (c : Dev nD) (t : Fin cfg0.N) (r : Fin 512) (k : Fin 1024) :
    (iblk m c 10 t (ix2 r k) : EReal) = m ((c : Thread nD τ).loc main_arg9) (ix2 r k) := by
  blk_simp [iblk]
  refine (congrFun (V_main_arg9 m c) _).trans (congrArg _ ?_)
  blk_ext [e10]

theorem wb_at (c : Dev nD) (t : Fin cfg0.N) (r : Fin 512) (k : Fin 1024) :
    (iblk m c 11 t (ix2 r k) : EReal) = m ((c : Thread nD τ).loc main_arg10) (ix2 r k) := by
  blk_simp [iblk]
  refine (congrFun (V_main_arg10 m c) _).trans (congrArg _ ?_)
  blk_ext [e11]

theorem wc_at (c : Dev nD) (t : Fin cfg0.N) (r : Fin 512) (k : Fin 1024) :
    (iblk m c 12 t (ix2 r k) : EReal) = m ((c : Thread nD τ).loc main_arg11) (ix2 r k) := by
  blk_simp [iblk]
  refine (congrFun (V_main_arg11 m c) _).trans (congrArg _ ?_)
  blk_ext [e12]

theorem wo_at (c : Dev nD) (t : Fin cfg0.N) (r : Fin 1024) (k : Fin 1024) :
    (iblk m c 13 t (ix2 r k) : EReal) = m ((c : Thread nD τ).loc main_arg12) (ix2 r k) := by
  blk_simp [iblk]
  refine (congrFun (V_main_arg12 m c) _).trans (congrArg _ ?_)
  blk_ext [e13]

theorem g1_at (c : Dev nD) (t : Fin cfg0.N) (r : Fin 1) (k : Fin 1024) :
    (iblk m c 14 t (ix2 r k) : EReal) = m ((c : Thread nD τ).loc main_arg13) (ix2 r k) := by
  blk_simp [iblk]
  refine (congrFun (V_main_arg13 m c) _).trans (congrArg _ ?_)
  blk_ext [e14]

theorem b1_at (c : Dev nD) (t : Fin cfg0.N) (r : Fin 1) (k : Fin 1024) :
    (iblk m c 15 t (ix2 r k) : EReal) = m ((c : Thread nD τ).loc main_arg14) (ix2 r k) := by
  blk_simp [iblk]
  refine (congrFun (V_main_arg14 m c) _).trans (congrArg _ ?_)
  blk_ext [e15]

theorem on_at (c : Dev nD) (t : Fin cfg0.N) (j l : Fin 512) :
    (iblk m c 9 t (ix2 j l) : EReal) = (if (j : ℕ) / 64 = l / 64 then (1 : EReal) else (0 : EReal)) := by
  refine Eq.trans ?_ (ones_at m c j l)
  blk_simp [iblk]
  refine congrArg _ ?_
  blk_ext [e9]

theorem coords_lt (t : Fin cfg0.N) : (grid0.coords t 0).val < 16 ∧ (grid0.coords t 1).val < 4 :=
  ⟨(grid0.coords t 0).isLt, (grid0.coords t 1).isLt⟩

/-- The result at row `R` (batch `R / 2048`, time `R % 2048`), column `C`. -/
def mixed (x : S32768x1024.Idx → EReal) (ya : S32768x512.Idx → EReal) (o : S2048x8192.Idx → EReal) (bonus gate : S32768x512.Idx → EReal)
    (yc : S2048x8192.Idx → EReal) (wg : S1024x3072.Idx → EReal) (lng lnb : S1x512.Idx → EReal) (wa wb wc : S512x1024.Idx → EReal)
    (wo : S1024x1024.Idx → EReal) (g1 b1 : S1x1024.Idx → EReal) (R : Fin 32768) (C : Fin 1024) : EReal :=
  mix (fun k => x (ix2 R k)) (fun k => ya (ix2 R k))
    (branch heads (fun l => o (ix2 (⟨R % 2048, by omega⟩ : Fin 2048) (⟨R / 2048 * 512 + l, by omega⟩ : Fin 8192))) (fun l => lng (ix2 0 l)) (fun l => lnb (ix2 0 l))
      (fun l => bonus (ix2 R l)) (fun l => gate (ix2 R l)))
    (fun l => yc (ix2 (⟨R % 2048, by omega⟩ : Fin 2048) (⟨R / 2048 * 512 + l, by omega⟩ : Fin 8192)))
    (fun j l => wg (ix2 j ⟨l, by omega⟩)) (fun j l => wg (ix2 j ⟨1024 + l, by omega⟩)) (fun j l => wg (ix2 j ⟨2048 + l, by omega⟩))
    (fun j l => wa (ix2 j l)) (fun j l => wb (ix2 j l)) (fun j l => wc (ix2 j l)) (fun j l => wo (ix2 j l))
    (fun l => g1 (ix2 0 l)) (fun l => b1 (ix2 0 l)) C

theorem final (c : Dev nD) : (dats m 0 c).arrAt 16 cfg0.N = fun i : S32768x1024.Idx =>
    mixed (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14)) (i 0) (i 1) := by
  refine (dats m 0 c).arrAt_eq_of_covers 16 _ (by decide +kernel) fun t hf y => ?_
  blk_simp
  rw [after0_16]
  obtain ⟨r, l, rfl⟩ : ∃ (r : Fin 512) (l : Fin 1024), y = ix2 r l := ⟨y 0, y 1, by funext a; match a with | ⟨0, _⟩ => rfl | ⟨1, _⟩ => rfl⟩
  obtain ⟨b0, b1⟩ := coords_lt t
  have hR : ((((win0_16.blk t).view.emb (ix2 r l)) 0 : Fin 32768) : ℕ) = ((grid0.coords t 0).val * 4 + (grid0.coords t 1).val) * 512 + r := by
    blk_simp [e16]
  have hC : ((win0_16.blk t).view.emb (ix2 r l)) 1 = l := by
    apply Fin.ext
    blk_simp [e16]
  generalize ((win0_16.blk t).view.emb (ix2 r l)) 0 = R at hR
  rw [hC]
  refine (out_eq _ _ _ _ _ _ _ _ _ _ _ _ _ _ _ _ r l).trans ?_
  have hq : (R : ℕ) % 2048 = (grid0.coords t 1).val * 512 + r := by omega
  have hb : (R : ℕ) / 2048 = (grid0.coords t 0).val := by omega
  have f0 : ∀ k, (iblk m c 0 t (ix2 r k) : EReal) = _ := fun k => x_at m c t r k R k hR rfl
  have f1 : ∀ k, (iblk m c 1 t (ix2 r k) : EReal) = _ := fun k => ya_at m c t r k R k hR rfl
  have f2 : ∀ k : Fin 512, (iblk m c 2 t (ix2 r k) : EReal) = _ := fun k =>
    o_at m c t r k ⟨R % 2048, by omega⟩ ⟨R / 2048 * 512 + k, by omega⟩ hq (by simp only [hb])
  have f3 : ∀ k, (iblk m c 3 t (ix2 r k) : EReal) = _ := fun k => bonus_at m c t r k R k hR rfl
  have f4 : ∀ k, (iblk m c 4 t (ix2 r k) : EReal) = _ := fun k => gate_at m c t r k R k hR rfl
  have f5 : ∀ k : Fin 512, (iblk m c 5 t (ix2 r k) : EReal) = _ := fun k =>
    yc_at m c t r k ⟨R % 2048, by omega⟩ ⟨R / 2048 * 512 + k, by omega⟩ hq (by simp only [hb])
  unfold mixed
  rw [funext f0, funext f1, funext f2, funext f3, funext f4, funext f5]
  simp only [wg_at, lng_at, lnb_at, wa_at, wb_at, wc_at, wo_at, g1_at, b1_at, on_at]
  rfl

end Cert.Mix

end
-- ==== Proof.Mix.Ref.lean ====
/- The reference's result, entry by entry, is the same mixed row. -/
module

public import proofs.«01_k».proof.Proof.Mix.Value
public import proofs.«01_k».proof.Proof.Gen.Reference3Ideal.Read
public import Idealize.ShloMosaic.Lib.IdealHost

@[expose] public section

set_option maxRecDepth 16384

noncomputable section

namespace Cert.Mix

open Cert.Reference3Ideal Cert.Reference3Ideal.Gen Cert.Reference3Ideal.Read Idealize.ShloMosaic

variable (x0 : S32768x1024.Idx → EReal) (x1 : S32768x512.Idx → EReal) (x2 : S2048x8192.Idx → EReal) (x3 x4 : S32768x512.Idx → EReal)
    (x5 : S2048x8192.Idx → EReal) (x6 : S1024x3072.Idx → EReal) (x7 x8 : S1x512.Idx → EReal) (x9 x10 x11 : S512x1024.Idx → EReal)
    (x12 : S1024x1024.Idx → EReal) (x13 x14 : S1x1024.Idx → EReal)

/-- A time-major array's row at a batch and a time. -/
def row (x : S2048x8192.Idx → EReal) (b : Fin 16) (t : Fin 2048) (l : Fin 512) : EReal := x (ix2 t (⟨b * 512 + l, by omega⟩ : Fin 8192))

theorem ref_o (b : Fin 16) (t : Fin 2048) (h : Fin 8) (n : Fin 64) :
    (val_main_v1 (F := Ideal) x2 (ix4 b t h n) : EReal) = row x2 b t (lane h n) := by
  rw [val_main_v1_apply, val_main_v0_apply]
  refine congrArg x2 ?_
  have hb := b.isLt; have hh := h.isLt; have hn := n.isLt
  funext a
  apply Fin.ext
  match a with
  | ⟨0, _⟩ => show ((((t : ℕ) * 16 + b) * 8 + h) * 64 + n) / 8192 = t; omega
  | ⟨1, _⟩ => show ((((t : ℕ) * 16 + b) * 8 + h) * 64 + n) % 8192 = b * 512 + (h * 64 + n); omega

theorem zero_bits (j : S_.Idx) : (val_main_cst (F := Ideal) j : EReal) = 0 := Ideal.ofBits_zero .f32

theorem ref_mean (b : Fin 16) (t : Fin 2048) (h : Fin 8) (z : Fin 1) :
    (val_main_v5 (F := Ideal) x2 (ix4 b t h z) : EReal) = hmean (row x2 b t) h := by
  have s : (val_main_v3 (F := Ideal) x2 (ix4 b t h z) : EReal) = ∑ n, row x2 b t (lane h n) := by
    rw [val_main_v3_apply, val_main_v2_apply, zero_bits, zero_add]
    refine Finset.sum_congr rfl fun n _ => Eq.trans (congrArg (val_main_v1 (F := Ideal) x2) ?_) (ref_o x2 b t h n)
    funext a; match a with | ⟨0, _⟩ => rfl | ⟨1, _⟩ => rfl | ⟨2, _⟩ => rfl | ⟨3, _⟩ => rfl
  rw [val_main_v5_apply, s, val_main_v4_apply]
  rfl

theorem ref_off (b : Fin 16) (t : Fin 2048) (h : Fin 8) (n : Fin 64) :
    (val_main_v7 (F := Ideal) x2 (ix4 b t h n) : EReal) = off (row x2 b t) (lane h n) := by
  have q : idx_main_v6 (ix4 b t h n) = ix4 b t h 0 := by funext a; match a with | ⟨0, _⟩ => rfl | ⟨1, _⟩ => rfl | ⟨2, _⟩ => rfl | ⟨3, _⟩ => rfl
  rw [val_main_v7_apply, ref_o, val_main_v6_apply, q, ref_mean]
  unfold off
  rw [head_lane]
  rfl

theorem ref_off' (b : Fin 16) (t : Fin 2048) (h : Fin 8) (n : Fin 64) :
    (val_main_v14 (F := Ideal) x2 (ix4 b t h n) : EReal) = off (row x2 b t) (lane h n) := by
  have q : idx_main_v13 (ix4 b t h n) = ix4 b t h 0 := by funext a; match a with | ⟨0, _⟩ => rfl | ⟨1, _⟩ => rfl | ⟨2, _⟩ => rfl | ⟨3, _⟩ => rfl
  rw [val_main_v14_apply, ref_o, val_main_v13_apply, q, ref_mean]
  unfold off
  rw [head_lane]
  rfl

theorem ref_var (b : Fin 16) (t : Fin 2048) (h : Fin 8) (z : Fin 1) :
    (val_main_v12 (F := Ideal) x2 (ix4 b t h z) : EReal) = hmean (fun j => off (row x2 b t) j * off (row x2 b t) j) h := by
  have s : (val_main_v10 (F := Ideal) x2 (ix4 b t h z) : EReal) = ∑ n, off (row x2 b t) (lane h n) * off (row x2 b t) (lane h n) := by
    have zz : (val_main_cst_1 (F := Ideal) (Shape.Idx.first h_S_) : EReal) = 0 := Ideal.ofBits_zero .f32
    rw [val_main_v10_apply, val_main_v9_apply, zz, zero_add]
    refine Finset.sum_congr rfl fun n _ => ?_
    have q : idx_main_v9 (idx_main_v10 (ix4 b t h z)) n = ix4 b t h n := by
      funext a; match a with | ⟨0, _⟩ => rfl | ⟨1, _⟩ => rfl | ⟨2, _⟩ => rfl | ⟨3, _⟩ => rfl
    rw [q, val_main_v8_apply, ref_off]
    rfl
  rw [val_main_v12_apply, s, val_main_v11_apply]
  rfl

theorem ref_norm (b : Fin 16) (t : Fin 2048) (h : Fin 8) (n : Fin 64) :
    (val_main_v19 (F := Ideal) x2 (ix4 b t h n) : EReal) = off (row x2 b t) (lane h n)
      * Ideal.rsqrt (hmean (fun j => off (row x2 b t) j * off (row x2 b t) j) h + Ideal.ofBits .f32 0x3A27C5AC#32) := by
  have q : idx_main_v18 (ix4 b t h n) = ix4 b t h 0 := by funext a; match a with | ⟨0, _⟩ => rfl | ⟨1, _⟩ => rfl | ⟨2, _⟩ => rfl | ⟨3, _⟩ => rfl
  rw [val_main_v19_apply, ref_off', val_main_v18_apply, q, val_main_v17_apply, val_main_v16_apply, ref_var, val_main_v15_apply]
  rfl

/-- The batch and the time of a row. -/
def bat (R : Fin 32768) : Fin 16 := ⟨R / 2048, by omega⟩
def tim (R : Fin 32768) : Fin 2048 := ⟨R % 2048, by omega⟩

theorem ref_rec (R : Fin 32768) (l : Fin 512) : (val_main_v26 (F := Ideal) x2 x3 x4 x7 x8 (ix2 R l) : EReal)
    = plain (row x2 (bat R) (tim R)) (fun l => x7 (ix2 0 l)) (fun l => x8 (ix2 0 l)) (fun l => x3 (ix2 R l)) (fun l => x4 (ix2 R l)) l := by
  have q : idx_main_v20 (ix2 R l) = ix4 (bat R) (tim R) (head l) ⟨(l : ℕ) % 64, by omega⟩ := by
    have hR := R.isLt; have hl := l.isLt
    funext a
    apply Fin.ext
    match a with
    | ⟨0, _⟩ => show ((R : ℕ) * 512 + l) / 1048576 = R / 2048; omega
    | ⟨1, _⟩ => show ((R : ℕ) * 512 + l) / 512 % 2048 = R % 2048; omega
    | ⟨2, _⟩ => show ((R : ℕ) * 512 + l) / 64 % 8 = l / 64; omega
    | ⟨3, _⟩ => show ((R : ℕ) * 512 + l) % 64 = l % 64; omega
  have q7 : idx_main_v21 (ix2 R l) = ix2 0 l := by funext a; match a with | ⟨0, _⟩ => rfl | ⟨1, _⟩ => rfl
  have q8 : idx_main_v23 (ix2 R l) = ix2 0 l := by funext a; match a with | ⟨0, _⟩ => rfl | ⟨1, _⟩ => rfl
  rw [val_main_v26_apply, val_main_v25_apply, val_main_v24_apply, val_main_v22_apply, val_main_v20_apply, q, ref_norm, lane_head,
    val_main_v21_apply, q7, val_main_v23_apply, q8]
  rfl

theorem ref_yc (R : Fin 32768) (l : Fin 512) : (val_main_v29 (F := Ideal) x5 (ix2 R l) : EReal) = row x5 (bat R) (tim R) l := by
  have hR := R.isLt; have hl := l.isLt
  have q : idx_main_v29 (ix2 R l) = ix3 (bat R) (tim R) l := by
    funext a
    apply Fin.ext
    match a with
    | ⟨0, _⟩ => show ((R : ℕ) * 512 + l) / 1048576 = R / 2048; omega
    | ⟨1, _⟩ => show ((R : ℕ) * 512 + l) / 512 % 2048 = R % 2048; omega
    | ⟨2, _⟩ => show ((R : ℕ) * 512 + l) % 512 = l; omega
  rw [val_main_v29_apply, q, val_main_v28_apply, val_main_v27_apply]
  refine congrArg x5 ?_
  generalize bat R = b
  generalize tim R = t
  have hb := b.isLt
  funext a
  apply Fin.ext
  match a with
  | ⟨0, _⟩ => show (((t : ℕ) * 16 + b) * 512 + l) / 8192 = t; omega
  | ⟨1, _⟩ => show (((t : ℕ) * 16 + b) * 512 + l) % 8192 = b * 512 + l; omega

theorem lgt_bits (x : EReal) : Ideal.div (Ideal.ofBits .f32 0x3F800000#32) (Ideal.ofBits .f32 0x3F800000#32 + Ideal.exp (-x)) = lgt x := by
  have one : (Ideal.ofBits FTy.f32 0x3F800000#32 : EReal) = 1 := by simp
  unfold lgt
  rw [one, sub_eq_add_neg, zero_add]

theorem ref_gates (R : Fin 32768) (C : Fin 3072) : (val_main_v31 (F := Ideal) x0 x6 (ix2 R C) : EReal) = ∑ k : Fin 1024, x0 (ix2 R k) * x6 (ix2 k C) := by
  rw [val_main_v31_apply]
  refine Finset.sum_congr rfl fun k _ => ?_
  rw [val_main_v30_apply]
  refine congrArg₂ (fun a b : EReal => a * b) (congrArg x0 ?_) (congrArg x6 ?_)
  · funext a; match a with | ⟨0, _⟩ => rfl | ⟨1, _⟩ => rfl
  · funext a; match a with | ⟨0, _⟩ => rfl | ⟨1, _⟩ => rfl

theorem ref_ga (R : Fin 32768) (l : Fin 1024) : (val_main_v40 (F := Ideal) x0 x6 (ix2 R l) : EReal)
    = lgt (dot (fun k => x0 (ix2 R k)) (fun j l : Fin 1024 => x6 (ix2 j (⟨l, by omega⟩ : Fin 3072))) l) := by
  have q : idx_main_v32 (ix2 R l) = ix2 R (⟨l, by omega⟩ : Fin 3072) := by funext a; match a with | ⟨0, _⟩ => rfl | ⟨1, _⟩ => rfl
  rw [val_main_v40_apply, val_main_v39_apply, val_main_v38_apply, val_main_v37_apply, val_main_v36_apply, val_main_v35_apply, val_main_v32_apply, q,
    ref_gates]
  exact lgt_bits _

theorem ref_gb (R : Fin 32768) (l : Fin 1024) : (val_main_v49 (F := Ideal) x0 x6 (ix2 R l) : EReal)
    = lgt (dot (fun k => x0 (ix2 R k)) (fun j l : Fin 1024 => x6 (ix2 j (⟨1024 + l, by omega⟩ : Fin 3072))) l) := by
  have q : idx_main_v33 (ix2 R l) = ix2 R (⟨1024 + l, by omega⟩ : Fin 3072) := by funext a; match a with | ⟨0, _⟩ => rfl | ⟨1, _⟩ => rfl
  rw [val_main_v49_apply, val_main_v48_apply, val_main_v47_apply, val_main_v46_apply, val_main_v45_apply, val_main_v44_apply, val_main_v33_apply, q,
    ref_gates]
  exact lgt_bits _

theorem ref_gc (R : Fin 32768) (l : Fin 1024) : (val_main_v59 (F := Ideal) x0 x6 (ix2 R l) : EReal)
    = lgt (dot (fun k => x0 (ix2 R k)) (fun j l : Fin 1024 => x6 (ix2 j (⟨2048 + l, by omega⟩ : Fin 3072))) l) := by
  have q : idx_main_v34 (ix2 R l) = ix2 R (⟨2048 + l, by omega⟩ : Fin 3072) := by funext a; match a with | ⟨0, _⟩ => rfl | ⟨1, _⟩ => rfl
  rw [val_main_v59_apply, val_main_v58_apply, val_main_v57_apply, val_main_v56_apply, val_main_v55_apply, val_main_v54_apply, val_main_v34_apply, q,
    ref_gates]
  exact lgt_bits _

theorem ref_a (R : Fin 32768) (l : Fin 1024) : (val_main_v42 (F := Ideal) x1 x9 (ix2 R l) : EReal)
    = dot (fun k => x1 (ix2 R k)) (fun j l => x9 (ix2 j l)) l := by
  rw [val_main_v42_apply]
  refine Finset.sum_congr rfl fun k _ => ?_
  rw [val_main_v41_apply]
  refine congrArg₂ (fun a b : EReal => a * b) (congrArg x1 ?_) (congrArg x9 ?_)
  · funext a; match a with | ⟨0, _⟩ => rfl | ⟨1, _⟩ => rfl
  · funext a; match a with | ⟨0, _⟩ => rfl | ⟨1, _⟩ => rfl

theorem ref_b (R : Fin 32768) (l : Fin 1024) : (val_main_v51 (F := Ideal) x2 x3 x4 x7 x8 x10 (ix2 R l) : EReal)
    = dot (plain (row x2 (bat R) (tim R)) (fun l => x7 (ix2 0 l)) (fun l => x8 (ix2 0 l)) (fun l => x3 (ix2 R l)) (fun l => x4 (ix2 R l)))
        (fun j l => x10 (ix2 j l)) l := by
  rw [val_main_v51_apply]
  refine Finset.sum_congr rfl fun k _ => ?_
  have q : lidx_main_v51 (ix2 R l) k = ix2 R k := by funext a; match a with | ⟨0, _⟩ => rfl | ⟨1, _⟩ => rfl
  rw [val_main_v50_apply, q, ref_rec]
  refine congrArg (fun b : EReal => _ * b) (congrArg x10 ?_)
  funext a; match a with | ⟨0, _⟩ => rfl | ⟨1, _⟩ => rfl

theorem ref_c (R : Fin 32768) (l : Fin 1024) : (val_main_v61 (F := Ideal) x5 x11 (ix2 R l) : EReal)
    = dot (row x5 (bat R) (tim R)) (fun j l => x11 (ix2 j l)) l := by
  rw [val_main_v61_apply]
  refine Finset.sum_congr rfl fun k _ => ?_
  have q : lidx_main_v61 (ix2 R l) k = ix2 R k := by funext a; match a with | ⟨0, _⟩ => rfl | ⟨1, _⟩ => rfl
  rw [val_main_v60_apply, q, ref_yc]
  refine congrArg (fun b : EReal => _ * b) (congrArg x11 ?_)
  funext a; match a with | ⟨0, _⟩ => rfl | ⟨1, _⟩ => rfl

/-- The row of gated sums. -/
def sums (R : Fin 32768) : Fin 1024 → EReal :=
  merged (fun k => x0 (ix2 R k)) (fun k => x1 (ix2 R k))
    (plain (row x2 (bat R) (tim R)) (fun l => x7 (ix2 0 l)) (fun l => x8 (ix2 0 l)) (fun l => x3 (ix2 R l)) (fun l => x4 (ix2 R l)))
    (row x5 (bat R) (tim R)) (fun j l => x6 (ix2 j (⟨l, by omega⟩ : Fin 3072))) (fun j l => x6 (ix2 j (⟨1024 + l, by omega⟩ : Fin 3072)))
    (fun j l => x6 (ix2 j (⟨2048 + l, by omega⟩ : Fin 3072))) (fun j l => x9 (ix2 j l)) (fun j l => x10 (ix2 j l)) (fun j l => x11 (ix2 j l))

theorem ref_sums (R : Fin 32768) (l : Fin 1024) : (val_main_v63 (F := Ideal) x0 x1 x2 x3 x4 x5 x6 x7 x8 x9 x10 x11 (ix2 R l) : EReal)
    = sums x0 x1 x2 x3 x4 x5 x6 x7 x8 x9 x10 x11 R l := by
  rw [val_main_v63_apply, val_main_v53_apply, val_main_v43_apply, val_main_v52_apply, val_main_v62_apply, ref_ga, ref_gb, ref_gc, ref_a, ref_b, ref_c]
  rfl

/-- The row that is normalised. -/
def pre (R : Fin 32768) (l : Fin 1024) : EReal :=
  Ideal.ofBits .f32 0x3FB504F3#32 * x0 (ix2 R l) + dot (sums x0 x1 x2 x3 x4 x5 x6 x7 x8 x9 x10 x11 R) (fun j l => x12 (ix2 j l)) l

theorem ref_pre (R : Fin 32768) (l : Fin 1024) : (val_main_v68 (F := Ideal) x0 x1 x2 x3 x4 x5 x6 x7 x8 x9 x10 x11 x12 (ix2 R l) : EReal)
    = pre x0 x1 x2 x3 x4 x5 x6 x7 x8 x9 x10 x11 x12 R l := by
  rw [val_main_v68_apply, val_main_v65_apply, val_main_v64_apply, val_main_v67_apply]
  refine congrArg (fun b : EReal => Ideal.ofBits .f32 0x3FB504F3#32 * x0 (ix2 R l) + b) (Finset.sum_congr rfl fun k _ => ?_)
  have q : lidx_main_v67 (ix2 R l) k = ix2 R k := by funext a; match a with | ⟨0, _⟩ => rfl | ⟨1, _⟩ => rfl
  rw [val_main_v66_apply, q, ref_sums]
  refine congrArg (fun b : EReal => _ * b) (congrArg x12 ?_)
  funext a; match a with | ⟨0, _⟩ => rfl | ⟨1, _⟩ => rfl

theorem ref_mean1 (R : Fin 32768) (z : Fin 1) : (val_main_v72 (F := Ideal) x0 x1 x2 x3 x4 x5 x6 x7 x8 x9 x10 x11 x12 (ix2 R z) : EReal)
    = mean (pre x0 x1 x2 x3 x4 x5 x6 x7 x8 x9 x10 x11 x12 R) := by
  have zz : (val_main_cst_11 (F := Ideal) (Shape.Idx.first h_S_) : EReal) = 0 := Ideal.ofBits_zero .f32
  have s : (val_main_v70 (F := Ideal) x0 x1 x2 x3 x4 x5 x6 x7 x8 x9 x10 x11 x12 (ix2 R z) : EReal) = ∑ j, pre x0 x1 x2 x3 x4 x5 x6 x7 x8 x9 x10 x11 x12 R j := by
    rw [val_main_v70_apply, val_main_v69_apply, zz, zero_add]
    refine Finset.sum_congr rfl fun k _ => ?_
    have q : idx_main_v69 (idx_main_v70 (ix2 R z)) k = ix2 R k := by funext a; match a with | ⟨0, _⟩ => rfl | ⟨1, _⟩ => rfl
    rw [q, ref_pre]
  rw [val_main_v72_apply, s, val_main_v71_apply]
  rfl

theorem ref_cen (R : Fin 32768) (l : Fin 1024) : (val_main_v74 (F := Ideal) x0 x1 x2 x3 x4 x5 x6 x7 x8 x9 x10 x11 x12 (ix2 R l) : EReal)
    = pre x0 x1 x2 x3 x4 x5 x6 x7 x8 x9 x10 x11 x12 R l - mean (pre x0 x1 x2 x3 x4 x5 x6 x7 x8 x9 x10 x11 x12 R) := by
  have q : idx_main_v73 (ix2 R l) = ix2 R 0 := by funext a; match a with | ⟨0, _⟩ => rfl | ⟨1, _⟩ => rfl
  rw [val_main_v74_apply, val_main_v73_apply, q, ref_mean1, ref_pre]
  rfl

theorem ref_cen' (R : Fin 32768) (l : Fin 1024) : (val_main_v81 (F := Ideal) x0 x1 x2 x3 x4 x5 x6 x7 x8 x9 x10 x11 x12 (ix2 R l) : EReal)
    = pre x0 x1 x2 x3 x4 x5 x6 x7 x8 x9 x10 x11 x12 R l - mean (pre x0 x1 x2 x3 x4 x5 x6 x7 x8 x9 x10 x11 x12 R) := by
  have q : idx_main_v80 (ix2 R l) = ix2 R 0 := by funext a; match a with | ⟨0, _⟩ => rfl | ⟨1, _⟩ => rfl
  rw [val_main_v81_apply, val_main_v80_apply, q, ref_mean1, ref_pre]
  rfl

theorem ref_var1 (R : Fin 32768) (z : Fin 1) : (val_main_v79 (F := Ideal) x0 x1 x2 x3 x4 x5 x6 x7 x8 x9 x10 x11 x12 (ix2 R z) : EReal)
    = mean (fun j => (pre x0 x1 x2 x3 x4 x5 x6 x7 x8 x9 x10 x11 x12 R j - mean (pre x0 x1 x2 x3 x4 x5 x6 x7 x8 x9 x10 x11 x12 R)) * (pre x0 x1 x2 x3 x4 x5 x6 x7 x8 x9 x10 x11 x12 R j - mean (pre x0 x1 x2 x3 x4 x5 x6 x7 x8 x9 x10 x11 x12 R))) := by
  have zz : (val_main_cst_13 (F := Ideal) (Shape.Idx.first h_S_) : EReal) = 0 := Ideal.ofBits_zero .f32
  have s : (val_main_v77 (F := Ideal) x0 x1 x2 x3 x4 x5 x6 x7 x8 x9 x10 x11 x12 (ix2 R z) : EReal)
      = ∑ j, (pre x0 x1 x2 x3 x4 x5 x6 x7 x8 x9 x10 x11 x12 R j - mean (pre x0 x1 x2 x3 x4 x5 x6 x7 x8 x9 x10 x11 x12 R)) * (pre x0 x1 x2 x3 x4 x5 x6 x7 x8 x9 x10 x11 x12 R j - mean (pre x0 x1 x2 x3 x4 x5 x6 x7 x8 x9 x10 x11 x12 R)) := by
    rw [val_main_v77_apply, val_main_v76_apply, zz, zero_add]
    refine Finset.sum_congr rfl fun k _ => ?_
    have q : idx_main_v76 (idx_main_v77 (ix2 R z)) k = ix2 R k := by funext a; match a with | ⟨0, _⟩ => rfl | ⟨1, _⟩ => rfl
    rw [q, val_main_v75_apply, ref_cen]
    rfl
  rw [val_main_v79_apply, s, val_main_v78_apply]
  rfl

theorem ref_norm1 (R : Fin 32768) (l : Fin 1024) : (val_main_v90 (F := Ideal) x0 x1 x2 x3 x4 x5 x6 x7 x8 x9 x10 x11 x12 x13 x14 (ix2 R l) : EReal)
    = norm (pre x0 x1 x2 x3 x4 x5 x6 x7 x8 x9 x10 x11 x12 R) (fun l => x13 (ix2 0 l)) (fun l => x14 (ix2 0 l)) l := by
  have q : idx_main_v85 (ix2 R l) = ix2 R 0 := by funext a; match a with | ⟨0, _⟩ => rfl | ⟨1, _⟩ => rfl
  have q13 : idx_main_v87 (ix2 R l) = ix2 0 l := by funext a; match a with | ⟨0, _⟩ => rfl | ⟨1, _⟩ => rfl
  have q14 : idx_main_v89 (ix2 R l) = ix2 0 l := by funext a; match a with | ⟨0, _⟩ => rfl | ⟨1, _⟩ => rfl
  rw [val_main_v90_apply, val_main_v88_apply, val_main_v86_apply, ref_cen', val_main_v85_apply, q, val_main_v84_apply, val_main_v83_apply, ref_var1,
    val_main_v82_apply, val_main_v87_apply, q13, val_main_v89_apply, q14]
  rfl

/-- The reference's result is the kernel's, wherever the recurrence's output is a number. -/
theorem ref_eq (h : ∀ i, x2 i ≠ ⊤ ∧ x2 i ≠ ⊥) (R : Fin 32768) (C : Fin 1024) :
    (val_main_v90 (F := Ideal) x0 x1 x2 x3 x4 x5 x6 x7 x8 x9 x10 x11 x12 x13 x14 (ix2 R C) : EReal)
      = mixed x0 x1 x2 x3 x4 x5 x6 x7 x8 x9 x10 x11 x12 x13 x14 R C := by
  rw [ref_norm1]
  unfold mixed
  rw [branch_plain _ _ _ _ _ fun l => h _]
  rfl

end Cert.Mix

end
-- ==== Proof.Mix.Pre.lean ====
module

public import proofs.«01_k».proof.Defs
public import proofs.«01_k».proof.Proof.Mix.Ref
public import Idealize.ShloMosaic.Lib.ReduceAll

@[expose] public section

noncomputable section

/-! The precondition says that every entry of the recurrence's output is a number. -/

namespace Cert.Mix
open Idealize.ShloMosaic Cert.Pre_mixed

theorem facts_pre : Cert.Pre_mixed.Facts := by
  constructor
  all_goals decide

theorem numbers (inst : Cert.Pre_mixed.Facts) (y0 : FVec Ideal S32768x1024 .f32) (y1 : FVec Ideal S32768x512 .f32) (x : FVec Ideal S2048x8192 .f32)
    (y3 y4 : FVec Ideal S32768x512 .f32) (y5 : FVec Ideal S2048x8192 .f32) (y6 : FVec Ideal S1024x3072 .bf16) (y7 y8 : FVec Ideal S1x512 .f32)
    (y9 y10 y11 : FVec Ideal S512x1024 .bf16) (y12 : FVec Ideal S1024x1024 .bf16) (y13 y14 : FVec Ideal S1x1024 .f32)
    (h : Cert.Pre_mixed.fn (F := Ideal) y0 y1 x y3 y4 y5 y6 y7 y8 y9 y10 y11 y12 y13 y14 = fun _ => 1#1) (i : S2048x8192.Idx) :
    (x i : EReal) ≠ ⊤ ∧ (x i : EReal) ≠ ⊥ := by
  haveI : Subsingleton S_.Idx := ⟨fun a b => funext fun k => k.elim0⟩
  have h : Host.reduce IntOp.andi (cmpf .olt (Host.absf x)
      (broadcastInDim S2048x8192 ![] Facts.bcast_S_S2048x8192 (constant (F := Ideal) S_ .f32 0x7F800000#32)))
      (constantI S_ 1 1#1) Facts.reducesTo_S2048x8192_S_d0_1 Facts.h_S_ (fun k => k.elim0) = 1#1 := congrFun h (fun k => k.elim0)
  have e := Host.reduce_andi_all _ _ _ _ _ h i
  revert e
  pointwise
  intro e
  have e : max (x i : EReal) (-(x i : EReal)) < Ideal.ofBits FTy.f32 2139095040#32 := by
    by_contra hn
    exact absurd ((congrArg BitVec.ofBool (decide_eq_false hn)).symm.trans e) (by decide)
  rw [show Ideal.ofBits FTy.f32 2139095040#32 = ⊤ by simp [Ideal.ofBits, Ideal.ieee]] at e
  constructor
  · intro hx; rw [hx] at e; simp at e
  · intro hx; rw [hx] at e; simp at e

end Cert.Mix

end
-- ==== Proof.Kv.Row.lean ====
/- Shapes shared by the key and value expansion and the input projection: rows widened with zeros, and blocks stored head by head. -/
module

public import Idealize.ShloMosaic.Lib.Pipeline.ValueKit.Geometry
public import Idealize.ShloMosaic.PureOps.Ideal
public import Idealize.ShloMosaic.Lib.Pointwise

@[expose] public section

set_option maxRecDepth 16384

noncomputable section

namespace Cert.Kv

open Idealize.ShloMosaic

/-- Rows of 32 lanes widened to 128. -/
theorem pad_at (x : (⟨2, ![32768, 32]⟩ : Shape).Idx → EReal) {u : Shape} (v : u.Idx → EReal)
    (h : (⟨2, ![32768, 32]⟩ : Shape).Pads ![0, 0] ![0, 96] ![0, 0] ⟨2, ![32768, 128]⟩) (hu : 0 < u.numel) (R : Fin 32768) (l : Fin 128) :
    pad ⟨2, ![32768, 128]⟩ ![0, 0] ![0, 96] ![0, 0] x v h hu (ix2 R l) = if q : (l : ℕ) < 32 then x (ix2 R (⟨l, q⟩ : Fin 32)) else v (Shape.Idx.first hu) := by
  rw [pad_apply]
  by_cases q : (l : ℕ) < 32
  · rw [dif_pos q, dif_pos]
    · refine congrArg x ?_
      funext a
      apply Fin.ext
      match a with
      | ⟨0, _⟩ => show ((R : ℕ) - 0) / 1 = R; omega
      | ⟨1, _⟩ => show ((l : ℕ) - 0) / 1 = l; omega
    · intro a
      match a with
      | ⟨0, _⟩ => exact ⟨Nat.zero_le _, Nat.mod_one _, show ((R : ℕ) - 0) / 1 < 32768 by omega⟩
      | ⟨1, _⟩ => exact ⟨Nat.zero_le _, Nat.mod_one _, show ((l : ℕ) - 0) / 1 < 32 by omega⟩
  · rw [dif_neg q, dif_neg]
    intro hn
    have := (hn ⟨1, by decide⟩).2.2
    have : ((l : ℕ) - 0) / 1 < 32 := this
    omega

/-- Where a head's 128 columns of a row lie. -/
theorem emb_cols (c : ℕ) (inb : ∀ a, (![0, c] : Fin 2 → ℕ) a + (⟨2, ![512, 128]⟩ : Shape).size a ≤ (⟨2, ![512, 1024]⟩ : Shape).size a)
    (r : Fin 512) (l : Fin 128) (hc : c + 128 ≤ 1024) :
    (Rect.unit (s := ⟨2, ![512, 1024]⟩) ![0, c] (⟨2, ![512, 128]⟩ : Shape).size inb).emb (ix2 r l) = ix2 r (⟨c + l, by omega⟩ : Fin 1024) := by
  funext a
  apply Fin.ext
  match a with
  | ⟨0, _⟩ => show 0 + 1 * (r : ℕ) = r; omega
  | ⟨1, _⟩ => show c + 1 * (l : ℕ) = c + l; omega

/-- One head's store holds the block's entries at its columns. -/
theorem piece (G : Fin 512 → Fin 1024 → EReal) (c : ℕ)
    (inb : ∀ a, (![0, c] : Fin 2 → ℕ) a + (⟨2, ![512, 128]⟩ : Shape).size a ≤ (⟨2, ![512, 1024]⟩ : Shape).size a) (hc : c + 128 ≤ 1024)
    (y : (⟨2, ![512, 128]⟩ : Shape).Idx → EReal) (e : ∀ (r : Fin 512) (l : Fin 128), y (ix2 r l) = G r ⟨c + l, by omega⟩)
    (x : (⟨2, ![512, 128]⟩ : Shape).Idx) :
    y x = (fun i : (⟨2, ![512, 1024]⟩ : Shape).Idx => G (i 0) (i 1)) ((Rect.unit (s := ⟨2, ![512, 1024]⟩) ![0, c] (⟨2, ![512, 128]⟩ : Shape).size inb).emb x) := by
  obtain ⟨r, l, rfl⟩ : ∃ (r : Fin 512) (l : Fin 128), x = ix2 r l := ⟨x 0, x 1, by funext a; match a with | ⟨0, _⟩ => rfl | ⟨1, _⟩ => rfl⟩
  rw [emb_cols c inb r l hc]
  exact e r l

end Cert.Kv

end
-- ==== Proof.Kv.Weights.lean ====
/- What the key and value expansion receives from the host: the weights cut by head, and the rotary keys widened. -/
module

public import proofs.«01_k».proof.Proof.Gen.Kernel5Ideal.Frame
public import proofs.«01_k».proof.Proof.Kv.Row
public import Idealize.ShloMosaic.Lib.StableHlo.RunRead
public import Idealize.ShloMosaic.Lib.Pipeline.ValueKit.Geometry
public import Idealize.ShloMosaic.PureOps.Ideal
public import Idealize.ShloMosaic.Lib.Pointwise
public import Idealize.ShloMosaic.Lib.IdealHost

@[expose] public section

set_option maxRecDepth 16384

noncomputable section

namespace Cert.Kv

open Cert.Kernel5Ideal Cert.Kernel5Ideal.Gen
open Idealize.ShloMosaic Idealize.ShloMosaic.TcCoe

variable (m : (ℓ : Loc nD τ sig) → Buf (Elt Ideal) ℓ)

/-- The key weights: a head's 128 columns hold zeros, the 64 position-free columns, and zeros. -/
theorem wk_at (c : Dev nD) (j : Fin 256) (l : Fin 1024) : (V m c main_v7 (ix2 j l) : EReal)
    = if (l : ℕ) % 128 < 32 then (0 : EReal)
      else if (l : ℕ) % 128 - 32 < 64 then (m ((c : Thread nD τ).loc main_arg2) (ix2 j (⟨(l : ℕ) / 128 * 128 + ((l : ℕ) % 128 - 32), by omega⟩ : Fin 1024)) : EReal)
      else (0 : EReal) := by
  show StableHlo.after (List.flatten [hostOps0, hostOps0_1]) _ (Proc.devRef .tc main_v7) _ = _
  have z : ∀ i, (StableHlo.upto (List.flatten [hostOps0 (F := Ideal), hostOps0_1]) (fun b => m (c, b)) 6 (Proc.devRef .tc main_v4) i : EReal) = (0 : EReal) := by
    intro i
    after_reads_simp
    exact Ideal.ofBits_zero .f32
  after_reads_simp
  pointwise
  simp only [z]
  after_reads_simp
  pointwise
  rfl

/-- The value weights: a head's last 64 columns. -/
theorem wv_at (c : Dev nD) (j : Fin 256) (l : Fin 512) : (V m c main_v9 (ix2 j l) : EReal)
    = m ((c : Thread nD τ).loc main_arg2) (ix2 j (⟨(l : ℕ) / 64 * 128 + (64 + (l : ℕ) % 64), by omega⟩ : Fin 1024)) := by
  show StableHlo.after (List.flatten [hostOps0, hostOps0_1]) _ (Proc.devRef .tc main_v9) _ = _
  after_reads_simp
  pointwise

/-- The rotary keys with zeros after their 32 lanes. -/
theorem pe_at (c : Dev nD) (j : Fin 32768) (l : Fin 128) : (V m c main_v10 (ix2 j l) : EReal)
    = if h : (l : ℕ) < 32 then (m ((c : Thread nD τ).loc main_arg1) (ix2 j (⟨l, h⟩ : Fin 32)) : EReal) else (0 : EReal) := by
  show StableHlo.after (List.flatten [hostOps0, hostOps0_1]) _ (Proc.devRef .tc main_v10) _ = _
  after_reads_simp
  change pad S32768x128 ![0, 0] ![0, 96] ![0, 0] (m ((c : Thread nD τ).loc main_arg1)) (sitofp (F := Ideal) .f32 (constantI S_ 32 0#32))
    pads_S32768x32_S32768x128_000_0960 h_S_ (ix2 j l) = _
  rw [Cert.Kv.pad_at]
  have z : (FloatOps.sitofp (F := Ideal) .f32 0#32 : EReal) = 0 := by show (((0 : ℤ) : ℝ) : EReal) = 0; norm_num
  show (if h : (l : ℕ) < 32 then _ else (FloatOps.sitofp (F := Ideal) .f32 0#32 : EReal)) = _
  rw [z]

end Cert.Kv

end
-- ==== Proof.Kv.Value.lean ====
/- The key and value expansion's result arrays: every head's keys and values of the whole arguments. -/
module

public import proofs.«01_k».proof.Proof.Kv.Weights
public import proofs.«01_k».proof.Proof.Gen.Kernel5Ideal.Value

@[expose] public section

set_option maxRecDepth 16384

noncomputable section

namespace Cert.Kv

open Cert.Kernel5Ideal Cert.Kernel5Ideal.Gen
open Idealize.ShloMosaic Idealize.ShloMosaic.TcCoe Idealize.SL.Sem

variable (m : (ℓ : Loc nD τ sig) → Buf (Elt Ideal) ℓ)

/-- The block's keys at row `r`, column `C`, from the blocks. -/
def keys (x0 : Vec Ideal S512x256 .f32) (x1 : Vec Ideal S512x128 .f32) (x2 : Vec Ideal S256x1024 .bf16) (r : Fin 512) (C : Fin 1024) : EReal :=
  (∑ k : Fin 256, (x0 (ix2 r k) : EReal) * x2 (ix2 k C)) + x1 (ix2 r (⟨(C : ℕ) % 128, by omega⟩ : Fin 128))

theorem keys_at (x0 : Vec Ideal S512x256 .f32) (x1 : Vec Ideal S512x128 .f32) (x2 : Vec Ideal S256x1024 .bf16) (r : Fin 512) (l : Fin 128)
    (c : ℕ) (hc : c + 128 ≤ 1024) (hd : c % 128 = 0) : keys x0 x1 x2 r ⟨c + l, by omega⟩
    = (∑ k : Fin 256, (x0 (ix2 r k) : EReal) * x2 (ix2 k (⟨c + l, by omega⟩ : Fin 1024))) + x1 (ix2 r l) := by
  have e : (⟨(c + (l : ℕ)) % 128, by omega⟩ : Fin 128) = l := Fin.ext (show (c + (l : ℕ)) % 128 = l by omega)
  unfold keys
  simp only [e]

theorem out_k (x0 : Vec Ideal S512x256 .f32) (x1 : Vec Ideal S512x128 .f32) (x2 : Vec Ideal S256x1024 .bf16) (x3 : Vec Ideal S256x512 .bf16)
    (r : Fin 512) (C : Fin 1024) : (out0_4 (F := Ideal) x0 x1 x2 x3 (ix2 r C) : EReal) = keys x0 x1 x2 r C := by
  have s0 : ∀ X : Vec Ideal S512x256 .f32, View.ld X r0_0 = X := fun X => View.ld_unit_lit _ X (by decide)
  have s1 : ∀ X : Vec Ideal S256x1024 .bf16, View.ld X r0_1 = X := fun X => View.ld_unit_lit _ X (by decide)
  have s2 : ∀ X : Vec Ideal S512x128 .f32, View.ld X r0_2 = X := fun X => View.ld_unit_lit _ X (by decide)
  have key := View.canon_apply_of_pieces (Val := Elt Ideal) (S := S512x1024) (e := .bf16) (fun y => keys x0 x1 x2 (y 0) (y 1))
  unfold out0_4
  simp only [s0, s1, s2]
  refine (key _ ?_ (ix2 r C) (cover0_4 _ _ _ _ _ _ _ _ _)).trans rfl
  intro p hp x
  simp only [List.mem_cons, List.not_mem_nil, or_false] at hp
  rcases hp with rfl | rfl | rfl | rfl | rfl | rfl | rfl | rfl
  all_goals
    refine piece (keys x0 x1 x2) _ (by decide) (by decide) _ (fun r l => ?_) x
    rw [keys_at _ _ _ _ _ _ (by decide) (by decide)]
    unfold_payloads
    pointwise

theorem out_v (x0 : Vec Ideal S512x256 .f32) (x1 : Vec Ideal S512x128 .f32) (x2 : Vec Ideal S256x1024 .bf16) (x3 : Vec Ideal S256x512 .bf16)
    (r : Fin 512) (C : Fin 512) : (out0_5 (F := Ideal) x0 x1 x2 x3 (ix2 r C) : EReal) = ∑ k : Fin 256, (x0 (ix2 r k) : EReal) * x3 (ix2 k C) := by
  have s0 : ∀ X : Vec Ideal S512x256 .f32, View.ld X r0_0 = X := fun X => View.ld_unit_lit _ X (by decide)
  have s1 : ∀ X : Vec Ideal S256x512 .bf16, View.ld X r0_11 = X := fun X => View.ld_unit_lit _ X (by decide)
  unfold out0_5
  refine (congrFun (View.canon_cons_unit_lit (Val := Elt Ideal) (S := S512x512) (off := ![0, 0]) _ _ [] (by decide)) (ix2 r C)).trans ?_
  simp only [s0, s1]
  unfold_payloads
  pointwise

theorem e0 : ∀ t : Fin cfg0.N, win0_0.index t = ![(grid0.coords t 0).val, 0] := (by decide +kernel : ∀ t : Fin grid0.N, _)
theorem e1 : ∀ t : Fin cfg0.N, win0_1.index t = ![(grid0.coords t 0).val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![(grid0.coords t 0).val, 0] := (by decide +kernel : ∀ t : Fin grid0.N, _)
theorem e5 : ∀ t : Fin cfg0.N, win0_5.index t = ![(grid0.coords t 0).val, 0] := (by decide +kernel : ∀ t : Fin grid0.N, _)

theorem ckv_blk (c : Dev nD) (t : Fin cfg0.N) (r : Fin 512) (k : Fin 256) (R : Fin 32768) (hR : (R : ℕ) = (grid0.coords t 0).val * 512 + r) :
    (iblk m c 0 t (ix2 r k) : EReal) = m ((c : Thread nD τ).loc main_arg0) (ix2 R k) := by
  blk_simp [iblk]
  refine (congrFun (V_main_arg0 m c) _).trans (congrArg _ ?_)
  blk_ext [e0]
  all_goals (first | exact hR.symm | (simp [ix2]; omega))

theorem pe_blk (c : Dev nD) (t : Fin cfg0.N) (r : Fin 512) (k : Fin 128) (R : Fin 32768) (hR : (R : ℕ) = (grid0.coords t 0).val * 512 + r) :
    (iblk m c 1 t (ix2 r k) : EReal) = if h : (k : ℕ) < 32 then (m ((c : Thread nD τ).loc main_arg1) (ix2 R (⟨k, h⟩ : Fin 32)) : EReal) else (0 : EReal) := by
  refine Eq.trans ?_ (pe_at m c R k)
  blk_simp [iblk]
  refine congrArg _ ?_
  blk_ext [e1]
  all_goals (first | exact hR.symm | (simp [ix2]; omega))

theorem wk_blk (c : Dev nD) (t : Fin cfg0.N) (j : Fin 256) (l : Fin 1024) : (iblk m c 2 t (ix2 j l) : EReal)
    = if (l : ℕ) % 128 < 32 then (0 : EReal)
      else if (l : ℕ) % 128 - 32 < 64 then (m ((c : Thread nD τ).loc main_arg2) (ix2 j (⟨(l : ℕ) / 128 * 128 + ((l : ℕ) % 128 - 32), by omega⟩ : Fin 1024)) : EReal)
      else (0 : EReal) := by
  refine Eq.trans ?_ (wk_at m c j l)
  blk_simp [iblk]
  refine congrArg _ ?_
  blk_ext [e2]

theorem wv_blk (c : Dev nD) (t : Fin cfg0.N) (j : Fin 256) (l : Fin 512) : (iblk m c 3 t (ix2 j l) : EReal)
    = m ((c : Thread nD τ).loc main_arg2) (ix2 j (⟨(l : ℕ) / 64 * 128 + (64 + (l : ℕ) % 64), by omega⟩ : Fin 1024)) := by
  refine Eq.trans ?_ (wv_at m c j l)
  blk_simp [iblk]
  refine congrArg _ ?_
  blk_ext [e3]

/-- The key of row `R`, column `C`: 32 rotary lanes, 64 lanes of the latent's product, 32 zeros for every head. -/
def key (ckv : S32768x256.Idx → EReal) (kpe : S32768x32.Idx → EReal) (w : S256x1024.Idx → EReal) (R : Fin 32768) (C : Fin 1024) : EReal :=
  if h : (C : ℕ) % 128 < 32 then kpe (ix2 R (⟨(C : ℕ) % 128, h⟩ : Fin 32))
  else if (C : ℕ) % 128 - 32 < 64 then ∑ k : Fin 256, ckv (ix2 R k) * w (ix2 k (⟨(C : ℕ) / 128 * 128 + ((C : ℕ) % 128 - 32), by omega⟩ : Fin 1024))
  else 0

/-- The value of row `R`, column `C`: the latent's product with the head's last 64 columns. -/
def value (ckv : S32768x256.Idx → EReal) (w : S256x1024.Idx → EReal) (R : Fin 32768) (C : Fin 512) : EReal :=
  ∑ k : Fin 256, ckv (ix2 R k) * w (ix2 k (⟨(C : ℕ) / 64 * 128 + (64 + (C : ℕ) % 64), by omega⟩ : Fin 1024))

theorem final_k (c : Dev nD) : (dats m 0 c).arrAt 4 cfg0.N = fun i : S32768x1024.Idx =>
    key (m ((c : Thread nD τ).loc main_arg0)) (m ((c : Thread nD τ).loc main_arg1)) (m ((c : Thread nD τ).loc main_arg2)) (i 0) (i 1) := by
  refine (dats m 0 c).arrAt_eq_of_covers 4 _ (by decide +kernel) fun t hf y => ?_
  blk_simp
  rw [after0_4]
  obtain ⟨r, l, rfl⟩ : ∃ (r : Fin 512) (l : Fin 1024), y = ix2 r l := ⟨y 0, y 1, by funext a; match a with | ⟨0, _⟩ => rfl | ⟨1, _⟩ => rfl⟩
  have hR : ((((win0_4.blk t).view.emb (ix2 r l)) 0 : Fin 32768) : ℕ) = (grid0.coords t 0).val * 512 + r := by
    blk_simp [e4]
  have hC : ((win0_4.blk t).view.emb (ix2 r l)) 1 = l := by
    apply Fin.ext
    blk_simp [e4]
  generalize ((win0_4.blk t).view.emb (ix2 r l)) 0 = R at hR
  rw [hC]
  refine (out_k _ _ _ _ r l).trans ?_
  have f0 : ∀ k, (iblk m c 0 t (ix2 r k) : EReal) = _ := fun k => ckv_blk m c t r k R hR
  have f1 : ∀ k, (iblk m c 1 t (ix2 r k) : EReal) = _ := fun k => pe_blk m c t r k R hR
  unfold keys key
  simp only [f0, f1, wk_blk]
  split
  · simp
  · split
    · simp
    · simp

theorem final_v (c : Dev nD) : (dats m 0 c).arrAt 5 cfg0.N = fun i : S32768x512.Idx =>
    value (m ((c : Thread nD τ).loc main_arg0)) (m ((c : Thread nD τ).loc main_arg2)) (i 0) (i 1) := by
  refine (dats m 0 c).arrAt_eq_of_covers 5 _ (by decide +kernel) fun t hf y => ?_
  blk_simp
  rw [after0_5]
  obtain ⟨r, l, rfl⟩ : ∃ (r : Fin 512) (l : Fin 512), y = ix2 r l := ⟨y 0, y 1, by funext a; match a with | ⟨0, _⟩ => rfl | ⟨1, _⟩ => rfl⟩
  have hR : ((((win0_5.blk t).view.emb (ix2 r l)) 0 : Fin 32768) : ℕ) = (grid0.coords t 0).val * 512 + r := by
    blk_simp [e5]
  have hC : ((win0_5.blk t).view.emb (ix2 r l)) 1 = l := by
    apply Fin.ext
    blk_simp [e5]
  generalize ((win0_5.blk t).view.emb (ix2 r l)) 0 = R at hR
  rw [hC]
  refine (out_v _ (iblk m c 1 t) (iblk m c 2 t) _ r l).trans ?_
  have f0 : ∀ k, (iblk m c 0 t (ix2 r k) : EReal) = _ := fun k => ckv_blk m c t r k R hR
  unfold value
  simp only [f0, wv_blk]

end Cert.Kv

end
-- ==== Proof.Kv.Ref.lean ====
/- The reference's keys and values, entry by entry. -/
module

public import proofs.«01_k».proof.Proof.Kv.Value
public import proofs.«01_k».proof.Proof.Gen.Reference5Ideal.Read

@[expose] public section

set_option maxRecDepth 16384

noncomputable section

namespace Cert.Kv

open Cert.Reference5Ideal Cert.Reference5Ideal.Gen Cert.Reference5Ideal.Read Idealize.ShloMosaic

variable (x0 : S32768x256.Idx → EReal) (x1 : S32768x32.Idx → EReal) (x2 : S256x1024.Idx → EReal)

theorem ref_kv (R : Fin 32768) (h : Fin 8) (n : Fin 128) : (val_main_v1 (F := Ideal) x0 x2 (ix3 R h n) : EReal)
    = ∑ k : Fin 256, x0 (ix2 R k) * x2 (ix2 k (⟨h * 128 + n, by omega⟩ : Fin 1024)) := by
  rw [val_main_v1_apply, val_main_v0_apply]
  have hh := h.isLt; have hn := n.isLt
  refine Finset.sum_congr rfl fun k _ => congrArg₂ (fun a b : EReal => a * b) (congrArg x0 ?_) (congrArg x2 ?_)
  · funext a
    apply Fin.ext
    match a with
    | ⟨0, _⟩ => show (((R : ℕ) * 8 + h) * 128 + n) / 1024 = R; omega
    | ⟨1, _⟩ => rfl
  · funext a
    apply Fin.ext
    match a with
    | ⟨0, _⟩ => rfl
    | ⟨1, _⟩ => show (((R : ℕ) * 8 + h) * 128 + n) % 1024 = h * 128 + n; omega

theorem ref_v (R : Fin 32768) (C : Fin 512) : (val_main_v11 (F := Ideal) x0 x2 (ix2 R C) : EReal) = value x0 x2 R C := by
  have hC := C.isLt
  have q : idx_main_v9 (idx_main_v10 (ix2 R C)) = ix3 R (⟨(C : ℕ) / 64, by omega⟩ : Fin 8) (⟨64 + (C : ℕ) % 64, by omega⟩ : Fin 128) := by
    funext a
    apply Fin.ext
    match a with
    | ⟨0, _⟩ => show ((R : ℕ) * 512 + C) / 512 = R; omega
    | ⟨1, _⟩ => show ((R : ℕ) * 512 + C) / 64 % 8 = (C : ℕ) / 64; omega
    | ⟨2, _⟩ => show 64 + ((R : ℕ) * 512 + C) % 64 = 64 + (C : ℕ) % 64; omega
  rw [val_main_v11_apply, val_main_v10_apply, val_main_v9_apply, q]
  exact ref_kv x0 x2 R _ _

theorem ref_k (R : Fin 32768) (C : Fin 1024) : (val_main_v8 (F := Ideal) x0 x1 x2 (ix2 R C) : EReal) = Cert.Kv.key x0 x1 x2 R C := by
  have hC := C.isLt
  have q : idx_main_v7 (ix2 R C) = ix3 R (⟨(C : ℕ) / 128, by omega⟩ : Fin 8) (⟨(C : ℕ) % 128, by omega⟩ : Fin 128) := by
    funext a
    apply Fin.ext
    match a with
    | ⟨0, _⟩ => show ((R : ℕ) * 1024 + C) / 1024 = R; omega
    | ⟨1, _⟩ => show ((R : ℕ) * 1024 + C) / 128 % 8 = (C : ℕ) / 128; omega
    | ⟨2, _⟩ => show ((R : ℕ) * 1024 + C) % 128 = (C : ℕ) % 128; omega
  rw [val_main_v8_apply, val_main_v7_apply, q]
  unfold val_main_v6
  have z : ∀ i, (val_main_v4 (F := Ideal) i : EReal) = 0 := fun i => by
    rw [val_main_v4_apply]
    exact Ideal.ofBits_zero .f32
  have e1 : ∀ h (n : Fin 32), (val_main_v3 (F := Ideal) x1 (ix3 R h n) : EReal) = x1 (ix2 R n) := fun h n => by
    rw [val_main_v3_apply, val_main_v2_apply]
    exact congrArg x1 (by funext a; match a with | ⟨0, _⟩ => rfl | ⟨1, _⟩ => rfl)
  have e2 : ∀ (h : Fin 8) (n : Fin 64), (val_main_v5 (F := Ideal) x0 x2 (ix3 R h n) : EReal)
      = ∑ k : Fin 256, x0 (ix2 R k) * x2 (ix2 k (⟨h * 128 + n, by omega⟩ : Fin 1024)) := fun h n => by
    rw [val_main_v5_apply]
    exact (congrArg (val_main_v1 (F := Ideal) x0 x2) (by funext a; match a with | ⟨0, _⟩ => rfl | ⟨1, _⟩ => rfl | ⟨2, _⟩ => rfl)).trans
      (ref_kv x0 x2 R h ⟨n, by omega⟩)
  generalize val_main_v3 (F := Ideal) x1 = y1 at e1 ⊢
  generalize val_main_v4 (F := Ideal) = y2 at z ⊢
  generalize val_main_v5 (F := Ideal) x0 x2 = y3 at e2 ⊢
  show (concatenate S32768x8x128 2 [⟨S32768x8x32, (y1 : S32768x8x32.Idx → EReal)⟩, ⟨S32768x8x64, (y3 : S32768x8x64.Idx → EReal)⟩, ⟨S32768x8x32, (y2 : S32768x8x32.Idx → EReal)⟩] _ _ : EReal) = _
  pointwise
  unfold Cert.Kv.key
  simp only [e1, e2, z]
  rfl

end Cert.Kv

end
-- ==== Proof.In.Weights.lean ====
/- What the input projection receives from the host: its weights with the rotated columns beside them, and the cosines and sines. -/
module

public import proofs.«01_k».proof.Proof.Gen.Kernel4Ideal.Frame
public import Idealize.ShloMosaic.Lib.StableHlo.RunRead
public import Idealize.ShloMosaic.Lib.Pipeline.ValueKit.Geometry
public import Idealize.ShloMosaic.PureOps.Ideal
public import Idealize.ShloMosaic.Lib.Pointwise
public import Idealize.ShloMosaic.Lib.IdealHost

@[expose] public section

set_option maxRecDepth 16384

noncomputable section

namespace Cert.In

open Cert.Kernel4Ideal Cert.Kernel4Ideal.Gen
open Idealize.ShloMosaic Idealize.ShloMosaic.TcCoe

variable (m : (ℓ : Loc nD τ sig) → Buf (Elt Ideal) ℓ)

/-- The two weight arguments' entries. -/
def win (c : Dev nD) (j : Fin 1024) (k : Fin 6048) : EReal := m ((c : Thread nD τ).loc main_arg1) (ix2 j k)

def wup (c : Dev nD) (j : Fin 384) (k : Fin 768) : EReal := m ((c : Thread nD τ).loc main_arg3) (ix2 j k)

/-- The first weights' columns: the queries', the latent's and the rotary key's, 96 of zeros, the rotary key's rotated, 96 of zeros. -/
theorem wm_raw (c : Dev nD) (j : Fin 1024) (l : Fin 896) : (V m c main_v10 (ix2 j l) : EReal)
    = if h : (l : ℕ) < 384 then win m c j ⟨l, by omega⟩
      else if h1 : (l : ℕ) - 384 < 256 then win m c j ⟨384 + (l - 384), by omega⟩
      else if h2 : (l : ℕ) - 384 - 256 < 32 then win m c j ⟨384 + (256 + (l - 384 - 256)), by omega⟩
      else if h3 : (l : ℕ) - 384 - 256 - 32 < 96 then 0
      else if h4 : (l : ℕ) - 384 - 256 - 32 - 96 < 32 then
        if h5 : (l : ℕ) - 384 - 256 - 32 - 96 < 16 then -win m c j ⟨384 + (256 + (16 + (l - 384 - 256 - 32 - 96))), by omega⟩
        else win m c j ⟨384 + (256 + (l - 384 - 256 - 32 - 96 - 16)), by omega⟩
      else 0 := by
  show StableHlo.after (List.flatten [hostOps0]) _ (Proc.devRef .tc main_v10) _ = _
  after_reads_simp
  pointwise
  after_reads_simp
  pointwise
  rfl

theorem wm_plain (c : Dev nD) (j : Fin 1024) (l : Fin 896) (h : (l : ℕ) < 672) :
    (V m c main_v10 (ix2 j l) : EReal) = win m c j ⟨l, by omega⟩ := by
  rw [wm_raw]
  split
  · rfl
  · split
    · exact congrArg (win m c j) (Fin.ext (by simp only; omega))
    · rw [dif_pos (by omega)]
      exact congrArg (win m c j) (Fin.ext (by simp only; omega))

theorem wm_zero (c : Dev nD) (j : Fin 1024) (l : Fin 896) (h : 672 ≤ (l : ℕ)) (h' : (l : ℕ) < 768 ∨ 800 ≤ (l : ℕ)) :
    (V m c main_v10 (ix2 j l) : EReal) = (0 : EReal) := by
  rw [wm_raw, dif_neg (by omega), dif_neg (by omega), dif_neg (by omega)]
  split
  · rfl
  · rw [dif_neg (by omega)]

theorem wm_turned (c : Dev nD) (j : Fin 1024) (l : Fin 896) (h : 768 ≤ (l : ℕ)) (h' : (l : ℕ) < 784) :
    (V m c main_v10 (ix2 j l) : EReal) = -win m c j ⟨l - 112, by omega⟩ := by
  rw [wm_raw, dif_neg (by omega), dif_neg (by omega), dif_neg (by omega), dif_neg (by omega), dif_pos (by omega), dif_pos (by omega)]
  exact congrArg (fun i => -win m c j i) (Fin.ext (by simp only; omega))

theorem wm_moved (c : Dev nD) (j : Fin 1024) (l : Fin 896) (h : 784 ≤ (l : ℕ)) (h' : (l : ℕ) < 800) :
    (V m c main_v10 (ix2 j l) : EReal) = win m c j ⟨l - 144, by omega⟩ := by
  rw [wm_raw, dif_neg (by omega), dif_neg (by omega), dif_neg (by omega), dif_neg (by omega), dif_pos (by omega), dif_neg (by omega)]
  exact congrArg (win m c j) (Fin.ext (by simp only; omega))

/-- The second weights' columns: every head's rotary and position-free columns and zeros, then every head's rotated columns and zeros. -/
theorem wq_raw (c : Dev nD) (j : Fin 384) (l : Fin 2048) : (V m c main_v26 (ix2 j l) : EReal)
    = if h : (l : ℕ) < 1024 then
        if h1 : (l : ℕ) % 128 < 16 then wup m c j ⟨l / 128 * 96 + (64 + l % 128), by omega⟩
        else if h2 : (l : ℕ) % 128 - 16 < 16 then wup m c j ⟨l / 128 * 96 + (80 + (l % 128 - 16)), by omega⟩
        else if h3 : (l : ℕ) % 128 - 16 - 16 < 64 then wup m c j ⟨l / 128 * 96 + (l % 128 - 16 - 16), by omega⟩
        else 0
      else
        if h1 : ((l : ℕ) - 1024) % 128 < 16 then -wup m c j ⟨(l - 1024) / 128 * 96 + (80 + (l - 1024) % 128), by omega⟩
        else if h2 : ((l : ℕ) - 1024) % 128 - 16 < 16 then wup m c j ⟨(l - 1024) / 128 * 96 + (64 + ((l - 1024) % 128 - 16)), by omega⟩
        else if h3 : ((l : ℕ) - 1024) % 128 - 16 - 16 < 64 then 0
        else 0 := by
  show StableHlo.after (List.flatten [hostOps0]) _ (Proc.devRef .tc main_v26) _ = _
  after_reads_simp
  pointwise
  after_reads_simp
  pointwise
  after_reads_simp
  pointwise
  rfl

theorem wq_rope (c : Dev nD) (j : Fin 384) (h : Fin 8) (n : ℕ) (hn : n < 32) :
    (V m c main_v26 (ix2 j (⟨h * 128 + n, by omega⟩ : Fin 2048)) : EReal) = wup m c j ⟨h * 96 + (64 + n), by omega⟩ := by
  rw [wq_raw, dif_pos (by simp only; omega)]
  rcases lt_or_ge n 16 with h16 | h16
  · rw [dif_pos (by simp only; omega)]
    exact congrArg (wup m c j) (Fin.ext (by simp only; omega))
  · rw [dif_neg (by simp only; omega), dif_pos (by simp only; omega)]
    exact congrArg (wup m c j) (Fin.ext (by simp only; omega))

theorem wq_free (c : Dev nD) (j : Fin 384) (h : Fin 8) (n : ℕ) (hn : n < 64) :
    (V m c main_v26 (ix2 j (⟨h * 128 + (32 + n), by omega⟩ : Fin 2048)) : EReal) = wup m c j ⟨h * 96 + n, by omega⟩ := by
  rw [wq_raw, dif_pos (by simp only; omega), dif_neg (by simp only; omega), dif_neg (by simp only; omega), dif_pos (by simp only; omega)]
  exact congrArg (wup m c j) (Fin.ext (by simp only; omega))

theorem wq_zero (c : Dev nD) (j : Fin 384) (h : Fin 8) (n : ℕ) (hn : n < 32) :
    (V m c main_v26 (ix2 j (⟨h * 128 + (96 + n), by omega⟩ : Fin 2048)) : EReal) = (0 : EReal) := by
  rw [wq_raw, dif_pos (by simp only; omega), dif_neg (by simp only; omega), dif_neg (by simp only; omega), dif_neg (by simp only; omega)]

theorem wq_turned (c : Dev nD) (j : Fin 384) (h : Fin 8) (n : ℕ) (hn : n < 16) :
    (V m c main_v26 (ix2 j (⟨1024 + (h * 128 + n), by omega⟩ : Fin 2048)) : EReal) = -wup m c j ⟨h * 96 + (80 + n), by omega⟩ := by
  rw [wq_raw, dif_neg (by simp only; omega), dif_pos (by simp only; omega)]
  exact congrArg (fun i => -wup m c j i) (Fin.ext (by simp only; omega))

theorem wq_moved (c : Dev nD) (j : Fin 384) (h : Fin 8) (n : ℕ) (hn : n < 16) :
    (V m c main_v26 (ix2 j (⟨1024 + (h * 128 + (16 + n)), by omega⟩ : Fin 2048)) : EReal) = wup m c j ⟨h * 96 + (64 + n), by omega⟩ := by
  rw [wq_raw, dif_neg (by simp only; omega), dif_neg (by simp only; omega), dif_pos (by simp only; omega)]
  exact congrArg (wup m c j) (Fin.ext (by simp only; omega))

theorem wq_rest (c : Dev nD) (j : Fin 384) (h : Fin 8) (n : ℕ) (hn : n < 96) :
    (V m c main_v26 (ix2 j (⟨1024 + (h * 128 + (32 + n)), by omega⟩ : Fin 2048)) : EReal) = (0 : EReal) := by
  rw [wq_raw, dif_neg (by simp only; omega), dif_neg (by simp only; omega), dif_neg (by simp only; omega)]
  split <;> rfl

/-- The angle of a position in a pair of rotary lanes. -/
def angle (p : ℕ) (n : ℕ) : EReal :=
  FloatOps.sitofp (F := Ideal) .f32 (BitVec.ofNat 32 p)
    * Ideal.pow (Ideal.ofBits .f32 0x461C4000#32) (Ideal.div (-(FloatOps.sitofp (F := Ideal) .f32 (BitVec.ofNat 32 n) : EReal)) (Ideal.ofBits .f32 0x41800000#32))

theorem tc_at (c : Dev nD) (R : Fin 32768) (l : Fin 128) : (V m c main_v49 (ix2 R l) : EReal)
    = if h : (l : ℕ) < 16 then Ideal.cos (angle (R % 2048) l)
      else if h1 : (l : ℕ) - 16 < 16 then Ideal.cos (angle (R % 2048) (l - 16))
      else if h2 : (l : ℕ) - 16 - 16 < 64 then 1 else 0 := by
  show StableHlo.after (List.flatten [hostOps0]) _ (Proc.devRef .tc main_v49) _ = _
  after_reads_simp
  pointwise
  after_reads_simp
  pointwise
  rfl

theorem ts_at (c : Dev nD) (R : Fin 32768) (l : Fin 128) : (V m c main_v52 (ix2 R l) : EReal)
    = if h : (l : ℕ) < 16 then Ideal.sin (angle (R % 2048) l)
      else if h1 : (l : ℕ) - 16 < 16 then Ideal.sin (angle (R % 2048) (l - 16))
      else 0 := by
  show StableHlo.after (List.flatten [hostOps0]) _ (Proc.devRef .tc main_v52) _ = _
  after_reads_simp
  pointwise
  after_reads_simp
  pointwise
  rfl

theorem qg_at (c : Dev nD) (k : Fin 384) : (V m c main_v11 (ix2 (0 : Fin 1) k) : EReal) = m ((c : Thread nD τ).loc main_arg2) (ix1 k) := by
  show StableHlo.after (List.flatten [hostOps0]) _ (Proc.devRef .tc main_v11) _ = _
  after_reads_simp
  pointwise

theorem kvg_at (c : Dev nD) (k : Fin 256) : (V m c main_v12 (ix2 (0 : Fin 1) k) : EReal) = m ((c : Thread nD τ).loc main_arg4) (ix1 k) := by
  show StableHlo.after (List.flatten [hostOps0]) _ (Proc.devRef .tc main_v12) _ = _
  after_reads_simp
  pointwise

end Cert.In

end
-- ==== Proof.In.Value.lean ====
/- The input projection's result arrays: the queries, the key and value latent and the rotary key of the whole arguments. -/
module

public import proofs.«01_k».proof.Proof.Kv.Row
public import proofs.«01_k».proof.Proof.In.Weights
public import proofs.«01_k».proof.Proof.Gen.Kernel4Ideal.Value

@[expose] public section

set_option maxRecDepth 16384

noncomputable section

namespace Cert.In

open Cert.Kernel4Ideal Cert.Kernel4Ideal.Gen
open Idealize.ShloMosaic Idealize.ShloMosaic.TcCoe Idealize.SL.Sem

variable (m : (ℓ : Loc nD τ sig) → Buf (Elt Ideal) ℓ)

/-- The reciprocal root of the mean square of 384 numbers, and of 256. -/
def rootQ (H : Fin 384 → EReal) : EReal :=
  Ideal.rsqrt (Ideal.div (∑ k : Fin 384, H k * H k) (Ideal.ofBits .f32 0x43C00000#32) + Ideal.ofBits .f32 0x358637BD#32)

def rootC (H : Fin 256 → EReal) : EReal :=
  Ideal.rsqrt (Ideal.div (∑ k : Fin 256, H k * H k) (Ideal.ofBits .f32 0x43800000#32) + Ideal.ofBits .f32 0x358637BD#32)

/-- The block's first product, and the second one on its normalised columns. -/
def low (x0 : Vec Ideal S512x1024 .f32) (x1 : Vec Ideal S1024x896 .bf16) (r : Fin 512) (L : Fin 896) : EReal :=
  ∑ k : Fin 1024, (x0 (ix2 r k) : EReal) * x1 (ix2 k L)

def high (x0 : Vec Ideal S512x1024 .f32) (x1 : Vec Ideal S1024x896 .bf16) (x2 : Vec Ideal S1x384 .f32) (x4 : Vec Ideal S384x2048 .bf16)
    (r : Fin 512) (L : Fin 2048) : EReal :=
  ∑ j : Fin 384, (low x0 x1 r ⟨j, by omega⟩ * rootQ (fun k => low x0 x1 r ⟨k, by omega⟩) * x2 (ix2 (0 : Fin 1) j)) * x4 (ix2 j L)

theorem low_at (x0 : Vec Ideal S512x1024 .f32) (x1 : Vec Ideal S1024x896 .bf16) (r : Fin 512) (L : Fin 896) :
    (k0_pay1 (F := Ideal) x0 x1 (ix2 r L) : EReal) = low x0 x1 r L := by
  unfold_payloads
  pointwise
  rfl

theorem high_at (x0 : Vec Ideal S512x1024 .f32) (x1 : Vec Ideal S1024x896 .bf16) (x2 : Vec Ideal S1x384 .f32) (x4 : Vec Ideal S384x2048 .bf16)
    (r : Fin 512) (L : Fin 2048) : (k0_pay4 (F := Ideal) x0 x1 x2 x4 (ix2 r L) : EReal) = high x0 x1 x2 x4 r L := by
  unfold k0_pay4
  pointwise
  simp only [low_at]
  rfl

/-- The block's queries from the second product and the tables' rows. -/
def query (Q : Fin 512 → Fin 2048 → EReal) (x5 x6 : Vec Ideal S512x128 .f32) (r : Fin 512) (C : Fin 1024) : EReal :=
  (Q r ⟨C, by omega⟩ * x5 (ix2 r (⟨(C : ℕ) % 128, by omega⟩ : Fin 128)) + Q r ⟨1024 + C, by omega⟩ * x6 (ix2 r (⟨(C : ℕ) % 128, by omega⟩ : Fin 128)))
    * Ideal.ofBits .f32 0x3DD105EC#32

theorem query_at (Q : Fin 512 → Fin 2048 → EReal) (x5 x6 : Vec Ideal S512x128 .f32) (r : Fin 512) (l : Fin 128)
    (c : ℕ) (hc : c + 128 ≤ 1024) (hd : c % 128 = 0) : query Q x5 x6 r ⟨c + l, by omega⟩
    = (Q r ⟨c + l, by omega⟩ * x5 (ix2 r l) + Q r ⟨1024 + (c + l), by omega⟩ * x6 (ix2 r l)) * Ideal.ofBits .f32 0x3DD105EC#32 := by
  have e : (⟨(c + (l : ℕ)) % 128, by omega⟩ : Fin 128) = l := Fin.ext (show (c + (l : ℕ)) % 128 = l by omega)
  unfold query
  simp only [e]

theorem out_q (x0 : Vec Ideal S512x1024 .f32) (x1 : Vec Ideal S1024x896 .bf16) (x2 : Vec Ideal S1x384 .f32) (x3 : Vec Ideal S1x256 .f32)
    (x4 : Vec Ideal S384x2048 .bf16) (x5 x6 : Vec Ideal S512x128 .f32)
    (r : Fin 512) (C : Fin 1024) : (out0_7 (F := Ideal) x0 x1 x2 x3 x4 x5 x6 (ix2 r C) : EReal) = query (high x0 x1 x2 x4) x5 x6 r C := by
  have s0 : ∀ X : Vec Ideal S512x1024 .f32, View.ld X r0_0 = X := fun X => View.ld_unit_lit _ X (by decide)
  have s1 : ∀ X : Vec Ideal S1024x896 .bf16, View.ld X r0_1 = X := fun X => View.ld_unit_lit _ X (by decide)
  have s2 : ∀ X : Vec Ideal S512x128 .f32, View.ld X r0_2 = X := fun X => View.ld_unit_lit _ X (by decide)
  have s3 : ∀ X : Vec Ideal S1x384 .f32, View.ld X r0_3 = X := fun X => View.ld_unit_lit _ X (by decide)
  have s4 : ∀ X : Vec Ideal S384x2048 .bf16, View.ld X r0_4 = X := fun X => View.ld_unit_lit _ X (by decide)
  have hq : ∀ L, (k0_pay4 (F := Ideal) x0 x1 x2 x4 (ix2 r L) : EReal) = _ := high_at x0 x1 x2 x4 r
  have key := View.canon_apply_of_pieces (Val := Elt Ideal) (S := S512x1024) (e := .bf16) (fun y => query (high x0 x1 x2 x4) x5 x6 (y 0) (y 1))
  unfold out0_7
  simp only [k0_pay17, k0_pay18, k0_pay19, s0, s1, s2, s3, s4]
  refine (key _ ?_ (ix2 r C) (cover0_7 _ _ _ _ _ _ _ _ _)).trans rfl
  intro p hp x
  simp only [List.mem_cons, List.not_mem_nil, or_false] at hp
  rcases hp with rfl | rfl | rfl | rfl | rfl | rfl | rfl | rfl
  all_goals
    refine Cert.Kv.piece (query (high x0 x1 x2 x4) x5 x6) _ (by decide) (by decide) _ (fun r l => ?_) x
    rw [query_at _ _ _ _ _ _ (by decide) (by decide)]
    simp only [← high_at, ← Nat.add_assoc, Nat.reduceAdd, Nat.zero_add]
    first | unfold k0_pay5 | unfold k0_pay7 k0_pay6 | unfold k0_pay8 | unfold k0_pay9 | unfold k0_pay10 | unfold k0_pay11 | unfold k0_pay12 | unfold k0_pay13
    unfold k0_pay2 k0_pay3
    generalize k0_pay4 (F := Ideal) x0 x1 x2 x4 = Y
    pointwise

theorem out_c (x0 : Vec Ideal S512x1024 .f32) (x1 : Vec Ideal S1024x896 .bf16) (x2 : Vec Ideal S1x384 .f32) (x3 : Vec Ideal S1x256 .f32)
    (x4 : Vec Ideal S384x2048 .bf16) (x5 x6 : Vec Ideal S512x128 .f32)
    (r : Fin 512) (C : Fin 256) : (out0_8 (F := Ideal) x0 x1 x2 x3 x4 x5 x6 (ix2 r C) : EReal)
      = low x0 x1 r ⟨384 + C, by omega⟩ * rootC (fun k => low x0 x1 r ⟨384 + k, by omega⟩) * x3 (ix2 (0 : Fin 1) C) := by
  have s0 : ∀ X : Vec Ideal S512x1024 .f32, View.ld X r0_0 = X := fun X => View.ld_unit_lit _ X (by decide)
  have s1 : ∀ X : Vec Ideal S1024x896 .bf16, View.ld X r0_1 = X := fun X => View.ld_unit_lit _ X (by decide)
  have s5 : ∀ X : Vec Ideal S1x256 .f32, View.ld X r0_13 = X := fun X => View.ld_unit_lit _ X (by decide)
  unfold out0_8
  refine (congrFun (View.canon_cons_unit_lit (Val := Elt Ideal) (S := S512x256) (off := ![0, 0]) _ _ [] (by decide)) (ix2 r C)).trans ?_
  simp only [k0_pay16, s0, s1, s5]
  simp only [← low_at, rootC]
  unfold k0_pay14
  generalize k0_pay1 (F := Ideal) x0 x1 = Y
  pointwise

theorem out_p (x0 : Vec Ideal S512x1024 .f32) (x1 : Vec Ideal S1024x896 .bf16) (x2 : Vec Ideal S1x384 .f32) (x3 : Vec Ideal S1x256 .f32)
    (x4 : Vec Ideal S384x2048 .bf16) (x5 x6 : Vec Ideal S512x128 .f32)
    (r : Fin 512) (C : Fin 128) : (out0_9 (F := Ideal) x0 x1 x2 x3 x4 x5 x6 (ix2 r C) : EReal)
      = low x0 x1 r ⟨640 + C, by omega⟩ * x5 (ix2 r C) + low x0 x1 r ⟨768 + C, by omega⟩ * x6 (ix2 r C) := by
  have s0 : ∀ X : Vec Ideal S512x1024 .f32, View.ld X r0_0 = X := fun X => View.ld_unit_lit _ X (by decide)
  have s1 : ∀ X : Vec Ideal S1024x896 .bf16, View.ld X r0_1 = X := fun X => View.ld_unit_lit _ X (by decide)
  have s2 : ∀ X : Vec Ideal S512x128 .f32, View.ld X r0_2 = X := fun X => View.ld_unit_lit _ X (by decide)
  unfold out0_9
  refine (congrFun (View.canon_cons_unit_lit (Val := Elt Ideal) (S := S512x128) (off := ![0, 0]) _ _ [] (by decide)) (ix2 r C)).trans ?_
  simp only [k0_pay16, k0_pay17, k0_pay18, s0, s1, s2]
  simp only [← low_at]
  unfold k0_pay15 k0_pay2 k0_pay3
  generalize k0_pay1 (F := Ideal) x0 x1 = Y
  pointwise

theorem e0 : ∀ t : Fin cfg0.N, win0_0.index t = ![(grid0.coords t 0).val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![(grid0.coords t 0).val, 0] := (by decide +kernel : ∀ t : Fin grid0.N, _)
theorem e6 : ∀ t : Fin cfg0.N, win0_6.index t = ![(grid0.coords t 0).val, 0] := (by decide +kernel : ∀ t : Fin grid0.N, _)
theorem e7 : ∀ t : Fin cfg0.N, win0_7.index t = ![(grid0.coords t 0).val, 0] := (by decide +kernel : ∀ t : Fin grid0.N, _)
theorem e8 : ∀ t : Fin cfg0.N, win0_8.index t = ![(grid0.coords t 0).val, 0] := (by decide +kernel : ∀ t : Fin grid0.N, _)
theorem e9 : ∀ t : Fin cfg0.N, win0_9.index t = ![(grid0.coords t 0).val, 0] := (by decide +kernel : ∀ t : Fin grid0.N, _)

theorem x_blk (c : Dev nD) (t : Fin cfg0.N) (r : Fin 512) (k : Fin 1024) (R : Fin 32768) (hR : (R : ℕ) = (grid0.coords t 0).val * 512 + r) :
    (iblk m c 0 t (ix2 r k) : EReal) = m ((c : Thread nD τ).loc main_arg0) (ix2 R k) := by
  blk_simp [iblk]
  refine (congrFun (V_main_arg0 m c) _).trans (congrArg _ ?_)
  blk_ext [e0]
  all_goals (first | exact hR.symm | (simp [ix2]; omega))

theorem wm_blk (c : Dev nD) (t : Fin cfg0.N) (j : Fin 1024) (l : Fin 896) : (iblk m c 1 t (ix2 j l) : EReal) = V m c main_v10 (ix2 j l) := by
  blk_simp [iblk]
  refine congrArg _ ?_
  blk_ext [e1]

theorem qg_blk (c : Dev nD) (t : Fin cfg0.N) (k : Fin 384) : (iblk m c 2 t (ix2 (0 : Fin 1) k) : EReal) = m ((c : Thread nD τ).loc main_arg2) (ix1 k) := by
  refine Eq.trans ?_ (qg_at m c k)
  blk_simp [iblk]
  refine congrArg _ ?_
  blk_ext [e2]

theorem kvg_blk (c : Dev nD) (t : Fin cfg0.N) (k : Fin 256) : (iblk m c 3 t (ix2 (0 : Fin 1) k) : EReal) = m ((c : Thread nD τ).loc main_arg4) (ix1 k) := by
  refine Eq.trans ?_ (kvg_at m c k)
  blk_simp [iblk]
  refine congrArg _ ?_
  blk_ext [e3]

theorem wq_blk (c : Dev nD) (t : Fin cfg0.N) (j : Fin 384) (l : Fin 2048) : (iblk m c 4 t (ix2 j l) : EReal) = V m c main_v26 (ix2 j l) := by
  blk_simp [iblk]
  refine congrArg _ ?_
  blk_ext [e4]

theorem tc_blk (c : Dev nD) (t : Fin cfg0.N) (r : Fin 512) (k : Fin 128) (R : Fin 32768) (hR : (R : ℕ) = (grid0.coords t 0).val * 512 + r) :
    (iblk m c 5 t (ix2 r k) : EReal) = V m c main_v49 (ix2 R k) := by
  blk_simp [iblk]
  refine congrArg _ ?_
  blk_ext [e5]
  all_goals (first | exact hR.symm | (simp [ix2]; omega))

theorem ts_blk (c : Dev nD) (t : Fin cfg0.N) (r : Fin 512) (k : Fin 128) (R : Fin 32768) (hR : (R : ℕ) = (grid0.coords t 0).val * 512 + r) :
    (iblk m c 6 t (ix2 r k) : EReal) = V m c main_v52 (ix2 R k) := by
  blk_simp [iblk]
  refine congrArg _ ?_
  blk_ext [e6]
  all_goals (first | exact hR.symm | (simp [ix2]; omega))

/-- The arguments' and the prepared weights' entries as numbers. -/
def xin (c : Dev nD) (R : Fin 32768) (k : Fin 1024) : EReal := m ((c : Thread nD τ).loc main_arg0) (ix2 R k)

def qgK (c : Dev nD) (k : Fin 384) : EReal := m ((c : Thread nD τ).loc main_arg2) (ix1 k)

def kvgK (c : Dev nD) (k : Fin 256) : EReal := m ((c : Thread nD τ).loc main_arg4) (ix1 k)

def wmK (c : Dev nD) (k : Fin 1024) (L : Fin 896) : EReal := V m c main_v10 (ix2 k L)

def wqK (c : Dev nD) (k : Fin 384) (L : Fin 2048) : EReal := V m c main_v26 (ix2 k L)

def tcK (c : Dev nD) (R : Fin 32768) (l : Fin 128) : EReal := V m c main_v49 (ix2 R l)

def tsK (c : Dev nD) (R : Fin 32768) (l : Fin 128) : EReal := V m c main_v52 (ix2 R l)

/-- Row `R`'s first product with the prepared weights, its normalised columns, and their product with the second weights. -/
def lowK (c : Dev nD) (R : Fin 32768) (L : Fin 896) : EReal := ∑ k : Fin 1024, xin m c R k * wmK m c k L

def normK (c : Dev nD) (R : Fin 32768) (j : Fin 384) : EReal :=
  lowK m c R ⟨j, by omega⟩ * rootQ (fun k => lowK m c R ⟨k, by omega⟩) * qgK m c j

def highK (c : Dev nD) (R : Fin 32768) (L : Fin 2048) : EReal := ∑ j : Fin 384, normK m c R j * wqK m c j L

/-- The query, the latent and the rotary key of row `R`. -/
def queryK (c : Dev nD) (R : Fin 32768) (C : Fin 1024) : EReal :=
  (highK m c R ⟨C, by omega⟩ * tcK m c R ⟨(C : ℕ) % 128, by omega⟩ + highK m c R ⟨1024 + C, by omega⟩ * tsK m c R ⟨(C : ℕ) % 128, by omega⟩)
    * Ideal.ofBits .f32 0x3DD105EC#32

def latentK (c : Dev nD) (R : Fin 32768) (C : Fin 256) : EReal :=
  lowK m c R ⟨384 + C, by omega⟩ * rootC (fun k => lowK m c R ⟨384 + k, by omega⟩) * kvgK m c C

def ropeK (c : Dev nD) (R : Fin 32768) (C : Fin 128) : EReal :=
  lowK m c R ⟨640 + C, by omega⟩ * tcK m c R C + lowK m c R ⟨768 + C, by omega⟩ * tsK m c R C

theorem final_q (c : Dev nD) : (dats m 0 c).arrAt 7 cfg0.N = fun i : S32768x1024.Idx => queryK m c (i 0) (i 1) := by
  refine (dats m 0 c).arrAt_eq_of_covers 7 _ (by decide +kernel) fun t hf y => ?_
  blk_simp
  rw [after0_7]
  obtain ⟨r, l, rfl⟩ : ∃ (r : Fin 512) (l : Fin 1024), y = ix2 r l := ⟨y 0, y 1, by funext a; match a with | ⟨0, _⟩ => rfl | ⟨1, _⟩ => rfl⟩
  have hR : ((((win0_7.blk t).view.emb (ix2 r l)) 0 : Fin 32768) : ℕ) = (grid0.coords t 0).val * 512 + r := by
    blk_simp [e7]
  have hC : ((win0_7.blk t).view.emb (ix2 r l)) 1 = l := by
    apply Fin.ext
    blk_simp [e7]
  generalize ((win0_7.blk t).view.emb (ix2 r l)) 0 = R at hR
  rw [hC]
  refine (out_q _ _ _ (iblk m c 3 t) _ _ _ r l).trans ?_
  have f0 : ∀ k, (iblk m c 0 t (ix2 r k) : EReal) = xin m c R k := fun k => x_blk m c t r k R hR
  have f1 : ∀ j l, (iblk m c 1 t (ix2 j l) : EReal) = wmK m c j l := wm_blk m c t
  have f2 : ∀ k, (iblk m c 2 t (ix2 (0 : Fin 1) k) : EReal) = qgK m c k := qg_blk m c t
  have f4 : ∀ j l, (iblk m c 4 t (ix2 j l) : EReal) = wqK m c j l := wq_blk m c t
  have f5 : ∀ k, (iblk m c 5 t (ix2 r k) : EReal) = tcK m c R k := fun k => tc_blk m c t r k R hR
  have f6 : ∀ k, (iblk m c 6 t (ix2 r k) : EReal) = tsK m c R k := fun k => ts_blk m c t r k R hR
  unfold query high low queryK highK normK lowK
  simp only [f0, f1, f2, f4, f5, f6]

theorem final_c (c : Dev nD) : (dats m 0 c).arrAt 8 cfg0.N = fun i : S32768x256.Idx => latentK m c (i 0) (i 1) := by
  refine (dats m 0 c).arrAt_eq_of_covers 8 _ (by decide +kernel) fun t hf y => ?_
  blk_simp
  rw [after0_8]
  obtain ⟨r, l, rfl⟩ : ∃ (r : Fin 512) (l : Fin 256), y = ix2 r l := ⟨y 0, y 1, by funext a; match a with | ⟨0, _⟩ => rfl | ⟨1, _⟩ => rfl⟩
  have hR : ((((win0_8.blk t).view.emb (ix2 r l)) 0 : Fin 32768) : ℕ) = (grid0.coords t 0).val * 512 + r := by
    blk_simp [e8]
  have hC : ((win0_8.blk t).view.emb (ix2 r l)) 1 = l := by
    apply Fin.ext
    blk_simp [e8]
  generalize ((win0_8.blk t).view.emb (ix2 r l)) 0 = R at hR
  rw [hC]
  refine (out_c _ _ (iblk m c 2 t) _ (iblk m c 4 t) (iblk m c 5 t) (iblk m c 6 t) r l).trans ?_
  have f0 : ∀ k, (iblk m c 0 t (ix2 r k) : EReal) = xin m c R k := fun k => x_blk m c t r k R hR
  have f1 : ∀ j l, (iblk m c 1 t (ix2 j l) : EReal) = wmK m c j l := wm_blk m c t
  have f3 : ∀ k, (iblk m c 3 t (ix2 (0 : Fin 1) k) : EReal) = kvgK m c k := kvg_blk m c t
  unfold low latentK lowK
  simp only [f0, f1, f3]

theorem final_p (c : Dev nD) : (dats m 0 c).arrAt 9 cfg0.N = fun i : S32768x128.Idx => ropeK m c (i 0) (i 1) := by
  refine (dats m 0 c).arrAt_eq_of_covers 9 _ (by decide +kernel) fun t hf y => ?_
  blk_simp
  rw [after0_9]
  obtain ⟨r, l, rfl⟩ : ∃ (r : Fin 512) (l : Fin 128), y = ix2 r l := ⟨y 0, y 1, by funext a; match a with | ⟨0, _⟩ => rfl | ⟨1, _⟩ => rfl⟩
  have hR : ((((win0_9.blk t).view.emb (ix2 r l)) 0 : Fin 32768) : ℕ) = (grid0.coords t 0).val * 512 + r := by
    blk_simp [e9]
  have hC : ((win0_9.blk t).view.emb (ix2 r l)) 1 = l := by
    apply Fin.ext
    blk_simp [e9]
  generalize ((win0_9.blk t).view.emb (ix2 r l)) 0 = R at hR
  rw [hC]
  refine (out_p _ _ (iblk m c 2 t) (iblk m c 3 t) (iblk m c 4 t) _ _ r l).trans ?_
  have f0 : ∀ k, (iblk m c 0 t (ix2 r k) : EReal) = xin m c R k := fun k => x_blk m c t r k R hR
  have f1 : ∀ j l, (iblk m c 1 t (ix2 j l) : EReal) = wmK m c j l := wm_blk m c t
  have f5 : ∀ k, (iblk m c 5 t (ix2 r k) : EReal) = tcK m c R k := fun k => tc_blk m c t r k R hR
  have f6 : ∀ k, (iblk m c 6 t (ix2 r k) : EReal) = tsK m c R k := fun k => ts_blk m c t r k R hR
  unfold low ropeK lowK
  simp only [f0, f1, f5, f6]

end Cert.In

end
-- ==== Proof.In.Ref.lean ====
/- The reference's queries, latent and rotary key, entry by entry. -/
module

public import proofs.«01_k».proof.Proof.In.Value
public import proofs.«01_k».proof.Proof.Gen.Reference4Ideal.Read

@[expose] public section

set_option maxRecDepth 16384

noncomputable section

namespace Cert.In

open Cert.Reference4Ideal Cert.Reference4Ideal.Gen Cert.Reference4Ideal.Read Idealize.ShloMosaic

variable (x0 : S32768x1024.Idx → EReal) (x1 : S1024x6048.Idx → EReal) (x2 : S384.Idx → EReal) (x3 : S384x768.Idx → EReal) (x4 : S256.Idx → EReal)

/-- Row `R`'s product with the first 672 columns, its normalised query columns, and the queries. -/
def lowR (R : Fin 32768) (L : Fin 672) : EReal := ∑ k : Fin 1024, x0 (ix2 R k) * x1 (ix2 k (⟨L, by omega⟩ : Fin 6048))

def normR (R : Fin 32768) (j : Fin 384) : EReal :=
  lowR x0 x1 R ⟨j, by omega⟩ * rootQ (fun k => lowR x0 x1 R ⟨k, by omega⟩) * x2 (ix1 j)

def highR (R : Fin 32768) (L : Fin 768) : EReal := ∑ j : Fin 384, normR x0 x1 x2 R j * x3 (ix2 j L)

theorem ref_low (R : Fin 32768) (L : Fin 672) : (val_main_v1 (F := Ideal) x0 x1 (ix2 R L) : EReal) = lowR x0 x1 R L := by
  rw [val_main_v1_apply]
  refine Finset.sum_congr rfl fun k _ => congrArg₂ (fun a b : EReal => a * b) (congrArg x0 ?_) ?_
  · funext a; match a with | ⟨0, _⟩ => rfl | ⟨1, _⟩ => rfl
  · rw [val_main_v0_apply]
    exact congrArg x1 (by funext a; match a with | ⟨0, _⟩ => rfl | ⟨1, _⟩ => rfl)

theorem ref_q (R : Fin 32768) (j : Fin 384) : (val_main_v2 (F := Ideal) x0 x1 (ix2 R j) : EReal) = lowR x0 x1 R ⟨j, by omega⟩ := by
  rw [val_main_v2_apply, ← ref_low]
  exact congrArg _ (by funext a; match a with | ⟨0, _⟩ => rfl | ⟨1, _⟩ => rfl)

theorem ref_kv (R : Fin 32768) (j : Fin 256) : (val_main_v3 (F := Ideal) x0 x1 (ix2 R j) : EReal) = lowR x0 x1 R ⟨384 + j, by omega⟩ := by
  rw [val_main_v3_apply, ← ref_low]
  exact congrArg _ (by funext a; match a with | ⟨0, _⟩ => rfl | ⟨1, _⟩ => rfl)

theorem ref_pe (R : Fin 32768) (j : Fin 32) : (val_main_v4 (F := Ideal) x0 x1 (ix2 R j) : EReal) = lowR x0 x1 R ⟨640 + j, by omega⟩ := by
  rw [val_main_v4_apply, ← ref_low]
  exact congrArg _ (by funext a; match a with | ⟨0, _⟩ => rfl | ⟨1, _⟩ => rfl)

theorem ref_rootq (R : Fin 32768) (j : Fin 384) : (val_main_v13 (F := Ideal) x0 x1 (ix2 R j) : EReal) = rootQ (fun k => lowR x0 x1 R ⟨k, by omega⟩) := by
  rw [val_main_v13_apply, val_main_v12_apply, val_main_v11_apply, val_main_v9_apply, val_main_v7_apply, val_main_v6_apply, val_main_v8_apply, val_main_v10_apply]
  have h : ∀ k : Fin 384, (val_main_v5 (F := Ideal) x0 x1 (idx_main_v6 (idx_main_v7 (idx_main_v13 (ix2 R j))) k) : EReal)
      = lowR x0 x1 R ⟨k, by omega⟩ * lowR x0 x1 R ⟨k, by omega⟩ := fun k => by
    have e : idx_main_v6 (idx_main_v7 (idx_main_v13 (ix2 R j))) k = ix2 R k := by funext a; match a with | ⟨0, _⟩ => rfl | ⟨1, _⟩ => rfl
    rw [val_main_v5_apply, e, ref_q]
    rfl
  simp only [h]
  have z : (val_main_cst (F := Ideal) (Shape.Idx.first h_S_) : EReal) = 0 := Ideal.ofBits_zero .f32
  rw [z]
  refine (congrArg (fun s : EReal => Ideal.rsqrt (Ideal.div s (Ideal.ofBits .f32 0x43C00000#32) + Ideal.ofBits .f32 0x358637BD#32)) (zero_add _)).trans rfl

theorem ref_norm (R : Fin 32768) (j : Fin 384) : (val_main_v17 (F := Ideal) x0 x1 x2 (ix2 R j) : EReal) = normR x0 x1 x2 R j := by
  rw [val_main_v17_apply, val_main_v14_apply, ref_q, ref_rootq, val_main_v16_apply, val_main_v15_apply]
  exact congrArg (fun g : EReal => _ * g) (congrArg x2 (by funext a; match a with | ⟨0, _⟩ => rfl))

theorem ref_rootc (R : Fin 32768) (j : Fin 256) : (val_main_v104 (F := Ideal) x0 x1 (ix2 R j) : EReal) = rootC (fun k => lowR x0 x1 R ⟨384 + k, by omega⟩) := by
  rw [val_main_v104_apply, val_main_v103_apply, val_main_v102_apply, val_main_v100_apply, val_main_v98_apply, val_main_v97_apply, val_main_v99_apply, val_main_v101_apply]
  have h : ∀ k : Fin 256, (val_main_v96 (F := Ideal) x0 x1 (idx_main_v97 (idx_main_v98 (idx_main_v104 (ix2 R j))) k) : EReal)
      = lowR x0 x1 R ⟨384 + k, by omega⟩ * lowR x0 x1 R ⟨384 + k, by omega⟩ := fun k => by
    have e : idx_main_v97 (idx_main_v98 (idx_main_v104 (ix2 R j))) k = ix2 R k := by funext a; match a with | ⟨0, _⟩ => rfl | ⟨1, _⟩ => rfl
    rw [val_main_v96_apply, e, ref_kv]
    rfl
  simp only [h]
  have z : (val_main_cst_8 (F := Ideal) (Shape.Idx.first h_S_) : EReal) = 0 := Ideal.ofBits_zero .f32
  rw [z]
  refine (congrArg (fun s : EReal => Ideal.rsqrt (Ideal.div s (Ideal.ofBits .f32 0x43800000#32) + Ideal.ofBits .f32 0x358637BD#32)) (zero_add _)).trans rfl

/-- The latent. -/
theorem ref_c (R : Fin 32768) (C : Fin 256) : (val_main_v108 (F := Ideal) x0 x1 x4 (ix2 R C) : EReal)
    = lowR x0 x1 R ⟨384 + C, by omega⟩ * rootC (fun k => lowR x0 x1 R ⟨384 + k, by omega⟩) * x4 (ix1 C) := by
  rw [val_main_v108_apply, val_main_v105_apply, ref_kv, ref_rootc, val_main_v107_apply, val_main_v106_apply]
  exact congrArg (fun g : EReal => _ * g) (congrArg x4 (by funext a; match a with | ⟨0, _⟩ => rfl))

/-- The angles of both rotations. -/
theorem ref_angle (s : Fin 2048) (n : Fin 16) : (val_main_v33 (F := Ideal) (ix2 s n) : EReal) = angle s n := by
  rw [val_main_v33_apply, val_main_v31_apply, val_main_v32_apply, val_main_v29_apply, val_main_v30_apply, val_main_v28_apply, val_main_v26_apply,
    val_main_v27_apply, val_main_v25_apply, val_main_v24_apply, val_main_v22_apply, val_main_v23_apply]
  rfl

theorem ref_angle' (s : Fin 2048) (n : Fin 16) : (val_main_v75 (F := Ideal) (ix2 s n) : EReal) = angle s n := by
  rw [val_main_v75_apply, val_main_v73_apply, val_main_v74_apply, val_main_v71_apply, val_main_v72_apply, val_main_v70_apply, val_main_v68_apply,
    val_main_v69_apply, val_main_v67_apply, val_main_v66_apply, val_main_v64_apply, val_main_v65_apply]
  rfl

theorem ref_high (b : Fin 16) (s : Fin 2048) (h : Fin 8) (n : Fin 96) : (val_main_v19 (F := Ideal) x0 x1 x2 x3 (ix4 b s h n) : EReal)
    = highR x0 x1 x2 x3 ⟨b * 2048 + s, by omega⟩ ⟨h * 96 + n, by omega⟩ := by
  have hb := b.isLt; have hs := s.isLt; have hh := h.isLt; have hn := n.isLt
  have e : idx_main_v19 (ix4 b s h n) = ix2 (⟨b * 2048 + s, by omega⟩ : Fin 32768) (⟨h * 96 + n, by omega⟩ : Fin 768) := by
    funext a
    apply Fin.ext
    match a with
    | ⟨0, _⟩ => show ((((b : ℕ) * 2048 + s) * 8 + h) * 96 + n) / 768 = (b : ℕ) * 2048 + s; omega
    | ⟨1, _⟩ => show ((((b : ℕ) * 2048 + s) * 8 + h) * 96 + n) % 768 = (h : ℕ) * 96 + n; omega
  rw [val_main_v19_apply, e, val_main_v18_apply]
  refine Finset.sum_congr rfl fun k _ => congrArg₂ (fun a b : EReal => a * b) ?_ (congrArg x3 ?_)
  · rw [← ref_norm]
    exact congrArg _ (by funext a; match a with | ⟨0, _⟩ => rfl | ⟨1, _⟩ => rfl)
  · funext a; match a with | ⟨0, _⟩ => rfl | ⟨1, _⟩ => rfl

/-- The tables of the queries' rotation and of the rotary key's. -/
theorem ref_cos (b : Fin 16) (s : Fin 2048) (h : Fin 8) (n : Fin 16) : (val_main_v41 (F := Ideal) (ix4 b s h n) : EReal) = Ideal.cos (angle s n) := by
  rw [val_main_v41_apply, val_main_v40_apply, val_main_v35_apply, val_main_v34_apply, ← ref_angle]
  exact congrArg Ideal.cos (congrArg (val_main_v33 (F := Ideal)) (by
    have := n.isLt
    funext a; apply Fin.ext
    match a with
    | ⟨0, _⟩ => show (((s : ℕ) * 1 + 0) * 16 + n) / 16 = s; omega
    | ⟨1, _⟩ => show (((s : ℕ) * 1 + 0) * 16 + n) % 16 = n; omega))

theorem ref_sin (b : Fin 16) (s : Fin 2048) (h : Fin 8) (n : Fin 16) : (val_main_v44 (F := Ideal) (ix4 b s h n) : EReal) = Ideal.sin (angle s n) := by
  rw [val_main_v44_apply, val_main_v43_apply, val_main_v37_apply, val_main_v36_apply, ← ref_angle]
  exact congrArg Ideal.sin (congrArg (val_main_v33 (F := Ideal)) (by
    have := n.isLt
    funext a; apply Fin.ext
    match a with
    | ⟨0, _⟩ => show (((s : ℕ) * 1 + 0) * 16 + n) / 16 = s; omega
    | ⟨1, _⟩ => show (((s : ℕ) * 1 + 0) * 16 + n) % 16 = n; omega))

theorem ref_cos' (b : Fin 16) (s : Fin 2048) (n : Fin 16) : (val_main_v81 (F := Ideal) (ix3 b s n) : EReal) = Ideal.cos (angle s n) := by
  rw [val_main_v81_apply, val_main_v80_apply, val_main_v76_apply, ← ref_angle']
  exact congrArg Ideal.cos (congrArg (val_main_v75 (F := Ideal)) (by funext a; match a with | ⟨0, _⟩ => rfl | ⟨1, _⟩ => rfl))

theorem ref_sin' (b : Fin 16) (s : Fin 2048) (n : Fin 16) : (val_main_v84 (F := Ideal) (ix3 b s n) : EReal) = Ideal.sin (angle s n) := by
  rw [val_main_v84_apply, val_main_v83_apply, val_main_v77_apply, ← ref_angle']
  exact congrArg Ideal.sin (congrArg (val_main_v75 (F := Ideal)) (by funext a; match a with | ⟨0, _⟩ => rfl | ⟨1, _⟩ => rfl))

theorem same_cos : val_main_v48 (F := Ideal) = val_main_v41 (F := Ideal) := rfl
theorem same_sin : val_main_v51 (F := Ideal) = val_main_v44 (F := Ideal) := rfl
theorem same_cos' : val_main_v88 (F := Ideal) = val_main_v81 (F := Ideal) := rfl
theorem same_sin' : val_main_v91 (F := Ideal) = val_main_v84 (F := Ideal) := rfl

/-- The queries' halves. -/
theorem ref_first (b : Fin 16) (s : Fin 2048) (h : Fin 8) (n : Fin 16) : (val_main_v38 (F := Ideal) x0 x1 x2 x3 (ix4 b s h n) : EReal)
    = highR x0 x1 x2 x3 ⟨b * 2048 + s, by omega⟩ ⟨h * 96 + (64 + n), by omega⟩ := by
  rw [val_main_v38_apply, val_main_v20_apply]
  exact (congrArg (val_main_v19 (F := Ideal) x0 x1 x2 x3) (by
    funext a; match a with | ⟨0, _⟩ => rfl | ⟨1, _⟩ => rfl | ⟨2, _⟩ => rfl | ⟨3, _⟩ => rfl)).trans
    (ref_high x0 x1 x2 x3 b s h ⟨64 + n, by omega⟩)

theorem ref_second (b : Fin 16) (s : Fin 2048) (h : Fin 8) (n : Fin 16) : (val_main_v39 (F := Ideal) x0 x1 x2 x3 (ix4 b s h n) : EReal)
    = highR x0 x1 x2 x3 ⟨b * 2048 + s, by omega⟩ ⟨h * 96 + (80 + n), by omega⟩ := by
  rw [val_main_v39_apply, val_main_v20_apply]
  exact (congrArg (val_main_v19 (F := Ideal) x0 x1 x2 x3) (by
    funext a
    apply Fin.ext
    match a with
    | ⟨0, _⟩ => rfl
    | ⟨1, _⟩ => rfl
    | ⟨2, _⟩ => rfl
    | ⟨3, _⟩ => show 64 + (16 + (n : ℕ)) = 80 + n; omega)).trans
    (ref_high x0 x1 x2 x3 b s h ⟨80 + n, by omega⟩)

theorem ref_free (b : Fin 16) (s : Fin 2048) (h : Fin 8) (n : Fin 64) : (val_main_v55 (F := Ideal) x0 x1 x2 x3 (ix4 b s h n) : EReal)
    = highR x0 x1 x2 x3 ⟨b * 2048 + s, by omega⟩ ⟨h * 96 + n, by omega⟩ := by
  rw [val_main_v55_apply]
  exact (congrArg (val_main_v19 (F := Ideal) x0 x1 x2 x3) (by
    funext a; match a with | ⟨0, _⟩ => rfl | ⟨1, _⟩ => rfl | ⟨2, _⟩ => rfl | ⟨3, _⟩ => rfl)).trans
    (ref_high x0 x1 x2 x3 b s h ⟨n, by omega⟩)

theorem ref_lead (b : Fin 16) (s : Fin 2048) (h : Fin 8) (n : Fin 16) : (val_main_v46 (F := Ideal) x0 x1 x2 x3 (ix4 b s h n) : EReal)
    = highR x0 x1 x2 x3 ⟨b * 2048 + s, by omega⟩ ⟨h * 96 + (64 + n), by omega⟩ * Ideal.cos (angle s n)
      - highR x0 x1 x2 x3 ⟨b * 2048 + s, by omega⟩ ⟨h * 96 + (80 + n), by omega⟩ * Ideal.sin (angle s n) := by
  rw [val_main_v46_apply, val_main_v42_apply, val_main_v45_apply, ref_first, ref_second, ref_cos, ref_sin]
  rfl

theorem ref_trail (b : Fin 16) (s : Fin 2048) (h : Fin 8) (n : Fin 16) : (val_main_v53 (F := Ideal) x0 x1 x2 x3 (ix4 b s h n) : EReal)
    = highR x0 x1 x2 x3 ⟨b * 2048 + s, by omega⟩ ⟨h * 96 + (80 + n), by omega⟩ * Ideal.cos (angle s n)
      + highR x0 x1 x2 x3 ⟨b * 2048 + s, by omega⟩ ⟨h * 96 + (64 + n), by omega⟩ * Ideal.sin (angle s n) := by
  rw [val_main_v53_apply, val_main_v49_apply, val_main_v52_apply, same_cos, same_sin, ref_first, ref_second, ref_cos, ref_sin]
  rfl

theorem ref_rope (b : Fin 16) (s : Fin 2048) (h : Fin 8) (n : Fin 32) : (val_main_v54 (F := Ideal) x0 x1 x2 x3 (ix4 b s h n) : EReal)
    = if p : (n : ℕ) < 16 then highR x0 x1 x2 x3 ⟨b * 2048 + s, by omega⟩ ⟨h * 96 + (64 + n), by omega⟩ * Ideal.cos (angle s n)
        - highR x0 x1 x2 x3 ⟨b * 2048 + s, by omega⟩ ⟨h * 96 + (80 + n), by omega⟩ * Ideal.sin (angle s n)
      else highR x0 x1 x2 x3 ⟨b * 2048 + s, by omega⟩ ⟨h * 96 + (80 + (n - 16)), by omega⟩ * Ideal.cos (angle s (n - 16))
        + highR x0 x1 x2 x3 ⟨b * 2048 + s, by omega⟩ ⟨h * 96 + (64 + (n - 16)), by omega⟩ * Ideal.sin (angle s (n - 16)) := by
  unfold val_main_v54
  have e1 := ref_lead x0 x1 x2 x3 b s h
  have e2 := ref_trail x0 x1 x2 x3 b s h
  generalize val_main_v46 (F := Ideal) x0 x1 x2 x3 = y1 at e1 ⊢
  generalize val_main_v53 (F := Ideal) x0 x1 x2 x3 = y2 at e2 ⊢
  show (concatenate S16x2048x8x32 3 [⟨S16x2048x8x16, (y1 : S16x2048x8x16.Idx → EReal)⟩, ⟨S16x2048x8x16, (y2 : S16x2048x8x16.Idx → EReal)⟩] _ _ : EReal) = _
  pointwise
  simp only [e1, e2]

/-- The query of row `R`, column `C`: 32 turned lanes, 64 plain lanes and 32 zeros for every head, scaled. -/
def queryR (R : Fin 32768) (C : Fin 1024) : EReal :=
  (if (C : ℕ) % 128 < 16 then
      highR x0 x1 x2 x3 R ⟨C / 128 * 96 + (64 + C % 128 % 16), by omega⟩ * Ideal.cos (angle (R % 2048) (C % 128))
        - highR x0 x1 x2 x3 R ⟨C / 128 * 96 + (80 + C % 128 % 16), by omega⟩ * Ideal.sin (angle (R % 2048) (C % 128))
    else if (C : ℕ) % 128 < 32 then
      highR x0 x1 x2 x3 R ⟨C / 128 * 96 + (80 + (C % 128 - 16) % 16), by omega⟩ * Ideal.cos (angle (R % 2048) (C % 128 - 16))
        + highR x0 x1 x2 x3 R ⟨C / 128 * 96 + (64 + (C % 128 - 16) % 16), by omega⟩ * Ideal.sin (angle (R % 2048) (C % 128 - 16))
    else if (C : ℕ) % 128 < 96 then highR x0 x1 x2 x3 R ⟨C / 128 * 96 + (C % 128 - 32) % 64, by omega⟩
    else 0) * Ideal.ofBits .f32 0x3DD105EC#32

theorem ref_query (R : Fin 32768) (C : Fin 1024) : (val_main_v61 (F := Ideal) x0 x1 x2 x3 (ix2 R C) : EReal) = queryR x0 x1 x2 x3 R C := by
  have hC := C.isLt; have hR := R.isLt
  have q : idx_main_v60 (ix2 R C) = ix4 (⟨(R : ℕ) / 2048, by omega⟩ : Fin 16) (⟨(R : ℕ) % 2048, by omega⟩ : Fin 2048)
      (⟨(C : ℕ) / 128, by omega⟩ : Fin 8) (⟨(C : ℕ) % 128, by omega⟩ : Fin 128) := by
    funext a
    apply Fin.ext
    match a with
    | ⟨0, _⟩ => show ((R : ℕ) * 1024 + C) / 2097152 = (R : ℕ) / 2048; omega
    | ⟨1, _⟩ => show ((R : ℕ) * 1024 + C) / 1024 % 2048 = (R : ℕ) % 2048; omega
    | ⟨2, _⟩ => show ((R : ℕ) * 1024 + C) / 128 % 8 = (C : ℕ) / 128; omega
    | ⟨3, _⟩ => show ((R : ℕ) * 1024 + C) % 128 = (C : ℕ) % 128; omega
  have eR : (⟨(R : ℕ) / 2048 * 2048 + (R : ℕ) % 2048, by omega⟩ : Fin 32768) = R := Fin.ext (by simp only; omega)
  rw [val_main_v61_apply, val_main_v60_apply, q, val_main_v59_apply, val_main_v58_apply]
  unfold queryR
  refine congrArg (fun y : EReal => y * Ideal.ofBits .f32 0x3DD105EC#32) ?_
  unfold val_main_v57
  have z : ∀ i, (val_main_v56 (F := Ideal) i : EReal) = 0 := fun i => by
    rw [val_main_v56_apply]
    exact Ideal.ofBits_zero .f32
  have e1 := ref_rope x0 x1 x2 x3 (⟨(R : ℕ) / 2048, by omega⟩ : Fin 16) (⟨(R : ℕ) % 2048, by omega⟩ : Fin 2048) (⟨(C : ℕ) / 128, by omega⟩ : Fin 8)
  have e2 := ref_free x0 x1 x2 x3 (⟨(R : ℕ) / 2048, by omega⟩ : Fin 16) (⟨(R : ℕ) % 2048, by omega⟩ : Fin 2048) (⟨(C : ℕ) / 128, by omega⟩ : Fin 8)
  simp only [eR] at e1 e2
  generalize val_main_v54 (F := Ideal) x0 x1 x2 x3 = y1 at e1 ⊢
  generalize val_main_v55 (F := Ideal) x0 x1 x2 x3 = y2 at e2 ⊢
  generalize val_main_v56 (F := Ideal) = y3 at z ⊢
  show (concatenate S16x2048x8x128 3 [⟨S16x2048x8x32, (y1 : S16x2048x8x32.Idx → EReal)⟩, ⟨S16x2048x8x64, (y2 : S16x2048x8x64.Idx → EReal)⟩, ⟨S16x2048x8x32, (y3 : S16x2048x8x32.Idx → EReal)⟩] _ _ : EReal) = _
  pointwise
  simp only [e1, e2, z]
  rcases lt_or_ge ((C : ℕ) % 128) 16 with h1 | h1
  · have a : (C : ℕ) % 128 % 16 = (C : ℕ) % 128 := Nat.mod_eq_of_lt h1
    have h2 : (C : ℕ) % 128 < 32 := by omega
    refine ((dif_pos h2).trans (dif_pos h1)).trans (Eq.trans ?_ (if_pos h1).symm)
    simp only [a]
  rcases lt_or_ge ((C : ℕ) % 128) 32 with h2 | h2
  · have a : ((C : ℕ) % 128 - 16) % 16 = (C : ℕ) % 128 - 16 := Nat.mod_eq_of_lt (by omega)
    refine ((dif_pos h2).trans (dif_neg (not_lt.mpr h1))).trans (Eq.trans ?_ ((if_neg (not_lt.mpr h1)).trans (if_pos h2)).symm)
    simp only [a]
  rcases lt_or_ge ((C : ℕ) % 128) 96 with h3 | h3
  · have a : ((C : ℕ) % 128 - 32) % 64 = (C : ℕ) % 128 - 32 := Nat.mod_eq_of_lt (by omega)
    have q3 : (C : ℕ) % 128 - 32 < 64 := by omega
    refine ((dif_neg (not_lt.mpr h2)).trans (dif_pos q3)).trans
      (Eq.trans ?_ ((if_neg (not_lt.mpr h1)).trans ((if_neg (not_lt.mpr h2)).trans (if_pos h3))).symm)
    simp only [a]
  · have q3 : ¬(C : ℕ) % 128 - 32 < 64 := by omega
    exact ((dif_neg (not_lt.mpr h2)).trans (dif_neg q3)).trans
      ((if_neg (not_lt.mpr h1)).trans ((if_neg (not_lt.mpr h2)).trans (if_neg (not_lt.mpr h3)))).symm

/-- The rotary key of row `R`: 32 turned lanes, then zeros. -/
def ropeR (R : Fin 32768) (C : Fin 128) : EReal :=
  if (C : ℕ) < 16 then
    lowR x0 x1 R ⟨640 + C % 16, by omega⟩ * Ideal.cos (angle (R % 2048) C) - lowR x0 x1 R ⟨656 + C % 16, by omega⟩ * Ideal.sin (angle (R % 2048) C)
  else if (C : ℕ) < 32 then
    lowR x0 x1 R ⟨656 + (C - 16) % 16, by omega⟩ * Ideal.cos (angle (R % 2048) (C - 16))
      + lowR x0 x1 R ⟨640 + (C - 16) % 16, by omega⟩ * Ideal.sin (angle (R % 2048) (C - 16))
  else 0

theorem ref_pe3 (b : Fin 16) (s : Fin 2048) (n : Fin 32) : (val_main_v62 (F := Ideal) x0 x1 (ix3 b s n) : EReal)
    = lowR x0 x1 ⟨b * 2048 + s, by omega⟩ ⟨640 + n, by omega⟩ := by
  have hb := b.isLt; have hs := s.isLt; have hn := n.isLt
  rw [val_main_v62_apply, ← ref_pe]
  exact congrArg _ (by
    funext a
    apply Fin.ext
    match a with
    | ⟨0, _⟩ => show (((b : ℕ) * 2048 + s) * 32 + n) / 32 = (b : ℕ) * 2048 + s; omega
    | ⟨1, _⟩ => show (((b : ℕ) * 2048 + s) * 32 + n) % 32 = (n : ℕ); omega)

theorem ref_first' (b : Fin 16) (s : Fin 2048) (n : Fin 16) : (val_main_v78 (F := Ideal) x0 x1 (ix3 b s n) : EReal)
    = lowR x0 x1 ⟨b * 2048 + s, by omega⟩ ⟨640 + n, by omega⟩ := by
  rw [val_main_v78_apply]
  exact (congrArg (val_main_v62 (F := Ideal) x0 x1) (by
    funext a; match a with | ⟨0, _⟩ => rfl | ⟨1, _⟩ => rfl | ⟨2, _⟩ => rfl)).trans (ref_pe3 x0 x1 b s ⟨n, by omega⟩)

theorem ref_second' (b : Fin 16) (s : Fin 2048) (n : Fin 16) : (val_main_v79 (F := Ideal) x0 x1 (ix3 b s n) : EReal)
    = lowR x0 x1 ⟨b * 2048 + s, by omega⟩ ⟨656 + n, by omega⟩ := by
  rw [val_main_v79_apply]
  refine (congrArg (val_main_v62 (F := Ideal) x0 x1) (by
    funext a; match a with | ⟨0, _⟩ => rfl | ⟨1, _⟩ => rfl | ⟨2, _⟩ => rfl)).trans ((ref_pe3 x0 x1 b s ⟨16 + n, by omega⟩).trans ?_)
  exact congrArg (lowR x0 x1 _) (Fin.ext (by simp only; omega))

theorem ref_rope' (b : Fin 16) (s : Fin 2048) (n : Fin 32) : (val_main_v94 (F := Ideal) x0 x1 (ix3 b s n) : EReal)
    = if p : (n : ℕ) < 16 then lowR x0 x1 ⟨b * 2048 + s, by omega⟩ ⟨640 + n, by omega⟩ * Ideal.cos (angle s n)
        - lowR x0 x1 ⟨b * 2048 + s, by omega⟩ ⟨656 + n, by omega⟩ * Ideal.sin (angle s n)
      else lowR x0 x1 ⟨b * 2048 + s, by omega⟩ ⟨656 + (n - 16), by omega⟩ * Ideal.cos (angle s (n - 16))
        + lowR x0 x1 ⟨b * 2048 + s, by omega⟩ ⟨640 + (n - 16), by omega⟩ * Ideal.sin (angle s (n - 16)) := by
  have e1 : ∀ n : Fin 16, (val_main_v86 (F := Ideal) x0 x1 (ix3 b s n) : EReal)
      = lowR x0 x1 ⟨b * 2048 + s, by omega⟩ ⟨640 + n, by omega⟩ * Ideal.cos (angle s n)
        - lowR x0 x1 ⟨b * 2048 + s, by omega⟩ ⟨656 + n, by omega⟩ * Ideal.sin (angle s n) := fun n => by
    rw [val_main_v86_apply, val_main_v82_apply, val_main_v85_apply, ref_first', ref_second', ref_cos', ref_sin']
    rfl
  have e2 : ∀ n : Fin 16, (val_main_v93 (F := Ideal) x0 x1 (ix3 b s n) : EReal)
      = lowR x0 x1 ⟨b * 2048 + s, by omega⟩ ⟨656 + n, by omega⟩ * Ideal.cos (angle s n)
        + lowR x0 x1 ⟨b * 2048 + s, by omega⟩ ⟨640 + n, by omega⟩ * Ideal.sin (angle s n) := fun n => by
    rw [val_main_v93_apply, val_main_v89_apply, val_main_v92_apply, same_cos', same_sin', ref_first', ref_second', ref_cos', ref_sin']
    rfl
  unfold val_main_v94
  generalize val_main_v86 (F := Ideal) x0 x1 = y1 at e1 ⊢
  generalize val_main_v93 (F := Ideal) x0 x1 = y2 at e2 ⊢
  show (concatenate S16x2048x32 2 [⟨S16x2048x16, (y1 : S16x2048x16.Idx → EReal)⟩, ⟨S16x2048x16, (y2 : S16x2048x16.Idx → EReal)⟩] _ _ : EReal) = _
  pointwise
  simp only [e1, e2]

theorem ref_rotary (R : Fin 32768) (C : Fin 128) : (val_main_v109 (F := Ideal) x0 x1 (ix2 R C) : EReal) = ropeR x0 x1 R C := by
  have hC := C.isLt; have hR := R.isLt
  have eR : (⟨(R : ℕ) / 2048 * 2048 + (R : ℕ) % 2048, by omega⟩ : Fin 32768) = R := Fin.ext (by simp only; omega)
  have z : (val_main_call0_v0 (F := Ideal) (Shape.Idx.first h_S_) : EReal) = 0 := by
    show (((0 : ℤ) : ℝ) : EReal) = 0
    norm_num
  unfold val_main_v109
  refine (Cert.Kv.pad_at (val_main_v95 (F := Ideal) x0 x1) _ _ _ R C).trans ?_
  rw [z]
  unfold ropeR
  by_cases h : (C : ℕ) < 32
  · have q : idx_main_v95 (ix2 R (⟨C, h⟩ : Fin 32)) = ix3 (⟨(R : ℕ) / 2048, by omega⟩ : Fin 16) (⟨(R : ℕ) % 2048, by omega⟩ : Fin 2048) (⟨C, h⟩ : Fin 32) := by
      funext a
      apply Fin.ext
      match a with
      | ⟨0, _⟩ => show ((R : ℕ) * 32 + C) / 65536 = (R : ℕ) / 2048; omega
      | ⟨1, _⟩ => show ((R : ℕ) * 32 + C) / 32 % 2048 = (R : ℕ) % 2048; omega
      | ⟨2, _⟩ => show ((R : ℕ) * 32 + C) % 32 = (C : ℕ); omega
    rw [dif_pos h, val_main_v95_apply, q, ref_rope']
    simp only [eR]
    by_cases h1 : (C : ℕ) < 16
    · have a : (C : ℕ) % 16 = C := Nat.mod_eq_of_lt h1
      rw [dif_pos h1, if_pos h1]
      simp only [a]
    · have a : ((C : ℕ) - 16) % 16 = (C : ℕ) - 16 := Nat.mod_eq_of_lt (by omega)
      rw [dif_neg h1, if_neg h1, if_pos h]
      simp only [a]
  · rw [dif_neg h, if_neg (by omega), if_neg h]

end Cert.In

end
-- ==== Proof.In.Eq.lean ====
/- The input projection's arrays and the reference's are the same: a rotation by signed, moved columns of the weights is the rotation of the products. -/
module

public import proofs.«01_k».proof.Proof.Att.Soft
public import proofs.«01_k».proof.Proof.Mix.Head
public import proofs.«01_k».proof.Proof.In.Ref

@[expose] public section

set_option maxRecDepth 16384

noncomputable section

namespace Cert.In

open Cert.Kernel4Ideal Cert.Kernel4Ideal.Gen
open Idealize.ShloMosaic Idealize.ShloMosaic.TcCoe Idealize.SL.Sem

/-- A number of the extended reals. -/
def Num (x : EReal) : Prop := x ≠ ⊤ ∧ x ≠ ⊥

theorem Num.real {x : EReal} (h : Num x) : ∃ r : ℝ, x = r := ⟨_, (EReal.coe_toReal h.1 h.2).symm⟩

theorem num_coe (r : ℝ) : Num (r : EReal) := ⟨EReal.coe_ne_top r, EReal.coe_ne_bot r⟩

theorem Num.mul {x y : EReal} (hx : Num x) (hy : Num y) : Num (x * y) := by
  obtain ⟨a, rfl⟩ := hx.real
  obtain ⟨b, rfl⟩ := hy.real
  rw [← EReal.coe_mul]
  exact num_coe _

theorem num_sum {n : ℕ} (f g : Fin n → EReal) (hf : ∀ k, Num (f k)) (hg : ∀ k, Num (g k)) : Num (∑ k, f k * g k) := by
  obtain ⟨r, hr⟩ := Cert.Att.dot_real f g hf hg
  rw [hr]
  exact num_coe r

/-- A sum of products with negated numbers is the negated sum. -/
theorem sum_neg {n : ℕ} (f g : Fin n → EReal) (hf : ∀ k, Num (f k)) (hg : ∀ k, Num (g k)) : ∑ k, f k * -g k = -∑ k, f k * g k := by
  choose F hF using fun k => (hf k).real
  choose G hG using fun k => (hg k).real
  simp only [hF, hG, ← EReal.coe_mul, ← EReal.coe_neg, ← Cert.Mix.coe_sum]
  refine congrArg _ ?_
  simp only [mul_neg, Finset.sum_neg_distrib]

theorem bits384 : Ideal.ofBits .f32 0x43C00000#32 = ((384 : ℝ) : EReal) := by
  simp [Ideal.ofBits, Ideal.ieee]
  rw [← EReal.coe_mul]
  norm_num

theorem bitsEps : ∃ e : ℝ, 0 < e ∧ Ideal.ofBits .f32 0x358637BD#32 = (e : EReal) := by
  refine ⟨_, ?_, by simp [Ideal.ofBits, Ideal.ieee]; rw [← EReal.coe_mul]⟩
  norm_num

theorem num_root (H : Fin 384 → EReal) (h : ∀ k, Num (H k)) : Num (rootQ H) := by
  choose P hP using fun k => (h k).real
  obtain ⟨e, he, hb⟩ := bitsEps
  unfold rootQ
  simp only [hP, ← EReal.coe_mul, ← Cert.Mix.coe_sum]
  rw [hb, bits384, Ideal.div, if_neg (by norm_num), ← EReal.coe_inv, ← EReal.coe_mul, ← EReal.coe_add]
  have hs : 0 ≤ ∑ k, P k * P k := Finset.sum_nonneg fun k _ => mul_self_nonneg (P k)
  have hp : 0 < (∑ k, P k * P k) * (384 : ℝ)⁻¹ + e := by positivity
  show Num (if _ < (0 : ℝ) then ⊥ else if _ = (0 : ℝ) then ⊤ else (((Real.sqrt _)⁻¹ : ℝ) : EReal))
  rw [if_neg (not_lt.mpr hp.le), if_neg hp.ne']
  exact num_coe _

variable (m : (ℓ : Loc nD τ sig) → Buf (Elt Ideal) ℓ)

/-- The arguments as arrays of numbers. -/
abbrev A0 (c : Dev nD) : S32768x1024.Idx → EReal := m ((c : Thread nD τ).loc main_arg0)
abbrev A1 (c : Dev nD) : S1024x6048.Idx → EReal := m ((c : Thread nD τ).loc main_arg1)
abbrev A2 (c : Dev nD) : S384.Idx → EReal := m ((c : Thread nD τ).loc main_arg2)
abbrev A3 (c : Dev nD) : S384x768.Idx → EReal := m ((c : Thread nD τ).loc main_arg3)
abbrev A4 (c : Dev nD) : S256.Idx → EReal := m ((c : Thread nD τ).loc main_arg4)

theorem low_eq (c : Dev nD) (R : Fin 32768) (L : ℕ) (h : L < 672) :
    lowK m c R ⟨L, by omega⟩ = lowR (A0 m c) (A1 m c) R ⟨L, h⟩ :=
  Finset.sum_congr rfl fun k _ => congrArg (fun w : EReal => xin m c R k * w) (wm_plain m c k ⟨L, by omega⟩ h)

theorem low_zero (c : Dev nD) (R : Fin 32768) (L : ℕ) (hL : L < 896) (h : 672 ≤ L) (h' : L < 768 ∨ 800 ≤ L) : lowK m c R ⟨L, hL⟩ = 0 := by
  refine (Finset.sum_congr rfl fun k _ => congrArg (fun w : EReal => xin m c R k * w) (wm_zero m c k ⟨L, hL⟩ h h')).trans ?_
  simp

theorem low_moved (c : Dev nD) (R : Fin 32768) (L : ℕ) (hL : L < 896) (h : 784 ≤ L) (h' : L < 800) :
    lowK m c R ⟨L, hL⟩ = lowR (A0 m c) (A1 m c) R ⟨L - 144, by omega⟩ :=
  Finset.sum_congr rfl fun k _ => congrArg (fun w : EReal => xin m c R k * w) (wm_moved m c k ⟨L, hL⟩ h h')

theorem norm_eq (c : Dev nD) (R : Fin 32768) (j : Fin 384) : normK m c R j = normR (A0 m c) (A1 m c) (A2 m c) R j := by
  unfold normK normR
  rw [low_eq m c R j (by omega), show (fun k : Fin 384 => lowK m c R ⟨k, by omega⟩) = fun k : Fin 384 => lowR (A0 m c) (A1 m c) R ⟨k, by omega⟩ from
    funext fun k => low_eq m c R k (by omega)]
  rfl

theorem latent_eq (c : Dev nD) (R : Fin 32768) (C : Fin 256) : latentK m c R C
    = lowR (A0 m c) (A1 m c) R ⟨384 + C, by omega⟩ * rootC (fun k => lowR (A0 m c) (A1 m c) R ⟨384 + k, by omega⟩) * A4 m c (ix1 C) := by
  unfold latentK
  rw [low_eq m c R (384 + C) (by omega), show (fun k : Fin 256 => lowK m c R ⟨384 + k, by omega⟩) = fun k : Fin 256 => lowR (A0 m c) (A1 m c) R ⟨384 + k, by omega⟩ from
    funext fun k => low_eq m c R (384 + k) (by omega)]
  rfl

/-- The second product's columns whose weights are columns of the argument's, and those whose weights are zeros. -/
theorem high_rope (c : Dev nD) (R : Fin 32768) (h : Fin 8) (n : ℕ) (hn : n < 32) :
    highK m c R ⟨h * 128 + n, by omega⟩ = highR (A0 m c) (A1 m c) (A2 m c) (A3 m c) R ⟨h * 96 + (64 + n), by omega⟩ :=
  Finset.sum_congr rfl fun j _ => congrArg₂ (fun a w : EReal => a * w) (norm_eq m c R j) (wq_rope m c j h n hn)

theorem high_free (c : Dev nD) (R : Fin 32768) (h : Fin 8) (n : ℕ) (hn : n < 64) :
    highK m c R ⟨h * 128 + (32 + n), by omega⟩ = highR (A0 m c) (A1 m c) (A2 m c) (A3 m c) R ⟨h * 96 + n, by omega⟩ :=
  Finset.sum_congr rfl fun j _ => congrArg₂ (fun a w : EReal => a * w) (norm_eq m c R j) (wq_free m c j h n hn)

theorem high_moved (c : Dev nD) (R : Fin 32768) (h : Fin 8) (n : ℕ) (hn : n < 16) :
    highK m c R ⟨1024 + (h * 128 + (16 + n)), by omega⟩ = highR (A0 m c) (A1 m c) (A2 m c) (A3 m c) R ⟨h * 96 + (64 + n), by omega⟩ :=
  Finset.sum_congr rfl fun j _ => congrArg₂ (fun a w : EReal => a * w) (norm_eq m c R j) (wq_moved m c j h n hn)

theorem high_pad (c : Dev nD) (R : Fin 32768) (h : Fin 8) (n : ℕ) (hn : n < 32) : highK m c R ⟨h * 128 + (96 + n), by omega⟩ = 0 := by
  refine (Finset.sum_congr rfl fun j _ => congrArg (fun w : EReal => normK m c R j * w) (wq_zero m c j h n hn)).trans ?_
  simp

theorem high_rest (c : Dev nD) (R : Fin 32768) (h : Fin 8) (n : ℕ) (hn : n < 96) : highK m c R ⟨1024 + (h * 128 + (32 + n)), by omega⟩ = 0 := by
  refine (Finset.sum_congr rfl fun j _ => congrArg (fun w : EReal => normK m c R j * w) (wq_rest m c j h n hn)).trans ?_
  simp

/-- The tables' lanes. -/
theorem tc_first (c : Dev nD) (R : Fin 32768) (l : Fin 128) (h : (l : ℕ) < 16) : tcK m c R l = Ideal.cos (angle (R % 2048) l) :=
  (tc_at m c R l).trans (dif_pos h)

theorem tc_second (c : Dev nD) (R : Fin 32768) (l : Fin 128) (h : ¬(l : ℕ) < 16) (h' : (l : ℕ) < 32) : tcK m c R l = Ideal.cos (angle (R % 2048) (l - 16)) :=
  have q : (l : ℕ) - 16 < 16 := by omega
  (tc_at m c R l).trans ((dif_neg h).trans (dif_pos q))

theorem tc_free (c : Dev nD) (R : Fin 32768) (l : Fin 128) (h : ¬(l : ℕ) < 32) (h' : (l : ℕ) < 96) : tcK m c R l = 1 :=
  have p : ¬(l : ℕ) < 16 := by omega
  have q : ¬(l : ℕ) - 16 < 16 := by omega
  have r : (l : ℕ) - 16 - 16 < 64 := by omega
  (tc_at m c R l).trans ((dif_neg p).trans ((dif_neg q).trans (dif_pos r)))

theorem ts_first (c : Dev nD) (R : Fin 32768) (l : Fin 128) (h : (l : ℕ) < 16) : tsK m c R l = Ideal.sin (angle (R % 2048) l) :=
  (ts_at m c R l).trans (dif_pos h)

theorem ts_second (c : Dev nD) (R : Fin 32768) (l : Fin 128) (h : ¬(l : ℕ) < 16) (h' : (l : ℕ) < 32) : tsK m c R l = Ideal.sin (angle (R % 2048) (l - 16)) :=
  have q : (l : ℕ) - 16 < 16 := by omega
  (ts_at m c R l).trans ((dif_neg h).trans (dif_pos q))

section
variable (c : Dev nD) (h0 : ∀ i, Num (A0 m c i)) (h1 : ∀ i, Num (A1 m c i)) (h2 : ∀ i, Num (A2 m c i)) (h3 : ∀ i, Num (A3 m c i))
include h0 h1

theorem num_low (R : Fin 32768) (L : Fin 672) : Num (lowR (A0 m c) (A1 m c) R L) := num_sum _ _ (fun _ => h0 _) fun _ => h1 _

theorem low_turned (R : Fin 32768) (L : ℕ) (hL : L < 896) (h : 768 ≤ L) (h' : L < 784) :
    lowK m c R ⟨L, hL⟩ = -lowR (A0 m c) (A1 m c) R ⟨L - 112, by omega⟩ := by
  refine (Finset.sum_congr rfl fun k _ => congrArg (fun w : EReal => xin m c R k * w) (wm_turned m c k ⟨L, hL⟩ h h')).trans ?_
  exact sum_neg (fun k => A0 m c (ix2 R k)) (fun k => A1 m c (ix2 k _)) (fun _ => h0 _) fun _ => h1 _

theorem rope_eq (R : Fin 32768) (C : Fin 128) : ropeK m c R C = ropeR (A0 m c) (A1 m c) R C := by
  unfold ropeK ropeR
  rcases lt_or_ge (C : ℕ) 16 with k1 | k1
  · have a : (C : ℕ) % 16 = C := Nat.mod_eq_of_lt k1
    rw [tc_first m c R C k1, ts_first m c R C k1, if_pos k1, low_eq m c R (640 + C) (by omega), low_turned m c h0 h1 R (768 + C) (by omega) (by omega) (by omega)]
    have b : 768 + (C : ℕ) - 112 = 656 + C := by omega
    simp only [a, b, EReal.neg_mul, sub_eq_add_neg]
  rcases lt_or_ge (C : ℕ) 32 with k2 | k2
  · have a : ((C : ℕ) - 16) % 16 = C - 16 := Nat.mod_eq_of_lt (by omega)
    rw [tc_second m c R C (not_lt.mpr k1) k2, ts_second m c R C (not_lt.mpr k1) k2, if_neg (not_lt.mpr k1), if_pos k2, low_eq m c R (640 + C) (by omega),
      low_moved m c R (768 + C) (by omega) (by omega) (by omega)]
    have b : 768 + (C : ℕ) - 144 = 640 + (C - 16) := by omega
    have b' : 640 + (C : ℕ) = 656 + (C - 16) := by omega
    simp only [a, b, b']
  · rw [low_zero m c R (640 + C) (by omega) (by omega) (by omega), low_zero m c R (768 + C) (by omega) (by omega) (by omega),
      if_neg (not_lt.mpr k1), if_neg (not_lt.mpr k2)]
    simp

include h2

theorem num_norm (R : Fin 32768) (j : Fin 384) : Num (normR (A0 m c) (A1 m c) (A2 m c) R j) :=
  ((num_low m c h0 h1 R _).mul (num_root _ fun _ => num_low m c h0 h1 R _)).mul (h2 _)

include h3

theorem high_turned (R : Fin 32768) (h : Fin 8) (n : ℕ) (hn : n < 16) : highK m c R ⟨1024 + (h * 128 + n), by omega⟩
    = -highR (A0 m c) (A1 m c) (A2 m c) (A3 m c) R ⟨h * 96 + (80 + n), by omega⟩ := by
  refine (Finset.sum_congr rfl fun j _ => congrArg₂ (fun a w : EReal => a * w) (norm_eq m c R j) (wq_turned m c j h n hn)).trans ?_
  exact sum_neg (fun j => normR (A0 m c) (A1 m c) (A2 m c) R j) (fun j => A3 m c (ix2 j _)) (fun j => num_norm m c h0 h1 h2 R j) fun _ => h3 _

theorem query_eq (R : Fin 32768) (C : Fin 1024) : queryK m c R C = queryR (A0 m c) (A1 m c) (A2 m c) (A3 m c) R C := by
  have t : ∀ (h : Fin 8) (n : Fin 128), (h : ℕ) * 128 + n < 1024 := fun h n => by omega
  obtain ⟨h, n, rfl⟩ : ∃ (h : Fin 8) (n : Fin 128), C = (⟨h * 128 + n, t h n⟩ : Fin 1024) :=
    ⟨⟨C / 128, by omega⟩, ⟨C % 128, by omega⟩, Fin.ext (by simp only; omega)⟩
  unfold queryK queryR
  have d : ((h : ℕ) * 128 + n) / 128 = h := by omega
  have r : ((h : ℕ) * 128 + n) % 128 = n := by omega
  refine congrArg (fun y : EReal => y * Ideal.ofBits .f32 0x3DD105EC#32) ?_
  simp only [d, r]
  rcases lt_or_ge (n : ℕ) 16 with k1 | k1
  · have a : (n : ℕ) % 16 = n := Nat.mod_eq_of_lt k1
    rw [tc_first m c R n k1, ts_first m c R n k1, if_pos k1, high_rope m c R h n (by omega),
      high_turned m c h0 h1 h2 h3 R h n k1]
    simp only [a, EReal.neg_mul, sub_eq_add_neg]
  rcases lt_or_ge (n : ℕ) 32 with k2 | k2
  · obtain ⟨u, hu⟩ : ∃ u, (n : ℕ) = 16 + u := ⟨n - 16, by omega⟩
    have a : 16 + u - 16 = u := by omega
    have a' : u % 16 = u := by omega
    have b : 80 + u = 64 + (16 + u) := by omega
    rw [tc_second m c R n (not_lt.mpr k1) k2, ts_second m c R n (not_lt.mpr k1) k2, if_neg (not_lt.mpr k1), if_pos k2]
    simp only [hu, a, a', b]
    rw [high_rope m c R h (16 + u) (by omega), high_moved m c R h u (by omega)]
  obtain ⟨v, hv⟩ : ∃ v, (n : ℕ) = 32 + v := ⟨n - 32, by omega⟩
  have z : highK m c R ⟨1024 + (h * 128 + n), by omega⟩ = 0 := by
    simp only [hv]
    exact high_rest m c R h v (by omega)
  have y : tsK m c R n = 0 := by
    unfold tsK
    rw [ts_at]
    have q : ¬(n : ℕ) - 16 < 16 := by omega
    exact (dif_neg (not_lt.mpr k1)).trans (dif_neg q)
  rw [y, if_neg (not_lt.mpr k1), if_neg (not_lt.mpr k2), z]
  rcases lt_or_ge (n : ℕ) 96 with k3 | k3
  · have a : 32 + v - 32 = v := by omega
    have a' : v % 64 = v := by omega
    rw [tc_free m c R n (not_lt.mpr k2) k3, if_pos k3]
    simp only [hv, a, a']
    rw [high_free m c R h v (by omega)]
    simp
  · obtain ⟨w, hw⟩ : ∃ w, (n : ℕ) = 96 + w := ⟨n - 96, by omega⟩
    rw [if_neg (not_lt.mpr k3)]
    simp only [hw]
    rw [high_pad m c R h w (by omega)]
    simp
end

end Cert.In

end
-- ==== Proof.In.Pre.lean ====
module

public import proofs.«01_k».proof.Defs
public import proofs.«01_k».proof.Proof.In.Eq
public import proofs.«01_k».proof.Proof.Att.Pre
public import Idealize.ShloMosaic.Lib.ReduceAll

@[expose] public section

noncomputable section

/-! The precondition says that every entry of the layer's input, of the two weights and of the queries' scale is a number. -/

namespace Cert.In
open Idealize.ShloMosaic Cert.Pre_bounded

theorem facts_pre : Cert.Pre_bounded.Facts := by
  constructor
  all_goals decide

/-- What a comparison with infinity says of one entry. -/
theorem num_of (x : EReal) (e : BitVec.ofBool (decide (max x (-x) < Ideal.ofBits .f32 0x7F800000#32)) = 1#1) : Num x := by
  have e : max x (-x) < Ideal.ofBits .f32 0x7F800000#32 := by
    by_contra hn
    exact absurd ((congrArg BitVec.ofBool (decide_eq_false hn)).symm.trans e) (by decide)
  rw [show Ideal.ofBits FTy.f32 0x7F800000#32 = ⊤ by simp [Ideal.ofBits, Ideal.ieee]] at e
  constructor
  · intro hx; rw [hx] at e; simp at e
  · intro hx; rw [hx] at e; simp at e

theorem numbers (inst : Cert.Pre_bounded.Facts) (x0 : FVec Ideal S32768x1024 .f32) (x1 : FVec Ideal S1024x6048 .f32) (x2 : FVec Ideal S384 .f32)
    (x3 : FVec Ideal S384x768 .f32) (x4 : FVec Ideal S256 .f32) (h : Cert.Pre_bounded.fn (F := Ideal) x0 x1 x2 x3 x4 = fun _ => 1#1) :
    (∀ i, Num (x0 i)) ∧ (∀ i, Num (x1 i)) ∧ (∀ i, Num (x2 i)) ∧ ∀ i, Num (x3 i) := by
  haveI : Subsingleton S_.Idx := ⟨fun a b => funext fun k => k.elim0⟩
  obtain ⟨h, e3⟩ := Cert.Att.andi_one _ _ (congrFun h (fun k => k.elim0))
  obtain ⟨h, e2⟩ := Cert.Att.andi_one _ _ h
  obtain ⟨e0, e1⟩ := Cert.Att.andi_one _ _ h
  exact ⟨fun i => num_of _ (Host.reduce_andi_all _ _ _ _ _ e0 i), fun i => num_of _ (Host.reduce_andi_all _ _ _ _ _ e1 i),
    fun i => num_of _ (Host.reduce_andi_all _ _ _ _ _ e2 i), fun i => num_of _ (Host.reduce_andi_all _ _ _ _ _ e3 i)⟩

end Cert.In

end
-- ==== Proof.Su.Value.lean ====
/- The state space branch's input: the call's product, stored with time before batch, and the reference's. -/
module

public import proofs.«01_k».proof.Proof.Gen.Kernel6Ideal.Value
public import proofs.«01_k».proof.Proof.Gen.Reference6Ideal.Read
public import Idealize.ShloMosaic.Lib.StableHlo.RunRead
public import Idealize.ShloMosaic.Lib.Pipeline.ValueKit.Geometry
public import Idealize.ShloMosaic.PureOps.Ideal
public import Idealize.ShloMosaic.Lib.Pointwise
public import Idealize.ShloMosaic.Lib.IdealHost

@[expose] public section

set_option maxRecDepth 16384

noncomputable section

namespace Cert.Su

open Idealize.ShloMosaic Idealize.ShloMosaic.TcCoe Idealize.SL.Sem

/-- The entry at time `t`, column `C`: the product of row `t` of sequence `C / 512` with column `C % 512` of the branch's weights. -/
def entry (x : (⟨2, ![32768, 1024]⟩ : Shape).Idx → EReal) (w : (⟨2, ![1024, 6048]⟩ : Shape).Idx → EReal) (t : Fin 2048) (C : Fin 8192) : EReal :=
  ∑ k : Fin 1024, x (ix2 (⟨(C : ℕ) / 512 * 2048 + t, by omega⟩ : Fin 32768) k) * w (ix2 k (⟨2464 + (C : ℕ) % 512, by omega⟩ : Fin 6048))

section kernel

open Cert.Kernel6Ideal Cert.Kernel6Ideal.Gen

variable (m : (ℓ : Loc nD τ sig) → Buf (Elt Ideal) ℓ)

theorem w_at (c : Dev nD) (j : Fin 1024) (l : Fin 512) : (V m c main_v1 (ix2 j l) : EReal)
    = m ((c : Thread nD τ).loc main_arg1) (ix2 j (⟨2464 + (l : ℕ), by omega⟩ : Fin 6048)) := by
  show StableHlo.after hostOps0 _ (Proc.devRef .tc main_v1) _ = _
  after_reads_simp
  pointwise

theorem out (x0 : Vec Ideal S512x1024 .f32) (x1 : Vec Ideal S1024x512 .bf16) (r : Fin 512) (C : Fin 512) :
    (out0_2 (F := Ideal) x0 x1 (ix2 r C) : EReal) = ∑ k : Fin 1024, (x0 (ix2 r k) : EReal) * x1 (ix2 k C) := by
  have s0 : ∀ X : Vec Ideal S512x1024 .f32, View.ld X r0_0 = X := fun X => View.ld_unit_lit _ X (by decide)
  have s1 : ∀ X : Vec Ideal S1024x512 .bf16, View.ld X r0_1 = X := fun X => View.ld_unit_lit _ X (by decide)
  unfold out0_2
  refine (congrFun (View.canon_cons_unit_lit (Val := Elt Ideal) (S := S512x512) (off := ![0, 0]) _ _ [] (by decide)) (ix2 r C)).trans ?_
  simp only [s0, s1]
  unfold_payloads
  pointwise

theorem e0 : ∀ t : Fin cfg0.N, win0_0.index t = ![(grid0.coords t 0).val * 4 + (grid0.coords t 1).val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![(grid0.coords t 1).val, (grid0.coords t 0).val] := (by decide +kernel : ∀ t : Fin grid0.N, _)

theorem x_blk (c : Dev nD) (t : Fin cfg0.N) (r : Fin 512) (k : Fin 1024) (R : Fin 32768)
    (hR : (R : ℕ) = ((grid0.coords t 0).val * 4 + (grid0.coords t 1).val) * 512 + r) :
    (iblk m c 0 t (ix2 r k) : EReal) = m ((c : Thread nD τ).loc main_arg0) (ix2 R k) := by
  blk_simp [iblk]
  refine (congrFun (V_main_arg0 m c) _).trans (congrArg _ ?_)
  blk_ext [e0]
  all_goals (first | exact hR.symm | (simp [ix2]; omega))

theorem w_blk (c : Dev nD) (t : Fin cfg0.N) (j : Fin 1024) (l : Fin 512) : (iblk m c 1 t (ix2 j l) : EReal)
    = m ((c : Thread nD τ).loc main_arg1) (ix2 j (⟨2464 + (l : ℕ), by omega⟩ : Fin 6048)) := by
  refine Eq.trans ?_ (w_at m c j l)
  blk_simp [iblk]
  refine congrArg _ ?_
  blk_ext [e1]

theorem final (c : Dev nD) : (dats m 0 c).arrAt 2 cfg0.N = fun i : S2048x8192.Idx =>
    entry (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  obtain ⟨r, l, rfl⟩ : ∃ (r : Fin 512) (l : Fin 512), y = ix2 r l := ⟨y 0, y 1, by funext a; match a with | ⟨0, _⟩ => rfl | ⟨1, _⟩ => rfl⟩
  have hR : ((((win0_2.blk t).view.emb (ix2 r l)) 0 : Fin 2048) : ℕ) = (grid0.coords t 1).val * 512 + r := by
    blk_simp [e2]
  have hC : ((((win0_2.blk t).view.emb (ix2 r l)) 1 : Fin 8192) : ℕ) = (grid0.coords t 0).val * 512 + l := by
    blk_simp [e2]
  generalize (((win0_2.blk t).view.emb (ix2 r l)) 0 : Fin 2048) = R at hR ⊢
  generalize (((win0_2.blk t).view.emb (ix2 r l)) 1 : Fin 8192) = C at hC ⊢
  refine (out _ _ r l).trans ?_
  have hl := l.isLt; have hR' : (R : ℕ) < 2048 := R.isLt; have hC' : (C : ℕ) < 8192 := C.isLt
  unfold entry
  refine Finset.sum_congr rfl fun k _ => ?_
  refine congrArg₂ (fun a b : EReal => a * b) (x_blk m c t r k (⟨(C : ℕ) / 512 * 2048 + R, by omega⟩ : Fin 32768) ?_) ((w_blk m c t k l).trans ?_)
  · show (C : ℕ) / 512 * 2048 + R = _
    omega
  · refine congrArg _ (congrArg (ix2 k) (Fin.ext ?_))
    show 2464 + (l : ℕ) = 2464 + (C : ℕ) % 512
    omega

end kernel

section reference

open Cert.Reference6Ideal Cert.Reference6Ideal.Gen Cert.Reference6Ideal.Read

theorem ref (x0 : S32768x1024.Idx → EReal) (x1 : S1024x6048.Idx → EReal) (t : Fin 2048) (C : Fin 8192) :
    (val_main_v4 (F := Ideal) x0 x1 (ix2 t C) : EReal) = entry x0 x1 t C := by
  have hC := C.isLt; have ht := t.isLt
  rw [val_main_v4_apply, val_main_v3_apply, val_main_v2_apply, val_main_v1_apply]
  unfold entry
  refine Finset.sum_congr rfl fun k _ => ?_
  rw [val_main_v0_apply]
  refine congrArg₂ (fun a b : EReal => a * b) (congrArg x0 ?_) (congrArg x1 ?_)
  all_goals
    funext a
    apply Fin.ext
    match a with
    | ⟨0, _⟩ => first | rfl | (simp [ix2]; omega)
    | ⟨1, _⟩ => first | rfl | (simp [ix2]; omega)

end reference

end Cert.Su

end
-- ==== Proof.Tm.FrameIdeal.lean ====
/- The launch of the time mixing call: the run, its frame and the arrays that it leaves, of Kernel7Ideal. -/
module

public import proofs.«01_k».proof.Proof.Gen.Kernel7Ideal.Launch
public import proofs.«01_k».proof.Proof.Gen.Kernel7Ideal.Skeleton
public import proofs.«01_k».proof.Proof.Gen.Kernel7Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel7Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1440000 in

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 1).trans (((dats 0 c).arrAt_in 1 rfl _).trans ((hA c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

abbrev r0_0 : Rect S512x1024 := Rect.unit (s := S512x1024) ![0, 0] S512x1024.size inb_S512x1024_S512x1024_0_0
abbrev r0_1 : Rect S1024x1792 := Rect.unit (s := S1024x1792) ![0, 0] S1024x1792.size inb_S1024x1792_S1024x1792_0_0
abbrev r0_2 : Rect S8x1024 := Rect.unit (s := S8x1024) ![0, 0] S8x1024.size inb_S8x1024_S8x1024_0_0
abbrev r0_3 : Rect S1x1x1792 := Rect.unit (s := S1x1x1792) ![0, 0, 0] S1x1x1792.size inb_S1x1x1792_S1x1x1792_0_0_0
abbrev r0_4 : Rect S1x1792 := Rect.unit (s := S1x1792) ![0, 0] S1x1792.size inb_S1x1792_S1x1792_0_0
abbrev r0_5 : Rect S512x512 := Rect.unit (s := S512x512) ![0, 0] S512x512.size inb_S512x512_S512x512_0_0
abbrev r0_6 : Rect S1x512 := Rect.unit (s := S1x512) ![0, 0] S1x512.size inb_S1x512_S1x512_0_0
abbrev r0_7 : Rect S128x512 := Rect.unit (s := S128x512) ![0, 0] S128x512.size inb_S128x512_S128x512_0_0
abbrev r0_8 : Rect S128x128 := Rect.unit (s := S128x128) ![0, 0] S128x128.size inb_S128x128_S128x128_0_0

def k0_pay33 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : FVec F S512x512 .f32 :=
  k0_pay5 i (View.ld x0 r0_0) (View.ld x3 r0_1) (View.ld x1 r0_2) (View.ld x3 r0_1) (View.ld x2 r0_3) (View.ld x4 r0_4)
def k0_pay34 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : FVec F S512x512 .f32 :=
  k0_pay6 i (View.ld x0 r0_0) (View.ld x3 r0_1) (View.ld x1 r0_2) (View.ld x3 r0_1) (View.ld x2 r0_3) (View.ld x4 r0_4)
def k0_pay35 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : FVec F S512x512 .f32 :=
  k0_pay7 i (View.ld x0 r0_0) (View.ld x3 r0_1) (View.ld x1 r0_2) (View.ld x3 r0_1) (View.ld x2 r0_3) (View.ld x4 r0_4)
def k0_pay36 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : FVec F S512x128 .f32 :=
  k0_pay8 i (View.ld x0 r0_0) (View.ld x3 r0_1) (View.ld x1 r0_2) (View.ld x3 r0_1) (View.ld x2 r0_3) (View.ld x4 r0_4)
def k0_pay37 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : FVec F S512x512 .bf16 :=
  k0_pay10 (View.ld x13 r0_5)
def k0_pay38 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : FVec F S128x128 .bf16 :=
  k0_pay12 (View.ld x14 r0_8)
def k0_pay39 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : FVec F S512x512 .bf16 :=
  k0_pay13 (k0_pay36 i x0 x1 x2 x3 x4 x5 x6 x7 x8 x9 x10 x11 x12 x13 x14) (View.ld x5 r0_6) (View.ld x6 r0_7)
def k0_pay40 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : FVec F S512x512 .bf16 :=
  k0_pay15 (k0_pay36 i x0 x1 x2 x3 x4 x5 x6 x7 x8 x9 x10 x11 x12 x13 x14) (View.ld x5 r0_6) (View.ld x6 r0_7)
def k0_pay41 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : FVec F S512x512 .bf16 :=
  k0_pay16 (k0_pay36 i x0 x1 x2 x3 x4 x5 x6 x7 x8 x9 x10 x11 x12 x13 x14) (View.ld x5 r0_6) (View.ld x6 r0_7)
def k0_pay42 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : FVec F S128x512 .f32 :=
  k0_pay17 (k0_pay36 i x0 x1 x2 x3 x4 x5 x6 x7 x8 x9 x10 x11 x12 x13 x14) (View.ld x5 r0_6) (View.ld x6 r0_7) (View.ld x14 r0_8)
def k0_pay43 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : FVec F S128x512 .bf16 :=
  k0_pay18 (k0_pay36 i x0 x1 x2 x3 x4 x5 x6 x7 x8 x9 x10 x11 x12 x13 x14) (View.ld x5 r0_6) (View.ld x6 r0_7)
def k0_pay44 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : FVec F S512x512 .f32 :=
  k0_pay21 (k0_pay38 i x0 x1 x2 x3 x4 x5 x6 x7 x8 x9 x10 x11 x12 x13 x14) (k0_pay39 i x0 x1 x2 x3 x4 x5 x6 x7 x8 x9 x10 x11 x12 x13 x14) (k0_pay40 i x0 x1 x2 x3 x4 x5 x6 x7 x8 x9 x10 x11 x12 x13 x14) (k0_pay41 i x0 x1 x2 x3 x4 x5 x6 x7 x8 x9 x10 x11 x12 x13 x14) (k0_pay42 i x0 x1 x2 x3 x4 x5 x6 x7 x8 x9 x10 x11 x12 x13 x14) (k0_pay43 i x0 x1 x2 x3 x4 x5 x6 x7 x8 x9 x10 x11 x12 x13 x14)
def k0_pay45 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : FVec F S512x512 .f32 :=
  k0_pay22 (k0_pay36 i x0 x1 x2 x3 x4 x5 x6 x7 x8 x9 x10 x11 x12 x13 x14) (View.ld x7 r0_6) (View.ld x8 r0_7)
def k0_pay46 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : FVec F S512x512 .f32 :=
  k0_pay24 (k0_pay34 i x0 x1 x2 x3 x4 x5 x6 x7 x8 x9 x10 x11 x12 x13 x14) (View.ld x10 r0_6)
def k0_pay47 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : FVec F S512x512 .f32 :=
  k0_pay25 (k0_pay34 i x0 x1 x2 x3 x4 x5 x6 x7 x8 x9 x10 x11 x12 x13 x14) (k0_pay37 i x0 x1 x2 x3 x4 x5 x6 x7 x8 x9 x10 x11 x12 x13 x14) (View.ld x10 r0_6)

def out0_15 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : Vec F S512x512 .f32 :=
  View.canon [⟨r0_5, k0_pay30 (k0_pay33 i x0 x1 x2 x3 x4 x5 x6 x7 x8 x9 x10 x11 x12 x13 x14) (k0_pay20 (k0_pay38 i x0 x1 x2 x3 x4 x5 x6 x7 x8 x9 x10 x11 x12 x13 x14) (k0_pay39 i x0 x1 x2 x3 x4 x5 x6 x7 x8 x9 x10 x11 x12 x13 x14) (k0_pay40 i x0 x1 x2 x3 x4 x5 x6 x7 x8 x9 x10 x11 x12 x13 x14) (k0_pay41 i x0 x1 x2 x3 x4 x5 x6 x7 x8 x9 x10 x11 x12 x13 x14) (k0_pay42 i x0 x1 x2 x3 x4 x5 x6 x7 x8 x9 x10 x11 x12 x13 x14) (k0_pay43 i x0 x1 x2 x3 x4 x5 x6 x7 x8 x9 x10 x11 x12 x13 x14))⟩]

theorem cover0_15 (p0 : Vec F S512x512 .f32) (y : S512x512.Idx) :
    ∃ pc ∈ ([⟨r0_5, p0⟩] : List (View.Piece (Elt F) S512x512 .f32)), y ∈ pc.1.set :=
  View.cover_of_tiled [⟨r0_5, p0⟩] S512x512.size (by rfl) y

def out0_16 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : Vec F S512x512 .f32 :=
  View.canon [⟨r0_5, k0_pay20 (k0_pay38 i x0 x1 x2 x3 x4 x5 x6 x7 x8 x9 x10 x11 x12 x13 x14) (k0_pay39 i x0 x1 x2 x3 x4 x5 x6 x7 x8 x9 x10 x11 x12 x13 x14) (k0_pay40 i x0 x1 x2 x3 x4 x5 x6 x7 x8 x9 x10 x11 x12 x13 x14) (k0_pay41 i x0 x1 x2 x3 x4 x5 x6 x7 x8 x9 x10 x11 x12 x13 x14) (k0_pay42 i x0 x1 x2 x3 x4 x5 x6 x7 x8 x9 x10 x11 x12 x13 x14) (k0_pay43 i x0 x1 x2 x3 x4 x5 x6 x7 x8 x9 x10 x11 x12 x13 x14)⟩]

theorem cover0_16 (p0 : Vec F S512x512 .f32) (y : S512x512.Idx) :
    ∃ pc ∈ ([⟨r0_5, p0⟩] : List (View.Piece (Elt F) S512x512 .f32)), y ∈ pc.1.set :=
  View.cover_of_tiled [⟨r0_5, p0⟩] S512x512.size (by rfl) y

def out0_17 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : Vec F S512x512 .f32 :=
  View.canon [⟨r0_5, k0_pay31 (k0_pay34 i x0 x1 x2 x3 x4 x5 x6 x7 x8 x9 x10 x11 x12 x13 x14) (k0_pay44 i x0 x1 x2 x3 x4 x5 x6 x7 x8 x9 x10 x11 x12 x13 x14) (k0_pay45 i x0 x1 x2 x3 x4 x5 x6 x7 x8 x9 x10 x11 x12 x13 x14) (View.ld x11 r0_6)⟩]

theorem cover0_17 (p0 : Vec F S512x512 .f32) (y : S512x512.Idx) :
    ∃ pc ∈ ([⟨r0_5, p0⟩] : List (View.Piece (Elt F) S512x512 .f32)), y ∈ pc.1.set :=
  View.cover_of_tiled [⟨r0_5, p0⟩] S512x512.size (by rfl) y

def out0_18 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : Vec F S512x512 .f32 :=
  View.canon [⟨r0_5, k0_pay35 i x0 x1 x2 x3 x4 x5 x6 x7 x8 x9 x10 x11 x12 x13 x14⟩]

theorem cover0_18 (p0 : Vec F S512x512 .f32) (y : S512x512.Idx) :
    ∃ pc ∈ ([⟨r0_5, p0⟩] : List (View.Piece (Elt F) S512x512 .f32)), y ∈ pc.1.set :=
  View.cover_of_tiled [⟨r0_5, p0⟩] S512x512.size (by rfl) y

def out0_19 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : Vec F S512x512 .f32 :=
  View.canon [⟨r0_5, k0_pay27 (k0_pay11 (k0_pay36 i x0 x1 x2 x3 x4 x5 x6 x7 x8 x9 x10 x11 x12 x13 x14) (View.ld x5 r0_6) (View.ld x6 r0_7)) (k0_pay19 (k0_pay38 i x0 x1 x2 x3 x4 x5 x6 x7 x8 x9 x10 x11 x12 x13 x14) (k0_pay39 i x0 x1 x2 x3 x4 x5 x6 x7 x8 x9 x10 x11 x12 x13 x14) (k0_pay40 i x0 x1 x2 x3 x4 x5 x6 x7 x8 x9 x10 x11 x12 x13 x14) (k0_pay41 i x0 x1 x2 x3 x4 x5 x6 x7 x8 x9 x10 x11 x12 x13 x14) (k0_pay42 i x0 x1 x2 x3 x4 x5 x6 x7 x8 x9 x10 x11 x12 x13 x14) (k0_pay43 i x0 x1 x2 x3 x4 x5 x6 x7 x8 x9 x10 x11 x12 x13 x14)) (k0_pay46 i x0 x1 x2 x3 x4 x5 x6 x7 x8 x9 x10 x11 x12 x13 x14) (k0_pay47 i x0 x1 x2 x3 x4 x5 x6 x7 x8 x9 x10 x11 x12 x13 x14) (Scalar.ofBits .f32 0x2B8CBCCC#32)⟩]

theorem cover0_19 (p0 : Vec F S512x512 .f32) (y : S512x512.Idx) :
    ∃ pc ∈ ([⟨r0_5, p0⟩] : List (View.Piece (Elt F) S512x512 .f32)), y ∈ pc.1.set :=
  View.cover_of_tiled [⟨r0_5, p0⟩] S512x512.size (by rfl) y

def out0_20 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : Vec F S512x512 .f32 :=
  View.canon [⟨r0_5, k0_pay28 (k0_pay44 i x0 x1 x2 x3 x4 x5 x6 x7 x8 x9 x10 x11 x12 x13 x14) (k0_pay45 i x0 x1 x2 x3 x4 x5 x6 x7 x8 x9 x10 x11 x12 x13 x14) (k0_pay46 i x0 x1 x2 x3 x4 x5 x6 x7 x8 x9 x10 x11 x12 x13 x14) (k0_pay47 i x0 x1 x2 x3 x4 x5 x6 x7 x8 x9 x10 x11 x12 x13 x14) (Scalar.ofBits .f32 0x2B8CBCCC#32)⟩]

theorem cover0_20 (p0 : Vec F S512x512 .f32) (y : S512x512.Idx) :
    ∃ pc ∈ ([⟨r0_5, p0⟩] : List (View.Piece (Elt F) S512x512 .f32)), y ∈ pc.1.set :=
  View.cover_of_tiled [⟨r0_5, p0⟩] S512x512.size (by rfl) y

def out0_21 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : Vec F S512x512 .f32 :=
  View.canon [⟨r0_5, k0_pay23 (k0_pay9 (k0_pay4 i (View.ld x0 r0_0) (View.ld x3 r0_1) (View.ld x1 r0_2) (View.ld x3 r0_1) (View.ld x2 r0_3) (View.ld x4 r0_4))) (View.ld x9 r0_7)⟩]

theorem cover0_21 (p0 : Vec F S512x512 .f32) (y : S512x512.Idx) :
    ∃ pc ∈ ([⟨r0_5, p0⟩] : List (View.Piece (Elt F) S512x512 .f32)), y ∈ pc.1.set :=
  View.cover_of_tiled [⟨r0_5, p0⟩] S512x512.size (by rfl) y

def out0_22 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : Vec F S512x512 .f32 :=
  View.canon [⟨r0_5, k0_pay1 (k0_pay35 i x0 x1 x2 x3 x4 x5 x6 x7 x8 x9 x10 x11 x12 x13 x14) (k0_pay32 (k0_pay33 i x0 x1 x2 x3 x4 x5 x6 x7 x8 x9 x10 x11 x12 x13 x14) (k0_pay34 i x0 x1 x2 x3 x4 x5 x6 x7 x8 x9 x10 x11 x12 x13 x14) (k0_pay37 i x0 x1 x2 x3 x4 x5 x6 x7 x8 x9 x10 x11 x12 x13 x14) (k0_pay45 i x0 x1 x2 x3 x4 x5 x6 x7 x8 x9 x10 x11 x12 x13 x14) (View.ld x11 r0_6) (View.ld x12 r0_6))⟩]

theorem cover0_22 (p0 : Vec F S512x512 .f32) (y : S512x512.Idx) :
    ∃ pc ∈ ([⟨r0_5, p0⟩] : List (View.Piece (Elt F) S512x512 .f32)), y ∈ pc.1.set :=
  View.cover_of_tiled [⟨r0_5, p0⟩] S512x512.size (by rfl) y

def out0_23 (i : grid0.Coords) (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) : Vec F S1x1x1792 .f32 :=
  View.canon [⟨r0_3, k0_pay3 (View.ld x0 r0_0) (View.ld x3 r0_1)⟩]

theorem cover0_23 (p0 : Vec F S1x1x1792 .f32) (y : S1x1x1792.Idx) :
    ∃ pc ∈ ([⟨r0_3, p0⟩] : List (View.Piece (Elt F) S1x1x1792 .f32)), y ∈ pc.1.set :=
  View.cover_of_tiled [⟨r0_3, p0⟩] S1x1x1792.size (by rfl) y

set_option maxHeartbeats 1000000 in

theorem sound_kernel (c : Dev nD) (E : Set ℕ) (i : grid0.Coords) (arg2 : Memref sig .tc .vmem S512x1024 .f32) (harg2 : arg2.IsWhole) (arg3 : Memref sig .tc .vmem S8x1024 .f32) (harg3 : arg3.IsWhole) (arg4 : Memref sig .tc .vmem S1x1x1792 .f32) (harg4 : arg4.IsWhole) (arg5 : Memref sig .tc .vmem S1024x1792 .bf16) (harg5 : arg5.IsWhole) (arg6 : Memref sig .tc .vmem S1x1792 .f32) (harg6 : arg6.IsWhole) (arg7 : Memref sig .tc .vmem S1x512 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S128x512 .bf16) (harg10 : arg10.IsWhole) (arg11 : Memref sig .tc .vmem S128x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S512x512 .bf16) (harg15 : arg15.IsWhole) (arg16 : Memref sig .tc .vmem S128x128 .bf16) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (arg21 : Memref sig .tc .vmem S512x512 .f32) (harg21 : arg21.IsWhole) (arg22 : Memref sig .tc .vmem S512x512 .f32) (harg22 : arg22.IsWhole) (arg23 : Memref sig .tc .vmem S512x512 .f32) (harg23 : arg23.IsWhole) (arg24 : Memref sig .tc .vmem S512x512 .f32) (harg24 : arg24.IsWhole) (arg25 : Memref sig .tc .vmem S1x1x1792 .f32) (harg25 : arg25.IsWhole)
    (x0 : Vec F S512x1024 .f32) (x1 : Vec F S8x1024 .f32) (x2 : Vec F S1x1x1792 .f32) (x3 : Vec F S1024x1792 .bf16) (x4 : Vec F S1x1792 .f32) (x5 : Vec F S1x512 .f32) (x6 : Vec F S128x512 .bf16) (x7 : Vec F S1x512 .f32) (x8 : Vec F S128x512 .bf16) (x9 : Vec F S128x512 .bf16) (x10 : Vec F S1x512 .f32) (x11 : Vec F S1x512 .f32) (x12 : Vec F S1x512 .f32) (x13 : Vec F S512x512 .bf16) (x14 : Vec F S128x128 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare (out0_15 i x0 x1 x2 x3 x4 x5 x6 x7 x8 x9 x10 x11 x12 x13 x14) ∗ owns (c : Thread nD τ) arg18 fullShare (out0_16 i x0 x1 x2 x3 x4 x5 x6 x7 x8 x9 x10 x11 x12 x13 x14) ∗ owns (c : Thread nD τ) arg19 fullShare (out0_17 i x0 x1 x2 x3 x4 x5 x6 x7 x8 x9 x10 x11 x12 x13 x14) ∗ owns (c : Thread nD τ) arg20 fullShare (out0_18 i x0 x1 x2 x3 x4 x5 x6 x7 x8 x9 x10 x11 x12 x13 x14) ∗ owns (c : Thread nD τ) arg21 fullShare (out0_19 i x0 x1 x2 x3 x4 x5 x6 x7 x8 x9 x10 x11 x12 x13 x14) ∗ owns (c : Thread nD τ) arg22 fullShare (out0_20 i x0 x1 x2 x3 x4 x5 x6 x7 x8 x9 x10 x11 x12 x13 x14) ∗ owns (c : Thread nD τ) arg23 fullShare (out0_21 i x0 x1 x2 x3 x4 x5 x6 x7 x8 x9 x10 x11 x12 x13 x14) ∗ owns (c : Thread nD τ) arg24 fullShare (out0_22 i x0 x1 x2 x3 x4 x5 x6 x7 x8 x9 x10 x11 x12 x13 x14) ∗ owns (c : Thread nD τ) arg25 fullShare (out0_23 i x0 x1 x2 x3 x4 x5 x6 x7 x8 x9 x10 x11 x12 x13 x14)) -∗ K ⟨⟩))
      ⊢ wp frame (wpE (defs₀ (F := F)) Variants.none c none) E (cc0_rwkv_pre i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_rwkv_pre_eq_skeleton]; unfold cc0_rwkv_pre_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  iexists _; isplitr
  swap; · iexact H23
  ipureintro
  refine (View.read_writes_eq_canon _ _ _ (cover0_23 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨16, _⟩ => out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨17, _⟩ => out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨18, _⟩ => out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨19, _⟩ => out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨20, _⟩ => out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨22, _⟩ => out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨23, _⟩ => out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 24, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_16 (c : Dev nD) (t : Fin cfg0.N) : (dats m 0 c).after 16 t = out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_17 (c : Dev nD) (t : Fin cfg0.N) : (dats m 0 c).after 17 t = out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_18 (c : Dev nD) (t : Fin cfg0.N) : (dats m 0 c).after 18 t = out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_19 (c : Dev nD) (t : Fin cfg0.N) : (dats m 0 c).after 19 t = out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_20 (c : Dev nD) (t : Fin cfg0.N) : (dats m 0 c).after 20 t = out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_22 (c : Dev nD) (t : Fin cfg0.N) : (dats m 0 c).after 22 t = out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]
theorem after0_23 (c : Dev nD) (t : Fin cfg0.N) : (dats m 0 c).after 23 t = out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body meets its obligation at every point; with twenty-four windows this takes more steps than the default. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in

theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel7Ideal.Gen

end
-- ==== Proof.Tm.Row.lean ====
/- The recurrence's inputs for one token, as functions of its mixed row, and the running sum of the log decays inside a block of sixteen tokens. -/
module

public import proofs.«01_k».proof.Proof.Mix.Head
public import proofs.«01_k».proof.Proof.In.Eq

@[expose] public section

noncomputable section

namespace Cert.Tm

open Idealize.ShloMosaic Cert.Mix Cert.In

/-- The word of one, of one half, and of the norm's small addend. -/
abbrev one : EReal := Ideal.ofBits .f32 0x3F800000#32
abbrev half : EReal := Ideal.ofBits .f32 0x3F000000#32
abbrev tiny : EReal := Ideal.ofBits .f32 0x2B8CBCCC#32

theorem one_eq : one = 1 := by
  simp [one, Ideal.ofBits, Ideal.ieee]
  rw [← EReal.coe_mul]
  norm_num

theorem half_eq : half = ((1 / 2 : ℝ) : EReal) := by
  simp [half, Ideal.ofBits, Ideal.ieee]
  rw [← EReal.coe_mul]
  norm_num

theorem coe_max' (a b : ℝ) : ((max a b : ℝ) : EReal) = max (a : EReal) b := EReal.coe_strictMono.monotone.map_max

/-- The softplus. -/
def soft (u : EReal) : EReal := max u 0 + Ideal.log1p (Ideal.exp (-max u (-u)))

/-- The log decay of a decay entry before its activation. -/
def decay (u : EReal) : EReal := -Ideal.exp (-soft (-u) - half)

/-- The logistic function. -/
def sg (u : EReal) : EReal := Ideal.div one (one + Ideal.exp (-u))

theorem soft_cases (u : EReal) : soft u = ⊤ ∨ ∃ r : ℝ, soft u = r := by
  unfold soft
  induction u with
  | bot =>
    right
    refine ⟨0, ?_⟩
    rw [show -max (⊥ : EReal) (-⊥) = ⊥ by simp]
    show max ⊥ 0 + Ideal.log (1 + (0 : EReal)) = _
    rw [add_zero, show (1 : EReal) = ((1 : ℝ) : EReal) from rfl]
    show max ⊥ 0 + (if (1 : ℝ) ≤ 0 then ⊥ else ((Real.log 1 : ℝ) : EReal)) = _
    rw [if_neg (by norm_num)]
    simp
  | top =>
    left
    rw [show -max (⊤ : EReal) (-⊤) = ⊥ by simp]
    show max ⊤ 0 + Ideal.log (1 + (0 : EReal)) = _
    rw [add_zero, show (1 : EReal) = ((1 : ℝ) : EReal) from rfl]
    show max ⊤ 0 + (if (1 : ℝ) ≤ 0 then ⊥ else ((Real.log 1 : ℝ) : EReal)) = _
    rw [if_neg (by norm_num)]
    simp
  | coe r =>
    right
    refine ⟨max r 0 + Real.log (1 + Real.exp (-max r (-r))), ?_⟩
    have e : -max (r : EReal) (-(r : EReal)) = ((-max r (-r) : ℝ) : EReal) := by
      rw [← EReal.coe_neg, ← coe_max', ← EReal.coe_neg]
    rw [e]
    show max (r : EReal) ((0 : ℝ) : EReal) + Ideal.log (((1 : ℝ) : EReal) + ((Real.exp (-max r (-r)) : ℝ) : EReal)) = _
    rw [← EReal.coe_add, ← coe_max']
    show ((max r 0 : ℝ) : EReal) + (if _ ≤ (0 : ℝ) then ⊥ else ((Real.log _ : ℝ) : EReal)) = _
    have h : 0 < 1 + Real.exp (-max r (-r)) := by positivity
    rw [if_neg (not_le.mpr h), EReal.coe_add]

/-- A log decay is a number, whatever its entry. -/
theorem num_decay (u : EReal) : Num (decay u) := by
  unfold decay
  rw [half_eq]
  rcases soft_cases (-u) with h | ⟨r, h⟩
  · rw [h, EReal.neg_top, show (⊥ : EReal) - ((1 / 2 : ℝ) : EReal) = ⊥ from EReal.bot_sub _]
    show Num (-(0 : EReal))
    rw [neg_zero]
    exact num_coe 0
  · rw [h, ← EReal.coe_neg, ← EReal.coe_sub]
    show Num (-((Real.exp _ : ℝ) : EReal))
    rw [← EReal.coe_neg]
    exact num_coe _

/-- The logistic function's values are numbers. -/
theorem num_sg (u : EReal) : Num (sg u) := by
  unfold sg
  rw [one_eq]
  induction u with
  | bot =>
    rw [EReal.neg_bot]
    show Num (Ideal.div 1 (1 + ⊤))
    rw [show (1 : EReal) + ⊤ = ⊤ from rfl, Ideal.div, if_neg (by simp), EReal.inv_top, mul_zero]
    exact num_coe 0
  | top =>
    rw [EReal.neg_top]
    show Num (Ideal.div 1 (1 + 0))
    rw [add_zero, Ideal.div, if_neg (by simp), show (1 : EReal) = ((1 : ℝ) : EReal) from rfl, ← EReal.coe_inv, ← EReal.coe_mul]
    exact num_coe _
  | coe r =>
    rw [← EReal.coe_neg]
    show Num (Ideal.div ((1 : ℝ) : EReal) (((1 : ℝ) : EReal) + ((Real.exp (-r) : ℝ) : EReal)))
    have h : 0 < 1 + Real.exp (-r) := by positivity
    rw [← EReal.coe_add, Ideal.div, if_neg (by exact_mod_cast h.ne'), ← EReal.coe_inv, ← EReal.coe_mul]
    exact num_coe _

theorem Num.add {x y : EReal} (hx : Num x) (hy : Num y) : Num (x + y) := by
  obtain ⟨a, rfl⟩ := hx.real
  obtain ⟨b, rfl⟩ := hy.real
  rw [← EReal.coe_add]
  exact num_coe _

theorem Num.sub {x y : EReal} (hx : Num x) (hy : Num y) : Num (x - y) := by
  obtain ⟨a, rfl⟩ := hx.real
  obtain ⟨b, rfl⟩ := hy.real
  rw [← EReal.coe_sub]
  exact num_coe _

theorem Num.self_sub {x : EReal} (hx : Num x) : x - x = 0 := by
  obtain ⟨a, rfl⟩ := hx.real
  rw [← EReal.coe_sub, sub_self, EReal.coe_zero]

theorem num_one : Num one := by rw [one_eq]; exact num_coe 1

/-- The entries of a mixed row: receptance, key, value, and the low-rank inputs of the decay, the rate and the gate. -/
abbrev rec_ (z : Fin 1792 → EReal) (l : Fin 512) : EReal := z ⟨l, by omega⟩
abbrev key_ (z : Fin 1792 → EReal) (l : Fin 512) : EReal := z ⟨512 + (l : ℕ), by omega⟩
abbrev val_ (z : Fin 1792 → EReal) (l : Fin 512) : EReal := z ⟨1024 + (l : ℕ), by omega⟩

/-- The log decay of a mixed row. -/
def logDecay (w0 : Fin 512 → EReal) (wu : Fin 64 → Fin 512 → EReal) (z : Fin 1792 → EReal) (l : Fin 512) : EReal :=
  decay (w0 l + ∑ j : Fin 64, Ideal.tanh (z ⟨1536 + (j : ℕ), by omega⟩) * wu j l)

/-- The in-context learning rate. -/
def rate (a0 : Fin 512 → EReal) (au : Fin 64 → Fin 512 → EReal) (z : Fin 1792 → EReal) (l : Fin 512) : EReal :=
  sg (a0 l + ∑ j : Fin 64, z ⟨1600 + (j : ℕ), by omega⟩ * au j l)

/-- The output gate. -/
def gate (gu : Fin 128 → Fin 512 → EReal) (z : Fin 1792 → EReal) (l : Fin 512) : EReal :=
  ∑ j : Fin 128, sg (z ⟨1664 + (j : ℕ), by omega⟩) * gu j l

/-- The removal key: the scaled key, normalised over its head. -/
def removal (kk : Fin 512 → EReal) (z : Fin 1792 → EReal) (l : Fin 512) : EReal :=
  key_ z l * kk l * Ideal.rsqrt ((∑ n : Fin 64, key_ z (lane (head l) n) * kk (lane (head l) n) * (key_ z (lane (head l) n) * kk (lane (head l) n))) + tiny)

/-- The key that the state receives. -/
def newKey (ka a : Fin 512 → EReal) (z : Fin 1792 → EReal) (l : Fin 512) : EReal := key_ z l * (one + (a l - one) * ka l)

/-- The bonus of the token itself. -/
def bonus (k rk : Fin 512 → EReal) (z : Fin 1792 → EReal) (l : Fin 512) : EReal :=
  (∑ n : Fin 64, rec_ z (lane (head l) n) * k (lane (head l) n) * rk (lane (head l) n)) * val_ z l

/-- The running sum inside a block of sixteen. -/
def cum16 (y : Fin 16 → EReal) (j : Fin 16) : EReal := ∑ n : Fin 16, if n ≤ j then y n else 0

/-- The indicator of the earlier rows of the same block. -/
def tri (r j : Fin 128) : EReal := if (r : ℕ) / 16 = j / 16 ∧ j ≤ r then 1 else 0

theorem sum_blocks (z : Fin 128 → EReal) : ∑ j, z j = ∑ h : Fin 8, ∑ n : Fin 16, z ⟨h * 16 + n, by omega⟩ := by
  rw [← Fintype.sum_prod_type' (f := fun (h : Fin 8) (n : Fin 16) => z ⟨h * 16 + n, by omega⟩)]
  refine (Fintype.sum_equiv ⟨fun p : Fin 8 × Fin 16 => (⟨p.1 * 16 + p.2, by omega⟩ : Fin 128),
    fun l => (⟨l / 16, by omega⟩, ⟨(l : ℕ) % 16, by omega⟩), fun p => ?_, fun l => ?_⟩ _ _ fun p => rfl).symm
  · exact Prod.ext (Fin.ext (show ((p.1 : ℕ) * 16 + p.2) / 16 = p.1 by omega)) (Fin.ext (show ((p.1 : ℕ) * 16 + p.2) % 16 = p.2 by omega))
  · exact Fin.ext (show (l : ℕ) / 16 * 16 + l % 16 = l by omega)

/-- The product with the indicator is the running sum. -/
theorem tri_sum (z : Fin 128 → EReal) (r : Fin 128) :
    ∑ j, tri r j * z j = cum16 (fun n => z ⟨(r : ℕ) / 16 * 16 + n, by omega⟩) ⟨(r : ℕ) % 16, by omega⟩ := by
  rw [sum_blocks, Finset.sum_eq_single (⟨(r : ℕ) / 16, by omega⟩ : Fin 8)]
  · refine Finset.sum_congr rfl fun n _ => ?_
    have hn := n.isLt
    by_cases h : n ≤ (⟨(r : ℕ) % 16, by omega⟩ : Fin 16)
    · have h' : (n : ℕ) ≤ (r : ℕ) % 16 := h
      rw [if_pos h, tri, if_pos ⟨show (r : ℕ) / 16 = ((r : ℕ) / 16 * 16 + n) / 16 by omega, show (r : ℕ) / 16 * 16 + n ≤ r by omega⟩, one_mul]
    · have h' : ¬(n : ℕ) ≤ (r : ℕ) % 16 := h
      rw [if_neg h, tri, if_neg (fun q => by have q : (r : ℕ) / 16 * 16 + n ≤ r := q.2; omega), zero_mul]
  · intro h _ hne
    refine Finset.sum_eq_zero fun n _ => ?_
    rw [tri, if_neg (fun q => hne (Fin.ext (by
      have q : (r : ℕ) / 16 = ((h : ℕ) * 16 + n) / 16 := q.1
      show (h : ℕ) = (r : ℕ) / 16
      omega))), zero_mul]
  · intro q; exact absurd (Finset.mem_univ _) q

/-- The window sum with fifteen places of padding before the block is the running sum. -/
theorem window_sum (y : Fin 16 → EReal) (j : Fin 16) :
    ∑ n : Fin 16, (if h : 15 ≤ (j : ℕ) + n then y ⟨j + n - 15, by omega⟩ else 0) = cum16 y j := by
  unfold cum16
  refine Fintype.sum_equiv (Equiv.addRight (j + 1)) _ _ fun n => ?_
  have e : ((n + (j + 1) : Fin 16) : ℕ) = ((n : ℕ) + j + 1) % 16 := by
    rw [Fin.val_add, Fin.val_add]
    show ((n : ℕ) + (j + 1) % 16) % 16 = _
    omega
  show _ = if n + (j + 1) ≤ j then y (n + (j + 1)) else 0
  by_cases h : 15 ≤ (j : ℕ) + n
  · rw [dif_pos h, if_pos (by rw [Fin.le_def, e]; omega)]
    exact congrArg y (Fin.ext (by rw [e]; show (j : ℕ) + n - 15 = _; omega))
  · rw [dif_neg h, if_neg (by rw [Fin.le_def, e]; omega)]

/-- A product with padded weights, empty below. -/
theorem sum_low (f : Fin 128 → EReal) (g : Fin 128 → EReal) (hg : ∀ j : Fin 128, 64 ≤ (j : ℕ) → g j = 0) :
    ∑ j, f j * g j = ∑ j : Fin 64, f ⟨j, by omega⟩ * g ⟨j, by omega⟩ := by
  rw [Fin.sum_univ_add (a := 64) (b := 64), Finset.sum_eq_zero (s := Finset.univ) (f := fun i : Fin 64 => f (Fin.natAdd 64 i) * g (Fin.natAdd 64 i))
    fun i _ => by rw [hg _ (show 64 ≤ 64 + (i : ℕ) by omega), mul_zero], add_zero]
  rfl

/-- A product with padded weights, empty above. -/
theorem sum_high (f : Fin 128 → EReal) (g : Fin 128 → EReal) (hg : ∀ j : Fin 128, (j : ℕ) < 64 → g j = 0) :
    ∑ j, f j * g j = ∑ j : Fin 64, f ⟨64 + j, by omega⟩ * g ⟨64 + j, by omega⟩ := by
  rw [Fin.sum_univ_add (a := 64) (b := 64), Finset.sum_eq_zero (s := Finset.univ) (f := fun i : Fin 64 => f (Fin.castAdd 64 i) * g (Fin.castAdd 64 i))
    fun i _ => by rw [hg _ (show (i : ℕ) < 64 from i.isLt), mul_zero], zero_add]
  rfl

/-- The head sum in two halves, of numbers, is the plain sum over the head's lanes. -/
theorem hsum_num (q : Fin 512 → EReal) (h : ∀ l, Num (q l)) (l : Fin 512) : hsum heads q l = ∑ n : Fin 64, q (lane (head l) n) := by
  choose p hp using fun l => (h l).real
  obtain rfl : q = fun l => (p l : EReal) := funext hp
  exact hsum_heads p l

end Cert.Tm

end
-- ==== Proof.Tm.Host.lean ====
/- The buffers that the time mixing call receives, as entries of the arguments. -/
module

public import proofs.«01_k».proof.Proof.Tm.FrameIdeal
public import proofs.«01_k».proof.Proof.Tm.Row
public import Idealize.ShloMosaic.Lib.StableHlo.RunRead
public import Idealize.ShloMosaic.Lib.Pipeline.ValueKit.Geometry
public import Idealize.ShloMosaic.PureOps.Ideal
public import Idealize.ShloMosaic.Lib.Pointwise
public import Idealize.ShloMosaic.Lib.IdealHost

@[expose] public section

set_option maxRecDepth 16384

noncomputable section

namespace Cert.Tm

open Cert.Kernel7Ideal Cert.Kernel7Ideal.Gen
open Idealize.ShloMosaic Idealize.ShloMosaic.TcCoe Cert.Mix

variable (m : (ℓ : Loc nD τ sig) → Buf (Elt Ideal) ℓ)

theorem w_at (c : Dev nD) (k : Fin 1024) (L : Fin 1792) : (V m c main_v5 (ix2 k L) : EReal)
    = m ((c : Thread nD τ).loc main_arg1) (ix2 k (⟨672 + (L : ℕ), by omega⟩ : Fin 6048)) := by
  show StableHlo.after hostOps0 _ (Proc.devRef .tc main_v5) _ = _
  after_reads_simp
  pointwise

theorem mu_at (c : Dev nD) (L : Fin 1792) : (V m c main_v6 (ix2 0 L) : EReal) = m ((c : Thread nD τ).loc main_arg3) (ix1 L) := by
  show StableHlo.after hostOps0 _ (Proc.devRef .tc main_v6) _ = _
  after_reads_simp
  pointwise

theorem w0_at (c : Dev nD) (l : Fin 512) : (V m c main_v7 (ix2 0 l) : EReal) = m ((c : Thread nD τ).loc main_arg4) (ix1 l) := by
  show StableHlo.after hostOps0 _ (Proc.devRef .tc main_v7) _ = _
  after_reads_simp
  pointwise

theorem a0_at (c : Dev nD) (l : Fin 512) : (V m c main_v12 (ix2 0 l) : EReal) = m ((c : Thread nD τ).loc main_arg6) (ix1 l) := by
  show StableHlo.after hostOps0 _ (Proc.devRef .tc main_v12) _ = _
  after_reads_simp
  pointwise

theorem kk_at (c : Dev nD) (l : Fin 512) : (V m c main_v14 (ix2 0 l) : EReal) = m ((c : Thread nD τ).loc main_arg9) (ix1 l) := by
  show StableHlo.after hostOps0 _ (Proc.devRef .tc main_v14) _ = _
  after_reads_simp
  pointwise

theorem ka_at (c : Dev nD) (l : Fin 512) : (V m c main_v15 (ix2 0 l) : EReal) = m ((c : Thread nD τ).loc main_arg10) (ix1 l) := by
  show StableHlo.after hostOps0 _ (Proc.devRef .tc main_v15) _ = _
  after_reads_simp
  pointwise

theorem rk_at (c : Dev nD) (l : Fin 512) : (V m c main_v16 (ix2 0 l) : EReal)
    = m ((c : Thread nD τ).loc main_arg11) (ix2 (head l) (⟨(l : ℕ) % 64, by omega⟩ : Fin 64)) := by
  show StableHlo.after hostOps0 _ (Proc.devRef .tc main_v16) _ = _
  after_reads_simp
  pointwise
  rfl

theorem gu_at (c : Dev nD) (j : Fin 128) (l : Fin 512) : (V m c main_v13 (ix2 j l) : EReal) = m ((c : Thread nD τ).loc main_arg8) (ix2 j l) := by
  show StableHlo.after hostOps0 _ (Proc.devRef .tc main_v13) _ = _
  after_reads_simp
  pointwise

theorem shift_at (c : Dev nD) (b : Fin 16) (L : Fin 1792) : (V m c main_v40 (ix3 b 0 L) : EReal) = m ((c : Thread nD τ).loc main_arg2) (ix2 b L) := by
  show StableHlo.after hostOps0 _ (Proc.devRef .tc main_v40) _ = _
  after_reads_simp
  pointwise

theorem wu_low (c : Dev nD) (j : Fin 64) (l : Fin 512) : (V m c main_v9 (ix2 (⟨j, by omega⟩ : Fin 128) l) : EReal)
    = m ((c : Thread nD τ).loc main_arg5) (ix2 j l) := by
  show StableHlo.after hostOps0 _ (Proc.devRef .tc main_v9) _ = _
  after_reads_simp
  pointwise
  after_reads_simp

theorem wu_high (c : Dev nD) (j : Fin 128) (l : Fin 512) (h : 64 ≤ (j : ℕ)) : (V m c main_v9 (ix2 j l) : EReal) = (0 : EReal) := by
  show StableHlo.after hostOps0 _ (Proc.devRef .tc main_v9) _ = _
  after_reads_simp
  pointwise
  rw [dif_neg (by omega)]
  after_reads_simp
  pointwise

theorem au_low (c : Dev nD) (j : Fin 128) (l : Fin 512) (h : (j : ℕ) < 64) : (V m c main_v11 (ix2 j l) : EReal) = (0 : EReal) := by
  show StableHlo.after hostOps0 _ (Proc.devRef .tc main_v11) _ = _
  after_reads_simp
  pointwise
  rw [dif_pos h]
  after_reads_simp
  pointwise

theorem au_high (c : Dev nD) (j : Fin 64) (l : Fin 512) : (V m c main_v11 (ix2 (⟨64 + (j : ℕ), by omega⟩ : Fin 128) l) : EReal)
    = m ((c : Thread nD τ).loc main_arg7) (ix2 j l) := by
  show StableHlo.after hostOps0 _ (Proc.devRef .tc main_v11) _ = _
  after_reads_simp
  pointwise
  after_reads_simp

/-- The head of a lane, and the group of sixteen of a row, in words. -/
def hw (w : BitVec 32) : BitVec 32 := IntOp.divsi .host w 64#32
def gw (w : BitVec 32) : BitVec 32 := IntOp.divsi .host w 16#32

theorem hw_nat : ∀ n : Fin 512, hw (BitVec.ofNat 32 n) = BitVec.ofNat 32 (n / 64) := by decide +kernel
theorem gw_nat : ∀ n : Fin 128, gw (BitVec.ofNat 32 n) = BitVec.ofNat 32 (n / 16) := by decide +kernel

theorem word_eq : ∀ j l : Fin 8, IntOp.cmpi .eq (BitVec.ofNat 32 j) (BitVec.ofNat 32 l) = if (j : ℕ) = l then 1#1 else 0#1 := by
  decide +kernel

theorem word_le : ∀ j l : Fin 128, IntOp.cmpi .sle (BitVec.ofNat 32 j) (BitVec.ofNat 32 l) = if (j : ℕ) ≤ l then 1#1 else 0#1 := by
  decide +kernel

theorem heads_raw (c : Dev nD) (j l : Fin 512) : (V m c main_v23 (ix2 j l) : EReal)
    = FloatOps.uitofp (F := Ideal) .f32 (IntOp.cmpi .eq (hw (BitVec.ofNat 32 j)) (hw (BitVec.ofNat 32 l))) := by
  show StableHlo.after hostOps0 _ (Proc.devRef .tc main_v23) _ = _
  after_reads_simp
  rfl

theorem heads_at (c : Dev nD) (j l : Fin 512) : (V m c main_v23 (ix2 j l) : EReal) = heads j l := by
  rw [heads_raw, hw_nat, hw_nat, word_eq ⟨(j : ℕ) / 64, by omega⟩ ⟨(l : ℕ) / 64, by omega⟩]
  unfold heads
  show (((if (j : ℕ) / 64 = l / 64 then 1#1 else 0#1 : BitVec 1).toNat : ℝ) : EReal) = _
  split <;> norm_num

theorem tri_raw (c : Dev nD) (j l : Fin 128) : (V m c main_v39 (ix2 j l) : EReal)
    = FloatOps.uitofp (F := Ideal) .f32 ((IntOp.cmpi .eq (gw (BitVec.ofNat 32 j)) (gw (BitVec.ofNat 32 l)))
      &&& (IntOp.cmpi .sle (BitVec.ofNat 32 l) (BitVec.ofNat 32 j))) := by
  show StableHlo.after hostOps0 _ (Proc.devRef .tc main_v39) _ = _
  after_reads_simp
  rfl

theorem tri_at (c : Dev nD) (j l : Fin 128) : (V m c main_v39 (ix2 j l) : EReal) = tri j l := by
  rw [tri_raw, gw_nat, gw_nat, word_eq ⟨(j : ℕ) / 16, by omega⟩ ⟨(l : ℕ) / 16, by omega⟩, word_le l j]
  unfold tri
  show (((((if (j : ℕ) / 16 = l / 16 then 1#1 else 0#1 : BitVec 1) &&& (if (l : ℕ) ≤ j then 1#1 else 0#1 : BitVec 1)).toNat : ℕ) : ℝ) : EReal) = _
  by_cases h : (j : ℕ) / 16 = l / 16
  · by_cases h' : (l : ℕ) ≤ j
    · rw [if_pos h, if_pos h', if_pos ⟨h, h'⟩]
      norm_num
    · rw [if_pos h, if_neg h', if_neg (fun q => h' q.2)]
      norm_num
  · rw [if_neg h, if_neg (show ¬((j : ℕ) / 16 = l / 16 ∧ l ≤ j) from fun q => h q.1)]
    by_cases h' : (l : ℕ) ≤ j
    · rw [if_pos h']
      norm_num
    · rw [if_neg h']
      norm_num

end Cert.Tm

end
-- ==== Proof.Tm.Run.lean ====
/- The arrays that the time mixing call leaves, block by block. -/
module

public import proofs.«01_k».proof.Proof.Tm.FrameIdeal
public import Idealize.ShloMosaic.Lib.Pipeline.Value

@[expose] public section

noncomputable section

namespace Cert.Kernel7Ideal.Value

open Cert.Kernel7Ideal Cert.Kernel7Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed15 (c : Dev nD) (t : Fin cfg0.N) :
    (dats m 0 c).flushed 15 t = (cfg0.win 15).cut (grid0.coords t) (out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  show (cfg0.win 15).cut (grid0.coords t) ((dats m 0 c).after 15 t) = _
  rw [after0_15]

theorem idx_inj15 : ∀ t t' : Fin cfg0.N, win0_15.index t = win0_15.index t' → t = t' :=
  (by decide +kernel : ∀ t t' : Fin grid0.N, win0_15.index t = win0_15.index t' → t = t')

theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

theorem entry15 (c : Dev nD) (i : S2048x8192.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

theorem flushed16 (c : Dev nD) (t : Fin cfg0.N) :
    (dats m 0 c).flushed 16 t = (cfg0.win 16).cut (grid0.coords t) (out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  show (cfg0.win 16).cut (grid0.coords t) ((dats m 0 c).after 16 t) = _
  rw [after0_16]

theorem idx_inj16 : ∀ t t' : Fin cfg0.N, win0_16.index t = win0_16.index t' → t = t' :=
  (by decide +kernel : ∀ t t' : Fin grid0.N, win0_16.index t = win0_16.index t' → t = t')

theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

theorem entry16 (c : Dev nD) (i : S2048x8192.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

theorem flushed17 (c : Dev nD) (t : Fin cfg0.N) :
    (dats m 0 c).flushed 17 t = (cfg0.win 17).cut (grid0.coords t) (out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  show (cfg0.win 17).cut (grid0.coords t) ((dats m 0 c).after 17 t) = _
  rw [after0_17]

theorem idx_inj17 : ∀ t t' : Fin cfg0.N, win0_17.index t = win0_17.index t' → t = t' :=
  (by decide +kernel : ∀ t t' : Fin grid0.N, win0_17.index t = win0_17.index t' → t = t')

theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

theorem entry17 (c : Dev nD) (i : S2048x8192.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

theorem flushed18 (c : Dev nD) (t : Fin cfg0.N) :
    (dats m 0 c).flushed 18 t = (cfg0.win 18).cut (grid0.coords t) (out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  show (cfg0.win 18).cut (grid0.coords t) ((dats m 0 c).after 18 t) = _
  rw [after0_18]

theorem idx_inj18 : ∀ t t' : Fin cfg0.N, win0_18.index t = win0_18.index t' → t = t' :=
  (by decide +kernel : ∀ t t' : Fin grid0.N, win0_18.index t = win0_18.index t' → t = t')

theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

theorem blocks18 (c : Dev nD) (t : Fin cfg0.N) (hf : (cfg0.win 18).flush t = true) :
    ((cfg0.win 18).blk t).view.read (Elt F) ((dats m 0 c).arrAt 18 cfg0.N) = (dats m 0 c).flushed 18 t :=
  (dats m 0 c).read_blk_arrAt_eq_flushed 18 disjoint18 cfg0.N t t.isLt hf

theorem entry18 (c : Dev nD) (i : S2048x8192.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

theorem flushed19 (c : Dev nD) (t : Fin cfg0.N) :
    (dats m 0 c).flushed 19 t = (cfg0.win 19).cut (grid0.coords t) (out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  show (cfg0.win 19).cut (grid0.coords t) ((dats m 0 c).after 19 t) = _
  rw [after0_19]

theorem idx_inj19 : ∀ t t' : Fin cfg0.N, win0_19.index t = win0_19.index t' → t = t' :=
  (by decide +kernel : ∀ t t' : Fin grid0.N, win0_19.index t = win0_19.index t' → t = t')

theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

theorem entry19 (c : Dev nD) (i : S2048x8192.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

theorem flushed20 (c : Dev nD) (t : Fin cfg0.N) :
    (dats m 0 c).flushed 20 t = (cfg0.win 20).cut (grid0.coords t) (out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  show (cfg0.win 20).cut (grid0.coords t) ((dats m 0 c).after 20 t) = _
  rw [after0_20]

theorem idx_inj20 : ∀ t t' : Fin cfg0.N, win0_20.index t = win0_20.index t' → t = t' :=
  (by decide +kernel : ∀ t t' : Fin grid0.N, win0_20.index t = win0_20.index t' → t = t')

theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (idx_inj20 t t' h)

theorem blocks20 (c : Dev nD) (t : Fin cfg0.N) (hf : (cfg0.win 20).flush t = true) :
    ((cfg0.win 20).blk t).view.read (Elt F) ((dats m 0 c).arrAt 20 cfg0.N) = (dats m 0 c).flushed 20 t :=
  (dats m 0 c).read_blk_arrAt_eq_flushed 20 disjoint20 cfg0.N t t.isLt hf

theorem entry20 (c : Dev nD) (i : S2048x8192.Idx) (h : ∀ t : Fin cfg0.N, (cfg0.win 20).flush t = true → i ∉ ((cfg0.win 20).blk t).view.set) :
    (dats m 0 c).arrAt 20 cfg0.N i = V m c (Pipeline.arrRef spec0 20) i := by
  rw [(dats m 0 c).arrAt_apply_of_forall_not_mem 20 cfg0.N i (fun t _ hf => h t hf), A_eq]

theorem flushed21 (c : Dev nD) (t : Fin cfg0.N) :
    (dats m 0 c).flushed 21 t = (cfg0.win 21).cut (grid0.coords t) (out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  show (cfg0.win 21).cut (grid0.coords t) ((dats m 0 c).after 21 t) = _
  rw [after0_21]

theorem idx_inj21 : ∀ t t' : Fin cfg0.N, win0_21.index t = win0_21.index t' → t = t' :=
  (by decide +kernel : ∀ t t' : Fin grid0.N, win0_21.index t = win0_21.index t' → t = t')

theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

theorem blocks21 (c : Dev nD) (t : Fin cfg0.N) (hf : (cfg0.win 21).flush t = true) :
    ((cfg0.win 21).blk t).view.read (Elt F) ((dats m 0 c).arrAt 21 cfg0.N) = (dats m 0 c).flushed 21 t :=
  (dats m 0 c).read_blk_arrAt_eq_flushed 21 disjoint21 cfg0.N t t.isLt hf

theorem entry21 (c : Dev nD) (i : S32768x512.Idx) (h : ∀ t : Fin cfg0.N, (cfg0.win 21).flush t = true → i ∉ ((cfg0.win 21).blk t).view.set) :
    (dats m 0 c).arrAt 21 cfg0.N i = V m c (Pipeline.arrRef spec0 21) i := by
  rw [(dats m 0 c).arrAt_apply_of_forall_not_mem 21 cfg0.N i (fun t _ hf => h t hf), A_eq]

theorem flushed22 (c : Dev nD) (t : Fin cfg0.N) :
    (dats m 0 c).flushed 22 t = (cfg0.win 22).cut (grid0.coords t) (out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  show (cfg0.win 22).cut (grid0.coords t) ((dats m 0 c).after 22 t) = _
  rw [after0_22]

theorem idx_inj22 : ∀ t t' : Fin cfg0.N, win0_22.index t = win0_22.index t' → t = t' :=
  (by decide +kernel : ∀ t t' : Fin grid0.N, win0_22.index t = win0_22.index t' → t = t')

theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

theorem blocks22 (c : Dev nD) (t : Fin cfg0.N) (hf : (cfg0.win 22).flush t = true) :
    ((cfg0.win 22).blk t).view.read (Elt F) ((dats m 0 c).arrAt 22 cfg0.N) = (dats m 0 c).flushed 22 t :=
  (dats m 0 c).read_blk_arrAt_eq_flushed 22 disjoint22 cfg0.N t t.isLt hf

theorem entry22 (c : Dev nD) (i : S32768x512.Idx) (h : ∀ t : Fin cfg0.N, (cfg0.win 22).flush t = true → i ∉ ((cfg0.win 22).blk t).view.set) :
    (dats m 0 c).arrAt 22 cfg0.N i = V m c (Pipeline.arrRef spec0 22) i := by
  rw [(dats m 0 c).arrAt_apply_of_forall_not_mem 22 cfg0.N i (fun t _ hf => h t hf), A_eq]

theorem flushed23 (c : Dev nD) (t : Fin cfg0.N) :
    (dats m 0 c).flushed 23 t = (cfg0.win 23).cut (grid0.coords t) (out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  show (cfg0.win 23).cut (grid0.coords t) ((dats m 0 c).after 23 t) = _
  rw [after0_23]

theorem entry23 (c : Dev nD) (i : S16x1x1792.Idx) (h : ∀ t : Fin cfg0.N, (cfg0.win 23).flush t = true → i ∉ ((cfg0.win 23).blk t).view.set) :
    (dats m 0 c).arrAt 23 cfg0.N i = V m c (Pipeline.arrRef spec0 23) i := by
  rw [(dats m 0 c).arrAt_apply_of_forall_not_mem 23 cfg0.N i (fun t _ hf => h t hf), A_eq]

theorem post15 (r : PUnit × MemSt nD τ sig (Elt F)) (h : Pipeline.FramePost cfgs (dats m) 0 (V m) r) (c : Dev nD) :
    r.2.mem ((c : Thread nD τ).loc main_v41_0) = (dats m 0 c).arrAt 15 cfg0.N :=
  (h c).1 15

theorem post16 (r : PUnit × MemSt nD τ sig (Elt F)) (h : Pipeline.FramePost cfgs (dats m) 0 (V m) r) (c : Dev nD) :
    r.2.mem ((c : Thread nD τ).loc main_v41_1) = (dats m 0 c).arrAt 16 cfg0.N :=
  (h c).1 16

theorem post17 (r : PUnit × MemSt nD τ sig (Elt F)) (h : Pipeline.FramePost cfgs (dats m) 0 (V m) r) (c : Dev nD) :
    r.2.mem ((c : Thread nD τ).loc main_v41_2) = (dats m 0 c).arrAt 17 cfg0.N :=
  (h c).1 17

theorem post18 (r : PUnit × MemSt nD τ sig (Elt F)) (h : Pipeline.FramePost cfgs (dats m) 0 (V m) r) (c : Dev nD) :
    r.2.mem ((c : Thread nD τ).loc main_v41_3) = (dats m 0 c).arrAt 18 cfg0.N :=
  (h c).1 18

theorem post19 (r : PUnit × MemSt nD τ sig (Elt F)) (h : Pipeline.FramePost cfgs (dats m) 0 (V m) r) (c : Dev nD) :
    r.2.mem ((c : Thread nD τ).loc main_v41_4) = (dats m 0 c).arrAt 19 cfg0.N :=
  (h c).1 19

theorem post20 (r : PUnit × MemSt nD τ sig (Elt F)) (h : Pipeline.FramePost cfgs (dats m) 0 (V m) r) (c : Dev nD) :
    r.2.mem ((c : Thread nD τ).loc main_v41_5) = (dats m 0 c).arrAt 20 cfg0.N :=
  (h c).1 20

theorem post21 (r : PUnit × MemSt nD τ sig (Elt F)) (h : Pipeline.FramePost cfgs (dats m) 0 (V m) r) (c : Dev nD) :
    r.2.mem ((c : Thread nD τ).loc main_v41_6) = (dats m 0 c).arrAt 21 cfg0.N :=
  (h c).1 21

theorem post22 (r : PUnit × MemSt nD τ sig (Elt F)) (h : Pipeline.FramePost cfgs (dats m) 0 (V m) r) (c : Dev nD) :
    r.2.mem ((c : Thread nD τ).loc main_v41_7) = (dats m 0 c).arrAt 22 cfg0.N :=
  (h c).1 22

theorem post23 (r : PUnit × MemSt nD τ sig (Elt F)) (h : Pipeline.FramePost cfgs (dats m) 0 (V m) r) (c : Dev nD) :
    r.2.mem ((c : Thread nD τ).loc main_v41_8) = (dats m 0 c).arrAt 23 cfg0.N :=
  (h c).1 23

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

theorem run_blocks : θ_run defs (onTc (τ := τ) (main (F := F))) ⟨m, fun _ => 0, ρ⟩ fun r => ∀ c : Dev nD,
      r.2.mem ((c : Thread nD τ).loc main_v41_0) = (dats m 0 c).arrAt 15 cfg0.N
      ∧ r.2.mem ((c : Thread nD τ).loc main_v41_1) = (dats m 0 c).arrAt 16 cfg0.N
      ∧ r.2.mem ((c : Thread nD τ).loc main_v41_2) = (dats m 0 c).arrAt 17 cfg0.N
      ∧ r.2.mem ((c : Thread nD τ).loc main_v41_3) = (dats m 0 c).arrAt 18 cfg0.N
      ∧ r.2.mem ((c : Thread nD τ).loc main_v41_4) = (dats m 0 c).arrAt 19 cfg0.N
      ∧ r.2.mem ((c : Thread nD τ).loc main_v41_5) = (dats m 0 c).arrAt 20 cfg0.N
      ∧ r.2.mem ((c : Thread nD τ).loc main_v41_6) = (dats m 0 c).arrAt 21 cfg0.N
      ∧ r.2.mem ((c : Thread nD τ).loc main_v41_7) = (dats m 0 c).arrAt 22 cfg0.N
      ∧ r.2.mem ((c : Thread nD τ).loc main_v41_8) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨post15 m r h c,
      post16 m r h c,
      post17 m r h c,
      post18 m r h c,
      post19 m r h c,
      post20 m r h c,
      post21 m r h c,
      post22 m r h c,
      post23 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.Kernel7Ideal.Value

end
-- ==== Proof.Tm.Block.lean ====
/- The time mixing call's block: every output's entry as a function of the block's mixed rows. -/
module

public import proofs.«01_k».proof.Proof.Tm.Run
public import proofs.«01_k».proof.Proof.Tm.Row
public import Idealize.ShloMosaic.Lib.KernelVsHost
public import Idealize.ShloMosaic.Lib.Pipeline.ValueKit.Geometry
public import Idealize.ShloMosaic.PureOps.Ideal
public import Idealize.ShloMosaic.Lib.Pointwise

@[expose] public section

set_option maxRecDepth 16384

noncomputable section

namespace Cert.Tm

open Cert.Kernel7Ideal Cert.Kernel7Ideal.Gen
open Idealize.ShloMosaic Idealize.ShloMosaic.TcCoe Cert.Mix Cert.In

theorem p2 (x : Vec Ideal S512x1024 .f32) (w : Vec Ideal S1024x1792 .bf16) (r : Fin 512) (L : Fin 1792) :
    (k0_pay2 (F := Ideal) x w (ix2 r L) : EReal) = ∑ k : Fin 1024, (x (ix2 r k) : EReal) * w (ix2 k L) := by
  unfold k0_pay2
  pointwise

theorem p11 (v : FVec Ideal S512x128 .f32) (b : Vec Ideal S1x512 .f32) (w : Vec Ideal S128x512 .bf16) (r l : Fin 512) :
    (k0_pay11 (F := Ideal) v b w (ix2 r l) : EReal) = decay ((b (ix2 0 l) : EReal) + ∑ j : Fin 128, Ideal.tanh (v (ix2 r j)) * w (ix2 j l)) := by
  unfold k0_pay11 decay soft
  pointwise
  simp only [zero_sub]
  rfl

theorem p13 (v : FVec Ideal S512x128 .f32) (b : Vec Ideal S1x512 .f32) (w : Vec Ideal S128x512 .bf16) (r l : Fin 512) :
    (k0_pay13 (F := Ideal) v b w (ix2 r l) : EReal) = k0_pay11 (F := Ideal) v b w (ix2 r l) := rfl

theorem p15 (v : FVec Ideal S512x128 .f32) (b : Vec Ideal S1x512 .f32) (w : Vec Ideal S128x512 .bf16) (r l : Fin 512) :
    (k0_pay15 (F := Ideal) v b w (ix2 r l) : EReal) = 0 := by
  have h : Num (k0_pay11 (F := Ideal) v b w (ix2 r l) : EReal) := by rw [p11]; exact num_decay _
  exact Num.self_sub h

theorem p16 (v : FVec Ideal S512x128 .f32) (b : Vec Ideal S1x512 .f32) (w : Vec Ideal S128x512 .bf16) (r l : Fin 512) :
    (k0_pay16 (F := Ideal) v b w (ix2 r l) : EReal) = 0 := by
  show (k0_pay15 (F := Ideal) v b w (ix2 r l) : EReal) - k0_pay15 (F := Ideal) v b w (ix2 r l) = 0
  rw [p15, sub_zero]

theorem p17 (v : FVec Ideal S512x128 .f32) (b : Vec Ideal S1x512 .f32) (w : Vec Ideal S128x512 .bf16) (t : Vec Ideal S128x128 .bf16) (r : Fin 128) (l : Fin 512) :
    (k0_pay17 (F := Ideal) v b w t (ix2 r l) : EReal) = ∑ j : Fin 128, (t (ix2 r j) : EReal) * k0_pay13 (F := Ideal) v b w (ix2 (⟨j, by omega⟩ : Fin 512) l) := by
  unfold k0_pay17 k0_pay12
  pointwise

theorem p18 (v : FVec Ideal S512x128 .f32) (b : Vec Ideal S1x512 .f32) (w : Vec Ideal S128x512 .bf16) (r : Fin 128) (l : Fin 512) :
    (k0_pay18 (F := Ideal) v b w (ix2 r l) : EReal) = k0_pay15 (F := Ideal) v b w (ix2 (⟨r, by omega⟩ : Fin 512) l) := by
  unfold k0_pay18
  pointwise

theorem cum_congr (f g : Fin 16 → EReal) (a b : Fin 16) (hf : ∀ n, f n = g n) (h : (a : ℕ) = b) : cum16 f a = cum16 g b :=
  congrArg₂ cum16 (funext hf) (Fin.ext h)

/-- Four stripes of 128 rows, each multiplied by the indicator: the running sum over each sixteen rows. -/
theorem p19 (t : FVec Ideal S128x128 .bf16) (a b c : FVec Ideal S512x512 .bf16) (d : FVec Ideal S128x512 .f32) (e : FVec Ideal S128x512 .bf16)
    (ht : ∀ i j, (t (ix2 i j) : EReal) = tri i j) (hb : ∀ r l, (b (ix2 r l) : EReal) = 0) (hc : ∀ r l, (c (ix2 r l) : EReal) = 0)
    (hd : ∀ r l, (d (ix2 r l) : EReal) = ∑ j : Fin 128, tri r j * a (ix2 (⟨j, by omega⟩ : Fin 512) l)) (he : ∀ r l, (e (ix2 r l) : EReal) = 0) (r l : Fin 512) :
    (k0_pay19 (F := Ideal) t a b c d e (ix2 r l) : EReal)
      = cum16 (fun n => a (ix2 (⟨(r : ℕ) / 16 * 16 + n, by omega⟩ : Fin 512) l)) ⟨(r : ℕ) % 16, by omega⟩ := by
  unfold k0_pay19
  pointwise
  simp only [ht, hb, hc, hd, he, mul_zero, Finset.sum_const_zero, add_zero]
  have hr := r.isLt
  by_cases h0 : (r : ℕ) < 128
  · rw [dif_pos h0]
    refine (tri_sum (fun j => a (ix2 (⟨(j : ℕ), by omega⟩ : Fin 512) l)) _).trans (cum_congr _ _ _ _ (fun n => congrArg a (congrArg (fun q : Fin 512 => ix2 q l) (Fin.ext ?_))) ?_)
    · rfl
    · rfl
  rw [dif_neg h0]
  by_cases h1 : (r : ℕ) - 128 < 128
  · rw [dif_pos h1]
    refine (tri_sum (fun j => a (ix2 (⟨128 + (j : ℕ), by omega⟩ : Fin 512) l)) _).trans (cum_congr _ _ _ _ (fun n => congrArg a (congrArg (fun q : Fin 512 => ix2 q l) (Fin.ext ?_))) ?_)
    · show 128 + (((r : ℕ) - 128) / 16 * 16 + n) = (r : ℕ) / 16 * 16 + n
      omega
    · show ((r : ℕ) - 128) % 16 = r % 16
      omega
  rw [dif_neg h1]
  by_cases h2 : (r : ℕ) - 128 - 128 < 128
  · rw [dif_pos h2]
    refine (tri_sum (fun j => a (ix2 (⟨256 + (j : ℕ), by omega⟩ : Fin 512) l)) _).trans (cum_congr _ _ _ _ (fun n => congrArg a (congrArg (fun q : Fin 512 => ix2 q l) (Fin.ext ?_))) ?_)
    · show 256 + (((r : ℕ) - 128 - 128) / 16 * 16 + n) = (r : ℕ) / 16 * 16 + n
      omega
    · show ((r : ℕ) - 128 - 128) % 16 = r % 16
      omega
  rw [dif_neg h2]
  · refine (tri_sum (fun j => a (ix2 (⟨384 + (j : ℕ), by omega⟩ : Fin 512) l)) _).trans (cum_congr _ _ _ _ (fun n => congrArg a (congrArg (fun q : Fin 512 => ix2 q l) (Fin.ext ?_))) ?_)
    · show 384 + (((r : ℕ) - 128 - 128 - 128) / 16 * 16 + n) = (r : ℕ) / 16 * 16 + n
      omega
    · show ((r : ℕ) - 128 - 128 - 128) % 16 = r % 16
      omega

theorem p22 (v : FVec Ideal S512x128 .f32) (b : Vec Ideal S1x512 .f32) (w : Vec Ideal S128x512 .bf16) (r l : Fin 512) :
    (k0_pay22 (F := Ideal) v b w (ix2 r l) : EReal) = sg ((b (ix2 0 l) : EReal) + ∑ j : Fin 128, (v (ix2 r j) : EReal) * w (ix2 j l)) := by
  unfold k0_pay22 sg
  pointwise
  rw [zero_sub]

theorem p23 (v : FVec Ideal S512x128 .f32) (w : Vec Ideal S128x512 .bf16) (r l : Fin 512) :
    (k0_pay23 (F := Ideal) v w (ix2 r l) : EReal) = ∑ j : Fin 128, sg (v (ix2 r j)) * w (ix2 j l) := by
  unfold k0_pay23 sg
  pointwise
  simp only [zero_sub]

theorem p24 (v : FVec Ideal S512x512 .f32) (b : Vec Ideal S1x512 .f32) (r l : Fin 512) :
    (k0_pay24 (F := Ideal) v b (ix2 r l) : EReal) = (v (ix2 r l) : EReal) * b (ix2 0 l) := by
  unfold k0_pay24
  pointwise

theorem p25 (v : FVec Ideal S512x512 .f32) (o : FVec Ideal S512x512 .bf16) (b : Vec Ideal S1x512 .f32) (r l : Fin 512) :
    (k0_pay25 (F := Ideal) v o b (ix2 r l) : EReal)
      = hsum (fun j l => o (ix2 j l)) (fun j => (v (ix2 r j) : EReal) * b (ix2 0 j) * ((v (ix2 r j) : EReal) * b (ix2 0 j))) l := by
  unfold k0_pay25 hsum dot
  pointwise
  simp only [p24]

theorem p29 (v a : FVec Ideal S512x512 .f32) (b : Vec Ideal S1x512 .f32) (r l : Fin 512) :
    (k0_pay29 (F := Ideal) v a b (ix2 r l) : EReal) = (v (ix2 r l) : EReal) * (one + (a (ix2 r l) - one) * b (ix2 0 l)) := by
  unfold k0_pay29
  pointwise

theorem p32 (u v : FVec Ideal S512x512 .f32) (o : FVec Ideal S512x512 .bf16) (a : FVec Ideal S512x512 .f32) (b c : Vec Ideal S1x512 .f32) (r l : Fin 512) :
    (k0_pay32 (F := Ideal) u v o a b c (ix2 r l) : EReal)
      = hsum (fun j l => o (ix2 j l)) (fun j => (u (ix2 r j) : EReal) * k0_pay29 (F := Ideal) v a b (ix2 r j) * c (ix2 0 j)) l := by
  unfold k0_pay32 hsum dot
  pointwise

theorem sel_zero (n : ℕ) (hn : n < 2 ^ 32) (a b : EReal) :
    (Scalar.select (α := EReal) (IntOp.cmpi .eq (BitVec.ofNat 32 n) 0#32) a b) = if n = 0 then a else b := by
  unfold Scalar.select IntOp.cmpi
  by_cases h : n = 0
  · subst h
    rfl
  · have e : (BitVec.ofNat 32 n == 0#32) = false := by
      rw [beq_eq_false_iff_ne]
      intro q
      have q := congrArg BitVec.toNat q
      rw [BitVec.toNat_ofNat, Nat.mod_eq_of_lt hn] at q
      exact h q
    rw [if_neg h]
    show (if BitVec.ofBool (BitVec.ofNat 32 n == 0#32) = 1 then a else b) = b
    rw [e]
    rfl

/-- A projected row, and the row mixed with the one before it. -/
def projB (x : Vec Ideal S512x1024 .f32) (w : Vec Ideal S1024x1792 .bf16) (r : Fin 512) (L : Fin 1792) : EReal :=
  ∑ k : Fin 1024, (x (ix2 r k) : EReal) * w (ix2 k L)

def prevB (i : grid0.Coords) (x : Vec Ideal S512x1024 .f32) (w : Vec Ideal S1024x1792 .bf16) (y : Vec Ideal S8x1024 .f32) (s : Vec Ideal S1x1x1792 .f32)
    (r : Fin 512) (L : Fin 1792) : EReal :=
  if (r : ℕ) = 0 then (if (i 1 : ℕ) = 0 then s (ix3 0 0 L) else ∑ k : Fin 1024, (y (ix2 7 k) : EReal) * w (ix2 k L)) else projB x w ⟨r - 1, by omega⟩ L

def zB (i : grid0.Coords) (x : Vec Ideal S512x1024 .f32) (y : Vec Ideal S8x1024 .f32) (s : Vec Ideal S1x1x1792 .f32) (w : Vec Ideal S1024x1792 .bf16)
    (mu : Vec Ideal S1x1792 .f32) (r : Fin 512) (L : Fin 1792) : EReal :=
  projB x w r L + (prevB i x w y s r L - projB x w r L) * mu (ix2 0 L)

theorem p4 (i : grid0.Coords) (x : Vec Ideal S512x1024 .f32) (w : Vec Ideal S1024x1792 .bf16) (y : Vec Ideal S8x1024 .f32) (s : Vec Ideal S1x1x1792 .f32)
    (mu : Vec Ideal S1x1792 .f32) (r : Fin 512) (L : Fin 1792) :
    (k0_pay4 (F := Ideal) i x w y w s mu (ix2 r L) : EReal) = zB i x y s w mu r L := by
  have hr := r.isLt
  have hi : (i 1 : ℕ) < 4 := (i 1).isLt
  unfold k0_pay4
  pointwise
  show (k0_pay2 (F := Ideal) x w (ix2 r L) : EReal) + (Scalar.select (α := EReal) (IntOp.cmpi CmpIPredicate.eq (BitVec.ofNat 32 ↑r) 0#32)
      (Scalar.select (α := EReal) (IntOp.cmpi CmpIPredicate.eq (BitVec.ofNat 32 ↑(i 1)) 0#32) (s (ix3 0 0 L)) _) _ - _) * _ = _
  rw [sel_zero _ (by omega), sel_zero _ (by omega)]
  simp only [p2]
  unfold zB prevB projB
  refine congrArg (fun q : EReal => _ + (q - _) * _) ?_
  split_ifs with h h'
  · rfl
  · rfl
  · refine Finset.sum_congr rfl fun k _ => congrArg (fun q : Fin 512 => (x (ix2 q k) : EReal) * w (ix2 k L)) (Fin.ext ?_)
    show ((r : ℕ) + 512 - 1) % 512 = r - 1
    omega

end Cert.Tm

end
-- ==== Proof.Tm.Out.lean ====
/- The time mixing call's outputs for one block, as functions of the block's mixed rows. -/
module

public import proofs.«01_k».proof.Proof.Tm.Block

@[expose] public section

set_option maxRecDepth 16384

noncomputable section

namespace Cert.Tm

open Cert.Kernel7Ideal Cert.Kernel7Ideal.Gen
open Idealize.ShloMosaic Idealize.ShloMosaic.TcCoe Cert.Mix Cert.In

variable (i : grid0.Coords) (x0 : Vec Ideal S512x1024 .f32) (x1 : Vec Ideal S8x1024 .f32) (x2 : Vec Ideal S1x1x1792 .f32) (x3 : Vec Ideal S1024x1792 .bf16)
  (x4 : Vec Ideal S1x1792 .f32) (x5 : Vec Ideal S1x512 .f32) (x6 : Vec Ideal S128x512 .bf16) (x7 : Vec Ideal S1x512 .f32) (x8 x9 : Vec Ideal S128x512 .bf16)
  (x10 x11 x12 : Vec Ideal S1x512 .f32) (x13 : Vec Ideal S512x512 .bf16) (x14 : Vec Ideal S128x128 .bf16)

theorem l0 (X : Vec Ideal S512x1024 .f32) : View.ld X r0_0 = X := View.ld_unit_lit _ X (by decide)
theorem l1 (X : Vec Ideal S1024x1792 .bf16) : View.ld X r0_1 = X := View.ld_unit_lit _ X (by decide)
theorem l2 (X : Vec Ideal S8x1024 .f32) : View.ld X r0_2 = X := View.ld_unit_lit _ X (by decide)
theorem l3 (X : Vec Ideal S1x1x1792 .f32) : View.ld X r0_3 = X := View.ld_unit_lit _ X (by decide)
theorem l4 (X : Vec Ideal S1x1792 .f32) : View.ld X r0_4 = X := View.ld_unit_lit _ X (by decide)
theorem l5 (X : Vec Ideal S512x512 .bf16) : View.ld X r0_5 = X := View.ld_unit_lit _ X (by decide)
theorem l6 (X : Vec Ideal S1x512 .f32) : View.ld X r0_6 = X := View.ld_unit_lit _ X (by decide)
theorem l7 (X : Vec Ideal S128x512 .bf16) : View.ld X r0_7 = X := View.ld_unit_lit _ X (by decide)
theorem l8 (X : Vec Ideal S128x128 .bf16) : View.ld X r0_8 = X := View.ld_unit_lit _ X (by decide)

/-- The log decay, the rate and the running sum of the log decays, of a row of the block. -/
def ldB (r l : Fin 512) : EReal :=
  logDecay (fun l => x5 (ix2 0 l)) (fun j l => x6 (ix2 (⟨j, by omega⟩ : Fin 128) l)) (zB i x0 x1 x2 x3 x4 r) l

def aB (r l : Fin 512) : EReal :=
  rate (fun l => x7 (ix2 0 l)) (fun j l => x8 (ix2 (⟨64 + (j : ℕ), by omega⟩ : Fin 128) l)) (zB i x0 x1 x2 x3 x4 r) l

def cumB (r l : Fin 512) : EReal :=
  cum16 (fun n => ldB i x0 x1 x2 x3 x4 x5 x6 ⟨(r : ℕ) / 16 * 16 + n, by omega⟩ l) ⟨(r : ℕ) % 16, by omega⟩

theorem q33 (r l : Fin 512) : (k0_pay33 (F := Ideal) i x0 x1 x2 x3 x4 x5 x6 x7 x8 x9 x10 x11 x12 x13 x14 (ix2 r l) : EReal) = rec_ (zB i x0 x1 x2 x3 x4 r) l := by
  unfold k0_pay33 k0_pay5
  rw [l0, l1, l2, l3, l4]
  refine Eq.trans ?_ (p4 i x0 x3 x1 x2 x4 r _)
  pointwise

theorem q34 (r l : Fin 512) : (k0_pay34 (F := Ideal) i x0 x1 x2 x3 x4 x5 x6 x7 x8 x9 x10 x11 x12 x13 x14 (ix2 r l) : EReal) = key_ (zB i x0 x1 x2 x3 x4 r) l := by
  unfold k0_pay34 k0_pay6
  rw [l0, l1, l2, l3, l4]
  refine Eq.trans ?_ (p4 i x0 x3 x1 x2 x4 r _)
  pointwise

theorem q35 (r l : Fin 512) : (k0_pay35 (F := Ideal) i x0 x1 x2 x3 x4 x5 x6 x7 x8 x9 x10 x11 x12 x13 x14 (ix2 r l) : EReal) = val_ (zB i x0 x1 x2 x3 x4 r) l := by
  unfold k0_pay35 k0_pay7
  rw [l0, l1, l2, l3, l4]
  refine Eq.trans ?_ (p4 i x0 x3 x1 x2 x4 r _)
  pointwise

theorem q36 (r : Fin 512) (j : Fin 128) : (k0_pay36 (F := Ideal) i x0 x1 x2 x3 x4 x5 x6 x7 x8 x9 x10 x11 x12 x13 x14 (ix2 r j) : EReal) = zB i x0 x1 x2 x3 x4 r ⟨1536 + (j : ℕ), by omega⟩ := by
  unfold k0_pay36 k0_pay8
  rw [l0, l1, l2, l3, l4]
  refine Eq.trans ?_ (p4 i x0 x3 x1 x2 x4 r _)
  pointwise

theorem q9 (r : Fin 512) (j : Fin 128) :
    (k0_pay9 (F := Ideal) (k0_pay4 (F := Ideal) i x0 x3 x1 x3 x2 x4) (ix2 r j) : EReal) = zB i x0 x1 x2 x3 x4 r ⟨1664 + (j : ℕ), by omega⟩ := by
  unfold k0_pay9
  refine Eq.trans ?_ (p4 i x0 x3 x1 x2 x4 r _)
  pointwise

theorem q37 : k0_pay37 (F := Ideal) i x0 x1 x2 x3 x4 x5 x6 x7 x8 x9 x10 x11 x12 x13 x14 = x13 := by
  unfold k0_pay37 k0_pay10
  rw [l5]
  funext y
  pointwise

theorem q38 : k0_pay38 (F := Ideal) i x0 x1 x2 x3 x4 x5 x6 x7 x8 x9 x10 x11 x12 x13 x14 = x14 := by
  unfold k0_pay38 k0_pay12
  rw [l8]
  funext y
  pointwise

theorem q11 (h6 : ∀ (j : Fin 128) (l : Fin 512), 64 ≤ (j : ℕ) → (x6 (ix2 j l) : EReal) = 0) (r l : Fin 512) :
    (k0_pay11 (F := Ideal) (k0_pay36 (F := Ideal) i x0 x1 x2 x3 x4 x5 x6 x7 x8 x9 x10 x11 x12 x13 x14) x5 x6 (ix2 r l) : EReal) = ldB i x0 x1 x2 x3 x4 x5 x6 r l := by
  rw [p11]
  unfold ldB logDecay
  simp only [q36]
  rw [sum_low _ _ (fun j hj => h6 j l hj)]

theorem q45 (h8 : ∀ (j : Fin 128) (l : Fin 512), (j : ℕ) < 64 → (x8 (ix2 j l) : EReal) = 0) (r l : Fin 512) :
    (k0_pay45 (F := Ideal) i x0 x1 x2 x3 x4 x5 x6 x7 x8 x9 x10 x11 x12 x13 x14 (ix2 r l) : EReal) = aB i x0 x1 x2 x3 x4 x7 x8 r l := by
  unfold k0_pay45
  rw [l6, l7, p22]
  unfold aB rate
  simp only [q36]
  rw [sum_high _ _ (fun j hj => h8 j l hj)]
  refine congrArg (fun q : EReal => sg (_ + q)) (Finset.sum_congr rfl fun j _ => congrArg (fun q => zB i x0 x1 x2 x3 x4 r q * _) (Fin.ext ?_))
  show 1536 + (64 + (j : ℕ)) = 1600 + j
  omega

theorem q19 (h6 : ∀ (j : Fin 128) (l : Fin 512), 64 ≤ (j : ℕ) → (x6 (ix2 j l) : EReal) = 0) (h14 : ∀ a b, (x14 (ix2 a b) : EReal) = tri a b) (r l : Fin 512) :
    (k0_pay19 (F := Ideal) (k0_pay38 (F := Ideal) i x0 x1 x2 x3 x4 x5 x6 x7 x8 x9 x10 x11 x12 x13 x14) (k0_pay39 (F := Ideal) i x0 x1 x2 x3 x4 x5 x6 x7 x8 x9 x10 x11 x12 x13 x14) (k0_pay40 (F := Ideal) i x0 x1 x2 x3 x4 x5 x6 x7 x8 x9 x10 x11 x12 x13 x14) (k0_pay41 (F := Ideal) i x0 x1 x2 x3 x4 x5 x6 x7 x8 x9 x10 x11 x12 x13 x14)
      (k0_pay42 (F := Ideal) i x0 x1 x2 x3 x4 x5 x6 x7 x8 x9 x10 x11 x12 x13 x14) (k0_pay43 (F := Ideal) i x0 x1 x2 x3 x4 x5 x6 x7 x8 x9 x10 x11 x12 x13 x14) (ix2 r l) : EReal) = cumB i x0 x1 x2 x3 x4 x5 x6 r l := by
  rw [q38]
  refine (p19 _ _ _ _ _ _ h14 (fun r l => ?_) (fun r l => ?_) (fun r l => ?_) (fun r l => ?_) r l).trans ?_
  · unfold k0_pay40
    exact p15 _ _ _ r l
  · unfold k0_pay41
    exact p16 _ _ _ r l
  · unfold k0_pay42 k0_pay39
    rw [p17, l8]
    exact Finset.sum_congr rfl fun j _ => congrArg (fun q : EReal => q * _) (h14 r j)
  · unfold k0_pay43
    rw [p18]
    exact p15 _ _ _ _ l
  · refine cum_congr _ _ _ _ (fun n => ?_) rfl
    unfold k0_pay39
    rw [p13, l6, l7]
    exact q11 i x0 x1 x2 x3 x4 x5 x6 x7 x8 x9 x10 x11 x12 x13 x14 h6 _ l

theorem q47 (h13 : ∀ a b, (x13 (ix2 a b) : EReal) = heads a b) (r : Fin 512)
    (hk : ∀ l, Num (key_ (zB i x0 x1 x2 x3 x4 r) l * x10 (ix2 0 l))) (l : Fin 512) :
    (k0_pay47 (F := Ideal) i x0 x1 x2 x3 x4 x5 x6 x7 x8 x9 x10 x11 x12 x13 x14 (ix2 r l) : EReal)
      = ∑ n : Fin 64, key_ (zB i x0 x1 x2 x3 x4 r) (lane (head l) n) * x10 (ix2 0 (lane (head l) n)) * (key_ (zB i x0 x1 x2 x3 x4 r) (lane (head l) n) * x10 (ix2 0 (lane (head l) n))) := by
  unfold k0_pay47
  rw [q37, l6, p25]
  simp only [q34]
  rw [show (fun j l => (x13 (ix2 j l) : EReal)) = heads from funext fun a => funext fun b => h13 a b]
  refine hsum_num _ (fun j => ?_) l
  obtain ⟨a, ha⟩ := (hk j).real
  show Num (key_ (zB i x0 x1 x2 x3 x4 r) j * x10 (ix2 0 j) * (key_ (zB i x0 x1 x2 x3 x4 r) j * x10 (ix2 0 j)))
  rw [ha, ← EReal.coe_mul]
  exact num_coe _

theorem q26 (h13 : ∀ a b, (x13 (ix2 a b) : EReal) = heads a b) (r : Fin 512)
    (hk : ∀ l, Num (key_ (zB i x0 x1 x2 x3 x4 r) l * x10 (ix2 0 l))) (l : Fin 512) :
    (k0_pay26 (F := Ideal) (k0_pay46 (F := Ideal) i x0 x1 x2 x3 x4 x5 x6 x7 x8 x9 x10 x11 x12 x13 x14) (k0_pay47 (F := Ideal) i x0 x1 x2 x3 x4 x5 x6 x7 x8 x9 x10 x11 x12 x13 x14) (Scalar.ofBits .f32 0x2B8CBCCC#32) (ix2 r l) : EReal)
      = removal (fun l => x10 (ix2 0 l)) (zB i x0 x1 x2 x3 x4 r) l := by
  show (k0_pay46 (F := Ideal) i x0 x1 x2 x3 x4 x5 x6 x7 x8 x9 x10 x11 x12 x13 x14 (ix2 r l) : EReal) * Ideal.rsqrt (k0_pay47 (F := Ideal) i x0 x1 x2 x3 x4 x5 x6 x7 x8 x9 x10 x11 x12 x13 x14 (ix2 r l) + tiny) = _
  rw [q47 i x0 x1 x2 x3 x4 x5 x6 x7 x8 x9 x10 x11 x12 x13 x14 h13 r hk l]
  unfold k0_pay46
  rw [p24, q34, l6]
  rfl

theorem q29 (h8 : ∀ (j : Fin 128) (l : Fin 512), (j : ℕ) < 64 → (x8 (ix2 j l) : EReal) = 0) (r l : Fin 512) :
    (k0_pay29 (F := Ideal) (k0_pay34 (F := Ideal) i x0 x1 x2 x3 x4 x5 x6 x7 x8 x9 x10 x11 x12 x13 x14) (k0_pay45 (F := Ideal) i x0 x1 x2 x3 x4 x5 x6 x7 x8 x9 x10 x11 x12 x13 x14) x11 (ix2 r l) : EReal)
      = newKey (fun l => x11 (ix2 0 l)) (aB i x0 x1 x2 x3 x4 x7 x8 r) (zB i x0 x1 x2 x3 x4 r) l := by
  rw [p29, q34, q45 i x0 x1 x2 x3 x4 x5 x6 x7 x8 x9 x10 x11 x12 x13 x14 h8]
  rfl

/-- The nine outputs. -/
theorem o15 (h6 : ∀ (j : Fin 128) (l : Fin 512), 64 ≤ (j : ℕ) → (x6 (ix2 j l) : EReal) = 0) (h14 : ∀ a b, (x14 (ix2 a b) : EReal) = tri a b) (r l : Fin 512) :
    (out0_15 (F := Ideal) i x0 x1 x2 x3 x4 x5 x6 x7 x8 x9 x10 x11 x12 x13 x14 (ix2 r l) : EReal) = rec_ (zB i x0 x1 x2 x3 x4 r) l * Ideal.exp (cumB i x0 x1 x2 x3 x4 x5 x6 r l) := by
  unfold out0_15
  refine (congrFun (View.canon_cons_unit_lit (Val := Elt Ideal) (S := S512x512) (off := ![0, 0]) _ _ [] (by decide)) (ix2 r l)).trans ?_
  refine congrArg₂ (fun a b : EReal => a * Ideal.exp b) (q33 i x0 x1 x2 x3 x4 x5 x6 x7 x8 x9 x10 x11 x12 x13 x14 r l) (q19 i x0 x1 x2 x3 x4 x5 x6 x7 x8 x9 x10 x11 x12 x13 x14 h6 h14 r l)

theorem o16 (h6 : ∀ (j : Fin 128) (l : Fin 512), 64 ≤ (j : ℕ) → (x6 (ix2 j l) : EReal) = 0) (h14 : ∀ a b, (x14 (ix2 a b) : EReal) = tri a b) (r l : Fin 512) :
    (out0_16 (F := Ideal) i x0 x1 x2 x3 x4 x5 x6 x7 x8 x9 x10 x11 x12 x13 x14 (ix2 r l) : EReal) = Ideal.exp (cumB i x0 x1 x2 x3 x4 x5 x6 r l) := by
  unfold out0_16
  refine (congrFun (View.canon_cons_unit_lit (Val := Elt Ideal) (S := S512x512) (off := ![0, 0]) _ _ [] (by decide)) (ix2 r l)).trans ?_
  exact congrArg Ideal.exp (q19 i x0 x1 x2 x3 x4 x5 x6 x7 x8 x9 x10 x11 x12 x13 x14 h6 h14 r l)

theorem q44 (h6 : ∀ (j : Fin 128) (l : Fin 512), 64 ≤ (j : ℕ) → (x6 (ix2 j l) : EReal) = 0) (h14 : ∀ a b, (x14 (ix2 a b) : EReal) = tri a b) (r l : Fin 512) :
    (k0_pay44 (F := Ideal) i x0 x1 x2 x3 x4 x5 x6 x7 x8 x9 x10 x11 x12 x13 x14 (ix2 r l) : EReal) = Ideal.exp (-cumB i x0 x1 x2 x3 x4 x5 x6 r l) := by
  unfold k0_pay44 k0_pay21
  pointwise
  rw [q19 i x0 x1 x2 x3 x4 x5 x6 x7 x8 x9 x10 x11 x12 x13 x14 h6 h14 r l, zero_sub]

theorem o17 (h6 : ∀ (j : Fin 128) (l : Fin 512), 64 ≤ (j : ℕ) → (x6 (ix2 j l) : EReal) = 0) (h14 : ∀ a b, (x14 (ix2 a b) : EReal) = tri a b)
    (h8 : ∀ (j : Fin 128) (l : Fin 512), (j : ℕ) < 64 → (x8 (ix2 j l) : EReal) = 0) (r l : Fin 512) :
    (out0_17 (F := Ideal) i x0 x1 x2 x3 x4 x5 x6 x7 x8 x9 x10 x11 x12 x13 x14 (ix2 r l) : EReal)
      = newKey (fun l => x11 (ix2 0 l)) (aB i x0 x1 x2 x3 x4 x7 x8 r) (zB i x0 x1 x2 x3 x4 r) l * Ideal.exp (-cumB i x0 x1 x2 x3 x4 x5 x6 r l) := by
  unfold out0_17
  refine (congrFun (View.canon_cons_unit_lit (Val := Elt Ideal) (S := S512x512) (off := ![0, 0]) _ _ [] (by decide)) (ix2 r l)).trans ?_
  rw [l6]
  exact congrArg₂ (fun a b : EReal => a * b) (q29 i x0 x1 x2 x3 x4 x5 x6 x7 x8 x9 x10 x11 x12 x13 x14 h8 r l) (q44 i x0 x1 x2 x3 x4 x5 x6 x7 x8 x9 x10 x11 x12 x13 x14 h6 h14 r l)

theorem o18 (r l : Fin 512) : (out0_18 (F := Ideal) i x0 x1 x2 x3 x4 x5 x6 x7 x8 x9 x10 x11 x12 x13 x14 (ix2 r l) : EReal) = val_ (zB i x0 x1 x2 x3 x4 r) l := by
  unfold out0_18
  refine (congrFun (View.canon_cons_unit_lit (Val := Elt Ideal) (S := S512x512) (off := ![0, 0]) _ _ [] (by decide)) (ix2 r l)).trans ?_
  exact q35 i x0 x1 x2 x3 x4 x5 x6 x7 x8 x9 x10 x11 x12 x13 x14 r l

theorem o19 (h6 : ∀ (j : Fin 128) (l : Fin 512), 64 ≤ (j : ℕ) → (x6 (ix2 j l) : EReal) = 0) (h14 : ∀ a b, (x14 (ix2 a b) : EReal) = tri a b)
    (h13 : ∀ a b, (x13 (ix2 a b) : EReal) = heads a b) (r : Fin 512) (hk : ∀ l, Num (key_ (zB i x0 x1 x2 x3 x4 r) l * x10 (ix2 0 l))) (l : Fin 512) :
    (out0_19 (F := Ideal) i x0 x1 x2 x3 x4 x5 x6 x7 x8 x9 x10 x11 x12 x13 x14 (ix2 r l) : EReal)
      = removal (fun l => x10 (ix2 0 l)) (zB i x0 x1 x2 x3 x4 r) l * Ideal.exp (cumB i x0 x1 x2 x3 x4 x5 x6 r l - ldB i x0 x1 x2 x3 x4 x5 x6 r l) := by
  unfold out0_19
  refine (congrFun (View.canon_cons_unit_lit (Val := Elt Ideal) (S := S512x512) (off := ![0, 0]) _ _ [] (by decide)) (ix2 r l)).trans ?_
  rw [l6, l7]
  refine congrArg₂ (fun a b : EReal => a * b) (q26 i x0 x1 x2 x3 x4 x5 x6 x7 x8 x9 x10 x11 x12 x13 x14 h13 r hk l) (congrArg₂ (fun a b : EReal => Ideal.exp (a - b)) (q19 i x0 x1 x2 x3 x4 x5 x6 x7 x8 x9 x10 x11 x12 x13 x14 h6 h14 r l) (q11 i x0 x1 x2 x3 x4 x5 x6 x7 x8 x9 x10 x11 x12 x13 x14 h6 r l))

theorem o20 (h6 : ∀ (j : Fin 128) (l : Fin 512), 64 ≤ (j : ℕ) → (x6 (ix2 j l) : EReal) = 0) (h14 : ∀ a b, (x14 (ix2 a b) : EReal) = tri a b)
    (h8 : ∀ (j : Fin 128) (l : Fin 512), (j : ℕ) < 64 → (x8 (ix2 j l) : EReal) = 0)
    (h13 : ∀ a b, (x13 (ix2 a b) : EReal) = heads a b) (r : Fin 512) (hk : ∀ l, Num (key_ (zB i x0 x1 x2 x3 x4 r) l * x10 (ix2 0 l))) (l : Fin 512) :
    (out0_20 (F := Ideal) i x0 x1 x2 x3 x4 x5 x6 x7 x8 x9 x10 x11 x12 x13 x14 (ix2 r l) : EReal)
      = removal (fun l => x10 (ix2 0 l)) (zB i x0 x1 x2 x3 x4 r) l * aB i x0 x1 x2 x3 x4 x7 x8 r l * Ideal.exp (-cumB i x0 x1 x2 x3 x4 x5 x6 r l) := by
  unfold out0_20
  refine (congrFun (View.canon_cons_unit_lit (Val := Elt Ideal) (S := S512x512) (off := ![0, 0]) _ _ [] (by decide)) (ix2 r l)).trans ?_
  exact congrArg₂ (fun a b : EReal => a * b) (congrArg₂ (fun a b : EReal => a * b) (q26 i x0 x1 x2 x3 x4 x5 x6 x7 x8 x9 x10 x11 x12 x13 x14 h13 r hk l) (q45 i x0 x1 x2 x3 x4 x5 x6 x7 x8 x9 x10 x11 x12 x13 x14 h8 r l)) (q44 i x0 x1 x2 x3 x4 x5 x6 x7 x8 x9 x10 x11 x12 x13 x14 h6 h14 r l)

theorem o21 (r l : Fin 512) : (out0_21 (F := Ideal) i x0 x1 x2 x3 x4 x5 x6 x7 x8 x9 x10 x11 x12 x13 x14 (ix2 r l) : EReal) = gate (fun j l => x9 (ix2 j l)) (zB i x0 x1 x2 x3 x4 r) l := by
  unfold out0_21
  refine (congrFun (View.canon_cons_unit_lit (Val := Elt Ideal) (S := S512x512) (off := ![0, 0]) _ _ [] (by decide)) (ix2 r l)).trans ?_
  rw [l0, l1, l2, l3, l4, l7]
  refine (p23 _ _ r l).trans ?_
  simp only [q9]
  rfl

theorem o22 (h8 : ∀ (j : Fin 128) (l : Fin 512), (j : ℕ) < 64 → (x8 (ix2 j l) : EReal) = 0) (h13 : ∀ a b, (x13 (ix2 a b) : EReal) = heads a b) (r : Fin 512)
    (hq : ∀ l, Num (rec_ (zB i x0 x1 x2 x3 x4 r) l * newKey (fun l => x11 (ix2 0 l)) (aB i x0 x1 x2 x3 x4 x7 x8 r) (zB i x0 x1 x2 x3 x4 r) l * x12 (ix2 0 l))) (l : Fin 512) :
    (out0_22 (F := Ideal) i x0 x1 x2 x3 x4 x5 x6 x7 x8 x9 x10 x11 x12 x13 x14 (ix2 r l) : EReal)
      = bonus (newKey (fun l => x11 (ix2 0 l)) (aB i x0 x1 x2 x3 x4 x7 x8 r) (zB i x0 x1 x2 x3 x4 r)) (fun l => x12 (ix2 0 l)) (zB i x0 x1 x2 x3 x4 r) l := by
  unfold out0_22
  refine (congrFun (View.canon_cons_unit_lit (Val := Elt Ideal) (S := S512x512) (off := ![0, 0]) _ _ [] (by decide)) (ix2 r l)).trans ?_
  rw [l6, l6]
  refine congrArg₂ (fun a b : EReal => a * b) ?_ (q35 i x0 x1 x2 x3 x4 x5 x6 x7 x8 x9 x10 x11 x12 x13 x14 r l)
  rw [q37]
  refine (p32 _ _ _ _ _ _ r l).trans ?_
  simp only [q33, q29 i x0 x1 x2 x3 x4 x5 x6 x7 x8 x9 x10 x11 x12 x13 x14 h8]
  rw [show (fun j l => (x13 (ix2 j l) : EReal)) = heads from funext fun a => funext fun b => h13 a b]
  exact hsum_num _ hq l

theorem o23 (L : Fin 1792) : (out0_23 (F := Ideal) i x0 x1 x2 x3 x4 x5 x6 x7 x8 x9 x10 x11 x12 x13 x14 (ix3 0 0 L) : EReal) = projB x0 x3 511 L := by
  unfold out0_23
  refine (congrFun (View.canon_cons_unit_lit (Val := Elt Ideal) (S := S1x1x1792) (off := ![0, 0, 0]) _ _ [] (by decide)) (ix3 0 0 L)).trans ?_
  rw [l0, l1]
  unfold k0_pay3
  pointwise
  exact p2 x0 x3 511 L

end Cert.Tm

end
-- ==== Proof.Tm.Spec.lean ====
/- The time mixing call's values as functions of its arguments. -/
module

public import proofs.«01_k».proof.Proof.Tm.Row
public import Idealize.ShloMosaic.Lib.Pipeline.ValueKit.Geometry

@[expose] public section

noncomputable section

namespace Cert.Tm

open Idealize.ShloMosaic Cert.Mix

/-- The call's arguments: the normed rows, the input weights, the rows before the first, the mixing coefficients, and the parameters of the decay,
the rate, the gate, the removal key, the new key and the bonus. -/
structure Args where
  x : (⟨2, ![32768, 1024]⟩ : Shape).Idx → EReal
  w : (⟨2, ![1024, 6048]⟩ : Shape).Idx → EReal
  sh : (⟨2, ![16, 1792]⟩ : Shape).Idx → EReal
  mu : (⟨1, ![1792]⟩ : Shape).Idx → EReal
  w0 : (⟨1, ![512]⟩ : Shape).Idx → EReal
  wu : (⟨2, ![64, 512]⟩ : Shape).Idx → EReal
  a0 : (⟨1, ![512]⟩ : Shape).Idx → EReal
  au : (⟨2, ![64, 512]⟩ : Shape).Idx → EReal
  gu : (⟨2, ![128, 512]⟩ : Shape).Idx → EReal
  kk : (⟨1, ![512]⟩ : Shape).Idx → EReal
  ka : (⟨1, ![512]⟩ : Shape).Idx → EReal
  rk : (⟨2, ![8, 64]⟩ : Shape).Idx → EReal

variable (A : Args)

/-- The projected row of a sequence's token, and that row mixed with the one before it. -/
def proj (b : Fin 16) (t : Fin 2048) (L : Fin 1792) : EReal :=
  ∑ k : Fin 1024, A.x (ix2 (⟨(b : ℕ) * 2048 + t, by omega⟩ : Fin 32768) k) * A.w (ix2 k (⟨672 + (L : ℕ), by omega⟩ : Fin 6048))

def prev (b : Fin 16) (t : Fin 2048) (L : Fin 1792) : EReal :=
  if (t : ℕ) = 0 then A.sh (ix2 b L) else proj A b ⟨t - 1, by omega⟩ L

def mixed (b : Fin 16) (t : Fin 2048) (L : Fin 1792) : EReal :=
  proj A b t L + (prev A b t L - proj A b t L) * A.mu (ix1 L)

/-- The log decay, its running sum in the block of sixteen, the rate, the removal key, the new key and the bonus. -/
def ld (b : Fin 16) (t : Fin 2048) (l : Fin 512) : EReal :=
  logDecay (fun l => A.w0 (ix1 l)) (fun j l => A.wu (ix2 j l)) (mixed A b t) l

def cum (b : Fin 16) (t : Fin 2048) (l : Fin 512) : EReal :=
  cum16 (fun n => ld A b ⟨(t : ℕ) / 16 * 16 + n, by omega⟩ l) ⟨(t : ℕ) % 16, by omega⟩

def al (b : Fin 16) (t : Fin 2048) (l : Fin 512) : EReal :=
  rate (fun l => A.a0 (ix1 l)) (fun j l => A.au (ix2 j l)) (mixed A b t) l

def rem (b : Fin 16) (t : Fin 2048) (l : Fin 512) : EReal := removal (fun l => A.kk (ix1 l)) (mixed A b t) l

def nk (b : Fin 16) (t : Fin 2048) (l : Fin 512) : EReal := newKey (fun l => A.ka (ix1 l)) (al A b t) (mixed A b t) l

def rkl (l : Fin 512) : EReal := A.rk (ix2 (head l) (⟨(l : ℕ) % 64, by omega⟩ : Fin 64))

def bon (b : Fin 16) (t : Fin 2048) (l : Fin 512) : EReal := bonus (nk A b t) (rkl A) (mixed A b t) l

/-- A value stored with time first and the sequences side by side, and one stored row by row. -/
def byTime (f : Fin 16 → Fin 2048 → Fin 512 → EReal) (t : Fin 2048) (C : Fin 8192) : EReal :=
  f ⟨(C : ℕ) / 512, by omega⟩ t ⟨(C : ℕ) % 512, by omega⟩

def byRow (f : Fin 16 → Fin 2048 → Fin 512 → EReal) (R : Fin 32768) (l : Fin 512) : EReal :=
  f ⟨(R : ℕ) / 2048, by omega⟩ ⟨(R : ℕ) % 2048, by omega⟩ l

/-- The nine results. -/
def r15 (b : Fin 16) (t : Fin 2048) (l : Fin 512) : EReal := rec_ (mixed A b t) l * Ideal.exp (cum A b t l)
def r16 (b : Fin 16) (t : Fin 2048) (l : Fin 512) : EReal := Ideal.exp (cum A b t l)
def r17 (b : Fin 16) (t : Fin 2048) (l : Fin 512) : EReal := nk A b t l * Ideal.exp (-cum A b t l)
def r18 (b : Fin 16) (t : Fin 2048) (l : Fin 512) : EReal := val_ (mixed A b t) l
def r19 (b : Fin 16) (t : Fin 2048) (l : Fin 512) : EReal := rem A b t l * Ideal.exp (cum A b t l - ld A b t l)
def r20 (b : Fin 16) (t : Fin 2048) (l : Fin 512) : EReal := rem A b t l * al A b t l * Ideal.exp (-cum A b t l)
def r21 (b : Fin 16) (t : Fin 2048) (l : Fin 512) : EReal := gate (fun j l => A.gu (ix2 j l)) (mixed A b t) l

end Cert.Tm

end
-- ==== Proof.Tm.Win.lean ====
/- The blocks of the time mixing call's windows, as entries of the arguments. -/
module

public import proofs.«01_k».proof.Proof.Tm.Host
public import proofs.«01_k».proof.Proof.Tm.Out
public import proofs.«01_k».proof.Proof.Tm.Spec

@[expose] public section

set_option maxRecDepth 16384

noncomputable section

namespace Cert.Tm

open Cert.Kernel7Ideal Cert.Kernel7Ideal.Gen
open Idealize.ShloMosaic Idealize.ShloMosaic.TcCoe Cert.Mix Cert.In

variable (m : (ℓ : Loc nD τ sig) → Buf (Elt Ideal) ℓ)

/-- The arguments in memory. -/
def args (c : Dev nD) : Args where
  x := m ((c : Thread nD τ).loc main_arg0)
  w := m ((c : Thread nD τ).loc main_arg1)
  sh := m ((c : Thread nD τ).loc main_arg2)
  mu := m ((c : Thread nD τ).loc main_arg3)
  w0 := m ((c : Thread nD τ).loc main_arg4)
  wu := m ((c : Thread nD τ).loc main_arg5)
  a0 := m ((c : Thread nD τ).loc main_arg6)
  au := m ((c : Thread nD τ).loc main_arg7)
  gu := m ((c : Thread nD τ).loc main_arg8)
  kk := m ((c : Thread nD τ).loc main_arg9)
  ka := m ((c : Thread nD τ).loc main_arg10)
  rk := m ((c : Thread nD τ).loc main_arg11)

theorem e0 : ∀ t : Fin cfg0.N, win0_0.index t = ![(grid0.coords t 0).val * 4 + (grid0.coords t 1).val, 0] := (by decide +kernel : ∀ t : Fin grid0.N, _)
theorem e1 : ∀ t : Fin cfg0.N, win0_1.index t = ![((grid0.coords t 0).val * 4 + (grid0.coords t 1).val) * 64 - 1, 0] := (by decide +kernel : ∀ t : Fin grid0.N, _)
theorem e2 : ∀ t : Fin cfg0.N, win0_2.index t = ![(grid0.coords t 0).val, 0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![0, 0] := (by decide +kernel : ∀ t : Fin grid0.N, _)
theorem e12 : ∀ t : Fin cfg0.N, win0_12.index t = ![0, 0] := (by decide +kernel : ∀ t : Fin grid0.N, _)
theorem e13 : ∀ t : Fin cfg0.N, win0_13.index t = ![0, 0] := (by decide +kernel : ∀ t : Fin grid0.N, _)
theorem e14 : ∀ t : Fin cfg0.N, win0_14.index t = ![0, 0] := (by decide +kernel : ∀ t : Fin grid0.N, _)
theorem e15 : ∀ t : Fin cfg0.N, win0_15.index t = ![(grid0.coords t 1).val, (grid0.coords t 0).val] := (by decide +kernel : ∀ t : Fin grid0.N, _)
theorem e16 : ∀ t : Fin cfg0.N, win0_16.index t = ![(grid0.coords t 1).val, (grid0.coords t 0).val] := (by decide +kernel : ∀ t : Fin grid0.N, _)
theorem e17 : ∀ t : Fin cfg0.N, win0_17.index t = ![(grid0.coords t 1).val, (grid0.coords t 0).val] := (by decide +kernel : ∀ t : Fin grid0.N, _)
theorem e18 : ∀ t : Fin cfg0.N, win0_18.index t = ![(grid0.coords t 1).val, (grid0.coords t 0).val] := (by decide +kernel : ∀ t : Fin grid0.N, _)
theorem e19 : ∀ t : Fin cfg0.N, win0_19.index t = ![(grid0.coords t 1).val, (grid0.coords t 0).val] := (by decide +kernel : ∀ t : Fin grid0.N, _)
theorem e20 : ∀ t : Fin cfg0.N, win0_20.index t = ![(grid0.coords t 1).val, (grid0.coords t 0).val] := (by decide +kernel : ∀ t : Fin grid0.N, _)
theorem e21 : ∀ t : Fin cfg0.N, win0_21.index t = ![(grid0.coords t 0).val * 4 + (grid0.coords t 1).val, 0] := (by decide +kernel : ∀ t : Fin grid0.N, _)
theorem e22 : ∀ t : Fin cfg0.N, win0_22.index t = ![(grid0.coords t 0).val * 4 + (grid0.coords t 1).val, 0] := (by decide +kernel : ∀ t : Fin grid0.N, _)
theorem e23 : ∀ t : Fin cfg0.N, win0_23.index t = ![(grid0.coords t 0).val, 0, 0] := (by decide +kernel : ∀ t : Fin grid0.N, _)

theorem b0 (c : Dev nD) (t : Fin cfg0.N) (r : Fin 512) (k : Fin 1024) (R : Fin 32768)
    (hR : (R : ℕ) = ((grid0.coords t 0).val * 4 + (grid0.coords t 1).val) * 512 + r) :
    (iblk m c 0 t (ix2 r k) : EReal) = (args m c).x (ix2 R k) := by
  blk_simp [iblk]
  refine (congrFun (V_main_arg0 m c) _).trans (congrArg _ ?_)
  blk_ext [e0]
  all_goals (first | exact hR.symm | (simp [ix2]; omega))

theorem b1 (c : Dev nD) (t : Fin cfg0.N) (r : Fin 8) (k : Fin 1024) (R : Fin 32768)
    (hR : (R : ℕ) = (((grid0.coords t 0).val * 4 + (grid0.coords t 1).val) * 64 - 1) * 8 + r) :
    (iblk m c 1 t (ix2 r k) : EReal) = (args m c).x (ix2 R k) := by
  blk_simp [iblk]
  refine (congrFun (V_main_arg0 m c) _).trans (congrArg _ ?_)
  blk_ext [e1]
  all_goals (first | exact hR.symm | (simp [ix2]; omega))

theorem b2 (c : Dev nD) (t : Fin cfg0.N) (L : Fin 1792) (b : Fin 16) (hb : (b : ℕ) = (grid0.coords t 0).val) :
    (iblk m c 2 t (ix3 0 0 L) : EReal) = (args m c).sh (ix2 b L) := by
  refine Eq.trans ?_ (shift_at m c b L)
  blk_simp [iblk]
  refine congrArg _ ?_
  blk_ext [e2]
  all_goals (first | exact hb.symm | (simp [ix3]; omega))

theorem b3 (c : Dev nD) (t : Fin cfg0.N) (k : Fin 1024) (L : Fin 1792) : (iblk m c 3 t (ix2 k L) : EReal) = (args m c).w (ix2 k (⟨672 + (L : ℕ), by omega⟩ : Fin 6048)) := by
  refine Eq.trans ?_ (w_at m c k L)
  blk_simp [iblk]
  refine congrArg _ ?_
  blk_ext [e3]

theorem b4 (c : Dev nD) (t : Fin cfg0.N) (L : Fin 1792) : (iblk m c 4 t (ix2 0 L) : EReal) = (args m c).mu (ix1 L) := by
  refine Eq.trans ?_ (mu_at m c L)
  blk_simp [iblk]
  refine congrArg _ ?_
  blk_ext [e4]

theorem b5 (c : Dev nD) (t : Fin cfg0.N) (l : Fin 512) : (iblk m c 5 t (ix2 0 l) : EReal) = (args m c).w0 (ix1 l) := by
  refine Eq.trans ?_ (w0_at m c l)
  blk_simp [iblk]
  refine congrArg _ ?_
  blk_ext [e5]

theorem b6_low (c : Dev nD) (t : Fin cfg0.N) (j : Fin 64) (l : Fin 512) : (iblk m c 6 t (ix2 (⟨j, by omega⟩ : Fin 128) l) : EReal) = (args m c).wu (ix2 j l) := by
  refine Eq.trans ?_ (wu_low m c j l)
  blk_simp [iblk]
  refine congrArg _ ?_
  blk_ext [e6]

theorem b6_high (c : Dev nD) (t : Fin cfg0.N) (j : Fin 128) (l : Fin 512) (h : 64 ≤ (j : ℕ)) : (iblk m c 6 t (ix2 j l) : EReal) = (0 : EReal) := by
  refine Eq.trans ?_ (wu_high m c j l h)
  blk_simp [iblk]
  refine congrArg _ ?_
  blk_ext [e6]

theorem b7 (c : Dev nD) (t : Fin cfg0.N) (l : Fin 512) : (iblk m c 7 t (ix2 0 l) : EReal) = (args m c).a0 (ix1 l) := by
  refine Eq.trans ?_ (a0_at m c l)
  blk_simp [iblk]
  refine congrArg _ ?_
  blk_ext [e7]

theorem b8_low (c : Dev nD) (t : Fin cfg0.N) (j : Fin 128) (l : Fin 512) (h : (j : ℕ) < 64) : (iblk m c 8 t (ix2 j l) : EReal) = (0 : EReal) := by
  refine Eq.trans ?_ (au_low m c j l h)
  blk_simp [iblk]
  refine congrArg _ ?_
  blk_ext [e8]

theorem b8_high (c : Dev nD) (t : Fin cfg0.N) (j : Fin 64) (l : Fin 512) : (iblk m c 8 t (ix2 (⟨64 + (j : ℕ), by omega⟩ : Fin 128) l) : EReal) = (args m c).au (ix2 j l) := by
  refine Eq.trans ?_ (au_high m c j l)
  blk_simp [iblk]
  refine congrArg _ ?_
  blk_ext [e8]

theorem b9 (c : Dev nD) (t : Fin cfg0.N) (j : Fin 128) (l : Fin 512) : (iblk m c 9 t (ix2 j l) : EReal) = (args m c).gu (ix2 j l) := by
  refine Eq.trans ?_ (gu_at m c j l)
  blk_simp [iblk]
  refine congrArg _ ?_
  blk_ext [e9]

theorem b10 (c : Dev nD) (t : Fin cfg0.N) (l : Fin 512) : (iblk m c 10 t (ix2 0 l) : EReal) = (args m c).kk (ix1 l) := by
  refine Eq.trans ?_ (kk_at m c l)
  blk_simp [iblk]
  refine congrArg _ ?_
  blk_ext [e10]

theorem b11 (c : Dev nD) (t : Fin cfg0.N) (l : Fin 512) : (iblk m c 11 t (ix2 0 l) : EReal) = (args m c).ka (ix1 l) := by
  refine Eq.trans ?_ (ka_at m c l)
  blk_simp [iblk]
  refine congrArg _ ?_
  blk_ext [e11]

theorem b12 (c : Dev nD) (t : Fin cfg0.N) (l : Fin 512) : (iblk m c 12 t (ix2 0 l) : EReal) = rkl (args m c) l := by
  refine Eq.trans ?_ (rk_at m c l)
  blk_simp [iblk]
  refine congrArg _ ?_
  blk_ext [e12]

theorem b13 (c : Dev nD) (t : Fin cfg0.N) (j l : Fin 512) : (iblk m c 13 t (ix2 j l) : EReal) = heads j l := by
  refine Eq.trans ?_ (heads_at m c j l)
  blk_simp [iblk]
  refine congrArg _ ?_
  blk_ext [e13]

theorem b14 (c : Dev nD) (t : Fin cfg0.N) (j l : Fin 128) : (iblk m c 14 t (ix2 j l) : EReal) = tri j l := by
  refine Eq.trans ?_ (tri_at m c j l)
  blk_simp [iblk]
  refine congrArg _ ?_
  blk_ext [e14]

/-- The block's rows are the sequence's. -/
theorem g_proj (c : Dev nD) (t : Fin cfg0.N) (r : Fin 512) (L : Fin 1792) (b : Fin 16) (T : Fin 2048) (hb : (b : ℕ) = (grid0.coords t 0).val)
    (hT : (T : ℕ) = (grid0.coords t 1).val * 512 + r) : projB (iblk m c 0 t) (iblk m c 3 t) r L = proj (args m c) b T L := by
  unfold projB proj
  refine Finset.sum_congr rfl fun k _ => congrArg₂ (fun a b : EReal => a * b) (b0 m c t r k _ ?_) (b3 m c t k L)
  show (b : ℕ) * 2048 + T = _
  omega

theorem g_prev (c : Dev nD) (t : Fin cfg0.N) (r : Fin 512) (L : Fin 1792) (b : Fin 16) (T : Fin 2048) (hb : (b : ℕ) = (grid0.coords t 0).val)
    (hT : (T : ℕ) = (grid0.coords t 1).val * 512 + r) :
    prevB (grid0.coords t) (iblk m c 0 t) (iblk m c 3 t) (iblk m c 1 t) (iblk m c 2 t) r L = prev (args m c) b T L := by
  unfold prevB prev
  by_cases h0 : (r : ℕ) = 0
  · rw [if_pos h0]
    by_cases h1 : ((grid0.coords t) 1 : ℕ) = 0
    · rw [if_pos h1, if_pos (by rw [hT, h0, h1])]
      exact b2 m c t L b hb
    · rw [if_neg h1, if_neg (by omega)]
      unfold proj
      refine Finset.sum_congr rfl fun k _ => congrArg₂ (fun a b : EReal => a * b) (b1 m c t 7 k _ ?_) (b3 m c t k L)
      show (b : ℕ) * 2048 + (T - 1) = (((grid0.coords t 0).val * 4 + (grid0.coords t 1).val) * 64 - 1) * 8 + 7
      have h1' : (grid0.coords t 1).val ≠ 0 := h1
      omega
  · rw [if_neg h0, if_neg (by omega)]
    refine g_proj m c t _ L b _ hb ?_
    show (T : ℕ) - 1 = _ + ((r : ℕ) - 1)
    omega

theorem g_mixed (c : Dev nD) (t : Fin cfg0.N) (r : Fin 512) (b : Fin 16) (T : Fin 2048) (hb : (b : ℕ) = (grid0.coords t 0).val)
    (hT : (T : ℕ) = (grid0.coords t 1).val * 512 + r) :
    zB (grid0.coords t) (iblk m c 0 t) (iblk m c 1 t) (iblk m c 2 t) (iblk m c 3 t) (iblk m c 4 t) r = mixed (args m c) b T := by
  funext L
  unfold zB mixed
  rw [g_proj m c t r L b T hb hT, g_prev m c t r L b T hb hT]
  exact congrArg (fun q : EReal => _ + _ * q) (b4 m c t L)

theorem g_ld (c : Dev nD) (t : Fin cfg0.N) (r l : Fin 512) (b : Fin 16) (T : Fin 2048) (hb : (b : ℕ) = (grid0.coords t 0).val)
    (hT : (T : ℕ) = (grid0.coords t 1).val * 512 + r) :
    ldB (grid0.coords t) (iblk m c 0 t) (iblk m c 1 t) (iblk m c 2 t) (iblk m c 3 t) (iblk m c 4 t) (iblk m c 5 t) (iblk m c 6 t) r l = ld (args m c) b T l := by
  unfold ldB ld
  rw [g_mixed m c t r b T hb hT]
  exact congrArg₂ (fun p q => logDecay p q (mixed (args m c) b T) l) (funext fun l => b5 m c t l) (funext fun j => funext fun l => b6_low m c t j l)

theorem g_al (c : Dev nD) (t : Fin cfg0.N) (r : Fin 512) (b : Fin 16) (T : Fin 2048) (hb : (b : ℕ) = (grid0.coords t 0).val)
    (hT : (T : ℕ) = (grid0.coords t 1).val * 512 + r) :
    aB (grid0.coords t) (iblk m c 0 t) (iblk m c 1 t) (iblk m c 2 t) (iblk m c 3 t) (iblk m c 4 t) (iblk m c 7 t) (iblk m c 8 t) r = al (args m c) b T := by
  funext l
  unfold aB al
  rw [g_mixed m c t r b T hb hT]
  exact congrArg₂ (fun p q => rate p q (mixed (args m c) b T) l) (funext fun l => b7 m c t l) (funext fun j => funext fun l => b8_high m c t j l)

theorem g_cum (c : Dev nD) (t : Fin cfg0.N) (r l : Fin 512) (b : Fin 16) (T : Fin 2048) (hb : (b : ℕ) = (grid0.coords t 0).val)
    (hT : (T : ℕ) = (grid0.coords t 1).val * 512 + r) :
    cumB (grid0.coords t) (iblk m c 0 t) (iblk m c 1 t) (iblk m c 2 t) (iblk m c 3 t) (iblk m c 4 t) (iblk m c 5 t) (iblk m c 6 t) r l = cum (args m c) b T l := by
  unfold cumB cum
  refine cum_congr _ _ _ _ (fun n => g_ld m c t _ l b _ hb ?_) ?_
  · show (T : ℕ) / 16 * 16 + n = (grid0.coords t 1).val * 512 + ((r : ℕ) / 16 * 16 + n)
    omega
  · show (r : ℕ) % 16 = T % 16
    omega

end Cert.Tm

end
-- ==== Proof.Tm.Final.lean ====
/- The arrays that the time mixing call leaves. -/
module

public import proofs.«01_k».proof.Proof.Tm.Win

@[expose] public section

set_option maxRecDepth 16384

noncomputable section

namespace Cert.Tm

open Cert.Kernel7Ideal Cert.Kernel7Ideal.Gen
open Idealize.ShloMosaic Idealize.ShloMosaic.TcCoe Cert.Mix Cert.In

variable (m : (ℓ : Loc nD τ sig) → Buf (Elt Ideal) ℓ)

/-- The scaled keys, and the products of the bonus, are numbers. -/
def KeyNum (A : Args) : Prop := ∀ b t l, Num (key_ (mixed A b t) l * A.kk (ix1 l))
def BonNum (A : Args) : Prop := ∀ b t l, Num (rec_ (mixed A b t) l * nk A b t l * rkl A l)

theorem kaf (c : Dev nD) (t : Fin cfg0.N) : (fun l => iblk m c 11 t (ix2 0 l) : Fin 512 → EReal) = fun l => (args m c).ka (ix1 l) :=
  funext fun l => b11 m c t l

theorem kkf (c : Dev nD) (t : Fin cfg0.N) : (fun l => iblk m c 10 t (ix2 0 l) : Fin 512 → EReal) = fun l => (args m c).kk (ix1 l) :=
  funext fun l => b10 m c t l

theorem rkf (c : Dev nD) (t : Fin cfg0.N) : (fun l => iblk m c 12 t (ix2 0 l) : Fin 512 → EReal) = rkl (args m c) :=
  funext fun l => b12 m c t l

theorem guf (c : Dev nD) (t : Fin cfg0.N) :
    (fun j l => iblk m c 9 t (ix2 j l) : Fin 128 → Fin 512 → EReal) = fun j l => (args m c).gu (ix2 j l) :=
  funext fun j => funext fun l => b9 m c t j l

theorem v15 (c : Dev nD) (t : Fin cfg0.N) (r l : Fin 512) (b : Fin 16) (T : Fin 2048) (hb : (b : ℕ) = (grid0.coords t 0).val)
    (hT : (T : ℕ) = (grid0.coords t 1).val * 512 + r) : ((dats m 0 c).after 15 t (ix2 r l) : EReal) = r15 (args m c) b T l := by
  rw [after0_15]
  refine (o15 _ _ _ _ _ _ _ _ _ _ _ _ _ _ _ _ (fun j l h => b6_high m c t j l h) (b14 m c t) r l).trans ?_
  rw [g_mixed m c t r b T hb hT, g_cum m c t r l b T hb hT]
  rfl

theorem final15 (c : Dev nD) : (dats m 0 c).arrAt 15 cfg0.N = fun i : S2048x8192.Idx => byTime (r15 (args m c)) (i 0) (i 1) := by
  refine (dats m 0 c).arrAt_eq_of_covers 15 _ (by decide +kernel) fun t hf y => ?_
  blk_simp
  obtain ⟨r, l, rfl⟩ : ∃ (r : Fin 512) (l : Fin 512), y = ix2 r l := ⟨y 0, y 1, by funext a; match a with | ⟨0, _⟩ => rfl | ⟨1, _⟩ => rfl⟩
  have hl := l.isLt; have hr := r.isLt
  have hi : (grid0.coords t 1).val < 4 := (grid0.coords t 1).isLt
  have hB : (grid0.coords t 0).val < 16 := (grid0.coords t 0).isLt
  have hR : ((((win0_15.blk t).view.emb (ix2 r l)) 0 : Fin 2048) : ℕ) = (grid0.coords t 1).val * 512 + r := by
    blk_simp [e15]
  have hC : ((((win0_15.blk t).view.emb (ix2 r l)) 1 : Fin 8192) : ℕ) = (grid0.coords t 0).val * 512 + l := by
    blk_simp [e15]
  generalize (((win0_15.blk t).view.emb (ix2 r l)) 0 : Fin 2048) = R at hR ⊢
  generalize (((win0_15.blk t).view.emb (ix2 r l)) 1 : Fin 8192) = C at hC ⊢
  have hC' : (C : ℕ) < 8192 := C.isLt
  refine (v15 m c t r l ⟨(C : ℕ) / 512, by omega⟩ R (by show (C : ℕ) / 512 = _; omega) hR).trans ?_
  exact congrArg (r15 (args m c) _ R) (Fin.ext (show (l : ℕ) = (C : ℕ) % 512 by omega))

theorem v16 (c : Dev nD) (t : Fin cfg0.N) (r l : Fin 512) (b : Fin 16) (T : Fin 2048) (hb : (b : ℕ) = (grid0.coords t 0).val)
    (hT : (T : ℕ) = (grid0.coords t 1).val * 512 + r) : ((dats m 0 c).after 16 t (ix2 r l) : EReal) = r16 (args m c) b T l := by
  rw [after0_16]
  refine (o16 _ _ _ _ _ _ _ _ _ _ _ _ _ _ _ _ (fun j l h => b6_high m c t j l h) (b14 m c t) r l).trans ?_
  rw [g_cum m c t r l b T hb hT]
  rfl

theorem final16 (c : Dev nD) : (dats m 0 c).arrAt 16 cfg0.N = fun i : S2048x8192.Idx => byTime (r16 (args m c)) (i 0) (i 1) := by
  refine (dats m 0 c).arrAt_eq_of_covers 16 _ (by decide +kernel) fun t hf y => ?_
  blk_simp
  obtain ⟨r, l, rfl⟩ : ∃ (r : Fin 512) (l : Fin 512), y = ix2 r l := ⟨y 0, y 1, by funext a; match a with | ⟨0, _⟩ => rfl | ⟨1, _⟩ => rfl⟩
  have hl := l.isLt; have hr := r.isLt
  have hi : (grid0.coords t 1).val < 4 := (grid0.coords t 1).isLt
  have hB : (grid0.coords t 0).val < 16 := (grid0.coords t 0).isLt
  have hR : ((((win0_16.blk t).view.emb (ix2 r l)) 0 : Fin 2048) : ℕ) = (grid0.coords t 1).val * 512 + r := by
    blk_simp [e16]
  have hC : ((((win0_16.blk t).view.emb (ix2 r l)) 1 : Fin 8192) : ℕ) = (grid0.coords t 0).val * 512 + l := by
    blk_simp [e16]
  generalize (((win0_16.blk t).view.emb (ix2 r l)) 0 : Fin 2048) = R at hR ⊢
  generalize (((win0_16.blk t).view.emb (ix2 r l)) 1 : Fin 8192) = C at hC ⊢
  have hC' : (C : ℕ) < 8192 := C.isLt
  refine (v16 m c t r l ⟨(C : ℕ) / 512, by omega⟩ R (by show (C : ℕ) / 512 = _; omega) hR).trans ?_
  exact congrArg (r16 (args m c) _ R) (Fin.ext (show (l : ℕ) = (C : ℕ) % 512 by omega))

theorem v17 (c : Dev nD) (t : Fin cfg0.N) (r l : Fin 512) (b : Fin 16) (T : Fin 2048) (hb : (b : ℕ) = (grid0.coords t 0).val)
    (hT : (T : ℕ) = (grid0.coords t 1).val * 512 + r) : ((dats m 0 c).after 17 t (ix2 r l) : EReal) = r17 (args m c) b T l := by
  rw [after0_17]
  refine (o17 _ _ _ _ _ _ _ _ _ _ _ _ _ _ _ _ (fun j l h => b6_high m c t j l h) (b14 m c t) (fun j l h => b8_low m c t j l h) r l).trans ?_
  rw [kaf m c t, g_al m c t r b T hb hT, g_mixed m c t r b T hb hT, g_cum m c t r l b T hb hT]
  rfl

theorem final17 (c : Dev nD) : (dats m 0 c).arrAt 17 cfg0.N = fun i : S2048x8192.Idx => byTime (r17 (args m c)) (i 0) (i 1) := by
  refine (dats m 0 c).arrAt_eq_of_covers 17 _ (by decide +kernel) fun t hf y => ?_
  blk_simp
  obtain ⟨r, l, rfl⟩ : ∃ (r : Fin 512) (l : Fin 512), y = ix2 r l := ⟨y 0, y 1, by funext a; match a with | ⟨0, _⟩ => rfl | ⟨1, _⟩ => rfl⟩
  have hl := l.isLt; have hr := r.isLt
  have hi : (grid0.coords t 1).val < 4 := (grid0.coords t 1).isLt
  have hB : (grid0.coords t 0).val < 16 := (grid0.coords t 0).isLt
  have hR : ((((win0_17.blk t).view.emb (ix2 r l)) 0 : Fin 2048) : ℕ) = (grid0.coords t 1).val * 512 + r := by
    blk_simp [e17]
  have hC : ((((win0_17.blk t).view.emb (ix2 r l)) 1 : Fin 8192) : ℕ) = (grid0.coords t 0).val * 512 + l := by
    blk_simp [e17]
  generalize (((win0_17.blk t).view.emb (ix2 r l)) 0 : Fin 2048) = R at hR ⊢
  generalize (((win0_17.blk t).view.emb (ix2 r l)) 1 : Fin 8192) = C at hC ⊢
  have hC' : (C : ℕ) < 8192 := C.isLt
  refine (v17 m c t r l ⟨(C : ℕ) / 512, by omega⟩ R (by show (C : ℕ) / 512 = _; omega) hR).trans ?_
  exact congrArg (r17 (args m c) _ R) (Fin.ext (show (l : ℕ) = (C : ℕ) % 512 by omega))

theorem v18 (c : Dev nD) (t : Fin cfg0.N) (r l : Fin 512) (b : Fin 16) (T : Fin 2048) (hb : (b : ℕ) = (grid0.coords t 0).val)
    (hT : (T : ℕ) = (grid0.coords t 1).val * 512 + r) : ((dats m 0 c).after 18 t (ix2 r l) : EReal) = r18 (args m c) b T l := by
  rw [after0_18]
  refine (o18 _ _ _ _ _ _ _ _ _ _ _ _ _ _ _ _ r l).trans ?_
  rw [g_mixed m c t r b T hb hT]
  rfl

theorem final18 (c : Dev nD) : (dats m 0 c).arrAt 18 cfg0.N = fun i : S2048x8192.Idx => byTime (r18 (args m c)) (i 0) (i 1) := by
  refine (dats m 0 c).arrAt_eq_of_covers 18 _ (by decide +kernel) fun t hf y => ?_
  blk_simp
  obtain ⟨r, l, rfl⟩ : ∃ (r : Fin 512) (l : Fin 512), y = ix2 r l := ⟨y 0, y 1, by funext a; match a with | ⟨0, _⟩ => rfl | ⟨1, _⟩ => rfl⟩
  have hl := l.isLt; have hr := r.isLt
  have hi : (grid0.coords t 1).val < 4 := (grid0.coords t 1).isLt
  have hB : (grid0.coords t 0).val < 16 := (grid0.coords t 0).isLt
  have hR : ((((win0_18.blk t).view.emb (ix2 r l)) 0 : Fin 2048) : ℕ) = (grid0.coords t 1).val * 512 + r := by
    blk_simp [e18]
  have hC : ((((win0_18.blk t).view.emb (ix2 r l)) 1 : Fin 8192) : ℕ) = (grid0.coords t 0).val * 512 + l := by
    blk_simp [e18]
  generalize (((win0_18.blk t).view.emb (ix2 r l)) 0 : Fin 2048) = R at hR ⊢
  generalize (((win0_18.blk t).view.emb (ix2 r l)) 1 : Fin 8192) = C at hC ⊢
  have hC' : (C : ℕ) < 8192 := C.isLt
  refine (v18 m c t r l ⟨(C : ℕ) / 512, by omega⟩ R (by show (C : ℕ) / 512 = _; omega) hR).trans ?_
  exact congrArg (r18 (args m c) _ R) (Fin.ext (show (l : ℕ) = (C : ℕ) % 512 by omega))

theorem v19 (c : Dev nD) (t : Fin cfg0.N) (r l : Fin 512) (b : Fin 16) (T : Fin 2048) (hb : (b : ℕ) = (grid0.coords t 0).val)
    (hT : (T : ℕ) = (grid0.coords t 1).val * 512 + r) (hK : KeyNum (args m c)) : ((dats m 0 c).after 19 t (ix2 r l) : EReal) = r19 (args m c) b T l := by
  rw [after0_19]
  refine (o19 _ _ _ _ _ _ _ _ _ _ _ _ _ _ _ _ (fun j l h => b6_high m c t j l h) (b14 m c t) (b13 m c t) r (fun l => by rw [g_mixed m c t r b T hb hT, show (iblk m c 10 t (ix2 0 l) : EReal) = _ from b10 m c t l]; exact hK b T l) l).trans ?_
  rw [kkf m c t, g_mixed m c t r b T hb hT, g_cum m c t r l b T hb hT, g_ld m c t r l b T hb hT]
  rfl

theorem final19 (c : Dev nD) (hK : KeyNum (args m c)) : (dats m 0 c).arrAt 19 cfg0.N = fun i : S2048x8192.Idx => byTime (r19 (args m c)) (i 0) (i 1) := by
  refine (dats m 0 c).arrAt_eq_of_covers 19 _ (by decide +kernel) fun t hf y => ?_
  blk_simp
  obtain ⟨r, l, rfl⟩ : ∃ (r : Fin 512) (l : Fin 512), y = ix2 r l := ⟨y 0, y 1, by funext a; match a with | ⟨0, _⟩ => rfl | ⟨1, _⟩ => rfl⟩
  have hl := l.isLt; have hr := r.isLt
  have hi : (grid0.coords t 1).val < 4 := (grid0.coords t 1).isLt
  have hB : (grid0.coords t 0).val < 16 := (grid0.coords t 0).isLt
  have hR : ((((win0_19.blk t).view.emb (ix2 r l)) 0 : Fin 2048) : ℕ) = (grid0.coords t 1).val * 512 + r := by
    blk_simp [e19]
  have hC : ((((win0_19.blk t).view.emb (ix2 r l)) 1 : Fin 8192) : ℕ) = (grid0.coords t 0).val * 512 + l := by
    blk_simp [e19]
  generalize (((win0_19.blk t).view.emb (ix2 r l)) 0 : Fin 2048) = R at hR ⊢
  generalize (((win0_19.blk t).view.emb (ix2 r l)) 1 : Fin 8192) = C at hC ⊢
  have hC' : (C : ℕ) < 8192 := C.isLt
  refine (v19 m c t r l ⟨(C : ℕ) / 512, by omega⟩ R (by show (C : ℕ) / 512 = _; omega) hR hK).trans ?_
  exact congrArg (r19 (args m c) _ R) (Fin.ext (show (l : ℕ) = (C : ℕ) % 512 by omega))

theorem v20 (c : Dev nD) (t : Fin cfg0.N) (r l : Fin 512) (b : Fin 16) (T : Fin 2048) (hb : (b : ℕ) = (grid0.coords t 0).val)
    (hT : (T : ℕ) = (grid0.coords t 1).val * 512 + r) (hK : KeyNum (args m c)) : ((dats m 0 c).after 20 t (ix2 r l) : EReal) = r20 (args m c) b T l := by
  rw [after0_20]
  refine (o20 _ _ _ _ _ _ _ _ _ _ _ _ _ _ _ _ (fun j l h => b6_high m c t j l h) (b14 m c t) (fun j l h => b8_low m c t j l h) (b13 m c t) r (fun l => by rw [g_mixed m c t r b T hb hT, show (iblk m c 10 t (ix2 0 l) : EReal) = _ from b10 m c t l]; exact hK b T l) l).trans ?_
  rw [kkf m c t, g_mixed m c t r b T hb hT, g_al m c t r b T hb hT, g_cum m c t r l b T hb hT]
  rfl

theorem final20 (c : Dev nD) (hK : KeyNum (args m c)) : (dats m 0 c).arrAt 20 cfg0.N = fun i : S2048x8192.Idx => byTime (r20 (args m c)) (i 0) (i 1) := by
  refine (dats m 0 c).arrAt_eq_of_covers 20 _ (by decide +kernel) fun t hf y => ?_
  blk_simp
  obtain ⟨r, l, rfl⟩ : ∃ (r : Fin 512) (l : Fin 512), y = ix2 r l := ⟨y 0, y 1, by funext a; match a with | ⟨0, _⟩ => rfl | ⟨1, _⟩ => rfl⟩
  have hl := l.isLt; have hr := r.isLt
  have hi : (grid0.coords t 1).val < 4 := (grid0.coords t 1).isLt
  have hB : (grid0.coords t 0).val < 16 := (grid0.coords t 0).isLt
  have hR : ((((win0_20.blk t).view.emb (ix2 r l)) 0 : Fin 2048) : ℕ) = (grid0.coords t 1).val * 512 + r := by
    blk_simp [e20]
  have hC : ((((win0_20.blk t).view.emb (ix2 r l)) 1 : Fin 8192) : ℕ) = (grid0.coords t 0).val * 512 + l := by
    blk_simp [e20]
  generalize (((win0_20.blk t).view.emb (ix2 r l)) 0 : Fin 2048) = R at hR ⊢
  generalize (((win0_20.blk t).view.emb (ix2 r l)) 1 : Fin 8192) = C at hC ⊢
  have hC' : (C : ℕ) < 8192 := C.isLt
  refine (v20 m c t r l ⟨(C : ℕ) / 512, by omega⟩ R (by show (C : ℕ) / 512 = _; omega) hR hK).trans ?_
  exact congrArg (r20 (args m c) _ R) (Fin.ext (show (l : ℕ) = (C : ℕ) % 512 by omega))

theorem v21 (c : Dev nD) (t : Fin cfg0.N) (r l : Fin 512) (b : Fin 16) (T : Fin 2048) (hb : (b : ℕ) = (grid0.coords t 0).val)
    (hT : (T : ℕ) = (grid0.coords t 1).val * 512 + r) : ((dats m 0 c).after 21 t (ix2 r l) : EReal) = r21 (args m c) b T l := by
  rw [after0_21]
  refine (o21 _ _ _ _ _ _ _ _ _ _ _ _ _ _ _ _ r l).trans ?_
  rw [guf m c t, g_mixed m c t r b T hb hT]
  rfl

theorem final21 (c : Dev nD) : (dats m 0 c).arrAt 21 cfg0.N = fun i : S32768x512.Idx => byRow (r21 (args m c)) (i 0) (i 1) := by
  refine (dats m 0 c).arrAt_eq_of_covers 21 _ (by decide +kernel) fun t hf y => ?_
  blk_simp
  obtain ⟨r, l, rfl⟩ : ∃ (r : Fin 512) (l : Fin 512), y = ix2 r l := ⟨y 0, y 1, by funext a; match a with | ⟨0, _⟩ => rfl | ⟨1, _⟩ => rfl⟩
  have hl := l.isLt; have hr := r.isLt
  have hi : (grid0.coords t 1).val < 4 := (grid0.coords t 1).isLt
  have hB : (grid0.coords t 0).val < 16 := (grid0.coords t 0).isLt
  have hR : ((((win0_21.blk t).view.emb (ix2 r l)) 0 : Fin 32768) : ℕ) = ((grid0.coords t 0).val * 4 + (grid0.coords t 1).val) * 512 + r := by
    blk_simp [e21]
  have hC : ((((win0_21.blk t).view.emb (ix2 r l)) 1 : Fin 512) : ℕ) = l := by
    blk_simp [e21]
  generalize (((win0_21.blk t).view.emb (ix2 r l)) 0 : Fin 32768) = R at hR ⊢
  generalize (((win0_21.blk t).view.emb (ix2 r l)) 1 : Fin 512) = C at hC ⊢
  have hR' : (R : ℕ) < 32768 := R.isLt
  refine (v21 m c t r l ⟨(R : ℕ) / 2048, by omega⟩ ⟨(R : ℕ) % 2048, by omega⟩ (by show (R : ℕ) / 2048 = _; omega) (by show (R : ℕ) % 2048 = _; omega)).trans ?_
  exact congrArg (r21 (args m c) _ _) (Fin.ext hC.symm)

theorem v22 (c : Dev nD) (t : Fin cfg0.N) (r l : Fin 512) (b : Fin 16) (T : Fin 2048) (hb : (b : ℕ) = (grid0.coords t 0).val)
    (hT : (T : ℕ) = (grid0.coords t 1).val * 512 + r) (hQ : BonNum (args m c)) : ((dats m 0 c).after 22 t (ix2 r l) : EReal) = bon (args m c) b T l := by
  rw [after0_22]
  refine (o22 _ _ _ _ _ _ _ _ _ _ _ _ _ _ _ _ (fun j l h => b8_low m c t j l h) (b13 m c t) r (fun l => by rw [kaf m c t, g_al m c t r b T hb hT, g_mixed m c t r b T hb hT, show (iblk m c 12 t (ix2 0 l) : EReal) = _ from b12 m c t l]; exact hQ b T l) l).trans ?_
  rw [kaf m c t, rkf m c t, g_al m c t r b T hb hT, g_mixed m c t r b T hb hT]
  rfl

theorem final22 (c : Dev nD) (hQ : BonNum (args m c)) : (dats m 0 c).arrAt 22 cfg0.N = fun i : S32768x512.Idx => byRow (bon (args m c)) (i 0) (i 1) := by
  refine (dats m 0 c).arrAt_eq_of_covers 22 _ (by decide +kernel) fun t hf y => ?_
  blk_simp
  obtain ⟨r, l, rfl⟩ : ∃ (r : Fin 512) (l : Fin 512), y = ix2 r l := ⟨y 0, y 1, by funext a; match a with | ⟨0, _⟩ => rfl | ⟨1, _⟩ => rfl⟩
  have hl := l.isLt; have hr := r.isLt
  have hi : (grid0.coords t 1).val < 4 := (grid0.coords t 1).isLt
  have hB : (grid0.coords t 0).val < 16 := (grid0.coords t 0).isLt
  have hR : ((((win0_22.blk t).view.emb (ix2 r l)) 0 : Fin 32768) : ℕ) = ((grid0.coords t 0).val * 4 + (grid0.coords t 1).val) * 512 + r := by
    blk_simp [e22]
  have hC : ((((win0_22.blk t).view.emb (ix2 r l)) 1 : Fin 512) : ℕ) = l := by
    blk_simp [e22]
  generalize (((win0_22.blk t).view.emb (ix2 r l)) 0 : Fin 32768) = R at hR ⊢
  generalize (((win0_22.blk t).view.emb (ix2 r l)) 1 : Fin 512) = C at hC ⊢
  have hR' : (R : ℕ) < 32768 := R.isLt
  refine (v22 m c t r l ⟨(R : ℕ) / 2048, by omega⟩ ⟨(R : ℕ) % 2048, by omega⟩ (by show (R : ℕ) / 2048 = _; omega) (by show (R : ℕ) % 2048 = _; omega) hQ).trans ?_
  exact congrArg (bon (args m c) _ _) (Fin.ext hC.symm)

theorem last23 : ∀ t : Fin cfg0.N, (cfg0.win 23).flush t = true → (grid0.coords t 1).val = 3 := (by decide +kernel : ∀ t : Fin grid0.N, _)

theorem final23 (c : Dev nD) : (dats m 0 c).arrAt 23 cfg0.N = fun i : S16x1x1792.Idx => proj (args m c) (i 0) 2047 (i 2) := by
  refine (dats m 0 c).arrAt_eq_of_covers 23 _ (by decide +kernel) fun t hf y => ?_
  blk_simp
  rw [after0_23]
  obtain ⟨L, rfl⟩ : ∃ L : Fin 1792, y = ix3 0 0 L := ⟨y 2, by
    funext a
    match a with
    | ⟨0, _⟩ => exact Subsingleton.elim (α := Fin 1) _ _
    | ⟨1, _⟩ => exact Subsingleton.elim (α := Fin 1) _ _
    | ⟨2, _⟩ => rfl⟩
  have hlast : (grid0.coords t 1).val = 3 := by
    exact last23 t hf
  have hR : ((((win0_23.blk t).view.emb (ix3 0 0 L)) 0 : Fin 16) : ℕ) = (grid0.coords t 0).val := by
    blk_simp [e23]
    rfl
  have hC : ((((win0_23.blk t).view.emb (ix3 0 0 L)) 2 : Fin 1792) : ℕ) = L := by
    blk_simp [e23]
  generalize (((win0_23.blk t).view.emb (ix3 0 0 L)) 0 : Fin 16) = R at hR ⊢
  generalize (((win0_23.blk t).view.emb (ix3 0 0 L)) 2 : Fin 1792) = C at hC ⊢
  refine (o23 _ _ _ _ _ _ _ _ _ _ _ _ _ _ _ _ L).trans ((g_proj m c t 511 L R 2047 hR ?_).trans (congrArg (proj (args m c) R 2047) (Fin.ext hC.symm)))
  rw [hlast]
  rfl

end Cert.Tm

end
-- ==== Proof.Tm.Pre.lean ====
module

public import proofs.«01_k».proof.Defs
public import proofs.«01_k».proof.Proof.Tm.Final
public import proofs.«01_k».proof.Proof.In.Pre

@[expose] public section

noncomputable section

/-! The precondition says that every entry of the rows, of the input weights, of the rows before the first, of the mixing coefficients and of the
parameters of the removal key, the new key and the bonus is a number: so the products that the head sums take are numbers. -/

namespace Cert.Tm
open Idealize.ShloMosaic Cert.Mix Cert.In

theorem facts_pre : Cert.Pre_projected.Facts := by
  constructor
  all_goals decide

/-- The arguments that reach a head sum are numbers. -/
structure Nums (A : Args) : Prop where
  x : ∀ i, Num (A.x i)
  w : ∀ i, Num (A.w i)
  sh : ∀ i, Num (A.sh i)
  mu : ∀ i, Num (A.mu i)
  kk : ∀ i, Num (A.kk i)
  ka : ∀ i, Num (A.ka i)
  rk : ∀ i, Num (A.rk i)

theorem nums (inst : Cert.Pre_projected.Facts) (A : Args)
    (h : Cert.Pre_projected.fn (F := Ideal) A.x A.w A.sh A.mu A.w0 A.wu A.a0 A.au A.gu A.kk A.ka A.rk = fun _ => 1#1) : Nums A := by
  haveI : Subsingleton Cert.Pre_projected.S_.Idx := ⟨fun a b => funext fun k => k.elim0⟩
  obtain ⟨h, e6⟩ := Cert.Att.andi_one _ _ (congrFun h (fun k => k.elim0))
  obtain ⟨h, e5⟩ := Cert.Att.andi_one _ _ h
  obtain ⟨h, e4⟩ := Cert.Att.andi_one _ _ h
  obtain ⟨h, e3⟩ := Cert.Att.andi_one _ _ h
  obtain ⟨h, e2⟩ := Cert.Att.andi_one _ _ h
  obtain ⟨e0, e1⟩ := Cert.Att.andi_one _ _ h
  exact ⟨fun i => num_of _ (Host.reduce_andi_all _ _ _ _ _ e0 i), fun i => num_of _ (Host.reduce_andi_all _ _ _ _ _ e1 i),
    fun i => num_of _ (Host.reduce_andi_all _ _ _ _ _ e2 i), fun i => num_of _ (Host.reduce_andi_all _ _ _ _ _ e3 i),
    fun i => num_of _ (Host.reduce_andi_all _ _ _ _ _ e4 i), fun i => num_of _ (Host.reduce_andi_all _ _ _ _ _ e5 i),
    fun i => num_of _ (Host.reduce_andi_all _ _ _ _ _ e6 i)⟩

variable {A : Args} (h : Nums A)
include h

theorem num_proj (b : Fin 16) (t : Fin 2048) (L : Fin 1792) : Num (proj A b t L) := num_sum _ _ (fun _ => h.x _) (fun _ => h.w _)

theorem num_mixed (b : Fin 16) (t : Fin 2048) (L : Fin 1792) : Num (mixed A b t L) := by
  refine Num.add (num_proj h b t L) (Num.mul (Num.sub ?_ (num_proj h b t L)) (h.mu _))
  unfold prev
  by_cases q : (t : ℕ) = 0
  · rw [if_pos q]
    exact h.sh _
  · rw [if_neg q]
    exact num_proj h b _ L

theorem keyNum : KeyNum A := fun b t _ => Num.mul (num_mixed h b t _) (h.kk _)

theorem bonNum : BonNum A := fun b t _ =>
  Num.mul (Num.mul (num_mixed h b t _) (Num.mul (num_mixed h b t _) (Num.add num_one (Num.mul (Num.sub (num_sg _) num_one) (h.ka _))))) (h.rk _)

end Cert.Tm

end
-- ==== Proof.Tm.RefRow.lean ====
/- The reference's values of the time mixing's inputs. -/
module

public import proofs.«01_k».proof.Proof.Gen.Reference7Ideal.Read
public import proofs.«01_k».proof.Proof.Tm.Spec
public import Idealize.ShloMosaic.Lib.StableHlo.RunRead
public import Idealize.ShloMosaic.Lib.Pipeline.ValueKit.Geometry
public import Idealize.ShloMosaic.PureOps.Ideal
public import Idealize.ShloMosaic.Lib.Pointwise
public import Idealize.ShloMosaic.Lib.IdealHost

@[expose] public section

set_option maxRecDepth 16384

noncomputable section

namespace Cert.Tm.Ref

open Cert.Reference7Ideal Cert.Reference7Ideal.Gen Cert.Reference7Ideal.Read
open Idealize.ShloMosaic Idealize.ShloMosaic.TcCoe Cert.Mix Cert.In

variable (A : Args)

theorem r2 (b : Fin 16) (t : Fin 2048) (L : Fin 1792) : (val_main_v2 (F := Ideal) A.x A.w (ix3 b t L) : EReal) = proj A b t L := by
  unfold val_main_v2 proj
  pointwise
  rw [val_main_v1_apply]
  refine Finset.sum_congr rfl fun k _ => ?_
  rw [val_main_v0_apply]
  refine congrArg₂ (fun a b : EReal => a * b) (congrArg A.x ?_) (congrArg A.w ?_)
  · funext a
    match a with
    | ⟨0, _⟩ => rfl
    | ⟨1, _⟩ => rfl
  · funext a
    apply Fin.ext
    match a with
    | ⟨0, _⟩ => rfl
    | ⟨1, _⟩ => first | rfl | (simp [ix2]; omega)

theorem r5 (b : Fin 16) (t : Fin 2048) (L : Fin 1792) : (val_main_v5 (F := Ideal) A.x A.w A.sh (ix3 b t L) : EReal) = prev A b t L := by
  unfold val_main_v5 val_main_v3 val_main_v4 prev
  pointwise
  by_cases h : (t : ℕ) < 1
  · rw [dif_pos h, if_pos (by omega)]
  · rw [dif_neg h]
    exact (r2 A b _ L).trans (if_neg (fun e : (t : ℕ) = 0 => h (by omega))).symm

theorem r10 (b : Fin 16) (t : Fin 2048) (L : Fin 1792) : (val_main_v10 (F := Ideal) A.x A.w A.sh A.mu (ix3 b t L) : EReal) = mixed A b t L := by
  unfold val_main_v10 val_main_v9 val_main_v8 val_main_v7 val_main_v6 mixed
  pointwise
  rw [r5, r2]

theorem r11 (b : Fin 16) (t : Fin 2048) (l : Fin 512) : (val_main_v11 (F := Ideal) A.x A.w A.sh A.mu (ix3 b t l) : EReal) = rec_ (mixed A b t) l := by
  refine Eq.trans ?_ (r10 A b t _)
  unfold val_main_v11
  pointwise

theorem r12 (b : Fin 16) (t : Fin 2048) (l : Fin 512) : (val_main_v12 (F := Ideal) A.x A.w A.sh A.mu (ix3 b t l) : EReal) = key_ (mixed A b t) l := by
  refine Eq.trans ?_ (r10 A b t _)
  unfold val_main_v12
  pointwise

theorem r13 (b : Fin 16) (t : Fin 2048) (l : Fin 512) : (val_main_v13 (F := Ideal) A.x A.w A.sh A.mu (ix3 b t l) : EReal) = val_ (mixed A b t) l := by
  refine Eq.trans ?_ (r10 A b t _)
  unfold val_main_v13
  pointwise

theorem r14 (b : Fin 16) (t : Fin 2048) (l : Fin 64) : (val_main_v14 (F := Ideal) A.x A.w A.sh A.mu (ix3 b t l) : EReal) = mixed A b t ⟨1536 + (l : ℕ), by omega⟩ := by
  refine Eq.trans ?_ (r10 A b t _)
  unfold val_main_v14
  pointwise

theorem r15 (b : Fin 16) (t : Fin 2048) (l : Fin 64) : (val_main_v15 (F := Ideal) A.x A.w A.sh A.mu (ix3 b t l) : EReal) = mixed A b t ⟨1600 + (l : ℕ), by omega⟩ := by
  refine Eq.trans ?_ (r10 A b t _)
  unfold val_main_v15
  pointwise

theorem r16 (b : Fin 16) (t : Fin 2048) (l : Fin 128) : (val_main_v16 (F := Ideal) A.x A.w A.sh A.mu (ix3 b t l) : EReal) = mixed A b t ⟨1664 + (l : ℕ), by omega⟩ := by
  refine Eq.trans ?_ (r10 A b t _)
  unfold val_main_v16
  pointwise

theorem r108 (b : Fin 16) (z : Fin 1) (L : Fin 1792) : (val_main_v108 (F := Ideal) A.x A.w (ix3 b z L) : EReal) = proj A b 2047 L := by
  refine Eq.trans ?_ (r2 A b 2047 L)
  unfold val_main_v108
  pointwise

end Cert.Tm.Ref

end
-- ==== Proof.Tm.RefDecay.lean ====
/- The reference's log decay and its running sum in blocks of sixteen tokens. -/
module

public import proofs.«01_k».proof.Proof.Gen.Reference7Ideal.Read
public import proofs.«01_k».proof.Proof.Tm.Spec
public import proofs.«01_k».proof.Proof.Tm.RefRow
public import Idealize.ShloMosaic.Lib.StableHlo.RunRead
public import Idealize.ShloMosaic.Lib.Pipeline.ValueKit.Geometry
public import Idealize.ShloMosaic.PureOps.Ideal
public import Idealize.ShloMosaic.Lib.Pointwise
public import Idealize.ShloMosaic.Lib.IdealHost

@[expose] public section

set_option maxRecDepth 16384

noncomputable section

namespace Cert.Tm.Ref

open Cert.Reference7Ideal Cert.Reference7Ideal.Gen Cert.Reference7Ideal.Read
open Idealize.ShloMosaic Idealize.ShloMosaic.TcCoe Cert.Mix Cert.In

variable (A : Args)

theorem e18l (b : Fin 16) (t : Fin 2048) (l : Fin 512) (k : Fin 64) : lidx_main_v18 (ix3 b t l) k = ix3 b t k := by
  funext a
  match a with
  | ⟨0, _⟩ => rfl
  | ⟨1, _⟩ => rfl
  | ⟨2, _⟩ => rfl

theorem e18r (b : Fin 16) (t : Fin 2048) (l : Fin 512) (k : Fin 64) : ridx_main_v18 (ix3 b t l) k = ix2 k l := by
  funext a
  match a with
  | ⟨0, _⟩ => rfl
  | ⟨1, _⟩ => rfl

theorem r21 (b : Fin 16) (t : Fin 2048) (l : Fin 512) : (val_main_v21 (F := Ideal) A.x A.w A.sh A.mu A.w0 A.wu (ix3 b t l) : EReal)
    = A.w0 (ix1 l) + ∑ j : Fin 64, Ideal.tanh (mixed A b t ⟨1536 + (j : ℕ), by omega⟩) * A.wu (ix2 j l) := by
  rw [val_main_v21_apply, val_main_v18_apply]
  unfold val_main_v20 val_main_v19 val_main_v17
  pointwise
  simp only [e18l, e18r, r14]

theorem r28 (b : Fin 16) (t : Fin 2048) (l : Fin 512) : (val_main_v28 (F := Ideal) A.x A.w A.sh A.mu A.w0 A.wu (ix3 b t l) : EReal) = ld A b t l := by
  unfold val_main_v28 val_main_v27 val_main_v26 val_main_v25 val_main_cst val_main_v24 val_main_v23 val_main_call0_v11 val_main_call0_v10 val_main_call0_v9 val_main_call0_v8
    val_main_call0_v7 val_main_call0_v6 val_main_call0_v5 val_main_call0_v4 val_main_call0_v3 val_main_call0_v2 val_main_call0_v1 val_main_call0_v0 val_main_call0_cst val_main_v22
    ld logDecay decay soft
  pointwise
  rw [if_neg (fun h => h rfl), r21]
  rfl

/-- A fold of additions is the sum. -/
theorem fold_add {ι : Type} (f : ι → EReal) (L : List ι) (z : EReal) : L.foldl (fun r n => r + f n) z = z + (L.map f).sum := by
  induction L generalizing z with
  | nil => simp
  | cons a L ih => rw [List.foldl_cons, ih, List.map_cons, List.sum_cons, add_assoc]

abbrev W16 : Shape := ⟨4, ![1, 1, 16, 1]⟩

theorem w_numel : W16.numel = 16 := by decide

theorem w_pos : ∀ n : Fin W16.numel, ((W16.rowMajor.symm n) 0).val = 0 ∧ ((W16.rowMajor.symm n) 1).val = 0 ∧ ((W16.rowMajor.symm n) 2).val = n.val ∧ ((W16.rowMajor.symm n) 3).val = 0 := by
  decide +kernel

theorem win (y : S16x128x16x512.Idx → EReal) (h : S16x128x16x512.ReduceWindows ![1, 1, 16, 1] ![1, 1, 1, 1] ![0, 0, 15, 0] ![0, 0, 0, 0] S16x128x16x512)
    (b : Fin 16) (q : Fin 128) (j : Fin 16) (l : Fin 512) :
    Ideal.hostReduceWindowAdd ![1, 1, 16, 1] ![1, 1, 1, 1] ![0, 0, 15, 0] ![0, 0, 0, 0] h y 0 (ix4 b q j l) = cum16 (fun n => y (ix4 b q n l)) j := by
  rw [← window_sum]
  refine (fold_add _ _ _).trans ?_
  rw [zero_add, ← Fin.sum_univ_def]
  refine Fintype.sum_equiv (finCongr w_numel) _ _ fun n => ?_
  obtain ⟨p0, p1, p2, p3⟩ := w_pos n
  have hn : n.val < 16 := w_numel ▸ n.isLt
  have c0 : (b : ℕ) * 1 + ((W16.rowMajor.symm n) 0).val = b := by omega
  have c1 : (q : ℕ) * 1 + ((W16.rowMajor.symm n) 1).val = q := by omega
  have c2 : (j : ℕ) * 1 + ((W16.rowMajor.symm n) 2).val = j + n := by omega
  have c3 : (l : ℕ) * 1 + ((W16.rowMajor.symm n) 3).val = l := by omega
  by_cases hj : 15 ≤ (j : ℕ) + n
  · have hj' : 15 ≤ (j : ℕ) + ((finCongr w_numel) n).val := hj
    rw [dif_pos hj']
    refine (dif_pos ?_).trans (congrArg y ?_)
    · intro a
      match a with
      | ⟨0, _⟩ =>
        show 0 ≤ (b : ℕ) * 1 + ((W16.rowMajor.symm n) 0).val ∧ (b : ℕ) * 1 + ((W16.rowMajor.symm n) 0).val - 0 < 16
        omega
      | ⟨1, _⟩ =>
        show 0 ≤ (q : ℕ) * 1 + ((W16.rowMajor.symm n) 1).val ∧ (q : ℕ) * 1 + ((W16.rowMajor.symm n) 1).val - 0 < 128
        omega
      | ⟨2, _⟩ =>
        show 15 ≤ (j : ℕ) * 1 + ((W16.rowMajor.symm n) 2).val ∧ (j : ℕ) * 1 + ((W16.rowMajor.symm n) 2).val - 15 < 16
        omega
      | ⟨3, _⟩ =>
        show 0 ≤ (l : ℕ) * 1 + ((W16.rowMajor.symm n) 3).val ∧ (l : ℕ) * 1 + ((W16.rowMajor.symm n) 3).val - 0 < 512
        omega
    · funext a
      apply Fin.ext
      match a with
      | ⟨0, _⟩ =>
        show (b : ℕ) * 1 + ((W16.rowMajor.symm n) 0).val - 0 = b
        omega
      | ⟨1, _⟩ =>
        show (q : ℕ) * 1 + ((W16.rowMajor.symm n) 1).val - 0 = q
        omega
      | ⟨2, _⟩ =>
        show (j : ℕ) * 1 + ((W16.rowMajor.symm n) 2).val - 15 = j + n - 15
        omega
      | ⟨3, _⟩ =>
        show (l : ℕ) * 1 + ((W16.rowMajor.symm n) 3).val - 0 = l
        omega
  · have hj' : ¬ 15 ≤ (j : ℕ) + ((finCongr w_numel) n).val := hj
    rw [dif_neg hj']
    refine (dif_neg fun hin => hj ?_).trans rfl
    have h2 : 15 ≤ (j : ℕ) * 1 + ((W16.rowMajor.symm n) 2).val := (hin 2).1
    omega

theorem r31 (b : Fin 16) (t : Fin 2048) (l : Fin 512) : (val_main_v31 (F := Ideal) A.x A.w A.sh A.mu A.w0 A.wu (ix3 b t l) : EReal) = cum A b t l := by
  unfold val_main_v31
  pointwise
  unfold val_main_v30 Host.reduceWindowAdd
  have hz : (val_main_call1_call0_v0 (F := Ideal) (Shape.Idx.first h_S_) : EReal) = 0 := by
    unfold val_main_call1_call0_v0 val_main_call1_call0_cst
    pointwise
  rw [hz]
  refine (win _ _ b ⟨(t : ℕ) / 16, by omega⟩ ⟨(t : ℕ) % 16, by omega⟩ l).trans ?_
  unfold cum
  refine congrArg (fun f => cum16 f _) (funext fun n => ?_)
  refine Eq.trans ?_ (r28 A b _ l)
  unfold val_main_v29
  pointwise

end Cert.Tm.Ref

end
-- ==== Proof.Tm.RefRate.lean ====
/- The reference's rate, gate, removal key, new key and bonus. -/
module

public import proofs.«01_k».proof.Proof.Gen.Reference7Ideal.Read
public import proofs.«01_k».proof.Proof.Tm.Spec
public import proofs.«01_k».proof.Proof.Tm.RefRow
public import Idealize.ShloMosaic.Lib.StableHlo.RunRead
public import Idealize.ShloMosaic.Lib.Pipeline.ValueKit.Geometry
public import Idealize.ShloMosaic.PureOps.Ideal
public import Idealize.ShloMosaic.Lib.Pointwise
public import Idealize.ShloMosaic.Lib.IdealHost

@[expose] public section

set_option maxRecDepth 16384

noncomputable section

namespace Cert.Tm.Ref

open Cert.Reference7Ideal Cert.Reference7Ideal.Gen Cert.Reference7Ideal.Read
open Idealize.ShloMosaic Idealize.ShloMosaic.TcCoe Cert.Mix Cert.In

variable (A : Args)

theorem e32l (b : Fin 16) (t : Fin 2048) (l : Fin 512) (k : Fin 64) : lidx_main_v32 (ix3 b t l) k = ix3 b t k := by
  funext a
  match a with
  | ⟨0, _⟩ => rfl
  | ⟨1, _⟩ => rfl
  | ⟨2, _⟩ => rfl

theorem e32r (b : Fin 16) (t : Fin 2048) (l : Fin 512) (k : Fin 64) : ridx_main_v32 (ix3 b t l) k = ix2 k l := by
  funext a
  match a with
  | ⟨0, _⟩ => rfl
  | ⟨1, _⟩ => rfl

theorem e48l (b : Fin 16) (t : Fin 2048) (l : Fin 512) (k : Fin 128) : lidx_main_v48 (ix3 b t l) k = ix3 b t k := by
  funext a
  match a with
  | ⟨0, _⟩ => rfl
  | ⟨1, _⟩ => rfl
  | ⟨2, _⟩ => rfl

theorem e48r (b : Fin 16) (t : Fin 2048) (l : Fin 512) (k : Fin 128) : ridx_main_v48 (ix3 b t l) k = ix2 k l := by
  funext a
  match a with
  | ⟨0, _⟩ => rfl
  | ⟨1, _⟩ => rfl

theorem r41 (b : Fin 16) (t : Fin 2048) (l : Fin 512) : (val_main_v41 (F := Ideal) A.x A.w A.sh A.mu A.a0 A.au (ix3 b t l) : EReal) = al A b t l := by
  unfold val_main_v41 val_main_v40 val_main_v39 val_main_v38 val_main_v37 val_main_v36 val_main_v35 val_main_v34 val_main_v33 val_main_cst_0 val_main_cst_1 al rate sg
  pointwise
  rw [val_main_v32_apply]
  simp only [e32l, e32r, r15]

theorem r48 (b : Fin 16) (t : Fin 2048) (l : Fin 512) : (val_main_v48 (F := Ideal) A.x A.w A.sh A.mu A.gu (ix3 b t l) : EReal)
    = gate (fun j l => A.gu (ix2 j l)) (mixed A b t) l := by
  rw [val_main_v48_apply]
  unfold val_main_v47 val_main_v46 val_main_v45 val_main_v44 val_main_v43 val_main_v42 val_main_cst_2 val_main_cst_3 gate sg
  pointwise
  simp only [e48l, e48r, r16]

theorem r69 (b : Fin 16) (t : Fin 2048) (l : Fin 512) : (val_main_v69 (F := Ideal) A.x A.w A.sh A.mu A.a0 A.au A.ka (ix3 b t l) : EReal) = nk A b t l := by
  unfold val_main_v69 val_main_v68 val_main_v67 val_main_v66 val_main_v65 val_main_v64 val_main_v63 val_main_v62 val_main_cst_6 val_main_cst_7 nk newKey
  pointwise
  rw [r12, r41]

theorem r107 (R : Fin 32768) (l : Fin 512) : (val_main_v107 (F := Ideal) A.x A.w A.sh A.mu A.gu (ix2 R l) : EReal) = byRow (Tm.r21 A) R l := by
  unfold val_main_v107 byRow Tm.r21
  pointwise
  rw [r48]

end Cert.Tm.Ref

end
-- ==== Proof.Tm.RefHead.lean ====
/- The reference's removal key and bonus. -/
module

public import proofs.«01_k».proof.Proof.Gen.Reference7Ideal.Read
public import proofs.«01_k».proof.Proof.Tm.Spec
public import proofs.«01_k».proof.Proof.Tm.RefRate
public import Idealize.ShloMosaic.Lib.StableHlo.RunRead
public import Idealize.ShloMosaic.Lib.Pipeline.ValueKit.Geometry
public import Idealize.ShloMosaic.PureOps.Ideal
public import Idealize.ShloMosaic.Lib.Pointwise
public import Idealize.ShloMosaic.Lib.IdealHost

@[expose] public section

set_option maxRecDepth 16384

noncomputable section

namespace Cert.Tm.Ref

open Cert.Reference7Ideal Cert.Reference7Ideal.Gen Cert.Reference7Ideal.Read
open Idealize.ShloMosaic Idealize.ShloMosaic.TcCoe Cert.Mix Cert.In

variable (A : Args)

theorem rkl_lane (h : Fin 8) (n : Fin 64) : rkl A (lane h n) = A.rk (ix2 h n) := by
  unfold rkl
  rw [head_lane]
  exact congrArg A.rk (congrArg (ix2 h) (Fin.ext (show ((h : ℕ) * 64 + n) % 64 = n by omega)))

theorem cst4 : (val_main_cst_4 (F := Ideal) (Shape.Idx.first h_S_) : EReal) = 0 := by
  unfold val_main_cst_4
  pointwise

theorem cst8 : (val_main_cst_8 (F := Ideal) (Shape.Idx.first h_S_) : EReal) = 0 := by
  unfold val_main_cst_8
  pointwise

theorem r61 (b : Fin 16) (t : Fin 2048) (l : Fin 512) : (val_main_v61 (F := Ideal) A.x A.w A.sh A.mu A.kk (ix3 b t l) : EReal) = rem A b t l := by
  unfold val_main_v61 val_main_v60 val_main_v59 val_main_v58 val_main_v57 val_main_v56 val_main_v55 val_main_v52 val_main_v51 val_main_v50 val_main_v49 val_main_cst_5 rem removal
  pointwise
  rw [val_main_v54_apply]
  unfold val_main_v53 val_main_v52 val_main_v51 val_main_v50 val_main_v49
  pointwise
  refine congrArg₂ (fun a b : EReal => a * b) (congrArg₂ (fun a b : EReal => a * b) (r12 A b t l) rfl) (congrArg Ideal.rsqrt (congrArg₂ (fun a b : EReal => a + b) ?_ rfl))
  refine (congrArg₂ (fun a b : EReal => a + b) cst4 (Finset.sum_congr rfl fun x _ => ?_)).trans (zero_add _)
  have e := r12 A b t (lane (head l) x)
  exact congrArg₂ (fun a b : EReal => a * b) (congrArg₂ (fun a b : EReal => a * b) e rfl) (congrArg₂ (fun a b : EReal => a * b) e rfl)

theorem r81 (R : Fin 32768) (l : Fin 512) : (val_main_v81 (F := Ideal) A.x A.w A.sh A.mu A.a0 A.au A.ka A.rk (ix2 R l) : EReal) = byRow (bon A) R l := by
  unfold val_main_v81 val_main_v80 val_main_v79 val_main_v78 val_main_v77 byRow bon bonus
  pointwise
  rw [val_main_v76_apply]
  unfold val_main_v75 val_main_v74 val_main_v73 val_main_v72 val_main_v71 val_main_v70
  pointwise
  refine congrArg₂ (fun a b : EReal => a * b) ?_ (r13 A ⟨(R : ℕ) / 2048, by omega⟩ ⟨(R : ℕ) % 2048, by omega⟩ l)
  refine (congrArg₂ (fun a b : EReal => a + b) cst8 (Finset.sum_congr rfl fun x _ => ?_)).trans (zero_add _)
  exact congrArg₂ (fun a b : EReal => a * b) (congrArg₂ (fun a b : EReal => a * b) (r11 A ⟨(R : ℕ) / 2048, by omega⟩ ⟨(R : ℕ) % 2048, by omega⟩ (lane (head l) x))
    (r69 A ⟨(R : ℕ) / 2048, by omega⟩ ⟨(R : ℕ) % 2048, by omega⟩ (lane (head l) x))) (rkl_lane A (head l) x).symm

end Cert.Tm.Ref

end
-- ==== Proof.Tm.RefTime.lean ====
/- The reference's six results stored with time first. -/
module

public import proofs.«01_k».proof.Proof.Gen.Reference7Ideal.Read
public import proofs.«01_k».proof.Proof.Tm.Spec
public import proofs.«01_k».proof.Proof.Tm.RefDecay
public import proofs.«01_k».proof.Proof.Tm.RefHead
public import Idealize.ShloMosaic.Lib.StableHlo.RunRead
public import Idealize.ShloMosaic.Lib.Pipeline.ValueKit.Geometry
public import Idealize.ShloMosaic.PureOps.Ideal
public import Idealize.ShloMosaic.Lib.Pointwise
public import Idealize.ShloMosaic.Lib.IdealHost

@[expose] public section

set_option maxRecDepth 16384

noncomputable section

namespace Cert.Tm.Ref

open Cert.Reference7Ideal Cert.Reference7Ideal.Gen Cert.Reference7Ideal.Read
open Idealize.ShloMosaic Idealize.ShloMosaic.TcCoe Cert.Mix Cert.In

variable (A : Args)

theorem r85 (t : Fin 2048) (C : Fin 8192) : (val_main_v85 (F := Ideal) A.x A.w A.sh A.mu A.w0 A.wu (ix2 t C) : EReal) = byTime (Tm.r15 A) t C := by
  unfold val_main_v85 val_main_v84 val_main_v83 val_main_v82 byTime Tm.r15
  pointwise
  rw [r11, r31]

theorem r88 (t : Fin 2048) (C : Fin 8192) : (val_main_v88 (F := Ideal) A.x A.w A.sh A.mu A.w0 A.wu (ix2 t C) : EReal) = byTime (Tm.r16 A) t C := by
  unfold val_main_v88 val_main_v87 val_main_v86 byTime Tm.r16
  pointwise
  rw [r31]

theorem r93 (t : Fin 2048) (C : Fin 8192) : (val_main_v93 (F := Ideal) A.x A.w A.sh A.mu A.w0 A.wu A.a0 A.au A.ka (ix2 t C) : EReal) = byTime (Tm.r17 A) t C := by
  unfold val_main_v93 val_main_v92 val_main_v91 val_main_v90 val_main_v89 byTime Tm.r17
  pointwise
  rw [r69, r31]

theorem r95 (t : Fin 2048) (C : Fin 8192) : (val_main_v95 (F := Ideal) A.x A.w A.sh A.mu (ix2 t C) : EReal) = byTime (Tm.r18 A) t C := by
  unfold val_main_v95 val_main_v94 byTime Tm.r18
  pointwise
  rw [r13]

theorem r100 (t : Fin 2048) (C : Fin 8192) : (val_main_v100 (F := Ideal) A.x A.w A.sh A.mu A.w0 A.wu A.kk (ix2 t C) : EReal) = byTime (Tm.r19 A) t C := by
  unfold val_main_v100 val_main_v99 val_main_v98 val_main_v97 val_main_v96 byTime Tm.r19
  pointwise
  rw [r61, r31, r28]

theorem r106 (t : Fin 2048) (C : Fin 8192) : (val_main_v106 (F := Ideal) A.x A.w A.sh A.mu A.w0 A.wu A.a0 A.au A.kk (ix2 t C) : EReal) = byTime (Tm.r20 A) t C := by
  unfold val_main_v106 val_main_v105 val_main_v104 val_main_v103 val_main_v102 val_main_v101 byTime Tm.r20
  pointwise
  rw [r61, r41, r31]

end Cert.Tm.Ref

end
-- ==== Proof.Tm.Value.lean ====
/- The time mixing's inputs: both programs end with the same nine results. -/
module

public import proofs.«01_k».proof.Proof.Tm.Pre
public import proofs.«01_k».proof.Proof.Tm.Run
public import proofs.«01_k».proof.Proof.Tm.RefTime
public import proofs.«01_k».proof.Proof.Gen.Reference7Ideal
public import proofs.«01_k».proof.Proof.Gen.Reference7Ideal.Run

@[expose] public section

noncomputable section

namespace Cert.Tm

open Idealize.ShloMosaic Idealize.SL.Sem Cert.Mix Cert.In

theorem pair {M N : ℕ} (i : (⟨2, ![M, N]⟩ : Shape).Idx) : i = ix2 (i 0 : Fin M) (i 1 : Fin N) := by
  funext a
  match a with
  | ⟨0, _⟩ => rfl
  | ⟨1, _⟩ => rfl

theorem triple {L M N : ℕ} (i : (⟨3, ![L, M, N]⟩ : Shape).Idx) : i = ix3 (i 0 : Fin L) (i 1 : Fin M) (i 2 : Fin N) := by
  funext a
  match a with
  | ⟨0, _⟩ => rfl
  | ⟨1, _⟩ => rfl
  | ⟨2, _⟩ => rfl

/-- The nine results: the receptance, the decay, the new key, the value, the removal key and its product with the rate, the gate, the bonus and the last
projected row. -/
theorem projected : Cert.algebraic_Kernel7Ideal_Reference7Ideal_pre_projected (hKernel7Ideal := Cert.Kernel7Ideal.Gen.facts)
    (hReference7Ideal := Cert.Reference7Ideal.Gen.facts) (hPre_projected := facts_pre) := by
  intro m g m' g' hpre hm
  have hn : ∀ c, Nums (args m c) := fun c => nums facts_pre _ (hpre c)
  refine ⟨_, _, _, _, _, _, _, _, _, (θ_run _ _ _).mono (fun r h c => by
      obtain ⟨h0, h1, h2, h3, h4, h5, h6, h7, h8, hr⟩ := h c
      exact ⟨h0.trans (final15 m c), h1.trans (final16 m c), h2.trans (final17 m c), h3.trans (final18 m c),
        h4.trans (final19 m c (keyNum (hn c))), h5.trans (final20 m c (keyNum (hn c))), h6.trans (final21 m c),
        h7.trans (final22 m c (bonNum (hn c))), h8.trans (final23 m c), hr⟩)
    (Cert.Kernel7Ideal.Value.run_blocks (F := Ideal) m g), (θ_run _ _ _).mono (fun r h c => ?_)
    (Cert.Reference7Ideal.Value.run (F := Ideal) m' g')⟩
  obtain ⟨h0, h1, h2, h3, h4, h5, h6, h7, h8, hr⟩ := h c
  obtain ⟨a0, a1, a2, a3, a4, a5, a6, a7, a8, a9, a10, a11⟩ := hm c
  refine ⟨?_, ?_, ?_, ?_, ?_, ?_, ?_, ?_, ?_, hr⟩
  · refine h0.trans ((Cert.Reference7Ideal.Read.val_main_v85_eq m' c).trans ?_)
    rw [a0, a1, a2, a3, a4, a5]
    funext i
    exact (congrArg _ (pair i)).trans (Ref.r85 (args m c) _ _)
  · refine h1.trans ((Cert.Reference7Ideal.Read.val_main_v88_eq m' c).trans ?_)
    rw [a0, a1, a2, a3, a4, a5]
    funext i
    exact (congrArg _ (pair i)).trans (Ref.r88 (args m c) _ _)
  · refine h2.trans ((Cert.Reference7Ideal.Read.val_main_v93_eq m' c).trans ?_)
    rw [a0, a1, a2, a3, a4, a5, a6, a7, a10]
    funext i
    exact (congrArg _ (pair i)).trans (Ref.r93 (args m c) _ _)
  · refine h3.trans ((Cert.Reference7Ideal.Read.val_main_v95_eq _ _ _ _).trans ?_)
    rw [a0, a1, a2, a3]
    funext i
    exact (congrArg _ (pair i)).trans (Ref.r95 (args m c) _ _)
  · refine h4.trans ((Cert.Reference7Ideal.Read.val_main_v100_eq m' c).trans ?_)
    rw [a0, a1, a2, a3, a4, a5, a9]
    funext i
    exact (congrArg _ (pair i)).trans (Ref.r100 (args m c) _ _)
  · refine h5.trans ((Cert.Reference7Ideal.Read.val_main_v106_eq m' c).trans ?_)
    rw [a0, a1, a2, a3, a4, a5, a6, a7, a9]
    funext i
    exact (congrArg _ (pair i)).trans (Ref.r106 (args m c) _ _)
  · refine h6.trans ((Cert.Reference7Ideal.Read.val_main_v107_eq _ _ _ _ _).trans ?_)
    rw [a0, a1, a2, a3, a8]
    funext i
    exact (congrArg _ (pair i)).trans (Ref.r107 (args m c) _ _)
  · refine h7.trans ((Cert.Reference7Ideal.Read.val_main_v81_eq m' c).trans ?_)
    rw [a0, a1, a2, a3, a6, a7, a10, a11]
    funext i
    exact (congrArg _ (pair i)).trans (Ref.r81 (args m c) _ _)
  · refine h8.trans ((Cert.Reference7Ideal.Read.val_main_v108_eq _ _).trans ?_)
    rw [a0, a1]
    funext i
    exact (congrArg _ (triple i)).trans (Ref.r108 (args m c) _ _ _)

/-- The reference runs and leaves its arguments as they were. -/
theorem projectedRef : Cert.quiescent_Reference7Ideal (hReference7Ideal := Cert.Reference7Ideal.Gen.facts) := fun m g _ =>
  (θ_run (Cert.Reference7Ideal.defs (F := Ideal)) _ _).mono
    (fun r h => And.intro (fun c => (h c).2.2.2.2.2.2.2.2.2) (sem_eq_zero_of_no_sems (by decide) r.2))
    (Cert.Reference7Ideal.Value.run (F := Ideal) m g)

end Cert.Tm

end
-- ==== Proof.lean ====
/- The input projection, the expansion, the attention, the experts, the merge, the state space branch's input and the time mixing's inputs of the layer: the frames, the idealizations and the value claims, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Reference7Ideal
public import proofs.«01_k».proof.Proof.Gen.Reference7Ideal.Run
public import proofs.«01_k».proof.Proof.Gen.Reference7Ideal.Read
public import proofs.«01_k».proof.Proof.Att.Ref
public import proofs.«01_k».proof.Proof.Att.Pre
public import proofs.«01_k».proof.Proof.Exp.Bits
public import proofs.«01_k».proof.Proof.Exp.Ref
public import proofs.«01_k».proof.Proof.Mix.Ref
public import proofs.«01_k».proof.Proof.Mix.Pre
public import proofs.«01_k».proof.Proof.Kv.Value
public import proofs.«01_k».proof.Proof.Kv.Ref
public import proofs.«01_k».proof.Proof.In.Pre
public import proofs.«01_k».proof.Proof.In.Ref
public import proofs.«01_k».proof.Proof.Su.Value
public import proofs.«01_k».proof.Proof.Tm.FrameBits
public import proofs.«01_k».proof.Proof.Tm.Value
public import Idealize.ShloMosaic.Lib.Quiescent
public import Idealize.ShloMosaic.Adequacy
public import Idealize.ShloMosaic.Init

@[expose] public section

noncomputable section

namespace Cert.Proof

open Idealize.ShloMosaic Idealize.SL.Sem Cert.Att

/-- The attention: both programs end with the masked softmax of the arguments. -/
theorem attention : Cert.algebraic_KernelIdeal_ReferenceIdeal_pre_finite (hKernelIdeal := Cert.KernelIdeal.Gen.facts)
    (hReferenceIdeal := Cert.ReferenceIdeal.Gen.facts) (hPre_finite := facts_pre) := by
  intro m g m' g' hpre hm
  have fin := fun c => fine facts_pre _ _ _ (hpre c)
  refine ⟨_, (θ_run _ _ _).mono (fun r h c => ⟨(h c).1.trans (final m c (fin c).1 (fin c).2), (h c).2⟩)
    (Cert.KernelIdeal.Value.run_blocks (F := Ideal) m g), (θ_run _ _ _).mono (fun r h c => ⟨?_, (h c).2⟩)
    (Cert.ReferenceIdeal.Value.run (F := Ideal) m' g')⟩
  refine (h c).1.trans ((Cert.ReferenceIdeal.Read.val_main_v28_eq m' c).trans ?_)
  obtain ⟨a0, a1, a2⟩ := hm c
  rw [a0, a1, a2]
  funext i
  have e : i = ix2 (i 0 : Fin 32768) (i 1 : Fin 512) := by
    funext a
    match a with
    | ⟨0, _⟩ => rfl
    | ⟨1, _⟩ => rfl
  rw [e]
  exact ref_eq _ _ _ _ _

/-- The attention's reference runs and leaves its arguments as they were; it declares no semaphore. -/
theorem attentionRef : Cert.quiescent_ReferenceIdeal (hReferenceIdeal := Cert.ReferenceIdeal.Gen.facts) := fun m g _ =>
  (θ_run (Cert.ReferenceIdeal.defs (F := Ideal)) _ _).mono
    (fun r h => And.intro (fun c => (h c).2) (sem_eq_zero_of_no_sems (by decide) r.2))
    (Cert.ReferenceIdeal.Value.run (F := Ideal) m g)

/-- The experts: both programs end with the network of each row's expert, and zeros in the tiles that hold no token. -/
theorem experts : Cert.algebraic_Kernel2Ideal_Reference2Ideal (hKernel2Ideal := Cert.Kernel2Ideal.Gen.facts)
    (hReference2Ideal := Cert.Reference2Ideal.Gen.facts) (hPre_scheduled := Cert.Exp.facts_pre) := by
  intro m g m' g' hpre hm
  have hr := Cert.Exp.range_ideal m hpre
  have hok := Cert.Exp.ok_of_range _ hr
  refine ⟨_, (θ_run _ _ _).mono (fun r h c => ⟨(h c).1.trans (Cert.Exp.final m hok hr c), (h c).2⟩) (Cert.Exp.result (F := Ideal) m g hok),
    (θ_run _ _ _).mono (fun r h c => ⟨?_, (h c).2⟩) (Cert.Reference2Ideal.Value.run (F := Ideal) m' g')⟩
  refine (h c).1.trans ((Cert.Reference2Ideal.Read.val_main_v46_eq m' c).trans ?_)
  obtain ⟨a0, a1, a2, a3, a4, a5, a6⟩ := hm c
  rw [a0, a1, a2, a3, a4, a5, a6]
  funext i
  have e : i = ix2 (i 0 : Fin 147456) (i 1 : Fin 1024) := by
    funext a
    match a with
    | ⟨0, _⟩ => rfl
    | ⟨1, _⟩ => rfl
  obtain rfl : c = 0 := Subsingleton.elim (α := Fin 1) _ _
  rw [e]
  exact Cert.Exp.ref_eq _ _ _ _ _ _ _ hr _ _

/-- The experts' reference runs and leaves its arguments as they were. -/
theorem expertsRef : Cert.quiescent_Reference2Ideal (hReference2Ideal := Cert.Reference2Ideal.Gen.facts) := fun m g _ =>
  (θ_run (Cert.Reference2Ideal.defs (F := Ideal)) _ _).mono
    (fun r h => And.intro (fun c => (h c).2) (sem_eq_zero_of_no_sems (by decide) r.2))
    (Cert.Reference2Ideal.Value.run (F := Ideal) m g)

/-- The merge: both programs end with the layer norm of the gated sum of the three branches. -/
theorem merge : Cert.algebraic_Kernel3Ideal_Reference3Ideal_pre_mixed (hKernel3Ideal := Cert.Kernel3Ideal.Gen.facts)
    (hReference3Ideal := Cert.Reference3Ideal.Gen.facts) (hPre_mixed := Cert.Mix.facts_pre) := by
  intro m g m' g' hpre hm
  refine ⟨_, (θ_run _ _ _).mono (fun r h c => ⟨(h c).1.trans (Cert.Mix.final m c), (h c).2⟩)
    (Cert.Kernel3Ideal.Value.run_blocks (F := Ideal) m g), (θ_run _ _ _).mono (fun r h c => ⟨?_, (h c).2⟩)
    (Cert.Reference3Ideal.Value.run (F := Ideal) m' g')⟩
  refine (h c).1.trans ((Cert.Reference3Ideal.Read.val_main_v90_eq m' c).trans ?_)
  obtain ⟨a0, a1, a2, a3, a4, a5, a6, a7, a8, a9, a10, a11, a12, a13, a14⟩ := hm c
  rw [a0, a1, a2, a3, a4, a5, a6, a7, a8, a9, a10, a11, a12, a13, a14]
  funext i
  have e : i = ix2 (i 0 : Fin 32768) (i 1 : Fin 1024) := by
    funext a
    match a with
    | ⟨0, _⟩ => rfl
    | ⟨1, _⟩ => rfl
  rw [e]
  exact Cert.Mix.ref_eq _ _ _ _ _ _ _ _ _ _ _ _ _ _ _ (Cert.Mix.numbers Cert.Mix.facts_pre _ _ _ _ _ _ _ _ _ _ _ _ _ _ _ (hpre c)) _ _

/-- The merge's reference runs and leaves its arguments as they were. -/
theorem mergeRef : Cert.quiescent_Reference3Ideal (hReference3Ideal := Cert.Reference3Ideal.Gen.facts) := fun m g _ =>
  (θ_run (Cert.Reference3Ideal.defs (F := Ideal)) _ _).mono
    (fun r h => And.intro (fun c => (h c).2) (sem_eq_zero_of_no_sems (by decide) r.2))
    (Cert.Reference3Ideal.Value.run (F := Ideal) m g)

/-- An index into a matrix is the pair of its coordinates. -/
theorem split {M N : ℕ} (i : (⟨2, ![M, N]⟩ : Shape).Idx) : i = ix2 (i 0 : Fin M) (i 1 : Fin N) := by
  funext a
  match a with
  | ⟨0, _⟩ => rfl
  | ⟨1, _⟩ => rfl

/-- The input projection's queries, latents and rotary keys are its reference's. -/
theorem input : Cert.algebraic_Kernel4Ideal_Reference4Ideal_pre_bounded (hKernel4Ideal := Cert.Kernel4Ideal.Gen.facts)
    (hReference4Ideal := Cert.Reference4Ideal.Gen.facts) (hPre_bounded := Cert.In.facts_pre) := by
  intro m g m' g' hpre hm
  refine ⟨_, _, _, (θ_run _ _ _).mono (fun r h c => ⟨(h c).1.trans (Cert.In.final_q m c), (h c).2.1.trans (Cert.In.final_c m c),
      (h c).2.2.1.trans (Cert.In.final_p m c), (h c).2.2.2⟩)
    (Cert.Kernel4Ideal.Value.run_blocks (F := Ideal) m g), (θ_run _ _ _).mono (fun r h c => ⟨?_, ?_, ?_, (h c).2.2.2⟩)
    (Cert.Reference4Ideal.Value.run (F := Ideal) m' g')⟩
  all_goals
    obtain ⟨a0, a1, a2, a3, a4⟩ := hm c
    obtain ⟨h0, h1, h2, h3⟩ := Cert.In.numbers Cert.In.facts_pre _ _ _ _ _ (hpre c)
  · refine (h c).1.trans ((Cert.Reference4Ideal.Read.val_main_v61_eq m' c).trans ?_)
    rw [a0, a1, a2, a3]
    funext i
    exact (congrArg _ (split i)).trans ((Cert.In.ref_query _ _ _ _ _ _).trans (Cert.In.query_eq m c h0 h1 h2 h3 _ _).symm)
  · refine (h c).2.1.trans ((Cert.Reference4Ideal.Read.val_main_v108_eq _ _ _).trans ?_)
    rw [a0, a1, a4]
    funext i
    exact (congrArg _ (split i)).trans ((Cert.In.ref_c _ _ _ _ _).trans (Cert.In.latent_eq m c _ _).symm)
  · refine (h c).2.2.1.trans ((Cert.Reference4Ideal.Read.val_main_v109_eq m' c).trans ?_)
    rw [a0, a1]
    funext i
    exact (congrArg _ (split i)).trans ((Cert.In.ref_rotary _ _ _ _).trans (Cert.In.rope_eq m c h0 h1 _ _).symm)

/-- The input projection's reference runs and leaves its arguments as they were. -/
theorem inputRef : Cert.quiescent_Reference4Ideal (hReference4Ideal := Cert.Reference4Ideal.Gen.facts) := fun m g _ =>
  (θ_run (Cert.Reference4Ideal.defs (F := Ideal)) _ _).mono
    (fun r h => And.intro (fun c => (h c).2.2.2) (sem_eq_zero_of_no_sems (by decide) r.2))
    (Cert.Reference4Ideal.Value.run (F := Ideal) m g)

/-- The expansion's keys and values are its reference's. -/
theorem expand : Cert.algebraic_Kernel5Ideal_Reference5Ideal (hKernel5Ideal := Cert.Kernel5Ideal.Gen.facts)
    (hReference5Ideal := Cert.Reference5Ideal.Gen.facts) := by
  intro m g m' g' _ hm
  refine ⟨_, _, (θ_run _ _ _).mono (fun r h c => ⟨(h c).1.trans (Cert.Kv.final_k m c), (h c).2.1.trans (Cert.Kv.final_v m c),
      (h c).2.2⟩)
    (Cert.Kernel5Ideal.Value.run_blocks (F := Ideal) m g), (θ_run _ _ _).mono (fun r h c => ⟨?_, ?_, (h c).2.2⟩)
    (Cert.Reference5Ideal.Value.run (F := Ideal) m' g')⟩
  all_goals obtain ⟨a0, a1, a2⟩ := hm c
  · refine (h c).1.trans ((Cert.Reference5Ideal.Read.val_main_v8_eq _ _ _).trans ?_)
    rw [a0, a1, a2]
    funext i
    exact (congrArg _ (split i)).trans (Cert.Kv.ref_k _ _ _ _ _)
  · refine (h c).2.1.trans ((Cert.Reference5Ideal.Read.val_main_v11_eq _ _).trans ?_)
    rw [a0, a2]
    funext i
    exact (congrArg _ (split i)).trans (Cert.Kv.ref_v _ _ _ _)

/-- The expansion's reference runs and leaves its arguments as they were. -/
theorem expandRef : Cert.quiescent_Reference5Ideal (hReference5Ideal := Cert.Reference5Ideal.Gen.facts) := fun m g _ =>
  (θ_run (Cert.Reference5Ideal.defs (F := Ideal)) _ _).mono
    (fun r h => And.intro (fun c => (h c).2.2) (sem_eq_zero_of_no_sems (by decide) r.2))
    (Cert.Reference5Ideal.Value.run (F := Ideal) m g)

/-- The state space branch's input is its reference's. -/
theorem su : Cert.algebraic_Kernel6Ideal_Reference6Ideal (hKernel6Ideal := Cert.Kernel6Ideal.Gen.facts)
    (hReference6Ideal := Cert.Reference6Ideal.Gen.facts) := by
  intro m g m' g' _ hm
  refine ⟨_, (θ_run _ _ _).mono (fun r h c => ⟨(h c).1.trans (Cert.Su.final m c), (h c).2⟩)
    (Cert.Kernel6Ideal.Value.run_blocks (F := Ideal) m g), (θ_run _ _ _).mono (fun r h c => ⟨?_, (h c).2⟩)
    (Cert.Reference6Ideal.Value.run (F := Ideal) m' g')⟩
  obtain ⟨a0, a1⟩ := hm c
  refine (h c).1.trans ((Cert.Reference6Ideal.Read.val_main_v4_eq _ _).trans ?_)
  rw [a0, a1]
  funext i
  exact (congrArg _ (split i)).trans (Cert.Su.ref _ _ _ _)

/-- The reference of the state space branch's input runs and leaves its arguments as they were. -/
theorem suRef : Cert.quiescent_Reference6Ideal (hReference6Ideal := Cert.Reference6Ideal.Gen.facts) := fun m g _ =>
  (θ_run (Cert.Reference6Ideal.defs (F := Ideal)) _ _).mono
    (fun r h => And.intro (fun c => (h c).2) (sem_eq_zero_of_no_sems (by decide) r.2))
    (Cert.Reference6Ideal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  facts_pre, Cert.Exp.facts_pre, Cert.Mix.facts_pre, Cert.In.facts_pre, Cert.Tm.facts_pre,
  fun m ρ _ => Cert.Kernel.Gen.frame m ρ,
  fun m ρ _ => Cert.KernelIdeal.Gen.frame m ρ,
  fun m ρ _ => Cert.KernelIdeal.Gen.frame m ρ,
  attentionRef,
  fun m ρ _ => attentionRef m ρ trivial,
  Cert.Exp.frame_bits,
  Cert.Exp.frame_ideal,
  expertsRef,
  fun m ρ _ => expertsRef m ρ trivial,
  fun m ρ _ => Cert.Kernel3.Gen.frame m ρ,
  fun m ρ _ => Cert.Kernel3Ideal.Gen.frame m ρ,
  fun m ρ _ => Cert.Kernel3Ideal.Gen.frame m ρ,
  mergeRef,
  fun m ρ _ => mergeRef m ρ trivial,
  fun m ρ _ => Cert.Kernel4.Gen.frame m ρ,
  fun m ρ _ => Cert.Kernel4Ideal.Gen.frame m ρ,
  fun m ρ _ => Cert.Kernel4Ideal.Gen.frame m ρ,
  inputRef,
  fun m ρ _ => inputRef m ρ trivial,
  fun m ρ _ => Cert.Kernel5.Gen.frame m ρ,
  fun m ρ _ => Cert.Kernel5Ideal.Gen.frame m ρ,
  expandRef,
  fun m ρ _ => Cert.Kernel6.Gen.frame m ρ,
  fun m ρ _ => Cert.Kernel6Ideal.Gen.frame m ρ,
  suRef,
  fun m ρ _ => Cert.Kernel7.Gen.frame m ρ,
  fun m ρ _ => Cert.Kernel7Ideal.Gen.frame m ρ,
  fun m ρ _ => Cert.Kernel7Ideal.Gen.frame m ρ,
  Cert.Tm.projectedRef,
  fun m ρ _ => Cert.Tm.projectedRef m ρ trivial,
  IdealRules.named_const.statement Cert.KernelIdeal.κ "mask" .f32 0xF149F2CA#32 ⊥ rfl,
  attention,
  trivial,
  experts,
  trivial,
  merge,
  trivial,
  input,
  trivial,
  expand,
  trivial,
  su,
  trivial,
  Cert.Tm.projected⟩

end Cert.Proof

end
